-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v27_0)) (v1 : (c : Dev Cert.Kernel5Ideal.nD) → Buf (Elt Ideal) ((c.tc : Thread Cert.Kernel5Ideal.nD Cert.Kernel5Ideal.τ).loc Cert.Kernel5Ideal.main_v27_1)) (v2 : (c : Dev Cert.Kernel5Ideal.nD) → Buf (Elt Ideal) ((c.tc : Thread Cert.Kernel5Ideal.nD Cert.Kernel5Ideal.τ).loc Cert.Kernel5Ideal.main_v27_2)) (v3 : (c : Dev Cert.Kernel5Ideal.nD) → Buf (Elt Ideal) ((c.tc : Thread Cert.Kernel5Ideal.nD Cert.Kernel5Ideal.τ).loc Cert.Kernel5Ideal.main_v27_3)) (v4 : (c : Dev Cert.Kernel5Ideal.nD) → Buf (Elt Ideal) ((c.tc : Thread Cert.Kernel5Ideal.nD Cert.Kernel5Ideal.τ).loc Cert.Kernel5Ideal.main_v27_4)) (v5 : (c : Dev Cert.Kernel5Ideal.nD) → Buf (Elt Ideal) ((c.tc : Thread Cert.Kernel5Ideal.nD Cert.Kernel5Ideal.τ).loc Cert.Kernel5Ideal.main_v27_5)) (v6 : (c : Dev Cert.Kernel5Ideal.nD) → Buf (Elt Ideal) ((c.tc : Thread Cert.Kernel5Ideal.nD Cert.Kernel5Ideal.τ).loc Cert.Kernel5Ideal.main_v27_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27_0) = v0 c
          ∧ r.2.mem ((c.tc : Thread Cert.Kernel5Ideal.nD Cert.Kernel5Ideal.τ).loc Cert.Kernel5Ideal.main_v27_1) = v1 c
          ∧ r.2.mem ((c.tc : Thread Cert.Kernel5Ideal.nD Cert.Kernel5Ideal.τ).loc Cert.Kernel5Ideal.main_v27_2) = v2 c
          ∧ r.2.mem ((c.tc : Thread Cert.Kernel5Ideal.nD Cert.Kernel5Ideal.τ).loc Cert.Kernel5Ideal.main_v27_3) = v3 c
          ∧ r.2.mem ((c.tc : Thread Cert.Kernel5Ideal.nD Cert.Kernel5Ideal.τ).loc Cert.Kernel5Ideal.main_v27_4) = v4 c
          ∧ r.2.mem ((c.tc : Thread Cert.Kernel5Ideal.nD Cert.Kernel5Ideal.τ).loc Cert.Kernel5Ideal.main_v27_5) = v5 c
          ∧ r.2.mem ((c.tc : Thread Cert.Kernel5Ideal.nD Cert.Kernel5Ideal.τ).loc Cert.Kernel5Ideal.main_v27_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v84) = v0 c
          ∧ r.2.mem ((c.tc : Thread Cert.Reference5Ideal.nD Cert.Reference5Ideal.τ).loc Cert.Reference5Ideal.main_v85) = v1 c
          ∧ r.2.mem ((c.tc : Thread Cert.Reference5Ideal.nD Cert.Reference5Ideal.τ).loc Cert.Reference5Ideal.main_v86) = v2 c
          ∧ r.2.mem ((c.tc : Thread Cert.Reference5Ideal.nD Cert.Reference5Ideal.τ).loc Cert.Reference5Ideal.main_v87) = v3 c
          ∧ r.2.mem ((c.tc : Thread Cert.Reference5Ideal.nD Cert.Reference5Ideal.τ).loc Cert.Reference5Ideal.main_v88) = v4 c
          ∧ r.2.mem ((c.tc : Thread Cert.Reference5Ideal.nD Cert.Reference5Ideal.τ).loc Cert.Reference5Ideal.main_v89) = v5 c
          ∧ r.2.mem ((c.tc : Thread Cert.Reference5Ideal.nD Cert.Reference5Ideal.τ).loc Cert.Reference5Ideal.main_v90) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1024 .f32) (main_arg3 : FVec F S1024 .f32) (main_arg4 : FVec F S1024x5632 .f32) (main_arg5 : FVec F S2816x1024 .f32) : IVec S4096x1024 1 × IVec S4096x1024 1 × IVec S1024 1 × IVec S1024 1 × IVec S1024x5632 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Kernel.lean ====
abbrev S4096x512 : Shape := ⟨2, ![4096, 512]⟩
abbrev S4096x3072 : Shape := ⟨2, ![4096, 3072]⟩
abbrev S512x3 : Shape := ⟨2, ![512, 3]⟩
abbrev S3x512 : Shape := ⟨2, ![3, 512]⟩
abbrev S_ : Shape := ⟨0, ![]⟩
abbrev S8x512 : Shape := ⟨2, ![8, 512]⟩
abbrev S512x512 : Shape := ⟨2, ![512, 512]⟩
abbrev S512x1536 : Shape := ⟨2, ![512, 1536]⟩
abbrev S16x1536 : Shape := ⟨2, ![16, 1536]⟩
abbrev S528x512 : Shape := ⟨2, ![528, 512]⟩
abbrev S520x512 : Shape := ⟨2, ![520, 512]⟩
abbrev S16x512 : Shape := ⟨2, ![16, 512]⟩
abbrev S1x512 : Shape := ⟨2, ![1, 512]⟩
abbrev S512 : Shape := ⟨1, ![512]⟩

abbrev nBuf : Space → Nat
  | .hbm => 10
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x3072, .bf16⟩
  | .hbm, ⟨2, _⟩ => ⟨S512x3, .f32⟩
  | .hbm, ⟨3, _⟩ => ⟨S3x512, .f32⟩
  | .hbm, ⟨4, _⟩ => ⟨S_, .i32⟩
  | .hbm, ⟨5, _⟩ => ⟨S_, .f32⟩
  | .hbm, ⟨6, _⟩ => ⟨S8x512, .f32⟩
  | .hbm, ⟨7, _⟩ => ⟨S4096x512, .bf16⟩
  | .hbm, ⟨8, _⟩ => ⟨S4096x512, .bf16⟩
  | .hbm, ⟨9, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x1536, .bf16⟩
  | .local _ .vmem, ⟨5, _⟩ => ⟨S512x1536, .bf16⟩
  | .local _ .vmem, ⟨6, _⟩ => ⟨S16x1536, .bf16⟩
  | .local _ .vmem, ⟨7, _⟩ => ⟨S16x1536, .bf16⟩
  | .local _ .vmem, ⟨8, _⟩ => ⟨S8x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S8x512, .f32⟩
  | .local _ .vmem, ⟨14, _⟩ => ⟨S528x512, .f32⟩
  | .local _ .vmem, ⟨15, _⟩ => ⟨S520x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x512 : Shape := ⟨2, ![4096, 512]⟩
abbrev S4096x3072 : Shape := ⟨2, ![4096, 3072]⟩
abbrev S512x3 : Shape := ⟨2, ![512, 3]⟩
abbrev S_ : Shape := ⟨0, ![]⟩
abbrev S2x512 : Shape := ⟨2, ![2, 512]⟩
abbrev S4098x512 : Shape := ⟨2, ![4098, 512]⟩
abbrev S512x1 : Shape := ⟨2, ![512, 1]⟩
abbrev S512 : Shape := ⟨1, ![512]⟩
abbrev S1x512 : Shape := ⟨2, ![1, 512]⟩
abbrev S3x512 : Shape := ⟨2, ![3, 512]⟩
abbrev S8x512 : Shape := ⟨2, ![8, 512]⟩

abbrev nBuf : Space → Nat
  | .hbm => 87
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x3072, .bf16⟩
  | .hbm, ⟨2, _⟩ => ⟨S512x3, .f32⟩
  | .hbm, ⟨3, _⟩ => ⟨S4096x3072, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S_, .f32⟩
  | .hbm, ⟨11, _⟩ => ⟨S2x512, .f32⟩
  | .hbm, ⟨12, _⟩ => ⟨S4096x512, .f32⟩
  | .hbm, ⟨13, _⟩ => ⟨S512x1, .f32⟩
  | .hbm, ⟨14, _⟩ => ⟨S512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S512x1, .f32⟩
  | .hbm, ⟨20, _⟩ => ⟨S512, .f32⟩
  | .hbm, ⟨21, _⟩ => ⟨S1x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S512x1, .f32⟩
  | .hbm, ⟨27, _⟩ => ⟨S512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S512, .f32⟩
  | .hbm, ⟨37, _⟩ => ⟨S1x512, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S512, .f32⟩
  | .hbm, ⟨42, _⟩ => ⟨S512x1, .f32⟩
  | .hbm, ⟨43, _⟩ => ⟨S_, .f32⟩
  | .hbm, ⟨44, _⟩ => ⟨S512x3, .f32⟩
  | .hbm, ⟨45, _⟩ => ⟨S_, .f32⟩
  | .hbm, ⟨46, _⟩ => ⟨S4098x512, .f32⟩
  | .hbm, ⟨47, _⟩ => ⟨S4096x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S4096x512, .f32⟩
  | .hbm, ⟨52, _⟩ => ⟨S4096x512, .f32⟩
  | .hbm, ⟨53, _⟩ => ⟨S_, .f32⟩
  | .hbm, ⟨54, _⟩ => ⟨S512, .f32⟩
  | .hbm, ⟨55, _⟩ => ⟨S512x1, .f32⟩
  | .hbm, ⟨56, _⟩ => ⟨S_, .f32⟩
  | .hbm, ⟨57, _⟩ => ⟨S512x3, .f32⟩
  | .hbm, ⟨58, _⟩ => ⟨S512x3, .f32⟩
  | .hbm, ⟨59, _⟩ => ⟨S_, .f32⟩
  | .hbm, ⟨60, _⟩ => ⟨S4098x512, .f32⟩
  | .hbm, ⟨61, _⟩ => ⟨S4098x512, .f32⟩
  | .hbm, ⟨62, _⟩ => ⟨S4096x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S4096x512, .f32⟩
  | .hbm, ⟨67, _⟩ => ⟨S4096x512, .f32⟩
  | .hbm, ⟨68, _⟩ => ⟨S_, .f32⟩
  | .hbm, ⟨69, _⟩ => ⟨S512, .f32⟩
  | .hbm, ⟨70, _⟩ => ⟨S512x1, .f32⟩
  | .hbm, ⟨71, _⟩ => ⟨S_, .f32⟩
  | .hbm, ⟨72, _⟩ => ⟨S512x3, .f32⟩
  | .hbm, ⟨73, _⟩ => ⟨S512x3, .f32⟩
  | .hbm, ⟨74, _⟩ => ⟨S_, .f32⟩
  | .hbm, ⟨75, _⟩ => ⟨S4098x512, .f32⟩
  | .hbm, ⟨76, _⟩ => ⟨S4098x512, .f32⟩
  | .hbm, ⟨77, _⟩ => ⟨S2x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S4096x512, .bf16⟩
  | .hbm, ⟨82, _⟩ => ⟨S4096x512, .bf16⟩
  | .hbm, ⟨83, _⟩ => ⟨S3x512, .f32⟩
  | .hbm, ⟨84, _⟩ => ⟨S_, .i32⟩
  | .hbm, ⟨85, _⟩ => ⟨S_, .f32⟩
  | .hbm, ⟨86, _⟩ => ⟨S8x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c : Ref sig .tc := ⟨.hbm, 84, rfl⟩
abbrev main_call0_v0 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Kernel2.lean ====
abbrev S4096x3072 : Shape := ⟨2, ![4096, 3072]⟩
abbrev S4096x512 : Shape := ⟨2, ![4096, 512]⟩
abbrev S4x256x640 : Shape := ⟨3, ![4, 256, 640]⟩
abbrev S36x512x128 : Shape := ⟨3, ![36, 512, 128]⟩
abbrev S512x512 : Shape := ⟨2, ![512, 512]⟩
abbrev S1024x512 : Shape := ⟨2, ![1024, 512]⟩
abbrev S2 : Shape := ⟨1, ![2]⟩
abbrev S1x128 : Shape := ⟨2, ![1, 128]⟩
abbrev S1x640 : Shape := ⟨2, ![1, 640]⟩
abbrev S128x128 : Shape := ⟨2, ![128, 128]⟩
abbrev S640x128 : Shape := ⟨2, ![640, 128]⟩
abbrev S256x128 : Shape := ⟨2, ![256, 128]⟩
abbrev S128x1 : Shape := ⟨2, ![128, 1]⟩
abbrev S256x1 : Shape := ⟨2, ![256, 1]⟩
abbrev S128 : Shape := ⟨1, ![128]⟩
abbrev S256x640 : Shape := ⟨2, ![256, 640]⟩
abbrev S1x256x640 : Shape := ⟨3, ![1, 256, 640]⟩
abbrev S128x640 : Shape := ⟨2, ![128, 640]⟩
abbrev S1x128x128 : Shape := ⟨3, ![1, 128, 128]⟩
abbrev S1 : Shape := ⟨1, ![1]⟩
abbrev S_ : Shape := ⟨0, ![]⟩
abbrev S4x512x128 : Shape := ⟨3, ![4, 512, 128]⟩
abbrev S8x512x128 : Shape := ⟨3, ![8, 512, 128]⟩

abbrev nBuf : Space → Nat
  | .hbm => 9
  | .vmem => 24
  | .smem => 0
  | _ => 0

abbrev bufTy : (tb : Table) → Fin (tcTables nBuf tb) → BufTy
  | .hbm, ⟨0, _⟩ => ⟨S4096x3072, .bf16⟩
  | .hbm, ⟨1, _⟩ => ⟨S4096x512, .f32⟩
  | .hbm, ⟨2, _⟩ => ⟨S4096x512, .bf16⟩
  | .hbm, ⟨3, _⟩ => ⟨S4096x512, .f32⟩
  | .hbm, ⟨4, _⟩ => ⟨S4x256x640, .f32⟩
  | .hbm, ⟨5, _⟩ => ⟨S4096x512, .bf16⟩
  | .hbm, ⟨6, _⟩ => ⟨S36x512x128, .f32⟩
  | .hbm, ⟨7, _⟩ => ⟨S36x512x128, .f32⟩
  | .hbm, ⟨8, _⟩ => ⟨S4x256x640, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S4x256x640, .f32⟩
  | .local _ .vmem, ⟨17, _⟩ => ⟨S512x512, .bf16⟩
  | .local _ .vmem, ⟨18, _⟩ => ⟨S512x512, .bf16⟩
  | .local _ .vmem, ⟨19, _⟩ => ⟨S1024x512, .bf16⟩
  | .local _ .vmem, ⟨20, _⟩ => ⟨S1024x512, .bf16⟩
  | .local _ .vmem, ⟨21, _⟩ => ⟨S36x512x128, .f32⟩
  | .local _ .vmem, ⟨22, _⟩ => ⟨S36x512x128, .f32⟩
  | .local _ .vmem, ⟨23, _⟩ => ⟨S4x256x640, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_29 : BitVec 32 := 0#32
  let c4_i32 : BitVec 32 := 4#32
  let v60 : BitVec 32 := Scalar.addi c0_i32_29 c4_i32
  let c1_i32 : BitVec 32 := 1#32
  ⟨c0_i32_29, v60, c1_i32⟩
def k0_mult1 (k0_t1 : Fin k0_t1_loop.trips) : BitVec 32 :=
  let c0_i32_29 : BitVec 32 := 0#32
  let c1_i32 : BitVec 32 := 1#32
  let arg20 : BitVec 32 := Scf.iv c0_i32_29 c1_i32 k0_t1
  let c128_i32_36 : BitVec 32 := 128#32
  let v70 : BitVec 32 := Scalar.muli arg20 c128_i32_36
  v70
def k0_off1 (k0_t1 : Fin k0_t1_loop.trips) : Fin 2 → Nat :=
  let c0_i32_29 : BitVec 32 := 0#32
  let c1_i32 : BitVec 32 := 1#32
  let arg20 : BitVec 32 := Scf.iv c0_i32_29 c1_i32 k0_t1
  let c128_i32_36 : BitVec 32 := 128#32
  let v70 : BitVec 32 := Scalar.muli arg20 c128_i32_36
  let v71 : BitVec 32 := v70
  let v83 : Index := Scalar.indexCast v71
  let c0_42 : Index := 0#32
  ![v83.toNat, 0]
def k0_off2 (k0_t1 : Fin k0_t1_loop.trips) : Fin 2 → Nat :=
  let c0_i32_29 : BitVec 32 := 0#32
  let c1_i32 : BitVec 32 := 1#32
  let arg20 : BitVec 32 := Scf.iv c0_i32_29 c1_i32 k0_t1
  let c128_i32_36 : BitVec 32 := 128#32
  let v70 : BitVec 32 := Scalar.muli arg20 c128_i32_36
  let v71 : BitVec 32 := v70
  let v85 : Index := Scalar.indexCast v71
  let c0_43 : Index := 0#32
  ![v85.toNat, 0]
def k0_off3 (i : grid0.Coords) (k0_t1 : Fin k0_t1_loop.trips) (c0_i32_68 : BitVec 32) : Fin 3 → Nat :=
  let arg0 : BitVec 32 := BitVec.ofNat 32 (i 0).val
  let c4_i32_37 : BitVec 32 := 4#32
  let v72 : BitVec 32 := Scalar.muli arg0 c4_i32_37
  let c0_i32_29 : BitVec 32 := 0#32
  let c1_i32 : BitVec 32 := 1#32
  let arg20 : BitVec 32 := Scf.iv c0_i32_29 c1_i32 k0_t1
  let c1_i32_38 : BitVec 32 := 1#32
  let v73 : BitVec 32 := Scalar.muli arg20 c1_i32_38
  let v74 : BitVec 32 := Scalar.addi v72 v73
  let v157 : BitVec 32 := Scalar.addi v74 c0_i32_68
  let v158 : Index := Scalar.indexCast v157
  let c0_69 : Index := 0#32
  let c0_70 : Index := 0#32
  ![v158.toNat, 0, 0]
def k0_off4 (k0_t1 : Fin k0_t1_loop.trips) : Fin 2 → Nat :=
  let c0_i32_29 : BitVec 32 := 0#32
  let c1_i32 : BitVec 32 := 1#32
  let arg20 : BitVec 32 := Scf.iv c0_i32_29 c1_i32 k0_t1
  let c128_i32_36 : BitVec 32 := 128#32
  let v70 : BitVec 32 := Scalar.muli arg20 c128_i32_36
  let v71 : BitVec 32 := v70
  let v257 : Index := Scalar.indexCast v71
  let c128 : Index := 128#32
  ![v257.toNat, 128]
def k0_off5 (k0_t1 : Fin k0_t1_loop.trips) : Fin 2 → Nat :=
  let c0_i32_29 : BitVec 32 := 0#32
  let c1_i32 : BitVec 32 := 1#32
  let arg20 : BitVec 32 := Scf.iv c0_i32_29 c1_i32 k0_t1
  let c128_i32_36 : BitVec 32 := 128#32
  let v70 : BitVec 32 := Scalar.muli arg20 c128_i32_36
  let v71 : BitVec 32 := v70
  let v259 : Index := Scalar.indexCast v71
  let c128_116 : Index := 128#32
  ![v259.toNat, 128]
def k0_off6 (i : grid0.Coords) (k0_t1 : Fin k0_t1_loop.trips) (c0_i32_140 : BitVec 32) : Fin 3 → Nat :=
  let arg0 : BitVec 32 := BitVec.ofNat 32 (i 0).val
  let c4_i32_37 : BitVec 32 := 4#32
  let v72 : BitVec 32 := Scalar.muli arg0 c4_i32_37
  let c0_i32_29 : BitVec 32 := 0#32
  let c1_i32 : BitVec 32 := 1#32
  let arg20 : BitVec 32 := Scf.iv c0_i32_29 c1_i32 k0_t1
  let c1_i32_38 : BitVec 32 := 1#32
  let v73 : BitVec 32 := Scalar.muli arg20 c1_i32_38
  let v74 : BitVec 32 := Scalar.addi v72 v73
  let v331 : BitVec 32 := Scalar.addi v74 c0_i32_140
  let v332 : Index := Scalar.indexCast v331
  let c128_141 : Index := 128#32
  let c0_142 : Index := 0#32
  ![v332.toNat, 128, 0]
def k0_off7 (k0_t1 : Fin k0_t1_loop.trips) : Fin 2 → Nat :=
  let c0_i32_29 : BitVec 32 := 0#32
  let c1_i32 : BitVec 32 := 1#32
  let arg20 : BitVec 32 := Scf.iv c0_i32_29 c1_i32 k0_t1
  let c128_i32_36 : BitVec 32 := 128#32
  let v70 : BitVec 32 := Scalar.muli arg20 c128_i32_36
  let v71 : BitVec 32 := v70
  let v431 : Index := Scalar.indexCast v71
  let c256 : Index := 256#32
  ![v431.toNat, 256]
def k0_off8 (k0_t1 : Fin k0_t1_loop.trips) : Fin 2 → Nat :=
  let c0_i32_29 : BitVec 32 := 0#32
  let c1_i32 : BitVec 32 := 1#32
  let arg20 : BitVec 32 := Scf.iv c0_i32_29 c1_i32 k0_t1
  let c128_i32_36 : BitVec 32 := 128#32
  let v70 : BitVec 32 := Scalar.muli arg20 c128_i32_36
  let v71 : BitVec 32 := v70
  let v433 : Index := Scalar.indexCast v71
  let c256_190 : Index := 256#32
  ![v433.toNat, 256]
def k0_off9 (i : grid0.Coords) (k0_t1 : Fin k0_t1_loop.trips) (c0_i32_214 : BitVec 32) : Fin 3 → Nat :=
  let arg0 : BitVec 32 := BitVec.ofNat 32 (i 0).val
  let c4_i32_37 : BitVec 32 := 4#32
  let v72 : BitVec 32 := Scalar.muli arg0 c4_i32_37
  let c0_i32_29 : BitVec 32 := 0#32
  let c1_i32 : BitVec 32 := 1#32
  let arg20 : BitVec 32 := Scf.iv c0_i32_29 c1_i32 k0_t1
  let c1_i32_38 : BitVec 32 := 1#32
  let v73 : BitVec 32 := Scalar.muli arg20 c1_i32_38
  let v74 : BitVec 32 := Scalar.addi v72 v73
  let v505 : BitVec 32 := Scalar.addi v74 c0_i32_214
  let v506 : Index := Scalar.indexCast v505
  let c256_215 : Index := 256#32
  let c0_216 : Index := 0#32
  ![v506.toNat, 256, 0]
def k0_off10 (k0_t1 : Fin k0_t1_loop.trips) : Fin 2 → Nat :=
  let c0_i32_29 : BitVec 32 := 0#32
  let c1_i32 : BitVec 32 := 1#32
  let arg20 : BitVec 32 := Scf.iv c0_i32_29 c1_i32 k0_t1
  let c128_i32_36 : BitVec 32 := 128#32
  let v70 : BitVec 32 := Scalar.muli arg20 c128_i32_36
  let v71 : BitVec 32 := v70
  let v605 : Index := Scalar.indexCast v71
  let c384 : Index := 384#32
  ![v605.toNat, 384]
def k0_off11 (k0_t1 : Fin k0_t1_loop.trips) : Fin 2 → Nat :=
  let c0_i32_29 : BitVec 32 := 0#32
  let c1_i32 : BitVec 32 := 1#32
  let arg20 : BitVec 32 := Scf.iv c0_i32_29 c1_i32 k0_t1
  let c128_i32_36 : BitVec 32 := 128#32
  let v70 : BitVec 32 := Scalar.muli arg20 c128_i32_36
  let v71 : BitVec 32 := v70
  let v607 : Index := Scalar.indexCast v71
  let c384_264 : Index := 384#32
  ![v607.toNat, 384]
def k0_off12 (i : grid0.Coords) (k0_t1 : Fin k0_t1_loop.trips) (c0_i32_288 : BitVec 32) : Fin 3 → Nat :=
  let arg0 : BitVec 32 := BitVec.ofNat 32 (i 0).val
  let c4_i32_37 : BitVec 32 := 4#32
  let v72 : BitVec 32 := Scalar.muli arg0 c4_i32_37
  let c0_i32_29 : BitVec 32 := 0#32
  let c1_i32 : BitVec 32 := 1#32
  let arg20 : BitVec 32 := Scf.iv c0_i32_29 c1_i32 k0_t1
  let c1_i32_38 : BitVec 32 := 1#32
  let v73 : BitVec 32 := Scalar.muli arg20 c1_i32_38
  let v74 : BitVec 32 := Scalar.addi v72 v73
  let v679 : BitVec 32 := Scalar.addi v74 c0_i32_288
  let v680 : Index := Scalar.indexCast v679
  let c384_289 : Index := 384#32
  let c0_290 : Index := 0#32
  ![v680.toNat, 384, 0]
def k0_cond2 (i : grid0.Coords) : BitVec 1 :=
  let arg0 : BitVec 32 := BitVec.ofNat 32 (i 0).val
  let c0_i32_31 : BitVec 32 := 0#32
  let v61 : BitVec 1 := Scalar.cmpi .sgt arg0 c0_i32_31
  let v62 : BitVec 32 := Scalar.extui v61
  let c0_i32_32 : BitVec 32 := 0#32
  let v63 : BitVec 1 := Scalar.cmpi .ne v62 c0_i32_32
  v63

def k0_off13 (i : grid0.Coords) : Fin 3 → Nat :=
  let arg0 : BitVec 32 := BitVec.ofNat 32 (i 0).val
  let c1_i32_36 : BitVec 32 := 1#32
  let v70 : BitVec 32 := Scalar.subi arg0 c1_i32_36
  let c4_i32_37 : BitVec 32 := 4#32
  let v71 : BitVec 32 := Scalar.muli v70 c4_i32_37
  let c0_i32_39 : BitVec 32 := 0#32
  let c0_i32_40 : BitVec 32 := 0#32
  ![v71.toNat, 0, 0]
def k0_cond3 (i : grid0.Coords) : BitVec 1 :=
  let arg0 : BitVec 32 := BitVec.ofNat 32 (i 0).val
  let c7_i32 : BitVec 32 := 7#32
  let v64 : BitVec 1 := Scalar.cmpi .slt arg0 c7_i32
  let v65 : BitVec 32 := Scalar.extui v64
  let c0_i32_33 : BitVec 32 := 0#32
  let v66 : BitVec 1 := Scalar.cmpi .ne v65 c0_i32_33
  v66

def k0_off14 (i : grid0.Coords) : Fin 3 → Nat :=
  let arg0 : BitVec 32 := BitVec.ofNat 32 (i 0).val
  let c4_i32_36 : BitVec 32 := 4#32
  let v70 : BitVec 32 := Scalar.muli arg0 c4_i32_36
  let c0_i32_38 : BitVec 32 := 0#32
  let c0_i32_39 : BitVec 32 := 0#32
  ![v70.toNat, 0, 0]
def k0_cond4 (i : grid0.Coords) : BitVec 1 :=
  let arg0 : BitVec 32 := BitVec.ofNat 32 (i 0).val
  let c7_i32_34 : BitVec 32 := 7#32
  let v67 : BitVec 1 := Scalar.cmpi .eq arg0 c7_i32_34
  let v68 : BitVec 32 := Scalar.extui v67
  let c0_i32_35 : BitVec 32 := 0#32
  let v69 : BitVec 1 := Scalar.cmpi .ne v68 c0_i32_35
  v69

def k0_off15 (i : grid0.Coords) : Fin 3 → Nat :=
  let arg0 : BitVec 32 := BitVec.ofNat 32 (i 0).val
  let c4_i32_36 : BitVec 32 := 4#32
  let v70 : BitVec 32 := Scalar.muli arg0 c4_i32_36
  let c0_i32_38 : BitVec 32 := 0#32
  let c0_i32_39 : BitVec 32 := 0#32
  ![v70.toNat, 0, 0]
def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
variable {F : FTy → Type} [FloatOps F] [Named F]
def κ : String → Option EReal := fun
  | "mask" => some ⊥
  | _ => none
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x1408, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S256x1024 : Shape := ⟨2, ![256, 1024]⟩
abbrev S256x5632 : Shape := ⟨2, ![256, 5632]⟩
abbrev S256x2816 : Shape := ⟨2, ![256, 2816]⟩
abbrev S2x1024x2816 : Shape := ⟨3, ![2, 1024, 2816]⟩
abbrev S6 : Shape := ⟨1, ![6]⟩
abbrev S1 : Shape := ⟨1, ![1]⟩
abbrev S1408x1024 : Shape := ⟨2, ![1408, 1024]⟩
abbrev S1x1408x1024 : Shape := ⟨3, ![1, 1408, 1024]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1536x1024 : Shape := ⟨2, ![1536, 1024]⟩
abbrev S256x1536 : Shape := ⟨2, ![256, 1536]⟩
abbrev S1x1024x1536 : Shape := ⟨3, ![1, 1024, 1536]⟩
abbrev S1024x1536 : Shape := ⟨2, ![1024, 1536]⟩
abbrev S1280x1024 : Shape := ⟨2, ![1280, 1024]⟩
abbrev S256x1280 : Shape := ⟨2, ![256, 1280]⟩
abbrev S1x1024x1280 : Shape := ⟨3, ![1, 1024, 1280]⟩
abbrev S1024x1280 : Shape := ⟨2, ![1024, 1280]⟩

abbrev nBuf : Space → Nat
  | .hbm => 51
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S1024x5632, .bf16⟩
  | .hbm, ⟨37, _⟩ => ⟨S1024x4x1408, .bf16⟩
  | .hbm, ⟨38, _⟩ => ⟨S4x1024x1408, .bf16⟩
  | .hbm, ⟨39, _⟩ => ⟨S2816x1024, .bf16⟩
  | .hbm, ⟨40, _⟩ => ⟨S2x1408x1024, .bf16⟩
  | .hbm, ⟨41, _⟩ => ⟨S4096x5632, .bf16⟩
  | .hbm, ⟨42, _⟩ => ⟨S1x1024, .f32⟩
  | .hbm, ⟨43, _⟩ => ⟨S1x1024, .f32⟩
  | .hbm, ⟨44, _⟩ => ⟨S4096x1024, .f32⟩
  | .hbm, ⟨45, _⟩ => ⟨S4096x1024, .bf16⟩
  | .hbm, ⟨46, _⟩ => ⟨S4096x2816, .bf16⟩
  | .hbm, ⟨47, _⟩ => ⟨S4096x5632, .bf16⟩
  | .hbm, ⟨48, _⟩ => ⟨S4096x1024, .bf16⟩
  | .hbm, ⟨49, _⟩ => ⟨S1x1024, .f32⟩
  | .hbm, ⟨50, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x2816, .bf16⟩
  | .local _ .vmem, ⟨15, _⟩ => ⟨S256x2816, .bf16⟩
  | .local _ .vmem, ⟨16, _⟩ => ⟨S256x5632, .bf16⟩
  | .local _ .vmem, ⟨17, _⟩ => ⟨S256x5632, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | .local _ .vmem, ⟨22, _⟩ => ⟨S2x1024x2816, .bf16⟩
  | .local _ .vmem, ⟨23, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_v27_3 : Ref sig .tc := ⟨.hbm, 47, rfl⟩
abbrev main_v27_4 : Ref sig .tc := ⟨.hbm, 48, rfl⟩
abbrev main_v27_5 : Ref sig .tc := ⟨.hbm, 49, rfl⟩
abbrev main_v27_6 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_13 : BitVec 32 := 0#32
  let v5 : BitVec 1 := Scalar.cmpi .ne v4 c0_i32_13
  v5

def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v6 : BitVec 1 := Scalar.xori v3 v_true
  let v7 : BitVec 32 := Scalar.extui v6
  let c0_i32_14 : BitVec 32 := 0#32
  let v8 : BitVec 1 := Scalar.cmpi .ne v7 c0_i32_14
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 130
  | .vmem => 0
  | .smem => 0
  | _ => 0

abbrev hbmTy0_0 (i : Nat) : BufTy := match i % 128 with
  | 0 => ⟨S4096x1024, .f32⟩
  | 1 => ⟨S4096x1024, .f32⟩
  | 2 => ⟨S1024, .f32⟩
  | 3 => ⟨S1024, .f32⟩
  | 4 => ⟨S1024x5632, .f32⟩
  | 5 => ⟨S2816x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x5632, .f32⟩
  | 27 => ⟨S4096x2816, .f32⟩
  | 28 => ⟨S4096x2816, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S4096x2816, .f32⟩
  | 41 => ⟨S4096x2816, .f32⟩
  | 42 => ⟨S4096x2816, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S_, .f32⟩
  | 66 => ⟨S1024, .f32⟩
  | 67 => ⟨S1x1024, .f32⟩
  | 68 => ⟨S4096x1024, .f32⟩
  | 69 => ⟨S4096x1024, .f32⟩
  | 70 => ⟨S_, .f32⟩
  | 71 => ⟨S1024, .f32⟩
  | 72 => ⟨S4096x1024, .f32⟩
  | 73 => ⟨S_, .f32⟩
  | 74 => ⟨S4096, .f32⟩
  | 75 => ⟨S4096x1, .f32⟩
  | 76 => ⟨S4096x1024, .f32⟩
  | 77 => ⟨S4096x1024, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x2816, .f32⟩
  | 90 => ⟨S4096x2816, .f32⟩
  | 91 => ⟨S4096x2816, .f32⟩
  | 92 => ⟨S4096x2816, .f32⟩
  | 93 => ⟨S4096x2816, .f32⟩
  | 94 => ⟨S4096x2816, .f32⟩
  | 95 => ⟨S4096x2816, .f32⟩
  | 96 => ⟨S4096x5632, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S4096x1024, .f32⟩
  | 103 => ⟨S4096x1024, .f32⟩
  | 104 => ⟨S_, .f32⟩
  | 105 => ⟨S1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .bf16⟩
  | 125 => ⟨S4096x2816, .bf16⟩
  | 126 => ⟨S4096x5632, .bf16⟩
  | 127 => ⟨S4096x1024, .bf16⟩
  | _ => ⟨S4096x1024, .f32⟩

abbrev hbmTy0_1 (i : Nat) : BufTy := match i % 128 with
  | 0 => ⟨S1x1024, .f32⟩
  | 1 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_15 : Ref sig .tc := ⟨.hbm, 113, rfl⟩
abbrev main_v76 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S1x1024 : Shape := ⟨2, ![1, 1024]⟩
abbrev S4096x5632 : Shape := ⟨2, ![4096, 5632]⟩
abbrev S512x1024 : Shape := ⟨2, ![512, 1024]⟩
abbrev S512x5632 : Shape := ⟨2, ![512, 5632]⟩
abbrev S2x1024x2816 : Shape := ⟨3, ![2, 1024, 2816]⟩
abbrev S6 : Shape := ⟨1, ![6]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S1408x1024 : Shape := ⟨2, ![1408, 1024]⟩
abbrev S1x1408x1024 : Shape := ⟨3, ![1, 1408, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 15
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .bf16⟩
  | .hbm, ⟨9, _⟩ => ⟨S2x1408x1024, .bf16⟩
  | .hbm, ⟨10, _⟩ => ⟨S1x1024, .f32⟩
  | .hbm, ⟨11, _⟩ => ⟨S1x1024, .f32⟩
  | .hbm, ⟨12, _⟩ => ⟨S4096x5632, .bf16⟩
  | .hbm, ⟨13, _⟩ => ⟨S4096x1024, .f32⟩
  | .hbm, ⟨14, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x5632, .bf16⟩
  | .local _ .vmem, ⟨5, _⟩ => ⟨S512x5632, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S2x1024x2816, .bf16⟩
  | .local _ .vmem, ⟨11, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_11 : BitVec 32 := 0#32
  let v2 : BitVec 1 := Scalar.cmpi .ne v1 c0_i32_11
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_12 : BitVec 32 := 0#32
  let v5 : BitVec 1 := Scalar.cmpi .ne v4 c0_i32_12
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x5632, .bf16⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x3072 : Shape := ⟨2, ![1024, 3072]⟩
abbrev S1024x4x768 : Shape := ⟨3, ![1024, 4, 768]⟩
abbrev S4x1024x768 : Shape := ⟨3, ![4, 1024, 768]⟩
abbrev S1x1024 : Shape := ⟨2, ![1, 1024]⟩
abbrev S4096x3072 : Shape := ⟨2, ![4096, 3072]⟩
abbrev S512x1024 : Shape := ⟨2, ![512, 1024]⟩
abbrev S512x3072 : Shape := ⟨2, ![512, 3072]⟩
abbrev S4 : Shape := ⟨1, ![4]⟩
abbrev S1 : Shape := ⟨1, ![1]⟩
abbrev S_ : Shape := ⟨0, ![]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S512x768 : Shape := ⟨2, ![512, 768]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1024x4x768, .bf16⟩
  | .hbm, ⟨5, _⟩ => ⟨S4x1024x768, .bf16⟩
  | .hbm, ⟨6, _⟩ => ⟨S1x1024, .f32⟩
  | .hbm, ⟨7, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x3072, .bf16⟩
  | .local _ .vmem, ⟨4, _⟩ => ⟨S512x3072, .bf16⟩
  | .local _ .vmem, ⟨5, _⟩ => ⟨S4x1024x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_9 : BitVec 32 := 0#32
  let v2 : BitVec 1 := Scalar.cmpi .ne v1 c0_i32_9
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_10 : BitVec 32 := 0#32
  let v5 : BitVec 1 := Scalar.cmpi .ne v4 c0_i32_10
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3072, .f32⟩
  | .hbm, ⟨20, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.ConvRef.lean ====
/- What the plain convolution gradient returns, named, and read at an index: the reference's three composed terms. -/
module

public import proofs.«01_k».proof.Proof.Gen.ReferenceIdeal.Run
public import Idealize.ShloMosaic.Lib.Pointwise

@[expose] public section

set_option maxRecDepth 16384

noncomputable section

namespace Cert.ConvRef

open Cert.ReferenceIdeal Cert.ReferenceIdeal.Gen Idealize.ShloMosaic Idealize.ShloMosaic.TcCoe Idealize.SL.Sem Idealize.ShloMosaic.StableHlo

/-- The gradient of the convolution branch `h`. -/
def refDh (A : FVec Ideal S4096x512 .f32) (B : FVec Ideal S4096x3072 .bf16) (W : FVec Ideal S512x3 .f32) : FVec Ideal S4096x512 .bf16 :=
  truncf .bf16 (mulf (extractStridedSlice S4096x512 ![0, 1024] (extf .f32 B bitsLt_bf16_f32) slices_S4096x3072_S4096x512_0_1024) (extractStridedSlice S4096x512 ![2, 0] (addf (addf (pad S4098x512 ![2, 0] ![0, 0] ![0, 0] (mulf (shapeCast _ A shapeCasts_S4096x512_S4096x512) (broadcastInDim S4096x512 ![0, 1] bcast_S1x512_S4096x512_0_1 (broadcastInDim S1x512 ![1] bcast_S512_S1x512_1 (shapeCast _ (extractStridedSlice S512x1 ![0, 2] W slices_S512x3_S512x1_0_2) shapeCasts_S512x1_S512)))) (constant S_ .f32 0x00000000#32) pads_S4096x512_S4098x512_200_000 h_S_) (pad S4098x512 ![1, 0] ![1, 0] ![0, 0] (mulf (shapeCast _ A shapeCasts_S4096x512_S4096x512) (broadcastInDim S4096x512 ![0, 1] bcast_S1x512_S4096x512_0_1 (broadcastInDim S1x512 ![1] bcast_S512_S1x512_1 (shapeCast _ (extractStridedSlice S512x1 ![0, 1] W slices_S512x3_S512x1_0_1) shapeCasts_S512x1_S512)))) (constant S_ .f32 0x00000000#32) pads_S4096x512_S4098x512_110_000 h_S_)) (pad S4098x512 ![0, 0] ![2, 0] ![0, 0] (mulf (shapeCast _ A shapeCasts_S4096x512_S4096x512) (broadcastInDim S4096x512 ![0, 1] bcast_S1x512_S4096x512_0_1 (broadcastInDim S1x512 ![1] bcast_S512_S1x512_1 (shapeCast _ (extractStridedSlice S512x1 ![0, 0] W slices_S512x3_S512x1_0_0) shapeCasts_S512x1_S512)))) (constant S_ .f32 0x00000000#32) pads_S4096x512_S4098x512_020_000 h_S_)) slices_S4098x512_S4096x512_2_0)) bitsLt_bf16_f32

/-- The gradient of the gate of the branch. -/
def refDc (A : FVec Ideal S4096x512 .f32) (B : FVec Ideal S4096x3072 .bf16) (W : FVec Ideal S512x3 .f32) : FVec Ideal S4096x512 .bf16 :=
  truncf .bf16 (mulf (extractStridedSlice S4096x512 ![2, 0] (addf (addf (pad S4098x512 ![2, 0] ![0, 0] ![0, 0] (mulf (shapeCast _ A shapeCasts_S4096x512_S4096x512) (broadcastInDim S4096x512 ![0, 1] bcast_S1x512_S4096x512_0_1 (broadcastInDim S1x512 ![1] bcast_S512_S1x512_1 (shapeCast _ (extractStridedSlice S512x1 ![0, 2] W slices_S512x3_S512x1_0_2) shapeCasts_S512x1_S512)))) (constant S_ .f32 0x00000000#32) pads_S4096x512_S4098x512_200_000 h_S_) (pad S4098x512 ![1, 0] ![1, 0] ![0, 0] (mulf (shapeCast _ A shapeCasts_S4096x512_S4096x512) (broadcastInDim S4096x512 ![0, 1] bcast_S1x512_S4096x512_0_1 (broadcastInDim S1x512 ![1] bcast_S512_S1x512_1 (shapeCast _ (extractStridedSlice S512x1 ![0, 1] W slices_S512x3_S512x1_0_1) shapeCasts_S512x1_S512)))) (constant S_ .f32 0x00000000#32) pads_S4096x512_S4098x512_110_000 h_S_)) (pad S4098x512 ![0, 0] ![2, 0] ![0, 0] (mulf (shapeCast _ A shapeCasts_S4096x512_S4096x512) (broadcastInDim S4096x512 ![0, 1] bcast_S1x512_S4096x512_0_1 (broadcastInDim S1x512 ![1] bcast_S512_S1x512_1 (shapeCast _ (extractStridedSlice S512x1 ![0, 0] W slices_S512x3_S512x1_0_0) shapeCasts_S512x1_S512)))) (constant S_ .f32 0x00000000#32) pads_S4096x512_S4098x512_020_000 h_S_)) slices_S4098x512_S4096x512_2_0) (extractStridedSlice S4096x512 ![0, 0] (extf .f32 B bitsLt_bf16_f32) slices_S4096x3072_S4096x512_0_0)) bitsLt_bf16_f32

/-- The gradient of the three taps, in the rows 0 to 2 of eight. -/
def refDw (A : FVec Ideal S4096x512 .f32) (B : FVec Ideal S4096x3072 .bf16) (W : FVec Ideal S512x3 .f32) : FVec Ideal S8x512 .f32 :=
  pad S8x512 ![0, 0] ![5, 0] ![0, 0] (transpose S3x512 [1, 0] (addf (addf (pad S512x3 ![0, 2] ![0, 0] ![0, 0] (broadcastInDim S512x1 ![0] bcast_S512_S512x1_0 (Host.reduceAdd (shapeCast _ (Host.reduceAdd (mulf (extractStridedSlice S4096x512 ![2, 0] (concatenate S4098x512 0 [⟨S2x512, (broadcastInDim S2x512 ![] bcast_S_S2x512 (constant S_ .f32 0x00000000#32))⟩, ⟨S4096x512, (mulf (extractStridedSlice S4096x512 ![0, 1024] (extf .f32 B bitsLt_bf16_f32) slices_S4096x3072_S4096x512_0_1024) (extractStridedSlice S4096x512 ![0, 0] (extf .f32 B bitsLt_bf16_f32) slices_S4096x3072_S4096x512_0_0))⟩] concatenates_S2x512_S4096x512_S4098x512_d0) slices_S4098x512_S4096x512_2_0) (shapeCast _ A shapeCasts_S4096x512_S4096x512)) (constant S_ .f32 0x00000000#32) reducesTo_S4096x512_S512_d0 h_S_) shapeCasts_S512_S1x512) (constant S_ .f32 0x00000000#32) reducesTo_S1x512_S512_d0 h_S_)) (constant S_ .f32 0x00000000#32) pads_S512x1_S512x3_000_200 h_S_) (pad S512x3 ![0, 1] ![0, 1] ![0, 0] (broadcastInDim S512x1 ![0] bcast_S512_S512x1_0 (Host.reduceAdd (shapeCast _ (Host.reduceAdd (mulf (extractStridedSlice S4096x512 ![1, 0] (concatenate S4098x512 0 [⟨S2x512, (broadcastInDim S2x512 ![] bcast_S_S2x512 (constant S_ .f32 0x00000000#32))⟩, ⟨S4096x512, (mulf (extractStridedSlice S4096x512 ![0, 1024] (extf .f32 B bitsLt_bf16_f32) slices_S4096x3072_S4096x512_0_1024) (extractStridedSlice S4096x512 ![0, 0] (extf .f32 B bitsLt_bf16_f32) slices_S4096x3072_S4096x512_0_0))⟩] concatenates_S2x512_S4096x512_S4098x512_d0) slices_S4098x512_S4096x512_1_0) (shapeCast _ A shapeCasts_S4096x512_S4096x512)) (constant S_ .f32 0x00000000#32) reducesTo_S4096x512_S512_d0 h_S_) shapeCasts_S512_S1x512) (constant S_ .f32 0x00000000#32) reducesTo_S1x512_S512_d0 h_S_)) (constant S_ .f32 0x00000000#32) pads_S512x1_S512x3_000_110 h_S_)) (pad S512x3 ![0, 0] ![0, 2] ![0, 0] (broadcastInDim S512x1 ![0] bcast_S512_S512x1_0 (Host.reduceAdd (shapeCast _ (Host.reduceAdd (mulf (extractStridedSlice S4096x512 ![0, 0] (concatenate S4098x512 0 [⟨S2x512, (broadcastInDim S2x512 ![] bcast_S_S2x512 (constant S_ .f32 0x00000000#32))⟩, ⟨S4096x512, (mulf (extractStridedSlice S4096x512 ![0, 1024] (extf .f32 B bitsLt_bf16_f32) slices_S4096x3072_S4096x512_0_1024) (extractStridedSlice S4096x512 ![0, 0] (extf .f32 B bitsLt_bf16_f32) slices_S4096x3072_S4096x512_0_0))⟩] concatenates_S2x512_S4096x512_S4098x512_d0) slices_S4098x512_S4096x512_0_0) (shapeCast _ A shapeCasts_S4096x512_S4096x512)) (constant S_ .f32 0x00000000#32) reducesTo_S4096x512_S512_d0 h_S_) shapeCasts_S512_S1x512) (constant S_ .f32 0x00000000#32) reducesTo_S1x512_S512_d0 h_S_)) (constant S_ .f32 0x00000000#32) pads_S512x1_S512x3_000_020 h_S_)) transposes_S512x3_S3x512_1_0) (sitofp .f32 (constantI S_ 32 0#32)) pads_S3x512_S8x512_050_000 h_S_

/-- The gradient of the gated branch at row `r`: the taps against this row of the cotangent and the two after it,
    nothing past the last row. -/
def du (A : FVec Ideal S4096x512 .f32) (W : FVec Ideal S512x3 .f32) (r : Fin 4096) (l : Fin 512) : EReal :=
  W (ix2 l 2) * A (ix2 r l)
    + W (ix2 l 1) * (if h : r.val + 1 < 4096 then A (ix2 ⟨r.val + 1, h⟩ l) else 0)
    + W (ix2 l 0) * (if h : r.val + 2 < 4096 then A (ix2 ⟨r.val + 2, h⟩ l) else 0)

theorem refDh_apply (A : FVec Ideal S4096x512 .f32) (B : FVec Ideal S4096x3072 .bf16) (W : FVec Ideal S512x3 .f32)
    (r : Fin 4096) (l : Fin 512) :
    refDh A B W (ix2 r l) = du A W r l * B (ix2 r ⟨1024 + l.val, by omega⟩) := by
  pointwise [refDh, du]
  rw [mul_comm]
  refine congrArg (· * _) ?_
  refine congrArg₂ (· + ·) (congrArg₂ (· + ·) (mul_comm _ _) ?_) ?_
  · by_cases h : r.val + 1 < 4096
    · rw [dif_pos h, dif_pos (by omega), mul_comm]
      exact congrArg (fun x => _ * A (ix2 x l)) (Fin.ext (by show 2 + r.val - 1 = r.val + 1; omega))
    · rw [dif_neg h, dif_neg (by omega), mul_zero]
  · by_cases h : r.val + 2 < 4096
    · rw [dif_pos h, dif_pos (by omega), mul_comm]
      exact congrArg (fun x => _ * A (ix2 x l)) (Fin.ext (by show 2 + r.val = r.val + 2; omega))
    · rw [dif_neg h, dif_neg (by omega), mul_zero]

theorem refDc_apply (A : FVec Ideal S4096x512 .f32) (B : FVec Ideal S4096x3072 .bf16) (W : FVec Ideal S512x3 .f32)
    (r : Fin 4096) (l : Fin 512) :
    refDc A B W (ix2 r l) = du A W r l * B (ix2 r ⟨l.val, by omega⟩) := by
  have h := refDh_apply A (fun _ => 1) W r l
  pointwise [refDh] at h
  pointwise [refDc]
  exact congrArg (· * B (ix2 r ⟨l.val, by omega⟩)) h

/-- The gated branch, `k` rows back: zero before the first row. -/
def gated (B : FVec Ideal S4096x3072 .bf16) (k : Nat) (r : Fin 4096) (l : Fin 512) : EReal :=
  if h : r.val < k then 0
  else B (ix2 ⟨r.val - k, by omega⟩ ⟨1024 + l.val, by omega⟩) * B (ix2 ⟨r.val - k, by omega⟩ ⟨l.val, by omega⟩)

/-- The gradient of tap `2 - k`. -/
def tap (A : FVec Ideal S4096x512 .f32) (B : FVec Ideal S4096x3072 .bf16) (k : Nat) (l : Fin 512) : EReal :=
  ∑ r : Fin 4096, A (ix2 r l) * gated B k r l

theorem refDw_apply (A : FVec Ideal S4096x512 .f32) (B : FVec Ideal S4096x3072 .bf16) (W : FVec Ideal S512x3 .f32)
    (r : Fin 8) (l : Fin 512) :
    refDw A B W (ix2 r l) = if r.val < 3 then tap A B (2 - r.val) l else 0 := by
  pointwise [refDw]
  by_cases h : r.val < 3
  · rw [dif_pos h, if_pos h]
    have h3 : r.val = 0 ∨ r.val = 1 ∨ r.val = 2 := by omega
    unfold tap gated
    rcases h3 with h3 | h3 | h3 <;>
      simp only [h3, Nat.reduceSub, Nat.reduceLT, Nat.reduceLeDiff, Nat.reduceAdd, false_and, and_false, and_true, and_self, le_refl, ↓reduceDIte, zero_add, add_zero, Fin.sum_univ_one]
    · rw [Fin.sum_univ_two_halves 2 4094 rfl]
      refine congrArg₂ (· + ·) (Finset.sum_congr rfl fun x _ => ?_) (Finset.sum_congr rfl fun x _ => ?_)
      · rw [dif_pos x.isLt, zero_mul, mul_zero]
      · rw [dif_neg (by show ¬ 2 + x.val < 2; omega), mul_comm]
        have e : (⟨x.val, by omega⟩ : Fin 4096) = ⟨2 + x.val - 2, by omega⟩ := Fin.ext (by simp)
        exact congrArg (fun z => A (ix2 ⟨2 + x.val, by omega⟩ l) * (B (ix2 z ⟨1024 + l.val, by omega⟩) * B (ix2 z ⟨l.val, by omega⟩))) e
    · refine Finset.sum_congr rfl fun x _ => ?_
      rw [mul_comm]
      by_cases hx : x.val < 1
      · rw [dif_pos hx, dif_pos (by omega)]
      · rw [dif_neg hx, dif_neg (by omega)]
        have e : (⟨1 + x.val - 2, by omega⟩ : Fin 4096) = ⟨x.val - 1, by omega⟩ := Fin.ext (by show 1 + x.val - 2 = x.val - 1; omega)
        exact congrArg (fun z => A (ix2 x l) * (B (ix2 z ⟨1024 + l.val, by omega⟩) * B (ix2 z ⟨l.val, by omega⟩))) e
    · refine Finset.sum_congr rfl fun x _ => ?_
      rw [mul_comm, dif_neg (by omega)]
      rfl
  · rw [dif_neg h, if_neg h]
    show (((0#32 : BitVec 32).toInt : ℝ) : EReal) = 0
    simp

end Cert.ConvRef

end
-- ==== Proof.ConvBlocks.lean ====
/- The convolution gradient's kernel: the blocks a grid point is handed, and what it reads back out of its two scratch buffers. -/
module

public import proofs.«01_k».proof.Proof.Gen.KernelIdeal.Value
public import proofs.«01_k».proof.Proof.ConvRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvValue

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

/-- The three arrays the kernel takes. -/
abbrev arrA (c : Dev nD) : FVec Ideal S4096x512 .f32 := m ((c : Thread nD τ).loc main_arg0)
abbrev arrB (c : Dev nD) : FVec Ideal S4096x3072 .bf16 := m ((c : Thread nD τ).loc main_arg1)
abbrev arrW (c : Dev nD) : FVec Ideal S512x3 .f32 := m ((c : Thread nD τ).loc main_arg2)

/-- A load of a rectangle that the stored pieces cover reads the array of which every piece is a block. -/
theorem readCov_pieces {sig : RefSig} {κ : Kind} {sp : Space} {s : Shape} {e : EltTy} {Val : EltTy → Type} [∀ e, Nonempty (Val e)]
    (v : View sig κ sp s e) (G : s.Idx → Val e) (L : List (View.Piece Val s e)) (r : Rect s)
    (h : View.PiecesOf G L) (hc : ∀ x : r.shape.Idx, ∃ p ∈ L, r.emb x ∈ p.1.set) :
    v.readCov L r.toLoadRect = fun x => G (r.emb x) := by
  rw [View.readCov_eq_canon']
  funext x
  have := View.canon_append_of_piecesOf G [] L h (r.emb x) (hc x)
  rw [List.append_nil] at this
  exact this

theorem idx : ∀ t : Fin cfg0.N, (grid0.coords t 0).val = t.val ∧ win0_0.index t = ![t.val, 0] ∧ win0_1.index t = ![min ((t.val + 1) * 64) 511, 0]
    ∧ win0_2.index t = ![t.val, 0] ∧ win0_3.index t = ![t.val * 32 - 1, 0] ∧ win0_4.index t = ![0, 0]
    ∧ win0_5.index t = ![t.val, 0] ∧ win0_6.index t = ![t.val, 0] ∧ win0_7.index t = ![0, 0] :=
  (by decide +kernel : ∀ t : Fin grid0.N, _)

theorem tlt (t : Fin cfg0.N) : t.val < 8 := by have := t.isLt; have h : cfg0.N = 8 := N_0; omega

/-- The row of the cotangent at `n`, zero past the end. -/
def rowA (c : Dev nD) (n : Nat) (l : Fin 512) : EReal := if h : n < 4096 then arrA m c (ix2 ⟨n, h⟩ l) else 0

/-- The gated branch at row `n - 16`, zero before the first. -/
def rowU (c : Dev nD) (n : Nat) (l : Fin 512) : EReal :=
  if h : 16 ≤ n ∧ n < 4112 then arrB m c (ix2 ⟨n - 16, by omega⟩ ⟨1024 + l.val, by omega⟩) * arrB m c (ix2 ⟨n - 16, by omega⟩ ⟨l.val, by omega⟩) else 0

theorem blk0 (c : Dev nD) (t : Fin cfg0.N) (r l : Fin 512) : iblk m c 0 t (ix2 r l) = rowA m c (512 * t.val + r.val) l := by
  have := tlt t
  rw [rowA, dif_pos (by omega)]
  blk_ext [iblk, V, idx t]

theorem isLast : ∀ t : Fin cfg0.N, Scalar.cmpi .eq (BitVec.ofNat 32 (grid0.coords t 0).val) 7#32 = if t.val = 7 then 1#1 else 0#1 :=
  (by decide +kernel : ∀ t : Fin grid0.N, _)

theorem isFirst : ∀ t : Fin cfg0.N, Scalar.cmpi .eq (BitVec.ofNat 32 (grid0.coords t 0).val) 0#32 = if t.val = 0 then 1#1 else 0#1 :=
  (by decide +kernel : ∀ t : Fin grid0.N, _)

theorem blk1 (c : Dev nD) (t : Fin cfg0.N) (r : Fin 8) (l : Fin 512) :
    k0_pay12 (k0_pay11 (grid0.coords t) (iblk m c 1 t)) (ix2 r l) = rowA m c (512 * t.val + 512 + r.val) l := by
  have := tlt t
  pointwise [k0_pay12, k0_pay11]
  rw [isLast]
  by_cases h : t.val = 7
  · rw [if_pos h, rowA, dif_neg (by omega)]
    rfl
  · rw [if_neg h, rowA, dif_pos (by omega)]
    show iblk m c 1 t (ix2 r l) = _
    have e : min ((t.val + 1) * 64) 511 = (t.val + 1) * 64 := by omega
    blk_ext [iblk, V, idx t, e]

theorem blk2 (c : Dev nD) (t : Fin cfg0.N) (r l : Fin 512) :
    k0_pay9 (iblk m c 2 t) (ix2 r l) = rowU m c (512 * t.val + 16 + r.val) l := by
  have := tlt t
  pointwise [k0_pay9, k0_pay7, k0_pay6, k0_pay5, k0_pay4]
  rw [rowU, dif_pos (by omega)]
  blk_point [iblk, V, idx t]

theorem blk3 (c : Dev nD) (t : Fin cfg0.N) (r : Fin 16) (l : Fin 512) :
    k0_pay8 (grid0.coords t) (iblk m c 3 t) (ix2 r l) = rowU m c (512 * t.val + r.val) l := by
  have := tlt t
  pointwise [k0_pay8]
  rw [isFirst]
  by_cases h : t.val = 0
  · rw [if_pos h, rowU, dif_neg (by omega)]
    rfl
  · rw [if_neg h, rowU, dif_pos (by omega)]
    refine (show ∀ a b : EReal, Scalar.select 0#1 a b = b from fun _ _ => rfl) _ _ |>.trans ?_
    blk_point [iblk, V, idx t]

/-- The taps as the host hands them over: transposed, five rows of zeros below. -/
theorem taps (c : Dev nD) (r : Fin 8) (l : Fin 512) (h : r.val < 3) :
    V m c main_v1 (ix2 r l) = arrW m c (ix2 l ⟨r.val, h⟩) := by
  have e : V m c main_v1 = pad S8x512 ![0, 0] ![5, 0] ![0, 0] (transpose S3x512 [1, 0] (arrW m c) transposes_S512x3_S3x512_1_0) (sitofp .f32 (constantI S_ 32 0#32)) pads_S3x512_S8x512_050_000 h_S_ := by
    show StableHlo.after [hostOps0, hostOps0_1].flatten (fun b => m (c, b)) (Proc.tc.devRef main_v1) = _
    simp only [List.flatten_cons, List.flatten_nil, List.append_nil, List.cons_append, List.nil_append, StableHlo.TRef.binary, StableHlo.TRef.unary, StableHlo.TRef.toBuf, StableHlo.TRef.ofBuf, cast_eq]
    after_results_simp <;> rfl
  rw [e]
  pointwise []
  rw [dif_pos (by omega)]

theorem blk4 (c : Dev nD) (t : Fin cfg0.N) (r : Fin 8) (l : Fin 512) (h : r.val < 3) :
    iblk m c 4 t (ix2 r l) = arrW m c (ix2 l ⟨r.val, h⟩) := by
  rw [← taps m c r l h]
  blk_ext [iblk, idx t]

/-- The cotangent's rows, `k` further on, as the kernel reads them out of its scratch. -/
theorem shiftA (c : Dev nD) (t : Fin cfg0.N) (k : Nat) (inb : ∀ a, (![k, 0] : Fin 2 → Nat) a + (![512, 512] : Fin 2 → Nat) a ≤ S520x512.size a) (hk : k ≤ 8) :
    (View.whole cc0_scratch1).readCov (Val := Elt Ideal)
        [⟨Rect.unit (s := S520x512) ![512, 0] ![8, 512] inb_S520x512_S8x512_512_0, k0_pay12 (k0_pay11 (grid0.coords t) (iblk m c 1 t))⟩,
          ⟨Rect.unit (s := S520x512) ![0, 0] ![512, 512] inb_S520x512_S512x512_0_0, k0_pay10 (iblk m c 0 t)⟩]
        (Rect.unit (s := S520x512) ![k, 0] ![512, 512] inb).toLoadRect = fun y : S512x512.Idx => rowA m c (512 * t.val + k + (y 0).val) (y 1) := by
  refine (readCov_pieces _ (fun y : S520x512.Idx => rowA m c (512 * t.val + (y 0).val) (y 1)) _ _ ?_ fun x => ?_).trans (funext fun x => ?_)
  · refine ⟨fun x => ?_, fun x => ?_, trivial⟩
    · obtain ⟨a, b, rfl⟩ : ∃ (a : Fin 8) (b : Fin 512), x = ix2 a b := ⟨x 0, x 1, eq_ix2 x⟩
      refine (blk1 m c t a b).trans (congrArg₂ (rowA m c) ?_ (Fin.ext ?_)) <;> rw [ValueKit.rect_emb_unit_val]
      · show _ = _ + (512 + a.val); omega
      · show b.val = 0 + b.val; omega
    · obtain ⟨a, b, rfl⟩ : ∃ (a : Fin 512) (b : Fin 512), x = ix2 a b := ⟨x 0, x 1, eq_ix2 x⟩
      have e : k0_pay10 (iblk m c 0 t) (ix2 a b) = iblk m c 0 t (ix2 a b) := by pointwise [k0_pay10]
      refine e.trans ((blk0 m c t a b).trans (congrArg₂ (rowA m c) ?_ (Fin.ext ?_))) <;> rw [ValueKit.rect_emb_unit_val]
      · show _ = _ + (0 + a.val); omega
      · show b.val = 0 + b.val; omega
  · have h0 : ((Rect.unit (s := S520x512) ![k, 0] ![512, 512] inb).emb x 0).val = k + (x 0).val := ValueKit.rect_emb_unit_val _ _ _ _ _
    have h1 : ((Rect.unit (s := S520x512) ![k, 0] ![512, 512] inb).emb x 1).val = 0 + (x 1).val := ValueKit.rect_emb_unit_val _ _ _ _ _
    have b0 : (x 0).val < 512 := (x 0).isLt
    have b1 : (x 1).val < 512 := (x 1).isLt
    by_cases h : k + (x 0).val < 512
    · refine ⟨_, List.mem_cons_of_mem _ (List.mem_cons_self), ?_⟩
      rw [Rect.mem_set_unit]
      intro a
      match a with
      | ⟨0, _⟩ => exact ⟨Nat.zero_le _, by show ((Rect.unit (s := S520x512) ![k, 0] ![512, 512] inb).emb x 0).val < 0 + 512; omega⟩
      | ⟨1, _⟩ => exact ⟨Nat.zero_le _, by show ((Rect.unit (s := S520x512) ![k, 0] ![512, 512] inb).emb x 1).val < 0 + 512; omega⟩
    · refine ⟨_, List.mem_cons_self, ?_⟩
      rw [Rect.mem_set_unit]
      intro a
      match a with
      | ⟨0, _⟩ => exact ⟨by show 512 ≤ ((Rect.unit (s := S520x512) ![k, 0] ![512, 512] inb).emb x 0).val; omega, by show ((Rect.unit (s := S520x512) ![k, 0] ![512, 512] inb).emb x 0).val < 512 + 8; omega⟩
      | ⟨1, _⟩ => exact ⟨Nat.zero_le _, by show ((Rect.unit (s := S520x512) ![k, 0] ![512, 512] inb).emb x 1).val < 0 + 512; omega⟩
  · refine congrArg₂ (rowA m c) ?_ (Fin.ext ?_) <;> rw [ValueKit.rect_emb_unit_val]
    · show _ + (k + (x 0).val) = _; omega
    · show 0 + (x 1).val = _; omega

/-- The gated branch's rows, `16 - k` back, as the kernel reads them out of its scratch. -/
theorem shiftU (c : Dev nD) (t : Fin cfg0.N) (k : Nat) (inb : ∀ a, (![k, 0] : Fin 2 → Nat) a + (![512, 512] : Fin 2 → Nat) a ≤ S528x512.size a) (hk : k ≤ 16) :
    (View.whole cc0_scratch0).readCov (Val := Elt Ideal)
        [⟨Rect.unit (s := S528x512) ![16, 0] ![512, 512] inb_S528x512_S512x512_16_0, k0_pay9 (iblk m c 2 t)⟩,
          ⟨Rect.unit (s := S528x512) ![0, 0] ![16, 512] inb_S528x512_S16x512_0_0, k0_pay8 (grid0.coords t) (iblk m c 3 t)⟩]
        (Rect.unit (s := S528x512) ![k, 0] ![512, 512] inb).toLoadRect = fun y : S512x512.Idx => rowU m c (512 * t.val + k + (y 0).val) (y 1) := by
  refine (readCov_pieces _ (fun y : S528x512.Idx => rowU m c (512 * t.val + (y 0).val) (y 1)) _ _ ?_ fun x => ?_).trans (funext fun x => ?_)
  · refine ⟨fun x => ?_, fun x => ?_, trivial⟩
    · obtain ⟨a, b, rfl⟩ : ∃ (a : Fin 512) (b : Fin 512), x = ix2 a b := ⟨x 0, x 1, eq_ix2 x⟩
      refine (blk2 m c t a b).trans (congrArg₂ (rowU m c) ?_ (Fin.ext ?_)) <;> rw [ValueKit.rect_emb_unit_val]
      · show _ = _ + (16 + a.val); omega
      · show b.val = 0 + b.val; omega
    · obtain ⟨a, b, rfl⟩ : ∃ (a : Fin 16) (b : Fin 512), x = ix2 a b := ⟨x 0, x 1, eq_ix2 x⟩
      refine (blk3 m c t a b).trans (congrArg₂ (rowU m c) ?_ (Fin.ext ?_)) <;> rw [ValueKit.rect_emb_unit_val]
      · show _ = _ + (0 + a.val); omega
      · show b.val = 0 + b.val; omega
  · have h0 : ((Rect.unit (s := S528x512) ![k, 0] ![512, 512] inb).emb x 0).val = k + (x 0).val := ValueKit.rect_emb_unit_val _ _ _ _ _
    have h1 : ((Rect.unit (s := S528x512) ![k, 0] ![512, 512] inb).emb x 1).val = 0 + (x 1).val := ValueKit.rect_emb_unit_val _ _ _ _ _
    have b0 : (x 0).val < 512 := (x 0).isLt
    have b1 : (x 1).val < 512 := (x 1).isLt
    by_cases h : k + (x 0).val < 16
    · refine ⟨_, List.mem_cons_of_mem _ (List.mem_cons_self), ?_⟩
      rw [Rect.mem_set_unit]
      intro a
      match a with
      | ⟨0, _⟩ => exact ⟨Nat.zero_le _, by show ((Rect.unit (s := S528x512) ![k, 0] ![512, 512] inb).emb x 0).val < 0 + 16; omega⟩
      | ⟨1, _⟩ => exact ⟨Nat.zero_le _, by show ((Rect.unit (s := S528x512) ![k, 0] ![512, 512] inb).emb x 1).val < 0 + 512; omega⟩
    · refine ⟨_, List.mem_cons_self, ?_⟩
      rw [Rect.mem_set_unit]
      intro a
      match a with
      | ⟨0, _⟩ => exact ⟨by show 16 ≤ ((Rect.unit (s := S528x512) ![k, 0] ![512, 512] inb).emb x 0).val; omega, by show ((Rect.unit (s := S528x512) ![k, 0] ![512, 512] inb).emb x 0).val < 16 + 512; omega⟩
      | ⟨1, _⟩ => exact ⟨Nat.zero_le _, by show ((Rect.unit (s := S528x512) ![k, 0] ![512, 512] inb).emb x 1).val < 0 + 512; omega⟩
  · refine congrArg₂ (rowU m c) ?_ (Fin.ext ?_) <;> rw [ValueKit.rect_emb_unit_val]
    · show _ + (k + (x 0).val) = _; omega
    · show 0 + (x 1).val = _; omega

end Cert.ConvValue

end
-- ==== Proof.ConvValue.lean ====
/- The convolution gradient's kernel: what its run leaves in the first two result arrays. -/
module

public import proofs.«01_k».proof.Proof.Gen.KernelIdeal.Value
public import proofs.«01_k».proof.Proof.ConvBlocks
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvValue

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

/-- What the run leaves in the first result. -/
def outH (c : Dev nD) : S4096x512.Idx → EReal :=
  fun j => ConvRef.du (arrA m c) (arrW m c) (j 0) (j 1) * arrB m c (ix2 (j 0) ⟨1024 + (j 1).val, by have : (j 1).val < 512 := (j 1).isLt; omega⟩)

/-- What the run leaves in the second. -/
def outC (c : Dev nD) : S4096x512.Idx → EReal :=
  fun j => ConvRef.du (arrA m c) (arrW m c) (j 0) (j 1) * arrB m c (ix2 (j 0) ⟨(j 1).val, by have : (j 1).val < 512 := (j 1).isLt; omega⟩)

theorem du_eq (c : Dev nD) (n : Nat) (h : n < 4096) (l : Fin 512) :
    ConvRef.du (arrA m c) (arrW m c) ⟨n, h⟩ l
      = arrW m c (ix2 l 2) * rowA m c n l + arrW m c (ix2 l 1) * rowA m c (n + 1) l + arrW m c (ix2 l 0) * rowA m c (n + 2) l := by
  unfold ConvRef.du rowA
  rw [dif_pos h]

/-- One element of the first result, as a point computes it. -/
theorem outH_point (c : Dev nD) (t : Fin cfg0.N) (y0 y1 : Fin 512) :
    k0_pay14 (k0_pay6 (iblk m c 2 t)) (iblk m c 0 t) (fun y => rowA m c (512 * t.val + 1 + (y 0).val) (y 1))
      (fun y => rowA m c (512 * t.val + 2 + (y 0).val) (y 1))
      (View.ld (iblk m c 4 t) (Rect.unit (s := S8x512) ![2, 0] ![1, 512] inb_S8x512_S1x512_2_0))
      (View.ld (iblk m c 4 t) (Rect.unit (s := S8x512) ![1, 0] ![1, 512] inb_S8x512_S1x512_1_0))
      (View.ld (iblk m c 4 t) (Rect.unit (s := S8x512) ![0, 0] ![1, 512] inb_S8x512_S1x512_0_0)) (ix2 y0 y1)
    = outH m c (((View.whole main_v2_0).slice (win0_5.rect t)).emb (ix2 y0 y1)) := by
  have := tlt t
  have hemb : ((View.whole main_v2_0).slice (win0_5.rect t)).emb (ix2 y0 y1) = ix2 (⟨512 * t.val + y0.val, by omega⟩ : Fin 4096) y1 := by
    blk_ext [idx t]
  rw [hemb]
  pointwise [k0_pay14, k0_pay13, k0_pay6, k0_pay4, outH]
  rw [blk0, du_eq]
  have e1 : 512 * t.val + 1 + y0.val = 512 * t.val + y0.val + 1 := by omega
  have e2 : 512 * t.val + 2 + y0.val = 512 * t.val + y0.val + 2 := by omega
  rw [e1, e2]
  blk_point [iblk, V, idx t]
  · exact blk4 m c t 2 y1 (by decide)
  · exact blk4 m c t 1 y1 (by decide)
  · exact blk4 m c t 0 y1 (by decide)

theorem final5 (c : Dev nD) : (dats m 0 c).arrAt 5 cfg0.N = outH m c := by
  refine (dats m 0 c).arrAt_eq_of_covers 5 _ (by decide +kernel) fun t hf y => ?_
  blk_simp
  by_cases h0 : t.val % 8 = 0
  · rw [after0_5, outsAt0_A m c t h0]
    frame_open
    simp (disch := decide) only [↓ View.readCov_skip, ↓ View.readCov_cons_toLoadRect, ↓ View.readCov_fill]
    frame_out
    rw [shiftA m c t 1 _ (by omega), shiftA m c t 2 _ (by omega)]
    idx_vars y
    exact outH_point m c t y0 y1
  · rw [after0_5, outsAt0_B m c t h0]
    frame_open
    simp (disch := decide) only [↓ View.readCov_skip, ↓ View.readCov_cons_toLoadRect, ↓ View.readCov_fill]
    frame_out
    rw [shiftA m c t 1 _ (by omega), shiftA m c t 2 _ (by omega)]
    idx_vars y
    exact outH_point m c t y0 y1

/-- One element of the second, as a point computes it. -/
theorem outC_point (c : Dev nD) (t : Fin cfg0.N) (y0 y1 : Fin 512) :
    k0_pay15 (k0_pay5 (iblk m c 2 t)) (iblk m c 0 t) (fun y => rowA m c (512 * t.val + 1 + (y 0).val) (y 1))
      (fun y => rowA m c (512 * t.val + 2 + (y 0).val) (y 1))
      (View.ld (iblk m c 4 t) (Rect.unit (s := S8x512) ![2, 0] ![1, 512] inb_S8x512_S1x512_2_0))
      (View.ld (iblk m c 4 t) (Rect.unit (s := S8x512) ![1, 0] ![1, 512] inb_S8x512_S1x512_1_0))
      (View.ld (iblk m c 4 t) (Rect.unit (s := S8x512) ![0, 0] ![1, 512] inb_S8x512_S1x512_0_0)) (ix2 y0 y1)
    = outC m c (((View.whole main_v2_1).slice (win0_6.rect t)).emb (ix2 y0 y1)) := by
  have := tlt t
  have hemb : ((View.whole main_v2_1).slice (win0_6.rect t)).emb (ix2 y0 y1) = ix2 (⟨512 * t.val + y0.val, by omega⟩ : Fin 4096) y1 := by
    blk_ext [idx t]
  rw [hemb]
  pointwise [k0_pay15, k0_pay13, k0_pay5, k0_pay4, outC]
  rw [blk0, du_eq]
  have e1 : 512 * t.val + 1 + y0.val = 512 * t.val + y0.val + 1 := by omega
  have e2 : 512 * t.val + 2 + y0.val = 512 * t.val + y0.val + 2 := by omega
  rw [e1, e2]
  blk_point [iblk, V, idx t]
  · exact blk4 m c t 2 y1 (by decide)
  · exact blk4 m c t 1 y1 (by decide)
  · exact blk4 m c t 0 y1 (by decide)

theorem final6 (c : Dev nD) : (dats m 0 c).arrAt 6 cfg0.N = outC m c := by
  refine (dats m 0 c).arrAt_eq_of_covers 6 _ (by decide +kernel) fun t hf y => ?_
  blk_simp
  by_cases h0 : t.val % 8 = 0
  · rw [after0_6, outsAt0_A m c t h0]
    frame_open
    simp (disch := decide) only [↓ View.readCov_skip, ↓ View.readCov_cons_toLoadRect, ↓ View.readCov_fill]
    frame_out
    rw [shiftA m c t 1 _ (by omega), shiftA m c t 2 _ (by omega)]
    idx_vars y
    exact outC_point m c t y0 y1
  · rw [after0_6, outsAt0_B m c t h0]
    frame_open
    simp (disch := decide) only [↓ View.readCov_skip, ↓ View.readCov_cons_toLoadRect, ↓ View.readCov_fill]
    frame_out
    rw [shiftA m c t 1 _ (by omega), shiftA m c t 2 _ (by omega)]
    idx_vars y
    exact outC_point m c t y0 y1

end Cert.ConvValue

end
-- ==== Proof.ConvTaps.lean ====
/- The convolution gradient's kernel: the taps' gradient, which all eight points add into. -/
module

public import proofs.«01_k».proof.Proof.Gen.KernelIdeal.Value
public import proofs.«01_k».proof.Proof.ConvBlocks
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ConvValue

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ)

/-- What point `n` adds to the taps' gradient. -/
def part (c : Dev nD) (n : Nat) (r : Fin 8) (l : Fin 512) : EReal :=
  if r.val < 3 then ∑ x : Fin 512, rowA m c (512 * n + x.val) l * rowU m c (512 * n + 14 + r.val + x.val) l else 0

/-- Row `k` of the eight. -/
abbrev row (k : Nat) (inb : ∀ a, (![k, 0] : Fin 2 → Nat) a + (![1, 512] : Fin 2 → Nat) a ≤ S8x512.size a) : Rect S8x512 :=
  Rect.unit (s := S8x512) ![k, 0] ![1, 512] inb

theorem row_emb (k : Nat) (inb) (r : Fin 8) (l : Fin 512) (h : r.val = k) : (row k inb).emb (ix2 (n0 := 1) 0 l) = ix2 r l := by
  subst h
  funext a
  match a with
  | ⟨0, _⟩ => exact Fin.ext ((ValueKit.rect_emb_unit_val _ _ _ _ _).trans (by show r.val + 0 = r.val; omega))
  | ⟨1, _⟩ => exact Fin.ext ((ValueKit.rect_emb_unit_val _ _ _ _ _).trans (by show 0 + l.val = l.val; omega))

theorem row_not_mem (k : Nat) (inb) (r : Fin 8) (l : Fin 512) (h : r.val ≠ k) : ix2 r l ∉ (row k inb).set := by
  rw [Rect.mem_set_unit]
  intro hh
  have h0 : k ≤ r.val ∧ r.val < k + 1 := hh 0
  omega

/-- Rows 2, 1 and 0 stored over what a buffer held, read back. -/
theorem rows_over {sg : RefSig} {κ : Kind} {sp : Space} (v : View sg κ sp S8x512 .f32) (f : v.ty.Contents (Elt Ideal))
    (P2 P1 P0 : FVec Ideal S1x512 .f32) (i2 i1 i0) (r : Fin 8) (l : Fin 512) :
    v.read (Elt Ideal) (v.writes (Elt Ideal) f [⟨row 2 i2, P2⟩, ⟨row 1 i1, P1⟩, ⟨row 0 i0, P0⟩]) (ix2 r l)
      = if r.val = 2 then P2 (ix2 0 l) else if r.val = 1 then P1 (ix2 0 l) else if r.val = 0 then P0 (ix2 0 l) else v.read (Elt Ideal) f (ix2 r l) := by
  have skip : ∀ (k : Nat) (inb) (P : FVec Ideal S1x512 .f32) (L : List (View.Piece (Elt Ideal) S8x512 .f32)), r.val ≠ k →
      v.read (Elt Ideal) (v.writes (Elt Ideal) f (⟨row k inb, P⟩ :: L)) (ix2 r l) = v.read (Elt Ideal) (v.writes (Elt Ideal) f L) (ix2 r l) := by
    intro k inb P L h
    rw [View.writes_cons, View.read_slice_write_of_not_mem _ _ _ _ (by rw [Rect.map_emb_univ]; exact row_not_mem k inb r l h)]
  have hit : ∀ (k : Nat) (inb) (P : FVec Ideal S1x512 .f32) (L : List (View.Piece (Elt Ideal) S8x512 .f32)), r.val = k →
      v.read (Elt Ideal) (v.writes (Elt Ideal) f (⟨row k inb, P⟩ :: L)) (ix2 r l) = P (ix2 0 l) := by
    intro k inb P L h
    rw [← row_emb k inb r l h]
    exact View.read_writes_cons_emb _ _ _ _ _ _
  by_cases h2 : r.val = 2
  · rw [if_pos h2]; exact hit 2 _ _ _ h2
  rw [if_neg h2, skip 2 _ _ _ h2]
  by_cases h1 : r.val = 1
  · rw [if_pos h1]; exact hit 1 _ _ _ h1
  rw [if_neg h1, skip 1 _ _ _ h1]
  by_cases h0 : r.val = 0
  · rw [if_pos h0]; exact hit 0 _ _ _ h0
  rw [if_neg h0, skip 0 _ _ _ h0, View.writes_nil]

/-- Rows 2, 1 and 0 stored over a fill, read back. -/
theorem rows_fill (Z : FVec Ideal S8x512 .f32) (P2 P1 P0 : FVec Ideal S1x512 .f32) (i2 i1 i0 iz) (r : Fin 8) (l : Fin 512) :
    View.canon (Val := Elt Ideal) (s := S8x512) (e := .f32) [⟨row 2 i2, P2⟩, ⟨row 1 i1, P1⟩, ⟨row 0 i0, P0⟩, ⟨Rect.unit (s := S8x512) ![0, 0] ![8, 512] iz, Z⟩] (ix2 r l)
      = if r.val = 2 then P2 (ix2 0 l) else if r.val = 1 then P1 (ix2 0 l) else if r.val = 0 then P0 (ix2 0 l) else Z (ix2 r l) := by
  have hit : ∀ (k : Nat) (inb) (P : FVec Ideal S1x512 .f32) (L : List (View.Piece (Elt Ideal) S8x512 .f32)), r.val = k →
      View.canon (Val := Elt Ideal) (⟨row k inb, P⟩ :: L) (ix2 r l) = P (ix2 0 l) := by
    intro k inb P L h
    rw [← row_emb k inb r l h]
    exact View.canon_cons_emb (Val := Elt Ideal) _ _ _ _
  have skip : ∀ (k : Nat) (inb) (P : FVec Ideal S1x512 .f32) (L : List (View.Piece (Elt Ideal) S8x512 .f32)), r.val ≠ k →
      View.canon (Val := Elt Ideal) (⟨row k inb, P⟩ :: L) (ix2 r l) = View.canon (Val := Elt Ideal) L (ix2 r l) := fun k inb P L h =>
    View.canon_cons_of_not_mem (Val := Elt Ideal) _ _ (row_not_mem k inb r l h)
  by_cases h2 : r.val = 2
  · rw [if_pos h2]; exact hit 2 _ _ _ h2
  rw [if_neg h2, skip 2 _ _ _ h2]
  by_cases h1 : r.val = 1
  · rw [if_pos h1]; exact hit 1 _ _ _ h1
  rw [if_neg h1, skip 1 _ _ _ h1]
  by_cases h0 : r.val = 0
  · rw [if_pos h0]; exact hit 0 _ _ _ h0
  rw [if_neg h0, skip 0 _ _ _ h0]
  exact congrFun (View.canon_cons_unit_zero (Val := Elt Ideal) (e := .f32) (by funext a; match a with | ⟨0, _⟩ => rfl | ⟨1, _⟩ => rfl) iz Z []) _

/-- What one point's three stores put in the rows, over what the rows held. -/
theorem step (c : Dev nD) (t : Fin cfg0.N) (Z : FVec Ideal S8x512 .f32) (r : Fin 8) (l : Fin 512) :
    (if r.val = 2 then k0_pay2 (k0_pay7 (iblk m c 2 t)) (iblk m c 0 t) (View.ld Z (row 2 inb_S8x512_S1x512_2_0)) (ix2 0 l)
      else if r.val = 1 then k0_pay1 (fun y => rowU m c (512 * t.val + 15 + (y 0).val) (y 1)) (iblk m c 0 t)
            (k0_pay17 (View.ld Z (row 1 inb_S8x512_S1x512_1_0))) (ix2 0 l)
      else if r.val = 0 then k0_pay16 (fun y => rowU m c (512 * t.val + 14 + (y 0).val) (y 1)) (iblk m c 0 t)
            (View.ld Z (row 0 inb_S8x512_S1x512_0_0)) (ix2 0 l)
      else Z (ix2 r l)) = Z (ix2 r l) + part m c t.val r l := by
  have hr : r = 2 ∨ r = 1 ∨ r = 0 ∨ 3 ≤ r.val := by omega
  rcases hr with rfl | rfl | rfl | hr
  · refine (if_pos (by decide)).trans ?_
    have e : ∀ x : Fin 512, k0_pay7 (iblk m c 2 t) (ix2 x l) = rowU m c (512 * t.val + 16 + x.val) l := fun x => by
      rw [← blk2]; pointwise [k0_pay9]
    unfold k0_pay2
    generalize k0_pay7 (iblk m c 2 t) = U at e
    pointwise [part, e, blk0]
  · pointwise [k0_pay1, k0_pay17, part, blk0]
  · pointwise [k0_pay16, part, blk0]
  · rw [if_neg (by omega), if_neg (by omega), if_neg (by omega), part, if_neg (by omega), add_zero]

theorem acc (c : Dev nD) : ∀ (n : Nat) (h : n < cfg0.N) (r : Fin 8) (l : Fin 512),
    (outsAt0 m c n h).2.2 (ix2 r l) = ∑ j ∈ Finset.range (n + 1), part m c j r l := by
  intro n
  induction n with
  | zero =>
    intro h r l
    rw [outsAt0_A m c ⟨0, h⟩ rfl]
    frame_open
    simp (disch := decide) only [↓ View.readCov_skip, ↓ View.readCov_cons_toLoadRect, ↓ View.readCov_fill]
    frame_out
    rw [shiftU m c ⟨0, h⟩ 15 _ (by omega), shiftU m c ⟨0, h⟩ 14 _ (by omega)]
    refine (rows_fill _ _ _ _ _ _ _ _ r l).trans ((step m c ⟨0, h⟩ k0_pay3 r l).trans ?_)
    pointwise [k0_pay3]
    rw [Finset.sum_range_one]
  | succ n ih =>
    intro h r l
    rw [outsAt0_B m c ⟨n + 1, h⟩ (by have : cfg0.N = 8 := N_0; show ¬ (n + 1) % 8 = 0; omega)]
    frame_open
    simp (disch := decide) only [↓ View.readCov_skip, ↓ View.readCov_cons_toLoadRect, ↓ View.readCov_fill]
    frame_out
    rw [shiftU m c ⟨n + 1, h⟩ 15 _ (by omega), shiftU m c ⟨n + 1, h⟩ 14 _ (by omega)]
    refine (rows_over _ _ _ _ _ _ _ _ r l).trans ?_
    rw [Memref.IsWhole.read_unread]
    refine (step m c ⟨n + 1, h⟩ _ r l).trans ?_
    rw [Finset.sum_range_succ]
    exact congrArg (· + _) (ih _ r l)

/-- What the run leaves in the third result. -/
def outW (c : Dev nD) : S8x512.Idx → EReal := ConvRef.refDw (arrA m c) (arrB m c) (arrW m c)

theorem final7 (c : Dev nD) : (dats m 0 c).arrAt 7 cfg0.N = outW m c := by
  refine (dats m 0 c).arrAt_eq_of_after_last 7 t0_7 (by decide +kernel) _ fun y => ?_
  blk_simp
  idx_vars y
  refine (show _ = (outsAt0 m c 7 t0_7.isLt).2.2 (ix2 y0 y1) from congrFun (after0_7 m c t0_7) _).trans ((acc m c 7 _ y0 y1).trans ?_)
  refine Eq.trans ?_ (ConvRef.refDw_apply _ _ _ y0 y1).symm
  unfold part
  by_cases h : y0.val < 3
  · simp only [if_pos h]
    rw [Finset.sum_range, ConvRef.tap, Fin.sum_univ_tiles 8 512 rfl]
    refine Finset.sum_congr rfl fun j _ => Finset.sum_congr rfl fun x _ => ?_
    have hj : j.val < 8 := j.isLt
    have e : 512 * j.val + x.val = j.val * 512 + x.val := by omega
    rw [rowA, dif_pos (by omega), rowU, ConvRef.gated]
    refine congrArg₂ (· * ·) (congrArg (fun z => arrA m c (ix2 z y1)) (Fin.ext e)) ?_
    by_cases hk : j.val * 512 + x.val < 2 - y0.val
    · rw [dif_pos hk, dif_neg (by omega)]
    · rw [dif_neg hk, dif_pos (by omega)]
      have e' : (⟨512 * j.val + 14 + y0.val + x.val - 16, by omega⟩ : Fin 4096) = ⟨j.val * 512 + x.val - (2 - y0.val), by omega⟩ :=
        Fin.ext (by show 512 * j.val + 14 + y0.val + x.val - 16 = j.val * 512 + x.val - (2 - y0.val); omega)
      exact congrArg (fun z => arrB m c (ix2 z ⟨1024 + y1.val, by omega⟩) * arrB m c (ix2 z ⟨y1.val, by omega⟩)) e'
  · simp only [if_neg h, Finset.sum_const_zero]

end Cert.ConvValue

end
-- ==== Proof.ConvClaims.lean ====
/- The claims about the convolution gradient: the frames, and equality with the plain gradient over the extended reals. -/
module

public import proofs.«01_k».proof.Defs
public import proofs.«01_k».proof.Proof.Gen.Kernel.Frame
public import proofs.«01_k».proof.Proof.ConvValue
public import proofs.«01_k».proof.Proof.ConvTaps
public import Idealize.ShloMosaic.Lib.Quiescent

@[expose] public section

set_option maxRecDepth 16384

noncomputable section

namespace Cert.Proof.Conv

open Idealize.ShloMosaic Idealize.ShloMosaic.TcCoe Idealize.SL.Sem

theorem frame : Cert.quiescent_Kernel (hKernel := Cert.Kernel.Gen.facts) := fun m ρ _ => Cert.Kernel.Gen.frame m ρ

theorem frameIdeal : Cert.quiescent_KernelIdeal (hKernelIdeal := Cert.KernelIdeal.Gen.facts) :=
  fun m ρ _ => Cert.KernelIdeal.Gen.frame m ρ

theorem frameRef : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- From equal arguments the kernel and the plain gradient end with equal results. -/
theorem value : Cert.algebraic_KernelIdeal_ReferenceIdeal (hKernelIdeal := Cert.KernelIdeal.Gen.facts)
    (hReferenceIdeal := Cert.ReferenceIdeal.Gen.facts) := by
  intro m ρ m' ρ' _ hag
  refine ⟨fun c => ConvValue.outH m c, fun c => ConvValue.outC m c, fun c => ConvValue.outW m c, ?_, ?_⟩
  · exact (θ_run Cert.KernelIdeal.defs _ _).mono (fun _ h c =>
      ⟨(h c).1.trans (ConvValue.final5 m c), (h c).2.1.trans (ConvValue.final6 m c), (h c).2.2.1.trans (ConvValue.final7 m c),
        (h c).2.2.2⟩) (Cert.KernelIdeal.Value.run_blocks (F := Ideal) m ρ)
  · refine (θ_run Cert.ReferenceIdeal.defs _ _).mono (fun _ h c =>
      ⟨(h c).1.trans ?_, (h c).2.1.trans ?_, (h c).2.2.1.trans ?_, (h c).2.2.2⟩) (Cert.ReferenceIdeal.Value.run (F := Ideal) m' ρ')
    · rw [(hag c).1, (hag c).2.1, (hag c).2.2]
      exact funext fun j => (congrArg _ (eq_ix2 j)).trans (ConvRef.refDh_apply _ _ _ (j 0) (j 1))
    · rw [(hag c).1, (hag c).2.1, (hag c).2.2]
      exact funext fun j => (congrArg _ (eq_ix2 j)).trans (ConvRef.refDc_apply _ _ _ (j 0) (j 1))
    · rw [(hag c).1, (hag c).2.1]
      show _ = ConvValue.outW m c
      unfold ConvValue.outW ConvRef.refDw
      rfl

end Cert.Proof.Conv

end
-- ==== Proof.WgradChunk.lean ====
/- Sums over 4096 rows taken 512 rows at a time, as the weight-gradient kernels take them. -/
module

public import Idealize.ShloMosaic.Lib.Pipeline.ValueKit
public import Idealize.ShloMosaic.Lib.Pipeline.ReadBack
public import Idealize.ShloMosaic.Lib.Pointwise

@[expose] public section

set_option maxRecDepth 16384

noncomputable section

namespace Cert.WgradChunk

open Idealize.ShloMosaic Idealize.ShloMosaic.TcCoe Idealize.SL.Sem

/-- An array of 4096 rows. -/
abbrev Tall (w : Nat) := FVec Ideal ⟨2, ![4096, w]⟩ .bf16

/-- The products of column `a` of one array with column `b` of another, over the 512 rows of chunk `k`. -/
def part {wa wb : Nat} (A : Tall wa) (B : Tall wb) (a : Fin wa) (b : Fin wb) (k : Fin 8) : EReal :=
  ∑ x : Fin 512, A (ix2 (⟨k.val * 512 + x.val, by omega⟩ : Fin 4096) a) * B (ix2 (⟨k.val * 512 + x.val, by omega⟩ : Fin 4096) b)

theorem emb {w : Nat} (k : Fin 8) (n : Nat) (hn : n = k.val * 512) (i) (x : Fin 512) (y : Fin w) :
    (Rect.unit (s := ⟨2, ![4096, w]⟩) ![n, 0] ![512, w] i).emb (ix2 x y) = ix2 (⟨k.val * 512 + x.val, by omega⟩ : Fin 4096) y := by
  subst hn
  funext a
  match a with
  | ⟨0, _⟩ => exact Fin.ext (ValueKit.rect_emb_unit_val _ _ _ _ _)
  | ⟨1, _⟩ => exact Fin.ext ((ValueKit.rect_emb_unit_val _ _ _ _ _).trans (by show 0 + y.val = y.val; omega))

/-- A chunk read out of the two arrays. -/
theorem chunk {wa wb : Nat} (A : Tall wa) (B : Tall wb) (a : Fin wa) (b : Fin wb) (k : Fin 8) (n : Nat) (hn : n = k.val * 512) (ia ib) :
    (∑ x : Fin 512, (A ((Rect.unit (s := ⟨2, ![4096, wa]⟩) ![n, 0] ![512, wa] ia).emb (ix2 x a))
        * B ((Rect.unit (s := ⟨2, ![4096, wb]⟩) ![n, 0] ![512, wb] ib).emb (ix2 x b)))) = part A B a b k :=
  Finset.sum_congr rfl fun x _ => congrArg₂ (· * ·) (congrArg A (emb k n hn ia x a)) (congrArg B (emb k n hn ib x b))

/-- The eight chunks make up all the rows. -/
theorem total {wa wb : Nat} (A : Tall wa) (B : Tall wb) (a : Fin wa) (b : Fin wb) :
    part A B a b 0 + part A B a b 1 + part A B a b 2 + part A B a b 3 + part A B a b 4 + part A B a b 5 + part A B a b 6 + part A B a b 7
      = ∑ s : Fin 4096, A (ix2 s a) * B (ix2 s b) := by
  refine Eq.trans (Fin.sum_univ_eight _).symm ?_
  exact (Fin.sum_univ_tiles 8 512 rfl (fun s : Fin 4096 => A (ix2 s a) * B (ix2 s b))).symm

/-- Eight terms exchanged at once. -/
theorem eight {a0 a1 a2 a3 a4 a5 a6 a7 b0 b1 b2 b3 b4 b5 b6 b7 : EReal} (h0 : a0 = b0) (h1 : a1 = b1) (h2 : a2 = b2) (h3 : a3 = b3)
    (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

end Cert.WgradChunk

end
-- ==== Proof.WgradOut.lean ====
/- The weight gradient of the feed-forward block's second product: what the kernel's run leaves in the result. -/
module

public import proofs.«01_k».proof.Proof.Gen.Kernel3Ideal.Value
public import proofs.«01_k».proof.Proof.WgradChunk
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WgradOut

open Cert.Kernel3Ideal Cert.Kernel3Ideal.Gen Cert.Kernel3Ideal.Value Idealize.ShloMosaic Idealize.ShloMosaic.TcCoe Idealize.SL.Sem
open Idealize.ShloMosaic.Pipeline (Dat)

variable (m : (ℓ : Loc nD τ sig) → Buf (Elt Ideal) ℓ)

abbrev arrA (c : Dev nD) : S4096x2816.Idx → EReal := m ((c : Thread nD τ).loc main_arg0)
abbrev arrB (c : Dev nD) : S4096x1024.Idx → EReal := m ((c : Thread nD τ).loc main_arg1)

/-- What the run leaves in the result: over all rows, the products of a column of one operand and a column of the other. -/
def out (c : Dev nD) : S2816x1024.Idx → EReal :=
  fun j => ∑ s : Fin 4096, arrA m c (ix2 s (j 0)) * arrB m c (ix2 s (j 1))

theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

theorem tlt (t : Fin cfg0.N) : t.val < 11 := by have := t.isLt; have h : cfg0.N = 11 := N_0; omega

/-- A point's block of the first operand: 256 columns. -/
theorem blkA (c : Dev nD) (t : Fin cfg0.N) (s : Fin 4096) (y : Fin 256) :
    iblk m c 0 t (ix2 s y) = arrA m c (ix2 s ⟨256 * t.val + y.val, by have := tlt t; omega⟩) := by
  have := tlt t
  blk_ext [iblk, V, idx t]

/-- Its block of the second: all of it. -/
theorem blkB (c : Dev nD) (t : Fin cfg0.N) (s : Fin 4096) (y : Fin 1024) : iblk m c 1 t (ix2 s y) = arrB m c (ix2 s y) := by
  blk_ext [iblk, V, idx t]

section
variable (acc : FVec Ideal S256x1024 .f32) (L : FVec Ideal S512x256 .bf16) (R : FVec Ideal S512x1024 .bf16) (y0 : Fin 256) (y1 : Fin 1024)

/-- One chunk added to the accumulator. -/
abbrev Adds (p : FVec Ideal S256x1024 .f32) : Prop := p (ix2 y0 y1) = acc (ix2 y0 y1) + ∑ x : Fin 512, L (ix2 x y0) * R (ix2 x y1)

theorem zero3 : k0_pay3 (F := Ideal) (ix2 y0 y1) = 0 := by pointwise [k0_pay3]
theorem adds4 : Adds acc L R y0 y1 (k0_pay4 acc L R) := by unfold Adds; pointwise [k0_pay4]
theorem adds5 : Adds acc L R y0 y1 (k0_pay5 acc L R) := by unfold Adds; pointwise [k0_pay5]
theorem adds6 : Adds acc L R y0 y1 (k0_pay6 acc L R) := by unfold Adds; pointwise [k0_pay6]
theorem adds7 : Adds acc L R y0 y1 (k0_pay7 acc L R) := by unfold Adds; pointwise [k0_pay7]
theorem adds8 : Adds acc L R y0 y1 (k0_pay8 acc L R) := by unfold Adds; pointwise [k0_pay8]
theorem adds9 : Adds acc L R y0 y1 (k0_pay9 acc L R) := by unfold Adds; pointwise [k0_pay9]
theorem adds1 : Adds acc L R y0 y1 (k0_pay1 (k0_pay10 acc) L R) := by unfold Adds; pointwise [k0_pay1, k0_pay10]
theorem adds2 : Adds acc L R y0 y1 (k0_pay2 acc L R) := by unfold Adds; pointwise [k0_pay2]
end

theorem final (c : Dev nD) : (dats m 0 c).arrAt 2 cfg0.N = out m c := by
  refine (dats m 0 c).arrAt_eq_of_covers 2 _ (by decide +kernel) fun t hf y => ?_
  blk_simp
  rw [after0_2, outsAt0]
  frame_open
  simp (disch := decide) only [↓ View.readCov_skip, ↓ View.readCov_cons_toLoadRect, ↓ View.readCov_fill]
  frame_out
  idx_vars y
  have := tlt t
  have hemb : ((View.whole main_v0).slice (win0_2.rect t)).emb (ix2 y0 y1) = ix2 (⟨256 * t.val + y0.val, by omega⟩ : Fin 2816) y1 := by
    blk_ext [idx t]
  rw [hemb, adds2, adds1, adds9, adds8, adds7, adds6, adds5, adds4, zero3, zero_add]
  have ch := WgradChunk.chunk (iblk m c 0 t : FVec Ideal S4096x256 .bf16) (iblk m c 1 t : FVec Ideal S4096x1024 .bf16) y0 y1
  refine (WgradChunk.eight (ch 0 0 rfl _ _) (ch 1 512 rfl _ _) (ch 2 1024 rfl _ _) (ch 3 1536 rfl _ _) (ch 4 2048 rfl _ _) (ch 5 2560 rfl _ _)
    (ch 6 3072 rfl _ _) (ch 7 3584 rfl _ _)).trans ?_
  rw [WgradChunk.total]
  exact Finset.sum_congr rfl fun s _ => congrArg₂ (· * ·) (blkA m c t s y0) (blkB m c t s y1)

end Cert.WgradOut

end
-- ==== Proof.WgradIn.lean ====
/- The weight gradient of the feed-forward block's first product: what the kernel's run leaves in the result. -/
module

public import proofs.«01_k».proof.Proof.Gen.Kernel4Ideal.Value
public import proofs.«01_k».proof.Proof.WgradChunk
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WgradIn

open Cert.Kernel4Ideal Cert.Kernel4Ideal.Gen Cert.Kernel4Ideal.Value Idealize.ShloMosaic Idealize.ShloMosaic.TcCoe Idealize.SL.Sem
open Idealize.ShloMosaic.Pipeline (Dat)

variable (m : (ℓ : Loc nD τ sig) → Buf (Elt Ideal) ℓ)

abbrev arrA (c : Dev nD) : S4096x1024.Idx → EReal := m ((c : Thread nD τ).loc main_arg0)
abbrev arrB (c : Dev nD) : S4096x5632.Idx → EReal := m ((c : Thread nD τ).loc main_arg1)

/-- What the run leaves in the result: over all rows, the products of a column of one operand and a column of the other,
    the other's columns dealt out to the four devices. -/
def out (c : Dev nD) : S4x1024x1408.Idx → EReal :=
  fun j => ∑ s : Fin 4096, arrA m c (ix2 s (j 1)) * arrB m c (ix2 s ⟨1408 * (j 0).val + (j 2).val, by
    have h0 : (j 0).val < 4 := (j 0).isLt
    have h2 : (j 2).val < 1408 := (j 2).isLt
    omega⟩)

theorem idx : ∀ t : Fin cfg0.N, win0_0.index t = ![0, t.val / 4] ∧ win0_1.index t = ![0, t.val % 4] ∧ win0_2.index t = ![t.val % 4, t.val / 4, 0] :=
  (by decide +kernel : ∀ t : Fin grid0.N, win0_0.index t = ![0, t.val / 4] ∧ win0_1.index t = ![0, t.val % 4] ∧ win0_2.index t = ![t.val % 4, t.val / 4, 0])

theorem tlt (t : Fin cfg0.N) : t.val < 8 := by have := t.isLt; have h : cfg0.N = 8 := N_0; omega

/-- A point's block of the first operand: 512 columns. -/
theorem blkA (c : Dev nD) (t : Fin cfg0.N) (s : Fin 4096) (y : Fin 512) :
    iblk m c 0 t (ix2 s y) = arrA m c (ix2 s ⟨512 * (t.val / 4) + y.val, by have := tlt t; omega⟩) := by
  have := tlt t
  blk_ext [iblk, V, idx t]

/-- Its block of the second: 1408 columns. -/
theorem blkB (c : Dev nD) (t : Fin cfg0.N) (s : Fin 4096) (y : Fin 1408) :
    iblk m c 1 t (ix2 s y) = arrB m c (ix2 s ⟨1408 * (t.val % 4) + y.val, by omega⟩) := by
  have := tlt t
  blk_ext [iblk, V, idx t]

section
variable (acc : FVec Ideal S1x512x1408 .f32) (L : FVec Ideal S512x512 .bf16) (R : FVec Ideal S512x1408 .bf16) (y0 : Fin 512) (y1 : Fin 1408)

/-- One chunk added to the accumulator. -/
abbrev Adds (p : FVec Ideal S1x512x1408 .f32) : Prop := p (ix3 0 y0 y1) = acc (ix3 0 y0 y1) + ∑ x : Fin 512, L (ix2 x y0) * R (ix2 x y1)

theorem zero1 : k0_pay1 (F := Ideal) (ix3 0 y0 y1) = 0 := by pointwise [k0_pay1]
theorem adds2 : Adds acc L R y0 y1 (k0_pay2 acc L R) := by unfold Adds; pointwise [k0_pay2]
theorem adds3 : Adds acc L R y0 y1 (k0_pay3 acc L R) := by unfold Adds; pointwise [k0_pay3]
theorem adds5 : Adds acc L R y0 y1 (k0_pay5 (k0_pay4 acc) L R) := by unfold Adds; pointwise [k0_pay4, k0_pay5]
theorem adds6 : Adds acc L R y0 y1 (k0_pay6 acc L R) := by unfold Adds; pointwise [k0_pay6]
theorem adds7 : Adds acc L R y0 y1 (k0_pay7 acc L R) := by unfold Adds; pointwise [k0_pay7]
theorem adds8 : Adds acc L R y0 y1 (k0_pay8 acc L R) := by unfold Adds; pointwise [k0_pay8]
theorem adds9 : Adds acc L R y0 y1 (k0_pay9 acc L R) := by unfold Adds; pointwise [k0_pay9]
theorem adds10 : Adds acc L R y0 y1 (k0_pay10 acc L R) := by unfold Adds; pointwise [k0_pay10]
end

theorem final (c : Dev nD) : (dats m 0 c).arrAt 2 cfg0.N = out m c := by
  refine (dats m 0 c).arrAt_eq_of_covers 2 _ (by decide +kernel) fun t hf y => ?_
  blk_simp
  rw [after0_2, outsAt0]
  frame_open
  simp (disch := decide) only [↓ View.readCov_skip, ↓ View.readCov_cons_toLoadRect, ↓ View.readCov_fill]
  frame_out
  idx_vars y
  have := tlt t
  have hemb : ((View.whole main_v0).slice (win0_2.rect t)).emb (ix3 y0 y1 y2)
      = ix3 (⟨t.val % 4, by omega⟩ : Fin 4) (⟨512 * (t.val / 4) + y1.val, by omega⟩ : Fin 1024) y2 := by
    blk_ext [idx t]
  obtain rfl : y0 = 0 := Subsingleton.elim _ _
  rw [hemb, adds10, adds9, adds8, adds7, adds6, adds5, adds3, adds2, zero1, zero_add]
  have ch := WgradChunk.chunk (iblk m c 0 t : FVec Ideal S4096x512 .bf16) (iblk m c 1 t : FVec Ideal S4096x1408 .bf16) y1 y2
  refine (WgradChunk.eight (ch 0 0 rfl _ _) (ch 1 512 rfl _ _) (ch 2 1024 rfl _ _) (ch 3 1536 rfl _ _) (ch 4 2048 rfl _ _) (ch 5 2560 rfl _ _)
    (ch 6 3072 rfl _ _) (ch 7 3584 rfl _ _)).trans ?_
  rw [WgradChunk.total]
  exact Finset.sum_congr rfl fun s _ => congrArg₂ (· * ·) (blkA m c t s y1) (blkB m c t s y2)

end Cert.WgradIn

end
-- ==== Proof.WgradClaims.lean ====
/- The claims about the two weight gradients of the feed-forward block: the frames, and equality with the plain gradients. -/
module

public import proofs.«01_k».proof.Defs
public import proofs.«01_k».proof.Proof.Gen.Kernel3.Frame
public import proofs.«01_k».proof.Proof.Gen.Kernel4.Frame
public import proofs.«01_k».proof.Proof.Gen.Reference3Ideal.Run
public import proofs.«01_k».proof.Proof.Gen.Reference4Ideal.Run
public import proofs.«01_k».proof.Proof.WgradOut
public import proofs.«01_k».proof.Proof.WgradIn
public import Idealize.ShloMosaic.Lib.Quiescent

@[expose] public section

set_option maxRecDepth 16384

noncomputable section

namespace Cert.Proof.Wgrad

open Idealize.ShloMosaic Idealize.ShloMosaic.TcCoe Idealize.SL.Sem

theorem frameOut : Cert.quiescent_Kernel3 (hKernel3 := Cert.Kernel3.Gen.facts) := fun m ρ _ => Cert.Kernel3.Gen.frame m ρ
theorem frameOutIdeal : Cert.quiescent_Kernel3Ideal (hKernel3Ideal := Cert.Kernel3Ideal.Gen.facts) :=
  fun m ρ _ => Cert.Kernel3Ideal.Gen.frame m ρ
theorem frameIn : Cert.quiescent_Kernel4 (hKernel4 := Cert.Kernel4.Gen.facts) := fun m ρ _ => Cert.Kernel4.Gen.frame m ρ
theorem frameInIdeal : Cert.quiescent_Kernel4Ideal (hKernel4Ideal := Cert.Kernel4Ideal.Gen.facts) :=
  fun m ρ _ => Cert.Kernel4Ideal.Gen.frame m ρ

theorem frameOutRef : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem frameInRef : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

open Cert.Reference3Ideal Cert.Reference3Ideal.Gen in
/-- The plain gradient of the second product's weights, at one element. -/
theorem refOut (a : FVec Ideal S4096x2816 .bf16) (b : FVec Ideal S4096x1024 .bf16) (y0 : Fin 2816) (y1 : Fin 1024) :
    transpose S2816x1024 [1, 0] (Host.dotGeneral (F := Ideal) dot_S4096x1024_S4096x2816_S1024x2816_0_0_1_1_n_n none (extf .f32 b bitsLt_bf16_f32)
      (extf .f32 a bitsLt_bf16_f32)) transposes_S1024x2816_S2816x1024_1_0 (ix2 y0 y1)
      = ∑ s : Fin 4096, a (ix2 s y0) * b (ix2 s y1) := by
  pointwise
  exact Finset.sum_congr rfl fun s _ => mul_comm _ _

open Cert.Reference4Ideal Cert.Reference4Ideal.Gen in
/-- The plain gradient of the first product's weights, at one element. -/
theorem refIn (a : FVec Ideal S4096x1024 .bf16) (b : FVec Ideal S4096x5632 .bf16) (y0 : Fin 4) (y1 : Fin 1024) (y2 : Fin 1408) :
    transpose S4x1024x1408 [1, 0, 2] (shapeCast S1024x4x1408 (transpose S1024x5632 [1, 0] (Host.dotGeneral (F := Ideal)
      dot_S4096x5632_S4096x1024_S5632x1024_0_0_1_1_n_n none (extf .f32 b bitsLt_bf16_f32)
      (extf .f32 a bitsLt_bf16_f32)) transposes_S5632x1024_S1024x5632_1_0) shapeCasts_S1024x5632_S1024x4x1408) transposes_S1024x4x1408_S4x1024x1408_1_0_2 (ix3 y0 y1 y2)
      = ∑ s : Fin 4096, a (ix2 s y1) * b (ix2 s (⟨1408 * y0.val + y2.val, by omega⟩ : Fin 5632)) := by
  pointwise
  refine Finset.sum_congr rfl fun s _ => (mul_comm _ _).trans (congrArg (a (ix2 s y1) * ·) (congrArg (fun z => b (ix2 s z)) (Fin.ext ?_)))
  show y0.val * 1408 + y2.val = 1408 * y0.val + y2.val
  omega

theorem valueOut : Cert.algebraic_Kernel3Ideal_Reference3Ideal (hKernel3Ideal := Cert.Kernel3Ideal.Gen.facts)
    (hReference3Ideal := Cert.Reference3Ideal.Gen.facts) := by
  intro m ρ m' ρ' _ hag
  refine ⟨fun c => WgradOut.out m c, ?_, ?_⟩
  · exact (θ_run Cert.Kernel3Ideal.defs _ _).mono (fun _ h c => ⟨(h c).1.trans (WgradOut.final m c), (h c).2⟩)
      (Cert.Kernel3Ideal.Value.run_blocks (F := Ideal) m ρ)
  · refine (θ_run Cert.Reference3Ideal.defs _ _).mono (fun _ h c => ⟨(h c).1.trans ?_, (h c).2⟩) (Cert.Reference3Ideal.Value.run (F := Ideal) m' ρ')
    rw [(hag c).1, (hag c).2]
    exact funext fun j => (congrArg _ (eq_ix2 j)).trans (refOut _ _ (j 0) (j 1))

theorem valueIn : Cert.algebraic_Kernel4Ideal_Reference4Ideal (hKernel4Ideal := Cert.Kernel4Ideal.Gen.facts)
    (hReference4Ideal := Cert.Reference4Ideal.Gen.facts) := by
  intro m ρ m' ρ' _ hag
  refine ⟨fun c => WgradIn.out m c, ?_, ?_⟩
  · exact (θ_run Cert.Kernel4Ideal.defs _ _).mono (fun _ h c => ⟨(h c).1.trans (WgradIn.final m c), (h c).2⟩)
      (Cert.Kernel4Ideal.Value.run_blocks (F := Ideal) m ρ)
  · refine (θ_run Cert.Reference4Ideal.defs _ _).mono (fun _ h c => ⟨(h c).1.trans ?_, (h c).2⟩) (Cert.Reference4Ideal.Value.run (F := Ideal) m' ρ')
    rw [(hag c).1, (hag c).2]
    exact funext fun j => (congrArg _ (eq_ix3 j)).trans (refIn _ _ (j 0) (j 1) (j 2))

end Cert.Proof.Wgrad

end
-- ==== Proof.FfnWeights.lean ====
/- How the two weights lie in the scratch buffers: each buffer split into the parts that one copy fills, and put together again. -/
module

public import proofs.«01_k».proof.Proof.Gen.Kernel5Ideal.Frame
public import proofs.«01_k».proof.Proof.Gen.Kernel5Ideal.Skeleton
public import Idealize.ShloMosaic.Lib.ViewIndex
public import Idealize.ShloMosaic.Lib.ValueLayout
public import Idealize.ShloMosaic.Lib.Ring
public import Idealize.ShloMosaic.Lib.Pointwise

@[expose] public section

set_option maxRecDepth 16384
set_option maxHeartbeats 1000000

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two weights as the host hands them over, and where the body keeps them. -/
abbrev wInH : Memref sig .tc .hbm S4x1024x1408 .bf16 := Memref.whole main_v21
abbrev wOutH : Memref sig .tc .hbm S2x1408x1024 .bf16 := Memref.whole main_v23
abbrev wIn : Memref sig .tc .vmem S2x1024x2816 .bf16 := Memref.whole cc0_scratch0
abbrev wOut : Memref sig .tc .vmem S2816x1024 .bf16 := Memref.whole cc0_scratch1

theorem inPart_inb (a b : ℕ) (h : a < 2 ∧ b < 2) : ∀ x, (![a, 0, 1408 * b] : Fin 3 → ℕ) x + S1x1024x1408.size x ≤ S2x1024x2816.size x := by
  intro x; fin_cases x
  · show a + 1 ≤ 2; omega
  · show 0 + 1024 ≤ 1024; omega
  · show 1408 * b + 1408 ≤ 2816; omega

theorem outPart_inb (a : ℕ) (h : a < 2) : ∀ x, (![1408 * a, 0] : Fin 2 → ℕ) x + S1408x1024.size x ≤ S2816x1024.size x := by
  intro x; fin_cases x
  · show 1408 * a + 1408 ≤ 2816; omega
  · show 0 + 1024 ≤ 1024; omega

/-- The parts of the scratch buffers that one copy fills. -/
abbrev inPart (a b : ℕ) (h : a < 2 ∧ b < 2) : Memref sig .tc .vmem S1024x1408 .bf16 :=
  (wIn.slice (Rect.unit (s := S2x1024x2816) ![a, 0, 1408 * b] S1x1024x1408.size (inPart_inb a b h)) (fun _ => rfl)).squeeze S1024x1408 squeezes_S1x1024x1408_S1024x1408
abbrev outPart (a : ℕ) (h : a < 2) : Memref sig .tc .vmem S1408x1024 .bf16 :=
  wOut.slice (Rect.unit (s := S2816x1024) ![1408 * a, 0] S1408x1024.size (outPart_inb a h)) (fun _ => rfl)

/-- The weights as they lie in the scratch buffers after the copies. -/
def wInAll (v7 : Vec F S4x1024x1408 .bf16) : Vec F S2x1024x2816 .bf16 := fun j =>
  v7 (ix3 ⟨2 * (j 0).val + (j 2).val / 1408, by have h0 : (j 0).val < 2 := (j 0).isLt; have h2 : (j 2).val < 2816 := (j 2).isLt; omega⟩
    ⟨(j 1).val, (j 1).isLt⟩ ⟨(j 2).val % 1408, Nat.mod_lt _ (by decide)⟩)
def wOutAll (v8 : Vec F S2x1408x1024 .bf16) : Vec F S2816x1024 .bf16 := fun j =>
  v8 (ix3 ⟨(j 0).val / 1408, by have h0 : (j 0).val < 2816 := (j 0).isLt; omega⟩ ⟨(j 0).val % 1408, Nat.mod_lt _ (by decide)⟩ ⟨(j 1).val, (j 1).isLt⟩)

/-- The elements of the parts, and of the whole buffers. -/
abbrev outSet (a : ℕ) (h : a < 2) : Finset S2816x1024.Idx := (outPart a h).view.set
abbrev inSet (a b : ℕ) (h : a < 2 ∧ b < 2) : Finset S2x1024x2816.Idx := (inPart a b h).view.set
abbrev outAll : Finset S2816x1024.Idx := wOut.view.set
abbrev inAll : Finset S2x1024x2816.Idx := wIn.view.set

theorem ext2 {α : Type} {a b : ℕ} {f g : (⟨2, ![a, b]⟩ : Shape).Idx → α} (h : ∀ (x : Fin a) (y : Fin b), f (ix2 x y) = g (ix2 x y)) : f = g :=
  funext fun j => (congrArg f (ValueIdx.eq_ix2 j)).trans ((h (j 0) (j 1)).trans (congrArg g (ValueIdx.eq_ix2 j).symm))

theorem ix3_congr {n0 n1 n2 : ℕ} {a a' : Fin n0} {b b' : Fin n1} {c c' : Fin n2} (h0 : a = a') (h1 : b = b') (h2 : c = c') :
    ix3 a b c = ix3 a' b' c' := by subst h0; subst h1; subst h2; rfl

theorem outAll_eq : outAll = Finset.univ := (Memref.isWhole_whole cc0_scratch1).set_eq_univ
theorem inAll_eq : inAll = Finset.univ := (Memref.isWhole_whole cc0_scratch0).set_eq_univ

theorem mem_outPart (a : ℕ) (h : a < 2) (i : S2816x1024.Idx) :
    i ∈ outSet a h ↔ (i 0).val / 1408 = a := by
  have e : outSet a h = (Rect.unit (s := S2816x1024) ![1408 * a, 0] S1408x1024.size (outPart_inb a h)).set := View.set_slice_whole _ _
  rw [e]
  refine Rect.mem_set_unit.trans ?_
  have h0 : (i 0).val < 2816 := (i 0).isLt
  have h1 : (i 1).val < 1024 := (i 1).isLt
  constructor
  · intro H
    have e : 1408 * a ≤ (i 0).val ∧ (i 0).val < 1408 * a + 1408 := H (0 : Fin 2)
    omega
  · intro e (x : Fin 2)
    fin_cases x
    · show 1408 * a ≤ (i 0).val ∧ (i 0).val < 1408 * a + 1408
      omega
    · show 0 ≤ (i 1).val ∧ (i 1).val < 0 + 1024
      omega

theorem mem_inPart (a b : ℕ) (h : a < 2 ∧ b < 2) (i : S2x1024x2816.Idx) :
    i ∈ inSet a b h ↔ ((i 0).val = a ∧ (i 2).val / 1408 = b) := by
  have e : inSet a b h = ((View.whole cc0_scratch0).slice (Rect.unit (s := S2x1024x2816) ![a, 0, 1408 * b] S1x1024x1408.size (inPart_inb a b h))).set :=
    Memref.set_view_squeeze _ _
  rw [e, View.set_slice_whole]
  refine Rect.mem_set_unit.trans ?_
  have h0 : (i 0).val < 2 := (i 0).isLt
  have h1 : (i 1).val < 1024 := (i 1).isLt
  have h2 : (i 2).val < 2816 := (i 2).isLt
  constructor
  · intro H
    have e : a ≤ (i 0).val ∧ (i 0).val < a + 1 := H (0 : Fin 3)
    have e' : 1408 * b ≤ (i 2).val ∧ (i 2).val < 1408 * b + 1408 := H (2 : Fin 3)
    omega
  · intro e (x : Fin 3)
    fin_cases x
    · show a ≤ (i 0).val ∧ (i 0).val < a + 1
      omega
    · show 0 ≤ (i 1).val ∧ (i 1).val < 0 + 1024
      omega
    · show 1408 * b ≤ (i 2).val ∧ (i 2).val < 1408 * b + 1408
      omega

theorem out_disjoint : Disjoint (outSet 0 (by decide)) (outSet 1 (by decide)) :=
  Finset.disjoint_left.mpr fun i h0 h1 => by
    have e0 := (mem_outPart 0 (by decide) i).mp h0
    have e1 := (mem_outPart 1 (by decide) i).mp h1
    omega

theorem out_union : outSet 0 (by decide) ∪ outSet 1 (by decide) = outAll := by
  refine Finset.ext fun i => ⟨fun _ => ?_, fun _ => ?_⟩
  · rw [outAll_eq]; exact Finset.mem_univ _
  · have h0 : (i 0).val < 2816 := (i 0).isLt
    rcases (by omega : (i 0).val / 1408 = 0 ∨ (i 0).val / 1408 = 1) with e | e
    · exact Finset.mem_union_left _ ((mem_outPart 0 (by decide) i).mpr e)
    · exact Finset.mem_union_right _ ((mem_outPart 1 (by decide) i).mpr e)

theorem in_disjoint (a b a' b' : ℕ) (h : a < 2 ∧ b < 2) (h' : a' < 2 ∧ b' < 2) (hne : a ≠ a' ∨ b ≠ b') :
    Disjoint (inSet a b h) (inSet a' b' h') :=
  Finset.disjoint_left.mpr fun i h0 h1 => by
    have e0 := (mem_inPart a b h i).mp h0
    have e1 := (mem_inPart a' b' h' i).mp h1
    omega

/-- The first half of the scratch buffer, as what the second half's copies leave of it. -/
theorem in_half : inSet 0 0 (by decide) ∪ inSet 0 1 (by decide)
    = (inAll \ inSet 1 0 (by decide)) \ inSet 1 1 (by decide) := by
  refine Finset.ext fun i => ?_
  have h0 : (i 0).val < 2 := (i 0).isLt
  have h2 : (i 2).val < 2816 := (i 2).isLt
  rw [Finset.mem_union, Finset.mem_sdiff, Finset.mem_sdiff, mem_inPart 0 0 (by decide) i, mem_inPart 0 1 (by decide) i,
    mem_inPart 1 0 (by decide) i, mem_inPart 1 1 (by decide) i, inAll_eq]
  have := Finset.mem_univ i
  constructor
  · intro e; refine ⟨⟨this, ?_⟩, ?_⟩ <;> omega
  · rintro ⟨⟨-, e⟩, e'⟩; omega

theorem in_rest : inSet 1 1 (by decide) ⊆ inAll \ inSet 1 0 (by decide) := fun i hi => by
  have e := (mem_inPart 1 1 (by decide) i).mp hi
  rw [Finset.mem_sdiff, inAll_eq]
  refine ⟨Finset.mem_univ _, fun h => ?_⟩
  have e' := (mem_inPart 1 0 (by decide) i).mp h
  omega

theorem in_sub : inSet 1 0 (by decide) ⊆ inAll := fun i hi => by
  rw [inAll_eq]; exact Finset.mem_univ _

/-- A part whose contents read like `g`'s holds `g`. -/
theorem settle (c : Dev nD) {sp : Space} {S : Shape} {e : EltTy} (M : Memref sig .tc sp S e) (f g : M.view.ty.Contents (Elt F))
    (h : M.view.read (Elt F) f = M.view.read (Elt F) g) :
    (M.view.loc (c : Thread nD τ) ↦[M.view.set]{fullShare} f : sProp 𝕄) = M.view.loc (c : Thread nD τ) ↦[M.view.set]{fullShare} g :=
  pointsTo_congr fun i hi => by
    obtain ⟨x, -, rfl⟩ := Finset.mem_map.mp hi
    exact View.eq_of_read_eq (congrFun h x)

abbrev inW (v7 : Vec F S4x1024x1408 .bf16) : wIn.view.ty.Contents (Elt F) := (Memref.isWhole_whole cc0_scratch0).unread (wInAll v7)
abbrev outW (v8 : Vec F S2x1408x1024 .bf16) : wOut.view.ty.Contents (Elt F) := (Memref.isWhole_whole cc0_scratch1).unread (wOutAll v8)

/-- What the output weights' scratch buffer holds in a part is that slice of the weights. -/
theorem outPart_read (a : ℕ) (h : a < 2) (v8 : Vec F S2x1408x1024 .bf16) (x : Fin 1408) (y : Fin 1024) :
    (outPart a h).view.read (Elt F) (outW v8) (ix2 x y) = v8 (ix3 ⟨a, h⟩ x y) := by
  show (wOut.view.read (Elt F) (outW v8)) ((Rect.unit (s := S2816x1024) ![1408 * a, 0] S1408x1024.size (outPart_inb a h)).emb (ix2 x y)) = _
  rw [(Memref.isWhole_whole cc0_scratch1).read_unread]
  unfold wOutAll
  have hx := x.isLt
  refine congrArg _ (ix3_congr ?_ ?_ ?_)
  · apply Fin.ext; show (1408 * a + 1 * x.val) / 1408 = a; omega
  · apply Fin.ext; show (1408 * a + 1 * x.val) % 1408 = x.val; omega
  · apply Fin.ext; show 0 + 1 * y.val = y.val; omega

theorem inPart_read (a b : ℕ) (h : a < 2 ∧ b < 2) (v7 : Vec F S4x1024x1408 .bf16) (x : Fin 1024) (y : Fin 1408) :
    (inPart a b h).view.read (Elt F) (inW v7) (ix2 x y) = v7 (ix3 ⟨2 * a + b, by omega⟩ x y) := by
  show (wIn.view.read (Elt F) (inW v7)) ((Rect.unit (s := S2x1024x2816) ![a, 0, 1408 * b] S1x1024x1408.size (inPart_inb a b h)).emb
    (Shape.reshapeEquiv _ (ix2 x y))) = _
  rw [(Memref.isWhole_whole cc0_scratch0).read_unread, (show Shape.reshapeEquiv _ (ix2 x y) = ix3 (0 : Fin 1) x y from ValueIdx.reshapeEquiv_ix2_1ab _ x y)]
  unfold wInAll
  have hy := y.isLt
  refine congrArg _ (ix3_congr ?_ ?_ ?_)
  · apply Fin.ext; show 2 * (a + 1 * 0) + (1408 * b + 1 * y.val) / 1408 = 2 * a + b; omega
  · apply Fin.ext; show 0 + 1 * x.val = x.val; omega
  · apply Fin.ext; show (1408 * b + 1 * y.val) % 1408 = y.val; omega

abbrev inHeld (c : Dev nD) (a b : ℕ) (h : a < 2 ∧ b < 2) : sProp 𝕄 :=
  iprop(∃ f, (inPart a b h).view.loc (c : Thread nD τ) ↦[(inPart a b h).view.set]{fullShare} f)
abbrev outHeld (c : Dev nD) (a : ℕ) (h : a < 2) : sProp 𝕄 :=
  iprop(∃ f, (outPart a h).view.loc (c : Thread nD τ) ↦[(outPart a h).view.set]{fullShare} f)

/-- A slice of the weights as the host hands them over. -/
theorem wOutH_inb (a : ℕ) (h : a < 2) : ∀ x, (![a, 0, 0] : Fin 3 → ℕ) x + S1x1408x1024.size x ≤ S2x1408x1024.size x := by
  intro x; fin_cases x
  · show a + 1 ≤ 2; omega
  · show 0 + 1408 ≤ 1408; omega
  · show 0 + 1024 ≤ 1024; omega

theorem wInH_inb (a : ℕ) (h : a < 4) : ∀ x, (![a, 0, 0] : Fin 3 → ℕ) x + S1x1024x1408.size x ≤ S4x1024x1408.size x := by
  intro x; fin_cases x
  · show a + 1 ≤ 4; omega
  · show 0 + 1024 ≤ 1024; omega
  · show 0 + 1408 ≤ 1408; omega

theorem wOutH_read (a : ℕ) (h : a < 2) (v8 : Vec F S2x1408x1024 .bf16) :
    ((wOutH.slice (Rect.unit (s := S2x1408x1024) ![a, 0, 0] S1x1408x1024.size (wOutH_inb a h)) (fun _ => rfl)).squeeze S1408x1024
      squeezes_S1x1408x1024_S1408x1024).view.read (Elt F) ((Memref.isWhole_whole main_v23).unread v8)
      = (outPart a h).view.read (Elt F) (outW v8) := by
  refine ext2 fun x y => ?_
  refine Eq.trans ?_ (outPart_read a h v8 x y).symm
  show (wOutH.view.read (Elt F) ((Memref.isWhole_whole main_v23).unread v8))
    ((Rect.unit (s := S2x1408x1024) ![a, 0, 0] S1x1408x1024.size (wOutH_inb a h)).emb (Shape.reshapeEquiv _ (ix2 x y))) = _
  rw [(Memref.isWhole_whole main_v23).read_unread,
    (show Shape.reshapeEquiv _ (ix2 x y) = ix3 (0 : Fin 1) x y from ValueIdx.reshapeEquiv_ix2_1ab _ _ _)]
  refine congrArg v8 ((ValueIdx.eq_ix3 _).trans (ix3_congr ?_ ?_ ?_))
  · apply Fin.ext; show a + 1 * 0 = a; omega
  · apply Fin.ext; show 0 + 1 * x.val = x.val; omega
  · apply Fin.ext; show 0 + 1 * y.val = y.val; omega

theorem wInH_read (a b : ℕ) (h : a < 2 ∧ b < 2) (v7 : Vec F S4x1024x1408 .bf16) :
    ((wInH.slice (Rect.unit (s := S4x1024x1408) ![2 * a + b, 0, 0] S1x1024x1408.size (wInH_inb (2 * a + b) (by omega))) (fun _ => rfl)).squeeze S1024x1408
      squeezes_S1x1024x1408_S1024x1408).view.read (Elt F) ((Memref.isWhole_whole main_v21).unread v7)
      = (inPart a b h).view.read (Elt F) (inW v7) := by
  refine ext2 fun x y => ?_
  refine Eq.trans ?_ (inPart_read a b h v7 x y).symm
  show (wInH.view.read (Elt F) ((Memref.isWhole_whole main_v21).unread v7))
    ((Rect.unit (s := S4x1024x1408) ![2 * a + b, 0, 0] S1x1024x1408.size (wInH_inb (2 * a + b) (by omega))).emb (Shape.reshapeEquiv _ (ix2 x y))) = _
  rw [(Memref.isWhole_whole main_v21).read_unread,
    (show Shape.reshapeEquiv _ (ix2 x y) = ix3 (0 : Fin 1) x y from ValueIdx.reshapeEquiv_ix2_1ab _ _ _)]
  refine congrArg v7 ((ValueIdx.eq_ix3 _).trans (ix3_congr ?_ ?_ ?_))
  · apply Fin.ext; show (2 * a + b) + 1 * 0 = 2 * a + b; omega
  · apply Fin.ext; show 0 + 1 * x.val = x.val; omega
  · apply Fin.ext; show 0 + 1 * y.val = y.val; omega

/-- A part with its slice of the weights written in holds what the whole buffer will hold there. -/
theorem out_settle (c : Dev nD) (a : ℕ) (h : a < 2) (v8 : Vec F S2x1408x1024 .bf16) (f : (outPart a h).view.ty.Contents (Elt F))
    (p : Vec F S1408x1024 .bf16) (hp : p = (outPart a h).view.read (Elt F) (outW v8)) :
    ((outPart a h).view.loc (c : Thread nD τ) ↦[(outPart a h).view.set]{fullShare} (outPart a h).view.writes (Elt F) f [⟨Rect.whole S1408x1024, p⟩] : sProp 𝕄)
      = (wOut.view.loc (c : Thread nD τ) ↦[outSet a h]{fullShare} outW v8) :=
  settle c (outPart a h) _ (outW v8) ((View.read_writes_whole _ _ _).trans hp)

theorem in_settle (c : Dev nD) (a b : ℕ) (h : a < 2 ∧ b < 2) (v7 : Vec F S4x1024x1408 .bf16) (f : (inPart a b h).view.ty.Contents (Elt F))
    (p : Vec F S1024x1408 .bf16) (hp : p = (inPart a b h).view.read (Elt F) (inW v7)) :
    ((inPart a b h).view.loc (c : Thread nD τ) ↦[(inPart a b h).view.set]{fullShare} (inPart a b h).view.writes (Elt F) f [⟨Rect.whole S1024x1408, p⟩] : sProp 𝕄)
      = (wIn.view.loc (c : Thread nD τ) ↦[inSet a b h]{fullShare} inW v7) :=
  settle c (inPart a b h) _ (inW v7) ((View.read_writes_whole _ _ _).trans hp)

/-- The parts put together. -/
theorem out_join (c : Dev nD) (v8 : Vec F S2x1408x1024 .bf16) :
    iprop((wOut.view.loc (c : Thread nD τ) ↦[outSet 0 (by decide)]{fullShare} outW v8) ∗ wOut.view.loc (c : Thread nD τ) ↦[outSet 1 (by decide)]{fullShare} outW v8)
      ⊢ (wOut.view.loc (c : Thread nD τ) ↦[wOut.view.set]{fullShare} outW v8 : sProp 𝕄) := by
  refine (pointsTo_union out_disjoint).2.trans (Entails.of_eq ?_)
  rw [out_union]

theorem in_join_half (c : Dev nD) (v7 : Vec F S4x1024x1408 .bf16) :
    iprop((wIn.view.loc (c : Thread nD τ) ↦[inSet 0 0 (by decide)]{fullShare} inW v7) ∗ wIn.view.loc (c : Thread nD τ) ↦[inSet 0 1 (by decide)]{fullShare} inW v7)
      ⊢ (wIn.view.loc (c : Thread nD τ) ↦[(wIn.view.set \ inSet 1 0 (by decide)) \ inSet 1 1 (by decide)]{fullShare} inW v7 : sProp 𝕄) := by
  refine (pointsTo_union (in_disjoint 0 0 0 1 (by decide) (by decide) (Or.inr (by decide)))).2.trans (Entails.of_eq ?_)
  rw [in_half]

theorem in_join (c : Dev nD) (v7 : Vec F S4x1024x1408 .bf16) :
    iprop((wIn.view.loc (c : Thread nD τ) ↦[(wIn.view.set \ inSet 1 0 (by decide)) \ inSet 1 1 (by decide)]{fullShare} inW v7)
      ∗ (wIn.view.loc (c : Thread nD τ) ↦[inSet 1 0 (by decide)]{fullShare} inW v7) ∗ wIn.view.loc (c : Thread nD τ) ↦[inSet 1 1 (by decide)]{fullShare} inW v7)
      ⊢ (wIn.view.loc (c : Thread nD τ) ↦[wIn.view.set]{fullShare} inW v7 : sProp 𝕄) := by
  iintro ⟨H, H2, H3⟩
  iapply (pointsTo_split_subset in_sub).2
  isplitl [H2]; · iexact H2
  iapply (pointsTo_split_subset in_rest).2
  isplitl [H3]; · iexact H3
  iexact H

/-- The whole buffers split into the parts. -/
theorem out_split (c : Dev nD) (f : wOut.view.ty.Contents (Elt F)) :
    (wOut.view.loc (c : Thread nD τ) ↦[wOut.view.set]{fullShare} f : sProp 𝕄) ⊢ iprop(outHeld c 0 (by decide) ∗ outHeld c 1 (by decide)) := by
  refine (Entails.of_eq (by rw [show wOut.view.set = outSet 0 (by decide) ∪ outSet 1 (by decide) from out_union.symm])).trans ((pointsTo_union out_disjoint).1.trans ?_)
  iintro ⟨H0, H1⟩
  isplitl [H0]
  · iexists f; iexact H0
  · iexists f; iexact H1

theorem in_split (c : Dev nD) (f : wIn.view.ty.Contents (Elt F)) :
    (wIn.view.loc (c : Thread nD τ) ↦[wIn.view.set]{fullShare} f : sProp 𝕄)
      ⊢ iprop(inHeld c 0 0 (by decide) ∗ inHeld c 0 1 (by decide) ∗ inHeld c 1 0 (by decide) ∗ inHeld c 1 1 (by decide)) := by
  have h : (wIn.view.loc (c : Thread nD τ) ↦[(inAll \ inSet 1 0 (by decide)) \ inSet 1 1 (by decide)]{fullShare} f : sProp 𝕄)
      ⊢ iprop((wIn.view.loc (c : Thread nD τ) ↦[inSet 0 0 (by decide)]{fullShare} f) ∗ wIn.view.loc (c : Thread nD τ) ↦[inSet 0 1 (by decide)]{fullShare} f) := by
    rw [← in_half]
    exact (pointsTo_union (in_disjoint 0 0 0 1 (by decide) (by decide) (Or.inr (by decide)))).1
  iintro H
  icases (pointsTo_split_subset in_sub).1 $$ H with ⟨H2, H⟩
  icases (pointsTo_split_subset in_rest).1 $$ H with ⟨H3, H⟩
  icases h $$ H with ⟨H0, H1⟩
  isplitl [H0]; · iexists f; iexact H0
  isplitl [H1]; · iexists f; iexact H1
  isplitl [H2]; · iexists f; iexact H2
  iexists f; iexact H3

end Cert.Kernel5Ideal.Ffn

end
-- ==== Proof.FfnDone.lean ====
/- The buffers of the two weights once the copies into their parts have ended. -/
module

public import proofs.«01_k».proof.Proof.FfnWeights

@[expose] public section

set_option maxRecDepth 16384
set_option maxHeartbeats 400000

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slice of the weights that a copy takes, as read from the host's array. -/
abbrev outSlice (a : ℕ) (h : a < 2) (v8 : Vec F S2x1408x1024 .bf16) : Vec F S1408x1024 .bf16 :=
  ((wOutH.slice (Rect.unit (s := S2x1408x1024) ![a, 0, 0] S1x1408x1024.size (wOutH_inb a h)) (fun _ => rfl)).squeeze S1408x1024
      squeezes_S1x1408x1024_S1408x1024).view.read (Elt F) ((Memref.isWhole_whole main_v23).unread v8)
abbrev inSlice (a b : ℕ) (h : a < 2 ∧ b < 2) (v7 : Vec F S4x1024x1408 .bf16) : Vec F S1024x1408 .bf16 :=
  ((wInH.slice (Rect.unit (s := S4x1024x1408) ![2 * a + b, 0, 0] S1x1024x1408.size (wInH_inb (2 * a + b) (by omega))) (fun _ => rfl)).squeeze S1024x1408
      squeezes_S1x1024x1408_S1024x1408).view.read (Elt F) ((Memref.isWhole_whole main_v21).unread v7)

/-- The output weights' buffer once both copies have ended. -/
theorem out_done (c : Dev nD) (v8 : Vec F S2x1408x1024 .bf16) (e0 : (outPart 0 (by decide)).view.ty.Contents (Elt F)) (e1 : (outPart 1 (by decide)).view.ty.Contents (Elt F)) :
    iprop(((outPart 0 (by decide)).view.loc (c : Thread nD τ) ↦[(outPart 0 (by decide)).view.set]{fullShare} (outPart 0 (by decide)).view.writes (Elt F) e0 [⟨Rect.whole S1408x1024, outSlice 0 (by decide) v8⟩])
        ∗ (outPart 1 (by decide)).view.loc (c : Thread nD τ) ↦[(outPart 1 (by decide)).view.set]{fullShare} (outPart 1 (by decide)).view.writes (Elt F) e1 [⟨Rect.whole S1408x1024, outSlice 1 (by decide) v8⟩])
      ⊢ (wOut.view.loc (c : Thread nD τ) ↦[wOut.view.set]{fullShare} outW v8 : sProp 𝕄) := by
  exact (BIClass.sep_mono (Entails.of_eq (out_settle c 0 _ v8 e0 _ (wOutH_read 0 _ v8))) (Entails.of_eq (out_settle c 1 _ v8 e1 _ (wOutH_read 1 _ v8)))).trans (out_join c v8)

/-- The first half of the input weights' buffer once its two copies have ended, -/
theorem in_done_half (c : Dev nD) (v7 : Vec F S4x1024x1408 .bf16) (e0 : (inPart 0 0 (by decide)).view.ty.Contents (Elt F)) (e1 : (inPart 0 1 (by decide)).view.ty.Contents (Elt F)) :
    iprop(((inPart 0 0 (by decide)).view.loc (c : Thread nD τ) ↦[(inPart 0 0 (by decide)).view.set]{fullShare} (inPart 0 0 (by decide)).view.writes (Elt F) e0 [⟨Rect.whole S1024x1408, inSlice 0 0 (by decide) v7⟩])
        ∗ (inPart 0 1 (by decide)).view.loc (c : Thread nD τ) ↦[(inPart 0 1 (by decide)).view.set]{fullShare} (inPart 0 1 (by decide)).view.writes (Elt F) e1 [⟨Rect.whole S1024x1408, inSlice 0 1 (by decide) v7⟩])
      ⊢ (wIn.view.loc (c : Thread nD τ) ↦[(wIn.view.set \ inSet 1 0 (by decide)) \ inSet 1 1 (by decide)]{fullShare} inW v7 : sProp 𝕄) := by
  exact (BIClass.sep_mono (Entails.of_eq (in_settle c 0 0 _ v7 e0 _ (wInH_read 0 0 _ v7))) (Entails.of_eq (in_settle c 0 1 _ v7 e1 _ (wInH_read 0 1 _ v7)))).trans (in_join_half c v7)

/-- and the whole buffer once all four have. -/
theorem in_done (c : Dev nD) (v7 : Vec F S4x1024x1408 .bf16) (e2 : (inPart 1 0 (by decide)).view.ty.Contents (Elt F)) (e3 : (inPart 1 1 (by decide)).view.ty.Contents (Elt F)) :
    iprop((wIn.view.loc (c : Thread nD τ) ↦[(wIn.view.set \ inSet 1 0 (by decide)) \ inSet 1 1 (by decide)]{fullShare} inW v7)
        ∗ ((inPart 1 0 (by decide)).view.loc (c : Thread nD τ) ↦[(inPart 1 0 (by decide)).view.set]{fullShare} (inPart 1 0 (by decide)).view.writes (Elt F) e2 [⟨Rect.whole S1024x1408, inSlice 1 0 (by decide) v7⟩])
        ∗ (inPart 1 1 (by decide)).view.loc (c : Thread nD τ) ↦[(inPart 1 1 (by decide)).view.set]{fullShare} (inPart 1 1 (by decide)).view.writes (Elt F) e3 [⟨Rect.whole S1024x1408, inSlice 1 1 (by decide) v7⟩])
      ⊢ (wIn.view.loc (c : Thread nD τ) ↦[wIn.view.set]{fullShare} inW v7 : sProp 𝕄) := by
  exact (BIClass.sep_mono .rfl (BIClass.sep_mono (Entails.of_eq (in_settle c 1 0 _ v7 e2 _ (wInH_read 1 0 _ v7))) (Entails.of_eq (in_settle c 1 1 _ v7 e3 _ (wInH_read 1 1 _ v7))))).trans (in_join c v7)

end Cert.Kernel5Ideal.Ffn

end
-- ==== Proof.FfnFirst.lean ====
/- The feed-forward gradient at the first grid point: the weights are copied into the scratch buffers and waited for before their use. -/
module

public import proofs.«01_k».proof.Proof.FfnDone

@[expose] public section

set_option maxRecDepth 16384
set_option maxHeartbeats 1000000

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the first point leaves, as pieces (last first), with the proof that it does, and that it leaves the weights in scratch. -/
def runFirst (c : Dev nD) (i : grid0.Coords) (h1 : k0_cond1 i = 1#1) (h2 : k0_cond2 i = 1#1) (h3 : ¬ k0_cond3 i = 1#1)
    (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S1x1024 .f32) (harg15 : arg15.IsWhole)
    (x1 : Vec F S256x1024 .f32) (x2 : Vec F S256x1024 .f32) (x3 : Vec F S256x1024 .f32) (x4 : Vec F S256x5632 .bf16) (x5 : Vec F S1x1024 .f32) (x6 : Vec F S1x1024 .f32) (v7 : Vec F S4x1024x1408 .bf16) (v8 : Vec F S2x1408x1024 .bf16) :
    { L : List (View.Piece (Elt F) S256x1024 .f32) × List (View.Piece (Elt F) S256x1024 .bf16) × List (View.Piece (Elt F) S256x2816 .bf16) × List (View.Piece (Elt F) S256x5632 .bf16) × List (View.Piece (Elt F) S256x1024 .bf16) × List (View.Piece (Elt F) S1x1024 .f32) × List (View.Piece (Elt F) S1x1024 .f32) //
      ∀ (W : Waits sig Unit) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ owns (c : Thread nD τ) wInH fullShare v7
            ∗ owns (c : Thread nD τ) wOutH fullShare v8
            ∗ inHeld c 0 0 (by decide)
            ∗ inHeld c 0 1 (by decide)
            ∗ inHeld c 1 0 (by decide)
            ∗ inHeld c 1 1 (by decide)
            ∗ outHeld c 0 (by decide)
            ∗ outHeld c 1 (by decide)
            ∗ semVal ((c : Thread nD τ), SemLoc.dma 22) 0
            ∗ semVal ((c : Thread nD τ), SemLoc.dma 23) 0
            ∗ semVal ((c : Thread nD τ), SemLoc.dma 24) 0
            ∗ semVal ((c : Thread nD τ), SemLoc.dma 25) 0
            ∗ semVal ((c : Thread nD τ), SemLoc.dma 26) 0
            ∗ semVal ((c : Thread nD τ), SemLoc.dma 27) 0
            ∗ owes (c : Thread nD τ) 0 W
            ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ (∃ f, arg9.view.loc (c : Thread nD τ) ↦[arg9.view.set]{fullShare} arg9.view.writes (Elt F) f L.1)
            ∗ (∃ f, arg10.view.loc (c : Thread nD τ) ↦[arg10.view.set]{fullShare} arg10.view.writes (Elt F) f L.2.1)
            ∗ (∃ f, arg11.view.loc (c : Thread nD τ) ↦[arg11.view.set]{fullShare} arg11.view.writes (Elt F) f L.2.2.1)
            ∗ (∃ f, arg12.view.loc (c : Thread nD τ) ↦[arg12.view.set]{fullShare} arg12.view.writes (Elt F) f L.2.2.2.1)
            ∗ (∃ f, arg13.view.loc (c : Thread nD τ) ↦[arg13.view.set]{fullShare} arg13.view.writes (Elt F) f L.2.2.2.2.1)
            ∗ (∃ f, arg14.view.loc (c : Thread nD τ) ↦[arg14.view.set]{fullShare} arg14.view.writes (Elt F) f L.2.2.2.2.2.1)
            ∗ (∃ f, arg15.view.loc (c : Thread nD τ) ↦[arg15.view.set]{fullShare} arg15.view.writes (Elt F) f L.2.2.2.2.2.2)
            ∗ owns (c : Thread nD τ) wInH fullShare v7
            ∗ owns (c : Thread nD τ) wOutH fullShare v8
            ∗ owns (c : Thread nD τ) wIn fullShare (wInAll v7)
            ∗ owns (c : Thread nD τ) wOut fullShare (wOutAll v8)
            ∗ semVal ((c : Thread nD τ), SemLoc.dma 22) 0
            ∗ semVal ((c : Thread nD τ), SemLoc.dma 23) 0
            ∗ semVal ((c : Thread nD τ), SemLoc.dma 24) 0
            ∗ semVal ((c : Thread nD τ), SemLoc.dma 25) 0
            ∗ semVal ((c : Thread nD τ), SemLoc.dma 26) 0
            ∗ semVal ((c : Thread nD τ), SemLoc.dma 27) 0
            ∗ (∃ W', owes (c : Thread nD τ) 0 W')) -∗ K ⟨⟩))
          ⊢ wp frame (wpE (defs₀ (F := F)) Variants.none c none) Set.univ (cc0_bwd_ffn (F := F) i arg1 harg1 arg2 harg2 arg3 harg3 arg4 harg4 arg5 harg5 arg6 harg6 wInH (Memref.isWhole_whole _) wOutH (Memref.isWhole_whole _) arg9 harg9 arg10 harg10 arg11 harg11 arg12 harg12 arg13 harg13 arg14 harg14 arg15 harg15 wIn (Memref.isWhole_whole _) wOut (Memref.isWhole_whole _) cc0_scratch2) K } := by
  refine ⟨(?_, ?_, ?_, ?_, ?_, ?_, ?_), fun W K => ?run⟩
  case run =>
    simp only [cc0_bwd_ffn_eq_skeleton]; unfold cc0_bwd_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f7, %hf7, H7⟩, ⟨%f8, %hf8, H8⟩, ⟨%g0, I0⟩, ⟨%g1, I1⟩, ⟨%g2, I2⟩, ⟨%g3, I3⟩, ⟨%e0, O0⟩, ⟨%e1, O1⟩, Q0, Q1, Q2, Q3, Q4, Q5, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6
    obtain rfl := (Memref.isWhole_whole main_v21).eq_unread hf7; obtain rfl := (Memref.isWhole_whole main_v23).eq_unread hf8
    sl_exec
    ihave H17 := (out_done c v8 e0 e1) $$ [O0 O1]
    · isplitl [O0]; · iexact O0
      iexact O1
    sl_exec
    ihave H16 := (in_done_half c v7 g0 g1) $$ [I0 I1]
    · isplitl [I0]; · iexact I0
      iexact I1
    sl_exec
    ihave H18 := (in_done c v7 g2 g3) $$ [H16 I2 I3]
    · isplitl [H16]; · iexact H16
      isplitl [I2]; · iexact I2
      iexact I3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H7]
    · iexists _; isplitr; · ipureintro; exact (Memref.isWhole_whole main_v21).read_unread _
      iexact H7
    isplitl [H8]
    · iexists _; isplitr; · ipureintro; exact (Memref.isWhole_whole main_v23).read_unread _
      iexact H8
    isplitl [H18]
    · iexists _; isplitr; · ipureintro; exact (Memref.isWhole_whole cc0_scratch0).read_unread _
      iexact H18
    isplitl [H17]
    · iexists _; isplitr; · ipureintro; exact (Memref.isWhole_whole cc0_scratch1).read_unread _
      iexact H17
    isplitl [Q0]; · iexact Q0
    isplitl [Q1]; · iexact Q1
    isplitl [Q2]; · iexact Q2
    isplitl [Q3]; · iexact Q3
    isplitl [Q4]; · iexact Q4
    isplitl [Q5]; · iexact Q5
    iexists _; iexact HW

end Cert.Kernel5Ideal.Ffn

end
-- ==== Proof.FfnLater.lean ====
/- The feed-forward gradient at a grid point after the first: the weights are in the scratch buffers, nothing is copied. -/
module

public import proofs.«01_k».proof.Proof.FfnDone

@[expose] public section

set_option maxRecDepth 16384
set_option maxHeartbeats 1000000

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a point after the first leaves, as pieces (last first), the weights being in scratch and the two sums at what the points before left, with the proof that it does. -/
def runLater (c : Dev nD) (i : grid0.Coords) (h1 : ¬ k0_cond1 i = 1#1) (h2 : ¬ k0_cond2 i = 1#1) (h3 : k0_cond3 i = 1#1)
    (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S1x1024 .f32) (harg14 : arg14.IsWhole) (arg15 : Memref sig .tc .vmem S1x1024 .f32) (harg15 : arg15.IsWhole)
    (x1 : Vec F S256x1024 .f32) (x2 : Vec F S256x1024 .f32) (x3 : Vec F S256x1024 .f32) (x4 : Vec F S256x5632 .bf16) (x5 : Vec F S1x1024 .f32) (x6 : Vec F S1x1024 .f32) (y14 y15 : Vec F S1x1024 .f32) (w16 : Vec F S2x1024x2816 .bf16) (w17 : Vec F S2816x1024 .bf16) :
    { L : List (View.Piece (Elt F) S256x1024 .f32) × List (View.Piece (Elt F) S256x1024 .bf16) × List (View.Piece (Elt F) S256x2816 .bf16) × List (View.Piece (Elt F) S256x5632 .bf16) × List (View.Piece (Elt F) S256x1024 .bf16) × List (View.Piece (Elt F) S1x1024 .f32) × List (View.Piece (Elt F) S1x1024 .f32) //
      ∀ (W : Waits sig Unit) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ owns (c : Thread nD τ) arg14 fullShare y14
            ∗ owns (c : Thread nD τ) arg15 fullShare y15
            ∗ owns (c : Thread nD τ) wIn fullShare w16
            ∗ owns (c : Thread nD τ) wOut fullShare w17
            ∗ owes (c : Thread nD τ) 0 W
            ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ (∃ f, arg9.view.loc (c : Thread nD τ) ↦[arg9.view.set]{fullShare} arg9.view.writes (Elt F) f L.1)
            ∗ (∃ f, arg10.view.loc (c : Thread nD τ) ↦[arg10.view.set]{fullShare} arg10.view.writes (Elt F) f L.2.1)
            ∗ (∃ f, arg11.view.loc (c : Thread nD τ) ↦[arg11.view.set]{fullShare} arg11.view.writes (Elt F) f L.2.2.1)
            ∗ (∃ f, arg12.view.loc (c : Thread nD τ) ↦[arg12.view.set]{fullShare} arg12.view.writes (Elt F) f L.2.2.2.1)
            ∗ (∃ f, arg13.view.loc (c : Thread nD τ) ↦[arg13.view.set]{fullShare} arg13.view.writes (Elt F) f L.2.2.2.2.1)
            ∗ (∃ f, arg14.view.loc (c : Thread nD τ) ↦[arg14.view.set]{fullShare} arg14.view.writes (Elt F) f L.2.2.2.2.2.1)
            ∗ (∃ f, arg15.view.loc (c : Thread nD τ) ↦[arg15.view.set]{fullShare} arg15.view.writes (Elt F) f L.2.2.2.2.2.2)
            ∗ owns (c : Thread nD τ) wIn fullShare w16
            ∗ owns (c : Thread nD τ) wOut fullShare w17
            ∗ (∃ W', owes (c : Thread nD τ) 0 W')) -∗ K ⟨⟩))
          ⊢ wp frame (wpE (defs₀ (F := F)) Variants.none c none) Set.univ (cc0_bwd_ffn (F := F) i arg1 harg1 arg2 harg2 arg3 harg3 arg4 harg4 arg5 harg5 arg6 harg6 wInH (Memref.isWhole_whole _) wOutH (Memref.isWhole_whole _) arg9 harg9 arg10 harg10 arg11 harg11 arg12 harg12 arg13 harg13 arg14 harg14 arg15 harg15 wIn (Memref.isWhole_whole _) wOut (Memref.isWhole_whole _) cc0_scratch2) K } := by
  refine ⟨(?_, ?_, ?_, ?_, ?_, ?_, ?_), fun W K => ?run⟩
  case run =>
    simp only [cc0_bwd_ffn_eq_skeleton]; unfold cc0_bwd_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg14.eq_unread hf14; obtain rfl := harg15.eq_unread hf15
    obtain rfl := (Memref.isWhole_whole cc0_scratch0).eq_unread hf16; obtain rfl := (Memref.isWhole_whole cc0_scratch1).eq_unread hf17
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]
    · iexists _; isplitr; · ipureintro; exact (Memref.isWhole_whole cc0_scratch0).read_unread _
      iexact H16
    isplitl [H17]
    · iexists _; isplitr; · ipureintro; exact (Memref.isWhole_whole cc0_scratch1).read_unread _
      iexact H17
    iexists _; iexact HW

end Cert.Kernel5Ideal.Ffn

end
-- ==== Proof.FfnFrame.lean ====
/- The feed-forward gradient's run: what each point leaves, the body's invariant from point to point, the launch and the frame. -/
module

public import proofs.«01_k».proof.Proof.FfnFirst
public import proofs.«01_k».proof.Proof.FfnLater
public import proofs.«01_k».proof.Proof.Gen.Kernel5Ideal.Points
public import Idealize.ShloMosaic.Lib.Pipeline.FrameBody

@[expose] public section

set_option maxRecDepth 16384
set_option maxHeartbeats 600000

noncomputable section

namespace Cert.Kernel5Ideal.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

theorem cond1_iff : ∀ t : Fin grid0.N, k0_cond1 (grid0.coords t) = 1#1 ↔ t.val = 0 := by decide +kernel
theorem cond2_iff : ∀ t : Fin grid0.N, k0_cond2 (grid0.coords t) = 1#1 ↔ t.val = 0 := by decide +kernel
theorem cond3_iff : ∀ t : Fin grid0.N, k0_cond3 (grid0.coords t) = 1#1 ↔ t.val ≠ 0 := by decide +kernel

/-- The two weights as the launch finds them. -/
abbrev vIn (c : Dev nD) : Vec F S4x1024x1408 .bf16 := wInH.view.read (Elt F) (V m c main_v21)
abbrev vOut (c : Dev nD) : Vec F S2x1408x1024 .bf16 := wOutH.view.read (Elt F) (V m c main_v23)

/-- What a point leaves in the seven results' staging buffers. -/
structure Left (F : FTy → Type) where
  dxm : Vec F S256x1024 .f32
  df : Vec F S256x1024 .bf16
  act : Vec F S256x2816 .bf16
  dgu : Vec F S256x5632 .bf16
  h : Vec F S256x1024 .bf16
  dgpost : Vec F S1x1024 .f32
  dgpre : Vec F S1x1024 .f32
abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
abbrev hs0_5 (t : Fin cfg0.N) : (st0_5 t).IsWhole := hstage0_5 ((cfg0.slots t 5).cast nbuf0_5)
abbrev hs0_6 (t : Fin cfg0.N) : (st0_6 t).IsWhole := hstage0_6 ((cfg0.slots t 6).cast nbuf0_6)
abbrev hs0_7 (t : Fin cfg0.N) : (st0_7 t).IsWhole := hstage0_7 ((cfg0.slots t 7).cast nbuf0_7)
abbrev hs0_8 (t : Fin cfg0.N) : (st0_8 t).IsWhole := hstage0_8 ((cfg0.slots t 8).cast nbuf0_8)
abbrev hs0_9 (t : Fin cfg0.N) : (st0_9 t).IsWhole := hstage0_9 ((cfg0.slots t 9).cast nbuf0_9)
abbrev hs0_10 (t : Fin cfg0.N) : (st0_10 t).IsWhole := hstage0_10 ((cfg0.slots t 10).cast nbuf0_10)
abbrev hs0_11 (t : Fin cfg0.N) : (st0_11 t).IsWhole := hstage0_11 ((cfg0.slots t 11).cast nbuf0_11)
abbrev hs0_12 (t : Fin cfg0.N) : (st0_12 t).IsWhole := hstage0_12 ((cfg0.slots t 12).cast nbuf0_12)

/-- The run at the first point, at that point's memrefs and blocks, -/
def first (c : Dev nD) (t : Fin cfg0.N) (h : t.val = 0) :=
  runFirst c (grid0.coords t) ((cond1_iff t).mpr h) ((cond2_iff t).mpr h) (fun e => (cond3_iff t).mp e h) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) (st0_9 t) (hs0_9 t) (st0_10 t) (hs0_10 t) (st0_11 t) (hs0_11 t) (st0_12 t) (hs0_12 t) (iblk m c 0 t) (iblk m c 1 t) (iblk m c 2 t) (iblk m c 3 t) (iblk m c 4 t) (iblk m c 5 t) (vIn m c) (vOut m c)

/-- and at a later one, the sums being `y14` and `y15` before. -/
def later (c : Dev nD) (t : Fin cfg0.N) (h : t.val ≠ 0) (y14 y15 : Vec F S1x1024 .f32) :=
  runLater c (grid0.coords t) (fun e => h ((cond1_iff t).mp e)) (fun e => h ((cond2_iff t).mp e)) ((cond3_iff t).mpr h) (st0_0 t) (hs0_0 t) (st0_1 t) (hs0_1 t) (st0_2 t) (hs0_2 t) (st0_3 t) (hs0_3 t) (st0_4 t) (hs0_4 t) (st0_5 t) (hs0_5 t) (st0_6 t) (hs0_6 t) (st0_7 t) (hs0_7 t) (st0_8 t) (hs0_8 t) (st0_9 t) (hs0_9 t) (st0_10 t) (hs0_10 t) (st0_11 t) (hs0_11 t) (st0_12 t) (hs0_12 t) (iblk m c 0 t) (iblk m c 1 t) (iblk m c 2 t) (iblk m c 3 t) (iblk m c 4 t) (iblk m c 5 t) y14 y15 (wInAll (vIn m c)) (wOutAll (vOut m c))

/-- What the pieces of a staging buffer read as. -/
abbrev fill {sp : Space} {S : Shape} {e : EltTy} (M : Memref sig .tc sp S e) (L : List (View.Piece (Elt F) S e)) : Vec F S e :=
  M.view.read (Elt F) (M.view.writes (Elt F) M.view.junk L)

def leftFirst (c : Dev nD) (t : Fin cfg0.N) (h : t.val = 0) : Left F where
  dxm := fill (st0_6 t) (first m c t h).1.1
  df := fill (st0_7 t) (first m c t h).1.2.1
  act := fill (st0_8 t) (first m c t h).1.2.2.1
  dgu := fill (st0_9 t) (first m c t h).1.2.2.2.1
  h := fill (st0_10 t) (first m c t h).1.2.2.2.2.1
  dgpost := fill (st0_11 t) (first m c t h).1.2.2.2.2.2.1
  dgpre := fill (st0_12 t) (first m c t h).1.2.2.2.2.2.2

def leftLater (c : Dev nD) (t : Fin cfg0.N) (h : t.val ≠ 0) (y14 y15 : Vec F S1x1024 .f32) : Left F where
  dxm := fill (st0_6 t) (later m c t h y14 y15).1.1
  df := fill (st0_7 t) (later m c t h y14 y15).1.2.1
  act := fill (st0_8 t) (later m c t h y14 y15).1.2.2.1
  dgu := fill (st0_9 t) (later m c t h y14 y15).1.2.2.2.1
  h := fill (st0_10 t) (later m c t h y14 y15).1.2.2.2.2.1
  dgpost := fill (st0_11 t) (later m c t h y14 y15).1.2.2.2.2.2.1
  dgpre := fill (st0_12 t) (later m c t h y14 y15).1.2.2.2.2.2.2

/-- What point `t` leaves, the sums being `y14` and `y15` before (which the first point does not read). -/
def left (c : Dev nD) (t : Fin cfg0.N) (y : Vec F S1x1024 .f32 × Vec F S1x1024 .f32) : Left F :=
  if h : t.val = 0 then leftFirst m c t h else leftLater m c t h y.1 y.2

/-- The two sums before point `n`. -/
def sums (c : Dev nD) : ℕ → Vec F S1x1024 .f32 × Vec F S1x1024 .f32
  | 0 => ((st0_11 ⟨0, by decide⟩).view.read (Elt F) (st0_11 ⟨0, by decide⟩).view.junk, (st0_12 ⟨0, by decide⟩).view.read (Elt F) (st0_12 ⟨0, by decide⟩).view.junk)
  | n + 1 => if h : n < cfg0.N then ((left m c ⟨n, h⟩ (sums c n)).dgpost, (left m c ⟨n, h⟩ (sums c n)).dgpre) else sums c n

/-- What point `t` leaves. -/
def outsAt (c : Dev nD) (t : Fin cfg0.N) : Left F := left m c t (sums m c t.val)

theorem outsAt_first (c : Dev nD) (t : Fin cfg0.N) (h : t.val = 0) : outsAt m c t = leftFirst m c t h := dif_pos h
theorem outsAt_later (c : Dev nD) (t : Fin cfg0.N) (h : t.val ≠ 0) : outsAt m c t = leftLater m c t h (sums m c t.val).1 (sums m c t.val).2 := dif_neg h

theorem sums_succ (c : Dev nD) (n : ℕ) (h : n < cfg0.N) : sums m c (n + 1) = ((outsAt m c ⟨n, h⟩).dgpost, (outsAt m c ⟨n, h⟩).dgpre) := by
  rw [sums, dif_pos h]; rfl

/-! ## The pieces fill their buffers -/

theorem coverFirst_dxm (c : Dev nD) (t : Fin cfg0.N) (h : t.val = 0) (y : S256x1024.Idx) : ∃ pc ∈ (first m c t h).1.1, y ∈ pc.1.set :=
  View.cover_of_tiledL (first m c t h).1.1 S256x1024.size (by sl_kernel_rfl) y
theorem coverLater_dxm (c : Dev nD) (t : Fin cfg0.N) (h : t.val ≠ 0) (y14 y15 : Vec F S1x1024 .f32) (y : S256x1024.Idx) : ∃ pc ∈ (later m c t h y14 y15).1.1, y ∈ pc.1.set :=
  View.cover_of_tiledL (later m c t h y14 y15).1.1 S256x1024.size (by sl_kernel_rfl) y
theorem coverFirst_df (c : Dev nD) (t : Fin cfg0.N) (h : t.val = 0) (y : S256x1024.Idx) : ∃ pc ∈ (first m c t h).1.2.1, y ∈ pc.1.set :=
  View.cover_of_tiledL (first m c t h).1.2.1 S256x1024.size (by sl_kernel_rfl) y
theorem coverLater_df (c : Dev nD) (t : Fin cfg0.N) (h : t.val ≠ 0) (y14 y15 : Vec F S1x1024 .f32) (y : S256x1024.Idx) : ∃ pc ∈ (later m c t h y14 y15).1.2.1, y ∈ pc.1.set :=
  View.cover_of_tiledL (later m c t h y14 y15).1.2.1 S256x1024.size (by sl_kernel_rfl) y
theorem coverFirst_act (c : Dev nD) (t : Fin cfg0.N) (h : t.val = 0) (y : S256x2816.Idx) : ∃ pc ∈ (first m c t h).1.2.2.1, y ∈ pc.1.set :=
  View.cover_of_tiledBy (first m c t h).1.2.2.1 ![256, 256] (by sl_kernel_rfl) y
theorem coverLater_act (c : Dev nD) (t : Fin cfg0.N) (h : t.val ≠ 0) (y14 y15 : Vec F S1x1024 .f32) (y : S256x2816.Idx) : ∃ pc ∈ (later m c t h y14 y15).1.2.2.1, y ∈ pc.1.set :=
  View.cover_of_tiledBy (later m c t h y14 y15).1.2.2.1 ![256, 256] (by sl_kernel_rfl) y
theorem coverFirst_dgu (c : Dev nD) (t : Fin cfg0.N) (h : t.val = 0) (y : S256x5632.Idx) : ∃ pc ∈ (first m c t h).1.2.2.2.1, y ∈ pc.1.set :=
  View.cover_of_tiledBy (first m c t h).1.2.2.2.1 ![256, 256] (by sl_kernel_rfl) y
theorem coverLater_dgu (c : Dev nD) (t : Fin cfg0.N) (h : t.val ≠ 0) (y14 y15 : Vec F S1x1024 .f32) (y : S256x5632.Idx) : ∃ pc ∈ (later m c t h y14 y15).1.2.2.2.1, y ∈ pc.1.set :=
  View.cover_of_tiledBy (later m c t h y14 y15).1.2.2.2.1 ![256, 256] (by sl_kernel_rfl) y
theorem coverFirst_h (c : Dev nD) (t : Fin cfg0.N) (h : t.val = 0) (y : S256x1024.Idx) : ∃ pc ∈ (first m c t h).1.2.2.2.2.1, y ∈ pc.1.set :=
  View.cover_of_tiledL (first m c t h).1.2.2.2.2.1 S256x1024.size (by sl_kernel_rfl) y
theorem coverLater_h (c : Dev nD) (t : Fin cfg0.N) (h : t.val ≠ 0) (y14 y15 : Vec F S1x1024 .f32) (y : S256x1024.Idx) : ∃ pc ∈ (later m c t h y14 y15).1.2.2.2.2.1, y ∈ pc.1.set :=
  View.cover_of_tiledL (later m c t h y14 y15).1.2.2.2.2.1 S256x1024.size (by sl_kernel_rfl) y
theorem coverFirst_dgpost (c : Dev nD) (t : Fin cfg0.N) (h : t.val = 0) (y : S1x1024.Idx) : ∃ pc ∈ (first m c t h).1.2.2.2.2.2.1, y ∈ pc.1.set :=
  View.cover_of_tiledL (first m c t h).1.2.2.2.2.2.1 S1x1024.size (by sl_kernel_rfl) y
theorem coverLater_dgpost (c : Dev nD) (t : Fin cfg0.N) (h : t.val ≠ 0) (y14 y15 : Vec F S1x1024 .f32) (y : S1x1024.Idx) : ∃ pc ∈ (later m c t h y14 y15).1.2.2.2.2.2.1, y ∈ pc.1.set :=
  View.cover_of_tiledL (later m c t h y14 y15).1.2.2.2.2.2.1 S1x1024.size (by sl_kernel_rfl) y
theorem coverFirst_dgpre (c : Dev nD) (t : Fin cfg0.N) (h : t.val = 0) (y : S1x1024.Idx) : ∃ pc ∈ (first m c t h).1.2.2.2.2.2.2, y ∈ pc.1.set :=
  View.cover_of_tiledL (first m c t h).1.2.2.2.2.2.2 S1x1024.size (by sl_kernel_rfl) y
theorem coverLater_dgpre (c : Dev nD) (t : Fin cfg0.N) (h : t.val ≠ 0) (y14 y15 : Vec F S1x1024 .f32) (y : S1x1024.Idx) : ∃ pc ∈ (later m c t h y14 y15).1.2.2.2.2.2.2, y ∈ pc.1.set :=
  View.cover_of_tiledL (later m c t h y14 y15).1.2.2.2.2.2.2 S1x1024.size (by sl_kernel_rfl) y

/-! ## The invariant -/

/-- The body's own DMA cells. -/
abbrev cells : Fin 6 → SemLoc sig := fun j => (![SemLoc.dma 22, SemLoc.dma 23, SemLoc.dma 24, SemLoc.dma 25, SemLoc.dma 26, SemLoc.dma 27] : Fin 6 → SemLoc sig) j

theorem cellFacts : Pipeline.OwnSemFacts spec0 cells := by decide

theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 22) 0 ∗ semVal ((c : Thread nD τ), SemLoc.dma 23) 0 ∗ semVal ((c : Thread nD τ), SemLoc.dma 24) 0
          ∗ semVal ((c : Thread nD τ), SemLoc.dma 25) 0 ∗ semVal ((c : Thread nD τ), SemLoc.dma 26) 0 ∗ semVal ((c : Thread nD τ), SemLoc.dma 27) 0) := by
  rw [Pipeline.ownSems0_eq_of_list c cells [0, 1, 2, 3, 4, 5] (by decide) (by decide)]; rfl

/-- The arrays that the body reads itself. -/
def weights : Finset (Ref sig .tc) := {main_v21, main_v23}
theorem weights_sub : weights ⊆ Pipeline.restRefs sig spec0 := by decide
theorem weights_eq (c : Dev nD) :
    (bigSep weights (fun b => ((c : Thread nD τ).loc b) ↦{fullShare} V m c b) : sProp 𝕄)
      = iprop((((c : Thread nD τ).loc main_v21) ↦{fullShare} V m c main_v21) ∗ (((c : Thread nD τ).loc main_v23) ↦{fullShare} V m c main_v23)) := by
  rw [BI.bigSep_eq_bigSepL_of_eq [main_v21, main_v23] (by decide) (by decide)]; rfl

/-- A whole buffer, held as a memref that reads its contents. -/
theorem owns_whole (c : Dev nD) (b : Ref sig .tc) (f : Buf (Elt F) ((c : Thread nD τ).loc b)) :
    (owns (c : Thread nD τ) (Memref.whole b) fullShare ((Memref.whole b).view.read (Elt F) f) : sProp 𝕄) ⊣⊢ (((c : Thread nD τ).loc b) ↦{fullShare} f) := by
  unfold owns
  rw [(Memref.isWhole_whole b).set_eq_univ]
  constructor
  · iintro ⟨%g, %e, H⟩
    obtain rfl : g = f := ((Memref.isWhole_whole b).eq_unread e).trans ((Memref.isWhole_whole b).eq_unread rfl).symm
    iexact H
  · iintro H
    iexists f
    isplitr; · ipureintro; rfl
    iexact H

/-- What every point finds and leaves: the weights in the host's arrays, the semaphores at zero. -/
def common (c : Dev nD) : sProp 𝕄 :=
  iprop((∃ r, prngReg c r) ∗ owns (c : Thread nD τ) wInH fullShare (vIn m c) ∗ owns (c : Thread nD τ) wOutH fullShare (vOut m c)
    ∗ semVal ((c : Thread nD τ), SemLoc.dma 22) 0 ∗ semVal ((c : Thread nD τ), SemLoc.dma 23) 0 ∗ semVal ((c : Thread nD τ), SemLoc.dma 24) 0
    ∗ semVal ((c : Thread nD τ), SemLoc.dma 25) 0 ∗ semVal ((c : Thread nD τ), SemLoc.dma 26) 0 ∗ semVal ((c : Thread nD τ), SemLoc.dma 27) 0)

/-- The scratch buffers at some contents, and at the weights. -/
def blank (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def filled (c : Dev nD) : sProp 𝕄 :=
  iprop(owns (c : Thread nD τ) wIn fullShare (wInAll (vIn m c)) ∗ owns (c : Thread nD τ) wOut fullShare (wOutAll (vOut m c)))

def scratch (c : Dev nD) (n : ℕ) : sProp 𝕄 := if n = 0 then blank c else filled m c

/-- The body's invariant before point `n`. -/
def inv (c : Dev nD) (n : ℕ) : sProp 𝕄 := iprop(common m c ∗ scratch m c n)

theorem filled_blank (c : Dev nD) : (filled m c : sProp 𝕄) ⊢ blank c := by
  unfold filled blank owns
  rw [(Memref.isWhole_whole cc0_scratch0).set_eq_univ, (Memref.isWhole_whole cc0_scratch1).set_eq_univ]
  iintro ⟨⟨%f, -, A⟩, ⟨%g, -, B⟩⟩
  isplitl [A]
  · iexists f; iexact A
  · iexists g; iexact B

theorem blank_parts (c : Dev nD) :
    (blank c : sProp 𝕄) ⊢ iprop((inHeld c 0 0 (by decide) ∗ inHeld c 0 1 (by decide) ∗ inHeld c 1 0 (by decide) ∗ inHeld c 1 1 (by decide)) ∗ outHeld c 0 (by decide) ∗ outHeld c 1 (by decide)) := by
  unfold blank
  iintro ⟨⟨%f, A⟩, ⟨%g, B⟩⟩
  isplitl [A]
  · iapply (in_split c f)
    rw [(Memref.isWhole_whole cc0_scratch0).set_eq_univ]
    iexact A
  · iapply (out_split c g)
    rw [(Memref.isWhole_whole cc0_scratch1).set_eq_univ]
    iexact B

theorem launch_eq (c : Dev nD) :
    (Pipeline.ΦD cells spec0 weights (V m) c : sProp 𝕄) ⊣⊢ iprop(common m c ∗ blank c) := by
  rw [Pipeline.ΦD_eq, scopedRest0_eq, cells_eq, weights_eq]
  unfold common blank
  constructor
  · iintro ⟨⟨A, B⟩, P, ⟨S0, S1, S2, S3, S4, S5⟩, ⟨X, Y⟩⟩
    isplitr [A B]
    · isplitl [P]; · iexact P
      isplitl [X]; · iapply (owns_whole c main_v21 (V m c main_v21)).2; iexact X
      isplitl [Y]; · iapply (owns_whole c main_v23 (V m c main_v23)).2; iexact Y
      isplitl [S0]; · iexact S0
      isplitl [S1]; · iexact S1
      isplitl [S2]; · iexact S2
      isplitl [S3]; · iexact S3
      isplitl [S4]; · iexact S4
      iexact S5
    isplitl [A]; · iexact A
    iexact B
  · iintro ⟨⟨P, X, Y, S0, S1, S2, S3, S4, S5⟩, ⟨A, B⟩⟩
    isplitl [A B]
    · isplitl [A]; · iexact A
      iexact B
    isplitl [P]; · iexact P
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [X]; · iapply (owns_whole c main_v21 (V m c main_v21)).1; iexact X
    iapply (owns_whole c main_v23 (V m c main_v23)).1; iexact Y

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t).dxm
    | ⟨7, _⟩ => (outsAt m c t).df
    | ⟨8, _⟩ => (outsAt m c t).act
    | ⟨9, _⟩ => (outsAt m c t).dgu
    | ⟨10, _⟩ => (outsAt m c t).h
    | ⟨11, _⟩ => (outsAt m c t).dgpost
    | ⟨12, _⟩ => (outsAt m c t).dgpre
  Φ n := inv m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t).dxm := by dsimp only [dats]
theorem after_7 (c : Dev nD) (t : Fin cfg0.N) : (dats m 0 c).after 7 t = (outsAt m c t).df := by dsimp only [dats]
theorem after_8 (c : Dev nD) (t : Fin cfg0.N) : (dats m 0 c).after 8 t = (outsAt m c t).act := by dsimp only [dats]
theorem after_9 (c : Dev nD) (t : Fin cfg0.N) : (dats m 0 c).after 9 t = (outsAt m c t).dgu := by dsimp only [dats]
theorem after_10 (c : Dev nD) (t : Fin cfg0.N) : (dats m 0 c).after 10 t = (outsAt m c t).h := by dsimp only [dats]
theorem after_11 (c : Dev nD) (t : Fin cfg0.N) : (dats m 0 c).after 11 t = (outsAt m c t).dgpost := by dsimp only [dats]
theorem after_12 (c : Dev nD) (t : Fin cfg0.N) : (dats m 0 c).after 12 t = (outsAt m c t).dgpre := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem live_6 : ∀ i : grid0.Coords, cfg0.idle 6 i = false := by decide +kernel
theorem live_7 : ∀ i : grid0.Coords, cfg0.idle 7 i = false := by decide +kernel
theorem live_8 : ∀ i : grid0.Coords, cfg0.idle 8 i = false := by decide +kernel
theorem live_9 : ∀ i : grid0.Coords, cfg0.idle 9 i = false := by decide +kernel
theorem live_10 : ∀ i : grid0.Coords, cfg0.idle 10 i = false := by decide +kernel
theorem live_11 : ∀ i : grid0.Coords, cfg0.idle 11 i = false := by decide +kernel
theorem live_12 : ∀ i : grid0.Coords, cfg0.idle 12 i = false := by decide +kernel

theorem before_11 (c : Dev nD) (t : Fin cfg0.N) (h : t.val ≠ 0) (d) : (dats m 0 c).before 11 t d = (sums m c t.val).1 := by
  have hN : t.val < 16 := lt_of_lt_of_eq t.isLt N_0
  have hlt : t.val - 1 < cfg0.N := Nat.lt_of_le_of_lt (Nat.sub_le _ _) t.isLt
  refine ((dats m 0 c).before_out_kept 11 rfl t h (Bool.eq_false_iff.mpr fun e => ?_) live_11 (fun _ _ => rfl) d).trans ?_
  · have e' : (t.val - 1) % 16 = 15 := (flush0_11 _).mp e
    omega
  · rw [after_11]
    refine (congrArg (fun p => p.1) (sums_succ m c (t.val - 1) hlt)).symm.trans ?_
    rw [Nat.sub_add_cancel (by omega)]
theorem before_12 (c : Dev nD) (t : Fin cfg0.N) (h : t.val ≠ 0) (d) : (dats m 0 c).before 12 t d = (sums m c t.val).2 := by
  have hN : t.val < 16 := lt_of_lt_of_eq t.isLt N_0
  have hlt : t.val - 1 < cfg0.N := Nat.lt_of_le_of_lt (Nat.sub_le _ _) t.isLt
  refine ((dats m 0 c).before_out_kept 12 rfl t h (Bool.eq_false_iff.mpr fun e => ?_) live_12 (fun _ _ => rfl) d).trans ?_
  · have e' : (t.val - 1) % 16 = 15 := (flush0_12 _).mp e
    omega
  · rw [after_12]
    refine (congrArg (fun p => p.2) (sums_succ m c (t.val - 1) hlt)).symm.trans ?_
    rw [Nat.sub_add_cancel (by omega)]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

theorem body_first (c : Dev nD) (t : Fin cfg0.N) (h : t.val = 0) :
    (bodyPre m c t : sProp 𝕄) ⊢ wp frame (wpE (defs₀ (F := F)) Variants.none c none) Set.univ (bodyAt0 t) (fun _ => bodyPost m c t) := by
  unfold bodyPre bodyPost bodyAt0 Dat.owesAt Pipeline.owesWithin
  rw [show (dats m 0 c).Φ t.castSucc = inv m c t.val from rfl, show (dats m 0 c).owed t.castSucc = 0 from rfl,
    show (dats m 0 c).Φ t.succ = inv m c (t.val + 1) from rfl, show (dats m 0 c).owed t.succ = 0 from rfl]
  unfold inv
  simp only [before_0, before_1, before_2, before_3, before_4, before_5]
  rw [after_0, after_1, after_2, after_3, after_4, after_5, after_6, after_7, after_8, after_9, after_10, after_11, after_12, outsAt_first m c t h, show (scratch m c t.val : sProp 𝕄) = blank c from if_pos h, show (scratch m c (t.val + 1) : sProp 𝕄) = filled m c from if_neg (Nat.succ_ne_zero _)]
  unfold leftFirst common filled
  iintro ⟨⟨⟨P, H7, H8, Q0, Q1, Q2, Q3, Q4, Q5⟩, B⟩, ⟨%W, -, HW⟩, ⟨%d1, H1⟩, ⟨%d2, H2⟩, ⟨%d3, H3⟩, ⟨%d4, H4⟩, ⟨%d5, H5⟩, ⟨%d6, H6⟩, ⟨%d9, H9⟩, ⟨%d10, H10⟩, ⟨%d11, H11⟩, ⟨%d12, H12⟩, ⟨%d13, H13⟩, ⟨%d14, H14⟩, ⟨%d15, H15⟩⟩
  icases (blank_parts c) $$ B with ⟨⟨I0, I1, I2, I3⟩, O0, O1⟩
  iapply ((first m c t h).2 W _)
  isplitl [H1]; · iexact H1
  isplitl [H2]; · iexact H2
  isplitl [H3]; · iexact H3
  isplitl [H4]; · iexact H4
  isplitl [H5]; · iexact H5
  isplitl [H6]; · iexact H6
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H7]; · iexact H7
  isplitl [H8]; · iexact H8
  isplitl [I0]; · iexact I0
  isplitl [I1]; · iexact I1
  isplitl [I2]; · iexact I2
  isplitl [I3]; · iexact I3
  isplitl [O0]; · iexact O0
  isplitl [O1]; · iexact O1
  isplitl [Q0]; · iexact Q0
  isplitl [Q1]; · iexact Q1
  isplitl [Q2]; · iexact Q2
  isplitl [Q3]; · iexact Q3
  isplitl [Q4]; · iexact Q4
  isplitl [Q5]; · iexact Q5
  isplitl [HW]; · iexact HW
  iintro ⟨H1, H2, H3, H4, H5, H6, ⟨%e9, H9⟩, ⟨%e10, H10⟩, ⟨%e11, H11⟩, ⟨%e12, H12⟩, ⟨%e13, H13⟩, ⟨%e14, H14⟩, ⟨%e15, H15⟩, H7, H8, H16, H17, Q0, Q1, Q2, Q3, Q4, Q5, HW⟩
  isplitl [P H7 H8 Q0 Q1 Q2 Q3 Q4 Q5 H16 H17]
  · isplitl [P H7 H8 Q0 Q1 Q2 Q3 Q4 Q5]
    · isplitl [P]; · iexact P
      isplitl [H7]; · iexact H7
      isplitl [H8]; · iexact H8
      isplitl [Q0]; · iexact Q0
      isplitl [Q1]; · iexact Q1
      isplitl [Q2]; · iexact Q2
      isplitl [Q3]; · iexact Q3
      isplitl [Q4]; · iexact Q4
      iexact Q5
    isplitl [H16]; · iexact H16
    iexact H17
  isplitl [HW]
  · icases HW with ⟨%W2, HW⟩
    iexists W2; isplitr; · ipureintro; exact fun _ _ => Or.inl trivial
    iexact HW
  isplitl [H1]; · iexact H1
  isplitl [H2]; · iexact H2
  isplitl [H3]; · iexact H3
  isplitl [H4]; · iexact H4
  isplitl [H5]; · iexact H5
  isplitl [H6]; · iexact H6
  isplitl [H9]
  · unfold owns; iexists _; isplitr
    swap; · iexact H9
    ipureintro; exact View.read_writes_of_cover _ _ _ _ _ (coverFirst_dxm m c t h)
  isplitl [H10]
  · unfold owns; iexists _; isplitr
    swap; · iexact H10
    ipureintro; exact View.read_writes_of_cover _ _ _ _ _ (coverFirst_df m c t h)
  isplitl [H11]
  · unfold owns; iexists _; isplitr
    swap; · iexact H11
    ipureintro; exact View.read_writes_of_cover _ _ _ _ _ (coverFirst_act m c t h)
  isplitl [H12]
  · unfold owns; iexists _; isplitr
    swap; · iexact H12
    ipureintro; exact View.read_writes_of_cover _ _ _ _ _ (coverFirst_dgu m c t h)
  isplitl [H13]
  · unfold owns; iexists _; isplitr
    swap; · iexact H13
    ipureintro; exact View.read_writes_of_cover _ _ _ _ _ (coverFirst_h m c t h)
  isplitl [H14]
  · unfold owns; iexists _; isplitr
    swap; · iexact H14
    ipureintro; exact View.read_writes_of_cover _ _ _ _ _ (coverFirst_dgpost m c t h)
  unfold owns; iexists _; isplitr
  swap; · iexact H15
  ipureintro; exact View.read_writes_of_cover _ _ _ _ _ (coverFirst_dgpre m c t h)

theorem body_later (c : Dev nD) (t : Fin cfg0.N) (h : t.val ≠ 0) :
    (bodyPre m c t : sProp 𝕄) ⊢ wp frame (wpE (defs₀ (F := F)) Variants.none c none) Set.univ (bodyAt0 t) (fun _ => bodyPost m c t) := by
  unfold bodyPre bodyPost bodyAt0 Dat.owesAt Pipeline.owesWithin
  rw [show (dats m 0 c).Φ t.castSucc = inv m c t.val from rfl, show (dats m 0 c).owed t.castSucc = 0 from rfl,
    show (dats m 0 c).Φ t.succ = inv m c (t.val + 1) from rfl, show (dats m 0 c).owed t.succ = 0 from rfl]
  unfold inv
  simp only [before_0, before_1, before_2, before_3, before_4, before_5, before_11 m c t h, before_12 m c t h]
  rw [after_0, after_1, after_2, after_3, after_4, after_5, after_6, after_7, after_8, after_9, after_10, after_11, after_12, outsAt_later m c t h, show (scratch m c t.val : sProp 𝕄) = filled m c from if_neg h, show (scratch m c (t.val + 1) : sProp 𝕄) = filled m c from if_neg (Nat.succ_ne_zero _)]
  unfold leftLater filled
  iintro ⟨⟨C, ⟨H16, H17⟩⟩, ⟨%W, -, HW⟩, ⟨%d1, H1⟩, ⟨%d2, H2⟩, ⟨%d3, H3⟩, ⟨%d4, H4⟩, ⟨%d5, H5⟩, ⟨%d6, H6⟩, ⟨%d9, H9⟩, ⟨%d10, H10⟩, ⟨%d11, H11⟩, ⟨%d12, H12⟩, ⟨%d13, H13⟩, ⟨%d14, H14⟩, ⟨%d15, H15⟩⟩
  iapply ((later m c t h (sums m c t.val).1 (sums m c t.val).2).2 W _)
  isplitl [H1]; · iexact H1
  isplitl [H2]; · iexact H2
  isplitl [H3]; · iexact H3
  isplitl [H4]; · iexact H4
  isplitl [H5]; · iexact H5
  isplitl [H6]; · iexact H6
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [H16]; · iexact H16
  isplitl [H17]; · iexact H17
  isplitl [HW]; · iexact HW
  iintro ⟨H1, H2, H3, H4, H5, H6, ⟨%e9, H9⟩, ⟨%e10, H10⟩, ⟨%e11, H11⟩, ⟨%e12, H12⟩, ⟨%e13, H13⟩, ⟨%e14, H14⟩, ⟨%e15, H15⟩, H16, H17, HW⟩
  isplitl [C H16 H17]
  · isplitl [C]; · iexact C
    isplitl [H16]; · iexact H16
    iexact H17
  isplitl [HW]
  · icases HW with ⟨%W2, HW⟩
    iexists W2; isplitr; · ipureintro; exact fun _ _ => Or.inl trivial
    iexact HW
  isplitl [H1]; · iexact H1
  isplitl [H2]; · iexact H2
  isplitl [H3]; · iexact H3
  isplitl [H4]; · iexact H4
  isplitl [H5]; · iexact H5
  isplitl [H6]; · iexact H6
  isplitl [H9]
  · unfold owns; iexists _; isplitr
    swap; · iexact H9
    ipureintro; exact View.read_writes_of_cover _ _ _ _ _ (coverLater_dxm m c t h _ _)
  isplitl [H10]
  · unfold owns; iexists _; isplitr
    swap; · iexact H10
    ipureintro; exact View.read_writes_of_cover _ _ _ _ _ (coverLater_df m c t h _ _)
  isplitl [H11]
  · unfold owns; iexists _; isplitr
    swap; · iexact H11
    ipureintro; exact View.read_writes_of_cover _ _ _ _ _ (coverLater_act m c t h _ _)
  isplitl [H12]
  · unfold owns; iexists _; isplitr
    swap; · iexact H12
    ipureintro; exact View.read_writes_of_cover _ _ _ _ _ (coverLater_dgu m c t h _ _)
  isplitl [H13]
  · unfold owns; iexists _; isplitr
    swap; · iexact H13
    ipureintro; exact View.read_writes_of_cover _ _ _ _ _ (coverLater_h m c t h _ _)
  isplitl [H14]
  · unfold owns; iexists _; isplitr
    swap; · iexact H14
    ipureintro; exact View.read_writes_of_cover _ _ _ _ _ (coverLater_dgpost m c t h _ _)
  unfold owns; iexists _; isplitr
  swap; · iexact H15
  ipureintro; exact View.read_writes_of_cover _ _ _ _ _ (coverLater_dgpre m c t h _ _)

theorem sound_body (c : Dev nD) (t : Fin cfg0.N) :
    (bodyPre m c t : sProp 𝕄) ⊢ wp frame (wpE (defs₀ (F := F)) Variants.none c none) Set.univ (bodyAt0 t) (fun _ => bodyPost m c t) := by
  by_cases h : t.val = 0
  · exact body_first m c t h
  · exact body_later m c t h

/-! ## The launch -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rw [live_6, live_11]
  exact triple_restated (sound_body m c t) rfl .rfl fun _ => .rfl

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem inv_first (c : Dev nD) : (iprop(common m c ∗ blank c) : sProp 𝕄) ⊢ inv m c 0 := by
  unfold inv; rw [show (scratch m c 0 : sProp 𝕄) = blank c from if_pos rfl]
theorem inv_last (c : Dev nD) : (inv m c 16 : sProp 𝕄) ⊢ iprop(common m c ∗ blank c) := by
  unfold inv; rw [show (scratch m c 16 : sProp 𝕄) = filled m c from if_neg (by decide)]
  exact BIClass.sep_mono .rfl (filled_blank m c)

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 cells defs₀ Variants.none cellFacts weights weights_sub m ρ main
    (hbody := fun c => (body_obligation m c).loose) (hshare := fun c => (dats m 0 c).share_full fun _ => rfl)
    (howed := fun _ _ => rfl) (V := V m) (hmain := hmain m Variants.none) (hA := A_eq m)
    (hin := fun c => (launch_eq m c).1.trans (inv_first m c)) (hout := fun c => (inv_last m c).trans (launch_eq m c).2)

/-- The program ends, its arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ ⟨h, hz⟩ => ⟨fun c => ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩, hz⟩) (run_main m ρ)

end Cert.Kernel5Ideal.Ffn

end
-- ==== Proof.FfnReal.lean ====
/- The real functions that the feed-forward block's backward pass computes on one row, and the extended-real operations on
   real arguments. -/
module

public import Idealize.ShloMosaic.PureOps.Ideal
public import Idealize.ShloMosaic.Lib.Pointwise
public import Idealize.ShloMosaic.Lib.IdealHost

@[expose] public section

set_option maxRecDepth 16384

noncomputable section

namespace Cert.Proof.FfnReal

open Idealize.ShloMosaic

/-! ## Extended-real operations on reals -/

theorem sum_coe {n : ℕ} (f : Fin n → ℝ) : ∑ i, (f i : EReal) = ((∑ i, f i : ℝ) : EReal) :=
  (map_sum (⟨⟨fun x : ℝ => (x : EReal), rfl⟩, EReal.coe_add⟩ : ℝ →+ EReal) f Finset.univ).symm

theorem f32_1024 : Ideal.ofBits .f32 1149239296#32 = ((1024 : ℝ) : EReal) := by
  simp [Ideal.ofBits, Ideal.ieee, -EReal.coe_mul]; norm_num

theorem f32_neg_half : Ideal.ofBits .f32 0xBF000000#32 = ((-(1 / 2) : ℝ) : EReal) := by
  simp [Ideal.ofBits, Ideal.ieee, -EReal.coe_mul, -EReal.coe_neg]; norm_num

/-- The norm's epsilon, the float nearest to a millionth. -/
def eps : ℝ := 8796093 / 8796093022208

theorem f32_eps : Ideal.ofBits .f32 897988541#32 = ((eps : ℝ) : EReal) := by
  unfold eps
  simp [Ideal.ofBits, Ideal.ieee, -EReal.coe_mul]; norm_num

theorem eps_pos : 0 < eps := by unfold eps; norm_num

theorem div_real (a b : ℝ) (hb : b ≠ 0) : Ideal.div (a : EReal) (b : EReal) = ((a / b : ℝ) : EReal) := by
  rw [Ideal.div_coe hb, ← EReal.coe_mul, mul_one_div]

theorem div_1024 (a : ℝ) : Ideal.div (a : EReal) ((1024 : ℝ) : EReal) = ((a / 1024 : ℝ) : EReal) := div_real a 1024 (by norm_num)

theorem rsqrt_real (a : ℝ) (h : 0 < a) : Ideal.rsqrt (a : EReal) = (((√a)⁻¹ : ℝ) : EReal) := by
  rw [Ideal.rsqrt_coe, if_neg (not_lt.mpr h.le), if_neg h.ne']

/-! ## A row's norm -/

/-- The mean square of a row, plus epsilon, -/
def ms (v : Fin 1024 → ℝ) : ℝ := (∑ j, v j * v j) / 1024 + eps

/-- and the reciprocal of its root. -/
def rr (v : Fin 1024 → ℝ) : ℝ := (√(ms v))⁻¹

theorem ms_pos (v : Fin 1024 → ℝ) : 0 < ms v :=
  add_pos_of_nonneg_of_pos (div_nonneg (Finset.sum_nonneg fun j _ => mul_self_nonneg (v j)) (by norm_num)) eps_pos

theorem rsqrt_ms (v : Fin 1024 → ℝ) : Ideal.rsqrt ((((∑ j, v j * v j) / 1024 + eps : ℝ)) : EReal) = ((rr v : ℝ) : EReal) :=
  rsqrt_real (ms v) (ms_pos v)

/-- The gradient of the normed row `v · rr v · g` in `v`, at the cotangent `d`. -/
def back (d v g : Fin 1024 → ℝ) (j : Fin 1024) : ℝ :=
  rr v * (d j * g j - v j * rr v * ((∑ k, d k * g k * (v k * rr v)) / 1024))

/-! ## The gate -/

def sig (x : ℝ) : ℝ := 1 / (1 + Real.exp (-x))

theorem sig_den (x : ℝ) : (1 + Real.exp (-x)) ≠ 0 := (add_pos one_pos (Real.exp_pos _)).ne'

theorem sig_real (x : ℝ) : Ideal.div 1 ((1 + Real.exp (-x) : ℝ) : EReal) = ((sig x : ℝ) : EReal) := by
  rw [← EReal.coe_one, div_real _ _ (sig_den x)]; rfl

theorem zero_sub_real (x : ℝ) : (0 : EReal) - (x : EReal) = ((-x : ℝ) : EReal) := by
  rw [← EReal.coe_zero, ← EReal.coe_sub, zero_sub]

theorem one_sub_real (x : ℝ) : (1 : EReal) - (x : EReal) = ((1 - x : ℝ) : EReal) := by rw [← EReal.coe_one, ← EReal.coe_sub]

theorem one_add_real (x : ℝ) : (1 : EReal) + (x : EReal) = ((1 + x : ℝ) : EReal) := by rw [← EReal.coe_one, ← EReal.coe_add]

/-- The gated product, and its gradients at the cotangent `d`. -/
def gated (g u : ℝ) : ℝ := g * sig g * u
def dGate (d g u : ℝ) : ℝ := d * u * (sig g * (1 + g * (1 - sig g)))
def dUp (d g : ℝ) : ℝ := d * (g * sig g)

/-- The gated product of a row, whose gate stands left and whose other factor stands right. -/
def rowAct (gu : Fin 5632 → ℝ) (n : Fin 2816) : ℝ := gated (gu ⟨n.val, by omega⟩) (gu ⟨2816 + n.val, by omega⟩)

/-- The two factors' gradients on a row, side by side: the product's cotangent is `d` times the transposed weights. -/
def rowDgu (d : Fin 1024 → ℝ) (gu : Fin 5632 → ℝ) (wo : Fin 2816 → Fin 1024 → ℝ) (n : Fin 5632) : ℝ :=
  if h : n.val < 2816 then dGate (∑ j, d j * wo ⟨n.val, h⟩ j) (gu n) (gu ⟨2816 + n.val, by omega⟩)
  else dUp (∑ j, d j * wo ⟨n.val - 2816, by omega⟩ j) (gu ⟨n.val - 2816, by omega⟩)

theorem rowDgu_gate (d : Fin 1024 → ℝ) (gu : Fin 5632 → ℝ) (wo : Fin 2816 → Fin 1024 → ℝ) (n : Fin 2816) :
    rowDgu d gu wo ⟨n.val, by omega⟩ = dGate (∑ j, d j * wo n j) (gu ⟨n.val, by omega⟩) (gu ⟨2816 + n.val, by omega⟩) := dif_pos n.isLt

theorem rowDgu_up (d : Fin 1024 → ℝ) (gu : Fin 5632 → ℝ) (wo : Fin 2816 → Fin 1024 → ℝ) (n : Fin 2816) :
    rowDgu d gu wo ⟨2816 + n.val, by omega⟩ = dUp (∑ j, d j * wo n j) (gu ⟨n.val, by omega⟩) := by
  refine (dif_neg (Nat.not_lt.mpr (Nat.le_add_right 2816 n.val))).trans ?_
  have e : 2816 + n.val - 2816 = n.val := Nat.add_sub_cancel_left 2816 n.val
  exact congrArg₂ dUp (Finset.sum_congr rfl fun j _ => congrArg (fun z => d j * wo z j) (Fin.ext e)) (congrArg gu (Fin.ext e))

/-- The gradient of the normed row, -/
def rowDh (d : Fin 1024 → ℝ) (gu : Fin 5632 → ℝ) (wo : Fin 2816 → Fin 1024 → ℝ) (wi : Fin 1024 → Fin 5632 → ℝ) (k : Fin 1024) : ℝ :=
  ∑ n, rowDgu d gu wo n * wi k n

/-- and the normed row. -/
def rowH (x g : Fin 1024 → ℝ) (k : Fin 1024) : ℝ := x k * rr x * g k

/-! ## The block's data -/

/-- The two factors, and the block's second product, on a row. -/
def rowGu (x g : Fin 1024 → ℝ) (wi : Fin 1024 → Fin 5632 → ℝ) (n : Fin 5632) : ℝ := ∑ k, rowH x g k * wi k n
def rowF (gu : Fin 5632 → ℝ) (wo : Fin 2816 → Fin 1024 → ℝ) (k : Fin 1024) : ℝ := ∑ n, rowAct gu n * wo n k

/-- The arguments: the block's input, the cotangent of its output, the two norms' gains and the two weights. -/
structure Data where
  x : Fin 4096 → Fin 1024 → ℝ
  d : Fin 4096 → Fin 1024 → ℝ
  gp : Fin 1024 → ℝ
  go : Fin 1024 → ℝ
  wi : Fin 1024 → Fin 5632 → ℝ
  wo : Fin 2816 → Fin 1024 → ℝ

namespace Data

variable (D : Data)

def gu (p : Fin 4096) : Fin 5632 → ℝ := rowGu (D.x p) D.gp D.wi
def f (p : Fin 4096) : Fin 1024 → ℝ := rowF (D.gu p) D.wo

/-- The results, row by row. -/
def df (p : Fin 4096) : Fin 1024 → ℝ := back (D.d p) (D.f p) D.go
def act (p : Fin 4096) : Fin 2816 → ℝ := rowAct (D.gu p)
def dgu (p : Fin 4096) : Fin 5632 → ℝ := rowDgu (D.df p) (D.gu p) D.wo
def dh (p : Fin 4096) : Fin 1024 → ℝ := rowDh (D.df p) (D.gu p) D.wo D.wi
def h (p : Fin 4096) : Fin 1024 → ℝ := rowH (D.x p) D.gp
def dxm (p : Fin 4096) (k : Fin 1024) : ℝ := D.d p k + back (D.dh p) (D.x p) D.gp k

/-- One row's share of the gains' gradients, -/
def post (p : Fin 4096) (j : Fin 1024) : ℝ := D.d p j * (D.f p j * rr (D.f p))
def pre (p : Fin 4096) (j : Fin 1024) : ℝ := D.dh p j * (D.x p j * rr (D.x p))

/-- and the gradients. -/
def dgpost (j : Fin 1024) : ℝ := ∑ p, D.post p j
def dgpre (j : Fin 1024) : ℝ := ∑ p, D.pre p j

/-- The results in the terms a block is read in. -/
theorem df_eq (p : Fin 4096) : D.df p = back (D.d p) (D.f p) D.go := rfl
theorem dgu_eq (p : Fin 4096) : D.dgu p = rowDgu (back (D.d p) (D.f p) D.go) (D.gu p) D.wo := rfl
theorem dxm_eq (p : Fin 4096) : D.dxm p = fun k => D.d p k + back (rowDh (back (D.d p) (D.f p) D.go) (D.gu p) D.wo D.wi) (D.x p) D.gp k := rfl
theorem post_eq (p : Fin 4096) (j : Fin 1024) : D.post p j = D.d p j * (D.f p j * rr (D.f p)) := rfl
theorem pre_eq (p : Fin 4096) (j : Fin 1024) :
    D.pre p j = rowDh (back (D.d p) (D.f p) D.go) (D.gu p) D.wo D.wi j * (D.x p j * rr (D.x p)) := rfl

end Data

/-! ## The norm's gradient as it is differentiated step by step -/

theorem rr_mul (v : Fin 1024 → ℝ) : rr v * rr v = 1 / ms v := by
  unfold rr
  rw [← mul_inv, Real.mul_self_sqrt (ms_pos v).le, one_div]

theorem back_steps (d v g : Fin 1024 → ℝ) (j : Fin 1024) :
    d j * g j * rr v + v j * ((∑ k, v k * (d k * g k)) * (-(1 / 2) * (rr v / ms v)) / 1024)
      + (∑ k, v k * (d k * g k)) * (-(1 / 2) * (rr v / ms v)) / 1024 * v j = back d v g j := by
  have e : ∑ k, d k * g k * (v k * rr v) = rr v * ∑ k, v k * (d k * g k) := by
    rw [Finset.mul_sum]
    exact Finset.sum_congr rfl fun k _ => by ring
  have r : rr v / ms v = rr v * (rr v * rr v) := by rw [rr_mul, mul_one_div]
  unfold back
  rw [e, r]
  ring

/-- The gate's gradient as it is differentiated step by step. -/
theorem dGate_steps (d g u : ℝ) : d * u * sig g + g * (d * u) * (sig g * (1 - sig g)) = dGate d g u := by
  unfold dGate
  ring

end Cert.Proof.FfnReal

end
-- ==== Proof.FfnTile.lean ====
/- What the steps of one block compute when all they read is real. -/
module

public import proofs.«01_k».proof.Proof.Gen.Kernel5Ideal.Skeleton
public import proofs.«01_k».proof.Proof.FfnReal
public import Idealize.ShloMosaic.Lib.Pointwise
public import Idealize.ShloMosaic.Lib.ValueIdxCore

@[expose] public section

set_option maxRecDepth 16384

noncomputable section

namespace Cert.Kernel5Ideal.Ffn

open Idealize.ShloMosaic Idealize.ShloMosaic.TcCoe Idealize.SL.Sem
open Cert.Kernel5Ideal Cert.Kernel5Ideal.Gen Cert.Proof.FfnReal

/-- A matrix is real, with these entries. -/
abbrev Is {A B : ℕ} (X : (⟨2, ![A, B]⟩ : Shape).Idx → EReal) (a : Fin A → Fin B → ℝ) : Prop := ∀ p j, X (ix2 p j) = ((a p j : ℝ) : EReal)

/-- The norm's gradient, at a cotangent held in memory. -/
theorem df_apply (x1 x2 : Vec Ideal S256x1024 .f32) (g : Vec Ideal S1x1024 .f32) {a b : Fin 256 → Fin 1024 → ℝ} {γ : Fin 1 → Fin 1024 → ℝ} (h1 : Is x1 a) (h2 : Is x2 b) (h3 : Is g γ) (p : Fin 256) (j : Fin 1024) :
    k0_pay44 x1 x2 g (ix2 p j) = ((back (a p) (b p) (γ 0) j : ℝ) : EReal) := by
  pointwise [k0_pay44, k0_pay42, k0_pay41, k0_pay40]
  simp only [h1 _ _, h2 _ _, h3 _ _, f32_1024, f32_eps, ← EReal.coe_mul, ← EReal.coe_add, ← EReal.coe_sub, sum_coe, div_1024, rsqrt_ms, zero_sub_real, one_sub_real, one_add_real, Ideal.exp_coe, sig_real]
  rfl

/-- The sum of the norm's gain gradient over the block's rows, added to what was there. -/
theorem dgpost_apply (x1 x2 : Vec Ideal S256x1024 .f32) (g : Vec Ideal S1x1024 .f32) {a b : Fin 256 → Fin 1024 → ℝ} {γ : Fin 1 → Fin 1024 → ℝ} (h1 : Is x1 a) (h2 : Is x2 b) (h3 : Is g γ) (j : Fin 1024) :
    k0_pay43 x1 x2 g (ix2 0 j) = ((γ 0 j + ∑ p, a p j * (b p j * rr (b p)) : ℝ) : EReal) := by
  pointwise [k0_pay43, k0_pay42, k0_pay41, k0_pay40]
  simp only [h1 _ _, h2 _ _, h3 _ _, f32_1024, f32_eps, ← EReal.coe_mul, ← EReal.coe_add, ← EReal.coe_sub, sum_coe, div_1024, rsqrt_ms, zero_sub_real, one_sub_real, one_add_real, Ideal.exp_coe, sig_real]

/-- The normed row. -/
theorem h_apply (x2 : Vec Ideal S256x1024 .f32) (g : Vec Ideal S1x1024 .f32) {b : Fin 256 → Fin 1024 → ℝ} {γ : Fin 1 → Fin 1024 → ℝ} (h2 : Is x2 b) (h3 : Is g γ) (p : Fin 256) (j : Fin 1024) :
    k0_pay66 x2 g (ix2 p j) = ((b p j * rr (b p) * γ 0 j : ℝ) : EReal) := by
  pointwise [k0_pay66, k0_pay65]
  simp only [h2 _ _, h3 _ _, f32_1024, f32_eps, ← EReal.coe_mul, ← EReal.coe_add, ← EReal.coe_sub, sum_coe, div_1024, rsqrt_ms, zero_sub_real, one_sub_real, one_add_real, Ideal.exp_coe, sig_real]

/-- The gated product, 1536 columns of it. -/
theorem act1536_apply (g u : Vec Ideal S256x1536 .bf16) {γ υ : Fin 256 → Fin 1536 → ℝ} (hg : Is g γ) (hu : Is u υ) (p : Fin 256) (n : Fin 1536) :
    k0_pay51 g u (ix2 p n) = ((gated (γ p n) (υ p n) : ℝ) : EReal) := by
  pointwise [k0_pay51, k0_pay50, k0_pay49, k0_pay48, k0_pay47, k0_pay46]
  simp only [hg _ _, hu _ _, f32_1024, f32_eps, ← EReal.coe_mul, ← EReal.coe_add, ← EReal.coe_sub, sum_coe, div_1024, rsqrt_ms, zero_sub_real, one_sub_real, one_add_real, Ideal.exp_coe, sig_real]
  rfl

/-- The gate's gradient. -/
theorem dgate1536_apply (d : FVec Ideal S256x1024 .bf16) (w : Vec Ideal S1536x1024 .bf16) {δ : Fin 256 → Fin 1024 → ℝ} {ω : Fin 1536 → Fin 1024 → ℝ} (hd : Is d δ) (hw : Is w ω) (g u : Vec Ideal S256x1536 .bf16) {γ υ : Fin 256 → Fin 1536 → ℝ} (hg : Is g γ) (hu : Is u υ) (p : Fin 256) (n : Fin 1536) :
    k0_pay53 d w g u (ix2 p n) = ((dGate (∑ j, δ p j * ω n j) (γ p n) (υ p n) : ℝ) : EReal) := by
  pointwise [k0_pay53, k0_pay50, k0_pay49, k0_pay48, k0_pay47, k0_pay46]
  simp only [hd _ _, hw _ _, hg _ _, hu _ _, f32_1024, f32_eps, ← EReal.coe_mul, ← EReal.coe_add, ← EReal.coe_sub, sum_coe, div_1024, rsqrt_ms, zero_sub_real, one_sub_real, one_add_real, Ideal.exp_coe, sig_real]
  rfl

/-- The other factor's gradient. -/
theorem dup1536_apply (d : FVec Ideal S256x1024 .bf16) (w : Vec Ideal S1536x1024 .bf16) {δ : Fin 256 → Fin 1024 → ℝ} {ω : Fin 1536 → Fin 1024 → ℝ} (hd : Is d δ) (hw : Is w ω) (g : Vec Ideal S256x1536 .bf16) {γ : Fin 256 → Fin 1536 → ℝ} (hg : Is g γ) (p : Fin 256) (n : Fin 1536) :
    k0_pay52 d w g (ix2 p n) = ((dUp (∑ j, δ p j * ω n j) (γ p n) : ℝ) : EReal) := by
  pointwise [k0_pay52, k0_pay50, k0_pay49, k0_pay48, k0_pay47, k0_pay46]
  simp only [hd _ _, hw _ _, hg _ _, f32_1024, f32_eps, ← EReal.coe_mul, ← EReal.coe_add, ← EReal.coe_sub, sum_coe, div_1024, rsqrt_ms, zero_sub_real, one_sub_real, one_add_real, Ideal.exp_coe, sig_real]
  rfl

/-- The gated product, 1280 columns of it. -/
theorem act1280_apply (g u : Vec Ideal S256x1280 .bf16) {γ υ : Fin 256 → Fin 1280 → ℝ} (hg : Is g γ) (hu : Is u υ) (p : Fin 256) (n : Fin 1280) :
    k0_pay61 g u (ix2 p n) = ((gated (γ p n) (υ p n) : ℝ) : EReal) := by
  pointwise [k0_pay61, k0_pay60, k0_pay59, k0_pay58, k0_pay57, k0_pay56]
  simp only [hg _ _, hu _ _, f32_1024, f32_eps, ← EReal.coe_mul, ← EReal.coe_add, ← EReal.coe_sub, sum_coe, div_1024, rsqrt_ms, zero_sub_real, one_sub_real, one_add_real, Ideal.exp_coe, sig_real]
  rfl

/-- The gate's gradient. -/
theorem dgate1280_apply (d : FVec Ideal S256x1024 .bf16) (w : Vec Ideal S1280x1024 .bf16) {δ : Fin 256 → Fin 1024 → ℝ} {ω : Fin 1280 → Fin 1024 → ℝ} (hd : Is d δ) (hw : Is w ω) (g u : Vec Ideal S256x1280 .bf16) {γ υ : Fin 256 → Fin 1280 → ℝ} (hg : Is g γ) (hu : Is u υ) (p : Fin 256) (n : Fin 1280) :
    k0_pay63 d w g u (ix2 p n) = ((dGate (∑ j, δ p j * ω n j) (γ p n) (υ p n) : ℝ) : EReal) := by
  pointwise [k0_pay63, k0_pay60, k0_pay59, k0_pay58, k0_pay57, k0_pay56]
  simp only [hd _ _, hw _ _, hg _ _, hu _ _, f32_1024, f32_eps, ← EReal.coe_mul, ← EReal.coe_add, ← EReal.coe_sub, sum_coe, div_1024, rsqrt_ms, zero_sub_real, one_sub_real, one_add_real, Ideal.exp_coe, sig_real]
  rfl

/-- The other factor's gradient. -/
theorem dup1280_apply (d : FVec Ideal S256x1024 .bf16) (w : Vec Ideal S1280x1024 .bf16) {δ : Fin 256 → Fin 1024 → ℝ} {ω : Fin 1280 → Fin 1024 → ℝ} (hd : Is d δ) (hw : Is w ω) (g : Vec Ideal S256x1280 .bf16) {γ : Fin 256 → Fin 1280 → ℝ} (hg : Is g γ) (p : Fin 256) (n : Fin 1280) :
    k0_pay62 d w g (ix2 p n) = ((dUp (∑ j, δ p j * ω n j) (γ p n) : ℝ) : EReal) := by
  pointwise [k0_pay62, k0_pay60, k0_pay59, k0_pay58, k0_pay57, k0_pay56]
  simp only [hd _ _, hw _ _, hg _ _, f32_1024, f32_eps, ← EReal.coe_mul, ← EReal.coe_add, ← EReal.coe_sub, sum_coe, div_1024, rsqrt_ms, zero_sub_real, one_sub_real, one_add_real, Ideal.exp_coe, sig_real]
  rfl

/-- A first half's product over the gate's columns. -/
theorem dh1_apply (z : FVec Ideal S256x1024 .f32) (d : FVec Ideal S256x1024 .bf16) (w : Vec Ideal S1536x1024 .bf16) (g u : Vec Ideal S256x1536 .bf16) (v : Vec Ideal S1x1024x1536 .bf16) {ζ : Fin 256 → Fin 1024 → ℝ} {a : Fin 256 → Fin 1536 → ℝ} {ω : Fin 1024 → Fin 1536 → ℝ} (hz : Is z ζ) (ha : Is (k0_pay53 d w g u) a) (hv : ∀ k n, v (ix3 0 k n) = ((ω k n : ℝ) : EReal)) (p : Fin 256) (k : Fin 1024) :
    k0_pay54 d z w g u v (ix2 p k) = ((ζ p k + ∑ n, a p n * ω k n : ℝ) : EReal) := by
  pointwise [k0_pay54]
  simp only [hz _ _, ha _ _, hv _ _, f32_1024, f32_eps, ← EReal.coe_mul, ← EReal.coe_add, ← EReal.coe_sub, sum_coe, div_1024, rsqrt_ms, zero_sub_real, one_sub_real, one_add_real, Ideal.exp_coe, sig_real]

/-- and over the other factor's. -/
theorem dh2_apply (a : FVec Ideal S256x1536 .bf16) (z : FVec Ideal S256x1024 .f32) (v : Vec Ideal S1x1024x1536 .bf16) {ζ : Fin 256 → Fin 1024 → ℝ} {α : Fin 256 → Fin 1536 → ℝ} {ω : Fin 1024 → Fin 1536 → ℝ} (hz : Is z ζ) (ha : Is a α) (hv : ∀ k n, v (ix3 0 k n) = ((ω k n : ℝ) : EReal)) (p : Fin 256) (k : Fin 1024) :
    k0_pay55 a z v (ix2 p k) = ((ζ p k + ∑ n, α p n * ω k n : ℝ) : EReal) := by
  pointwise [k0_pay55]
  simp only [hz _ _, ha _ _, hv _ _, f32_1024, f32_eps, ← EReal.coe_mul, ← EReal.coe_add, ← EReal.coe_sub, sum_coe, div_1024, rsqrt_ms, zero_sub_real, one_sub_real, one_add_real, Ideal.exp_coe, sig_real]

/-- The second half's two products. -/
theorem dh3_apply (z : FVec Ideal S256x1024 .f32) (a b : FVec Ideal S256x1280 .bf16) (v w : Vec Ideal S1x1024x1280 .bf16) {ζ : Fin 256 → Fin 1024 → ℝ} {α β : Fin 256 → Fin 1280 → ℝ} {ν ω : Fin 1024 → Fin 1280 → ℝ} (hz : Is z ζ) (ha : Is a α) (hb : Is b β) (hv : ∀ k n, v (ix3 0 k n) = ((ν k n : ℝ) : EReal)) (hw : ∀ k n, w (ix3 0 k n) = ((ω k n : ℝ) : EReal)) (p : Fin 256) (k : Fin 1024) :
    k0_pay64 z a b v w (ix2 p k) = ((ζ p k + ∑ n, β p n * ν k n + ∑ n, α p n * ω k n : ℝ) : EReal) := by
  pointwise [k0_pay64]
  simp only [hz _ _, ha _ _, hb _ _, hv _ _, hw _ _, f32_1024, f32_eps, ← EReal.coe_mul, ← EReal.coe_add, ← EReal.coe_sub, sum_coe, div_1024, rsqrt_ms, zero_sub_real, one_sub_real, one_add_real, Ideal.exp_coe, sig_real]

/-- The block's input gradient. -/
theorem dxm_apply (x1 : Vec Ideal S256x1024 .f32) (e : FVec Ideal S256x1024 .f32) (x3 : Vec Ideal S256x1024 .f32) (g : Vec Ideal S1x1024 .f32) {a η b : Fin 256 → Fin 1024 → ℝ} {γ : Fin 1 → Fin 1024 → ℝ} (h1 : Is x1 a) (he : Is e η) (h3 : Is x3 b) (hg : Is g γ) (p : Fin 256) (j : Fin 1024) :
    k0_pay8 x1 e (k0_pay65 g) (k0_pay67 x3) (k0_pay68 x3) (ix2 p j) = ((a p j + back (η p) (b p) (γ 0) j : ℝ) : EReal) := by
  pointwise [k0_pay8, k0_pay65, k0_pay68, k0_pay67]
  simp only [h1 _ _, he _ _, h3 _ _, hg _ _, f32_1024, f32_eps, ← EReal.coe_mul, ← EReal.coe_add, ← EReal.coe_sub, sum_coe, div_1024, rsqrt_ms, zero_sub_real, one_sub_real, one_add_real, Ideal.exp_coe, sig_real]
  rfl

/-- The sum of the first norm's gain gradient over the block's rows, added to what was there. -/
theorem dgpre_apply (z : FVec Ideal S256x1024 .f32) (a b : FVec Ideal S256x1280 .bf16) (v w : Vec Ideal S1x1024x1280 .bf16) (x3 : Vec Ideal S256x1024 .f32) (y : Vec Ideal S1x1024 .f32) {η β : Fin 256 → Fin 1024 → ℝ} {γ : Fin 1 → Fin 1024 → ℝ} (he : Is (k0_pay64 z a b v w) η) (h3 : Is x3 β) (hy : Is y γ) (j : Fin 1024) :
    k0_pay7 (k0_pay69 z a b v w x3) y (ix2 0 j) = ((γ 0 j + ∑ p, η p j * (β p j * rr (β p)) : ℝ) : EReal) := by
  pointwise [k0_pay7, k0_pay69, k0_pay68, k0_pay67]
  simp only [he _ _, h3 _ _, hy _ _, f32_1024, f32_eps, ← EReal.coe_mul, ← EReal.coe_add, ← EReal.coe_sub, sum_coe, div_1024, rsqrt_ms, zero_sub_real, one_sub_real, one_add_real, Ideal.exp_coe, sig_real]

theorem zero45 : Is (k0_pay45 (F := Ideal)) (fun _ _ => 0) := fun p j => by
  pointwise [k0_pay45]
  exact EReal.coe_zero.symm

theorem zero1 : Is (k0_pay1 (F := Ideal)) (fun _ _ => 0) := fun p j => by
  pointwise [k0_pay1]
  exact EReal.coe_zero.symm

theorem zero2 : Is (k0_pay2 (F := Ideal)) (fun _ _ => 0) := fun p j => by
  pointwise [k0_pay2]
  exact EReal.coe_zero.symm

/-! ## The first point's steps are the later points' -/

variable {F : FTy → Type} [FloatOps F]

theorem pay12_eq : @k0_pay12 F _ = k0_pay43 := rfl
theorem pay13_eq : @k0_pay13 F _ = k0_pay44 := rfl
theorem pay14_eq : @k0_pay14 F _ = k0_pay45 := rfl
theorem pay20_eq : @k0_pay20 F _ = k0_pay51 := rfl
theorem pay21_eq : @k0_pay21 F _ = k0_pay52 := rfl
theorem pay26_eq : @k0_pay26 F _ = k0_pay55 := rfl
theorem pay32_eq : @k0_pay32 F _ = k0_pay61 := rfl
theorem pay33_eq : @k0_pay33 F _ = k0_pay62 := rfl
theorem pay34_eq : @k0_pay34 F _ = k0_pay63 := rfl
theorem pay35_eq : @k0_pay35 F _ = k0_pay64 := rfl
theorem pay37_eq : @k0_pay37 F _ = k0_pay66 := rfl
theorem pay24_eq (d : FVec F S256x1024 .bf16) (w : Vec F S1536x1024 .bf16) (g u : Vec F S256x1536 .bf16) :
    k0_pay24 (k0_pay16 g) (k0_pay18 g) (k0_pay22 d w u) (k0_pay23 g) = k0_pay53 d w g u := rfl
theorem pay25_eq (z : FVec F S256x1024 .f32) (d : FVec F S256x1024 .bf16) (w : Vec F S1536x1024 .bf16) (g u : Vec F S256x1536 .bf16) (v : Vec F S1x1024x1536 .bf16) :
    k0_pay25 z (k0_pay16 g) (k0_pay18 g) (k0_pay22 d w u) (k0_pay23 g) v = k0_pay54 d z w g u v := rfl
theorem pay5_eq (z : FVec F S256x1024 .f32) (a b : FVec F S256x1280 .bf16) (v w : Vec F S1x1024x1280 .bf16) (x3 : Vec F S256x1024 .f32) (y : Vec F S1x1024 .f32) :
    k0_pay5 (k0_pay64 z a b v w) x3 (k0_pay38 x3) k0_pay39 y = k0_pay7 (k0_pay69 z a b v w x3) y := rfl
theorem pay6_eq (x1 : Vec F S256x1024 .f32) (e : FVec F S256x1024 .f32) (x3 : Vec F S256x1024 .f32) (g : Vec F S1x1024 .f32) :
    k0_pay6 x1 e x3 (k0_pay36 g) (k0_pay38 x3) k0_pay39 = k0_pay8 x1 e (k0_pay65 g) (k0_pay67 x3) (k0_pay68 x3) := rfl

end Cert.Kernel5Ideal.Ffn

end
-- ==== Proof.FfnBlocks.lean ====
/- What one block of 256 rows computes, from real blocks: the pieces a point leaves, as the rows' real functions. -/
module

public import proofs.«01_k».proof.Proof.FfnFrame
public import proofs.«01_k».proof.Proof.FfnTile
public import Idealize.ShloMosaic.Lib.Tactic.Stretches
public import Idealize.ShloMosaic.Lib.WholeRead
public import Idealize.ShloMosaic.Lib.Pipeline.ValueKit
public import Idealize.ShloMosaic.Lib.Pipeline.ReadBack

@[expose] public section

set_option maxRecDepth 16384

noncomputable section

namespace Cert.Kernel5Ideal.Ffn

open Idealize.ShloMosaic Idealize.ShloMosaic.TcCoe Idealize.SL.Sem
open Cert.Kernel5Ideal Cert.Kernel5Ideal.Gen Cert.Proof.FfnReal

/-! ## A load of a real array is real -/

theorem rd2f {sp : Space} {A B A' B' : ℕ} (M : Memref sig .tc sp ⟨2, ![A, B]⟩ .f32) (hM : M.IsWhole)
    (X : Vec Ideal ⟨2, ![A, B]⟩ .f32) (o1 o2 : ℕ) (inb : ∀ a, (![o1, o2] : Fin 2 → ℕ) a + (![A', B'] : Fin 2 → ℕ) a ≤ (⟨2, ![A, B]⟩ : Shape).size a)
    {x : Fin A → Fin B → ℝ} (h : Is X x) {y : Fin A' → Fin B' → ℝ}
    (hy : ∀ (p : Fin A') (j : Fin B') (hp : o1 + p.val < A) (hj : o2 + j.val < B), x ⟨o1 + p.val, hp⟩ ⟨o2 + j.val, hj⟩ = y p j) :
    Is (A := A') (B := B') (View.readAt (Elt Ideal) M.view (Rect.unit (s := ⟨2, ![A, B]⟩) ![o1, o2] ![A', B'] inb).toLoadRect (hM.unread X)) y := by
  intro p j
  have hp : o1 + p.val < A := lt_of_lt_of_le (Nat.add_lt_add_left p.isLt o1) (inb 0)
  have hj : o2 + j.val < B := lt_of_lt_of_le (Nat.add_lt_add_left j.isLt o2) (inb 1)
  rw [hM.readAt_unread]
  refine Eq.trans (congrArg X ?_) ((h ⟨o1 + p.val, hp⟩ ⟨o2 + j.val, hj⟩).trans (congrArg _ (hy p j hp hj)))
  funext a
  match a with
  | ⟨0, _⟩ => exact Fin.ext (ValueKit.rect_emb_unit_val ..)
  | ⟨1, _⟩ => exact Fin.ext (ValueKit.rect_emb_unit_val ..)

theorem rd2h {sp : Space} {A B A' B' : ℕ} (M : Memref sig .tc sp ⟨2, ![A, B]⟩ .bf16) (hM : M.IsWhole)
    (X : Vec Ideal ⟨2, ![A, B]⟩ .bf16) (o1 o2 : ℕ) (inb : ∀ a, (![o1, o2] : Fin 2 → ℕ) a + (![A', B'] : Fin 2 → ℕ) a ≤ (⟨2, ![A, B]⟩ : Shape).size a)
    {x : Fin A → Fin B → ℝ} (h : Is X x) {y : Fin A' → Fin B' → ℝ}
    (hy : ∀ (p : Fin A') (j : Fin B') (hp : o1 + p.val < A) (hj : o2 + j.val < B), x ⟨o1 + p.val, hp⟩ ⟨o2 + j.val, hj⟩ = y p j) :
    Is (A := A') (B := B') (View.readAt (Elt Ideal) M.view (Rect.unit (s := ⟨2, ![A, B]⟩) ![o1, o2] ![A', B'] inb).toLoadRect (hM.unread X)) y := by
  intro p j
  have hp : o1 + p.val < A := lt_of_lt_of_le (Nat.add_lt_add_left p.isLt o1) (inb 0)
  have hj : o2 + j.val < B := lt_of_lt_of_le (Nat.add_lt_add_left j.isLt o2) (inb 1)
  rw [hM.readAt_unread]
  refine Eq.trans (congrArg X ?_) ((h ⟨o1 + p.val, hp⟩ ⟨o2 + j.val, hj⟩).trans (congrArg _ (hy p j hp hj)))
  funext a
  match a with
  | ⟨0, _⟩ => exact Fin.ext (ValueKit.rect_emb_unit_val ..)
  | ⟨1, _⟩ => exact Fin.ext (ValueKit.rect_emb_unit_val ..)

theorem rd3 {sp : Space} {A B C B' C' : ℕ} (M : Memref sig .tc sp ⟨3, ![A, B, C]⟩ .bf16) (hM : M.IsWhole)
    (X : Vec Ideal ⟨3, ![A, B, C]⟩ .bf16) (o1 o2 o3 : ℕ) (inb : ∀ a, (![o1, o2, o3] : Fin 3 → ℕ) a + (![1, B', C'] : Fin 3 → ℕ) a ≤ (⟨3, ![A, B, C]⟩ : Shape).size a)
    {x : Fin A → Fin B → Fin C → ℝ} (h : ∀ p j k, X (ix3 p j k) = ((x p j k : ℝ) : EReal)) {y : Fin B' → Fin C' → ℝ}
    (hy : ∀ (j : Fin B') (k : Fin C') (hp : o1 + 0 < A) (hj : o2 + j.val < B) (hk : o3 + k.val < C), x ⟨o1 + 0, hp⟩ ⟨o2 + j.val, hj⟩ ⟨o3 + k.val, hk⟩ = y j k)
    (j : Fin B') (k : Fin C') :
    View.readAt (Elt Ideal) M.view (Rect.unit (s := ⟨3, ![A, B, C]⟩) ![o1, o2, o3] ![1, B', C'] inb).toLoadRect (hM.unread X) (ix3 (0 : Fin 1) j k) = ((y j k : ℝ) : EReal) := by
  have hp : o1 + 0 < A := lt_of_lt_of_le (Nat.lt_succ_self o1) (inb 0)
  have hj : o2 + j.val < B := lt_of_lt_of_le (Nat.add_lt_add_left j.isLt o2) (inb 1)
  have hk : o3 + k.val < C := lt_of_lt_of_le (Nat.add_lt_add_left k.isLt o3) (inb 2)
  rw [hM.readAt_unread]
  refine Eq.trans (congrArg X ?_) ((h ⟨o1 + 0, hp⟩ ⟨o2 + j.val, hj⟩ ⟨o3 + k.val, hk⟩).trans (congrArg _ (hy j k hp hj hk)))
  funext a
  match a with
  | ⟨0, _⟩ => exact Fin.ext (ValueKit.rect_emb_unit_val ..)
  | ⟨1, _⟩ => exact Fin.ext (ValueKit.rect_emb_unit_val ..)
  | ⟨2, _⟩ => exact Fin.ext (ValueKit.rect_emb_unit_val ..)

/-! ## The columns, in the four runs the block works on -/

abbrev lo (n : Fin 1536) : Fin 2816 := ⟨n.val, by omega⟩
abbrev hi (n : Fin 1280) : Fin 2816 := ⟨1536 + n.val, by omega⟩
abbrev e1 (n : Fin 1536) : Fin 5632 := ⟨n.val, by omega⟩
abbrev e2 (n : Fin 1280) : Fin 5632 := ⟨1536 + n.val, by omega⟩
abbrev e3 (n : Fin 1536) : Fin 5632 := ⟨2816 + n.val, by omega⟩
abbrev e4 (n : Fin 1280) : Fin 5632 := ⟨4352 + n.val, by omega⟩

theorem sum_runs (f : Fin 5632 → ℝ) :
    ∑ n, f n = ∑ n, f (e1 n) + ∑ n, f (e3 n) + ∑ n, f (e2 n) + ∑ n, f (e4 n) := by
  have h1 : ∑ n, f n = ∑ n : Fin 2816, f ⟨n.val, by omega⟩ + ∑ n : Fin 2816, f ⟨2816 + n.val, by omega⟩ :=
    Fin.sum_univ_add (a := 2816) (b := 2816) (fun n : Fin (2816 + 2816) => f ⟨n.val, n.isLt⟩)
  have h2 : ∑ n : Fin 2816, f ⟨n.val, by omega⟩ = ∑ n, f (e1 n) + ∑ n, f (e2 n) :=
    Fin.sum_univ_add (a := 1536) (b := 1280) (fun n : Fin (1536 + 1280) => f ⟨n.val, by omega⟩)
  have h3 : ∑ n : Fin 2816, f ⟨2816 + n.val, by omega⟩ = ∑ n, f (e3 n) + ∑ n, f (e4 n) := by
    refine (Fin.sum_univ_add (a := 1536) (b := 1280) (fun n : Fin (1536 + 1280) => f ⟨2816 + n.val, by omega⟩)).trans ?_
    refine congrArg₂ (· + ·) rfl (Finset.sum_congr rfl fun n _ => congrArg f (Fin.ext ?_))
    show 2816 + (1536 + n.val) = 4352 + n.val
    omega
  rw [h1, h2, h3]; ring

theorem rowDgu_1 (d : Fin 1024 → ℝ) (gu : Fin 5632 → ℝ) (wo : Fin 2816 → Fin 1024 → ℝ) (n : Fin 1536) :
    rowDgu d gu wo (e1 n) = dGate (∑ j, d j * wo (lo n) j) (gu (e1 n)) (gu (e3 n)) := rowDgu_gate d gu wo (lo n)
theorem rowDgu_2 (d : Fin 1024 → ℝ) (gu : Fin 5632 → ℝ) (wo : Fin 2816 → Fin 1024 → ℝ) (n : Fin 1280) :
    rowDgu d gu wo (e2 n) = dGate (∑ j, d j * wo (hi n) j) (gu (e2 n)) (gu (e4 n)) := by
  refine (rowDgu_gate d gu wo (hi n)).trans (congrArg (fun z => dGate _ _ (gu z)) (Fin.ext ?_))
  show 2816 + (1536 + n.val) = 4352 + n.val
  omega
theorem rowDgu_3 (d : Fin 1024 → ℝ) (gu : Fin 5632 → ℝ) (wo : Fin 2816 → Fin 1024 → ℝ) (n : Fin 1536) :
    rowDgu d gu wo (e3 n) = dUp (∑ j, d j * wo (lo n) j) (gu (e1 n)) := rowDgu_up d gu wo (lo n)
theorem rowDgu_4 (d : Fin 1024 → ℝ) (gu : Fin 5632 → ℝ) (wo : Fin 2816 → Fin 1024 → ℝ) (n : Fin 1280) :
    rowDgu d gu wo (e4 n) = dUp (∑ j, d j * wo (hi n) j) (gu (e2 n)) := by
  refine Eq.trans (congrArg (rowDgu d gu wo) (Fin.ext ?_)) (rowDgu_up d gu wo (hi n))
  show 4352 + n.val = 2816 + (1536 + n.val)
  omega

/-! ## The product that runs over all columns -/

theorem dh_apply (x1 x2 : Vec Ideal S256x1024 .f32) (x6 : Vec Ideal S1x1024 .f32) (w1 : Vec Ideal S1536x1024 .bf16) (w2 : Vec Ideal S1280x1024 .bf16)
    (g1 u1 : Vec Ideal S256x1536 .bf16) (g2 u2 : Vec Ideal S256x1280 .bf16) (v1 v2 : Vec Ideal S1x1024x1536 .bf16) (v3 v4 : Vec Ideal S1x1024x1280 .bf16)
    {d f : Fin 256 → Fin 1024 → ℝ} {γ : Fin 1 → Fin 1024 → ℝ} {gu : Fin 256 → Fin 5632 → ℝ} {wo : Fin 2816 → Fin 1024 → ℝ} {wi : Fin 1024 → Fin 5632 → ℝ}
    (h1 : Is x1 d) (h2 : Is x2 f) (h6 : Is x6 γ) (hw1 : Is w1 fun n => wo (lo n)) (hw2 : Is w2 fun n => wo (hi n))
    (hg1 : Is g1 fun p n => gu p (e1 n)) (hu1 : Is u1 fun p n => gu p (e3 n)) (hg2 : Is g2 fun p n => gu p (e2 n)) (hu2 : Is u2 fun p n => gu p (e4 n))
    (hv1 : ∀ k n, v1 (ix3 0 k n) = ((wi k (e1 n) : ℝ) : EReal)) (hv2 : ∀ k n, v2 (ix3 0 k n) = ((wi k (e3 n) : ℝ) : EReal))
    (hv3 : ∀ k n, v3 (ix3 0 k n) = ((wi k (e2 n) : ℝ) : EReal)) (hv4 : ∀ k n, v4 (ix3 0 k n) = ((wi k (e4 n) : ℝ) : EReal)) :
    Is (k0_pay64 (k0_pay55 (k0_pay52 (k0_pay44 x1 x2 x6) w1 g1) (k0_pay54 (k0_pay44 x1 x2 x6) k0_pay45 w1 g1 u1 v1) v2)
        (k0_pay62 (k0_pay44 x1 x2 x6) w2 g2) (k0_pay63 (k0_pay44 x1 x2 x6) w2 g2 u2) v3 v4)
      fun p => rowDh (back (d p) (f p) (γ 0)) (gu p) wo wi := by
  have hd : Is (k0_pay44 x1 x2 x6) fun p => back (d p) (f p) (γ 0) := df_apply x1 x2 x6 h1 h2 h6
  intro p k
  refine (dh3_apply _ _ _ _ _ (dh2_apply _ _ _ (dh1_apply _ _ _ _ _ _ zero45 (dgate1536_apply _ _ hd hw1 _ _ hg1 hu1) hv1)
    (dup1536_apply _ _ hd hw1 _ hg1) hv2) (dup1280_apply _ _ hd hw2 _ hg2) (dgate1280_apply _ _ hd hw2 _ _ hg2 hu2) hv3 hv4 p k).trans
    (congrArg _ ?_)
  show _ = ∑ n, rowDgu (back (d p) (f p) (γ 0)) (gu p) wo n * wi k n
  rw [sum_runs]
  simp only [rowDgu_1, rowDgu_2, rowDgu_3, rowDgu_4, zero_add]

theorem dgpost_is (x1 x2 : Vec Ideal S256x1024 .f32) (g : Vec Ideal S1x1024 .f32) {a b : Fin 256 → Fin 1024 → ℝ} {γ : Fin 1 → Fin 1024 → ℝ} (h1 : Is x1 a) (h2 : Is x2 b) (h3 : Is g γ) :
    Is (k0_pay43 x1 x2 g) fun _ j => γ 0 j + ∑ p, a p j * (b p j * rr (b p)) := fun p j => by
  obtain rfl : p = 0 := Subsingleton.elim p 0
  exact dgpost_apply x1 x2 g h1 h2 h3 j

theorem dgpre_is (z : FVec Ideal S256x1024 .f32) (a b : FVec Ideal S256x1280 .bf16) (v w : Vec Ideal S1x1024x1280 .bf16) (x3 : Vec Ideal S256x1024 .f32) (y : Vec Ideal S1x1024 .f32) {η β : Fin 256 → Fin 1024 → ℝ} {γ : Fin 1 → Fin 1024 → ℝ}
    (he : Is (k0_pay64 z a b v w) η) (h3 : Is x3 β) (hy : Is y γ) :
    Is (k0_pay7 (k0_pay69 z a b v w x3) y) fun _ j => γ 0 j + ∑ p, η p j * (β p j * rr (β p)) := fun p j => by
  obtain rfl : p = 0 := Subsingleton.elim p 0
  exact dgpre_apply z a b v w x3 y he h3 hy j

/-! ## The pieces of a real array -/

abbrev realOf {A B : ℕ} (r : Fin A → Fin B → ℝ) : (⟨2, ![A, B]⟩ : Shape).Idx → EReal := fun i => ((r (i 0) (i 1) : ℝ) : EReal)

theorem piece_of {A B A' B' : ℕ} (o1 o2 : ℕ) (inb : ∀ a, (![o1, o2] : Fin 2 → ℕ) a + (![A', B'] : Fin 2 → ℕ) a ≤ (⟨2, ![A, B]⟩ : Shape).size a)
    {v : (⟨2, ![A', B']⟩ : Shape).Idx → EReal} {w : Fin A' → Fin B' → ℝ} (hv : Is v w) (r : Fin A → Fin B → ℝ)
    (hr : ∀ (p : Fin A') (j : Fin B') (hp : o1 + p.val < A) (hj : o2 + j.val < B), w p j = r ⟨o1 + p.val, hp⟩ ⟨o2 + j.val, hj⟩)
    (x : (Rect.unit (s := ⟨2, ![A, B]⟩) ![o1, o2] ![A', B'] inb).shape.Idx) :
    v x = realOf r ((Rect.unit (s := ⟨2, ![A, B]⟩) ![o1, o2] ![A', B'] inb).emb x) := by
  obtain ⟨p, j, rfl⟩ : ∃ (p : Fin A') (j : Fin B'), x = ix2 p j := ⟨x 0, x 1, eq_ix2 x⟩
  have hp : o1 + p.val < A := lt_of_lt_of_le (Nat.add_lt_add_left p.isLt o1) (inb 0)
  have hj : o2 + j.val < B := lt_of_lt_of_le (Nat.add_lt_add_left j.isLt o2) (inb 1)
  have e : (Rect.unit (s := ⟨2, ![A, B]⟩) ![o1, o2] ![A', B'] inb).emb (ix2 p j) = ix2 (⟨o1 + p.val, hp⟩ : Fin A) (⟨o2 + j.val, hj⟩ : Fin B) := by
    funext a
    match a with
    | ⟨0, _⟩ => exact Fin.ext (ValueKit.rect_emb_unit_val ..)
    | ⟨1, _⟩ => exact Fin.ext (ValueKit.rect_emb_unit_val ..)
  exact (hv p j).trans ((congrArg _ (hr p j hp hj)).trans (congrArg (realOf r) e).symm)

theorem fill_pieces {sp : Space} {S : Shape} {e : EltTy} (M : Memref sig .tc sp S e) (G : Vec Ideal S e) (L : List (View.Piece (Elt Ideal) S e))
    (h : View.PiecesOf G L) (hc : ∀ y, ∃ p ∈ L, y ∈ p.1.set) : fill M L = G := by
  refine (View.read_writes_eq_canon _ _ _ hc).trans (funext fun y => ?_)
  exact (congrArg (fun l => View.canon l y) (List.append_nil L).symm).trans (View.canon_append_of_piecesOf G [] L h y (hc y))

theorem fill_head {sp : Space} {S : Shape} {e : EltTy} (M : Memref sig .tc sp S e) (G : Vec Ideal S e) (q : View.Piece (Elt Ideal) S e) (L : List (View.Piece (Elt Ideal) S e))
    (h : ∀ x, q.2 x = G (q.1.emb x)) (hc : ∀ y, ∃ p ∈ [q], y ∈ p.1.set) : fill M (q :: L) = G := by
  refine (View.read_writes_eq_canon _ _ _ fun y => ?_).trans (funext fun y => ?_)
  · obtain ⟨p, hp, hy⟩ := hc y
    exact ⟨p, List.mem_cons.mpr (.inl (List.mem_singleton.mp hp)), hy⟩
  · exact View.canon_append_of_piecesOf G L [q] ⟨h, trivial⟩ y (hc y)

theorem leftLater_dxm (m : (ℓ : Loc nD τ sig) → Buf (Elt Ideal) ℓ) (c : Dev nD) (t : Fin cfg0.N) (h : t.val ≠ 0) (y14 y15 : Vec Ideal S1x1024 .f32) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftLater m c t h y14 y15).dxm = realOf (A := 256) (fun p k => d p k + back (rowDh (back (d p) (f p) (g6 0)) (gu p) wo wi) (x p) (g5 0) k) := by
  refine fill_pieces _ (realOf (A := 256) (fun p k => d p k + back (rowDh (back (d p) (f p) (g6 0)) (gu p) wo wi) (x p) (g5 0) k)) _ ?_ (coverLater_dxm m c t h y14 y15)
  unfold later runLater; dsimp only; sl_open_run
  refine ⟨piece_of (A := 256) (B := 1024) (A' := 256) (B' := 1024) 0 0 inb_S256x1024_S256x1024_0_0 (w := fun p k => d p k + back (rowDh (back (d p) (f p) (g6 0)) (gu p) wo wi) (x p) (g5 0) k) ?_ _ (fun p j _ _ => by simp only [Nat.zero_add, Fin.eta]), trivial⟩
  exact (fun p j => dxm_apply _ _ _ _ (rd2f (y := d) _ (hs0_0 t) _ 0 0 _ hx1 (fun p j _ _ => by simp only [Nat.zero_add, Fin.eta])) (dh_apply _ _ _ _ _ _ _ _ _ _ _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta])) (rd2h (y := fun n => wo (lo n)) _ (Memref.isWhole_whole cc0_scratch1) _ 0 0 _ hO (fun p j _ _ => congrArg₂ wo (Fin.ext (by simp only [lo, Nat.zero_add])) (Fin.ext (Nat.zero_add _)))) (rd2h (y := fun n => wo (hi n)) _ (Memref.isWhole_whole cc0_scratch1) _ 1536 0 _ hO (fun p j _ _ => congrArg₂ wo (Fin.ext (by simp only [hi, Nat.zero_add])) (Fin.ext (Nat.zero_add _)))) (rd2h (y := fun p n => gu p (e1 n)) _ (hs0_3 t) _ 0 0 _ hx4 (fun p j _ _ => congrArg₂ gu (Fin.ext (Nat.zero_add _)) (Fin.ext (by simp only [e1, Nat.zero_add])))) (rd2h (y := fun p n => gu p (e3 n)) _ (hs0_3 t) _ 0 2816 _ hx4 (fun p j _ _ => congrArg₂ gu (Fin.ext (Nat.zero_add _)) (Fin.ext (by simp only [e3, Nat.zero_add])))) (rd2h (y := fun p n => gu p (e2 n)) _ (hs0_3 t) _ 0 1536 _ hx4 (fun p j _ _ => congrArg₂ gu (Fin.ext (Nat.zero_add _)) (Fin.ext (by simp only [e2, Nat.zero_add])))) (rd2h (y := fun p n => gu p (e4 n)) _ (hs0_3 t) _ 0 4352 _ hx4 (fun p j _ _ => congrArg₂ gu (Fin.ext (Nat.zero_add _)) (Fin.ext (by simp only [e4, Nat.zero_add])))) (rd3 (y := fun k n => wi k (e1 n)) _ (Memref.isWhole_whole cc0_scratch0) _ 0 0 0 _ hI (fun j k _ _ _ => congrArg₂ wi (Fin.ext (Nat.zero_add _)) (Fin.ext (by simp only [e1]; omega)))) (rd3 (y := fun k n => wi k (e3 n)) _ (Memref.isWhole_whole cc0_scratch0) _ 1 0 0 _ hI (fun j k _ _ _ => congrArg₂ wi (Fin.ext (Nat.zero_add _)) (Fin.ext (by simp only [e3]; omega)))) (rd3 (y := fun k n => wi k (e2 n)) _ (Memref.isWhole_whole cc0_scratch0) _ 0 0 1536 _ hI (fun j k _ _ _ => congrArg₂ wi (Fin.ext (Nat.zero_add _)) (Fin.ext (by simp only [e2]; omega)))) (rd3 (y := fun k n => wi k (e4 n)) _ (Memref.isWhole_whole cc0_scratch0) _ 1 0 1536 _ hI (fun j k _ _ _ => congrArg₂ wi (Fin.ext (Nat.zero_add _)) (Fin.ext (by simp only [e4]; omega))))) (rd2f (y := x) _ (hs0_2 t) _ 0 0 _ hx3 (fun p j _ _ => by simp only [Nat.zero_add, Fin.eta])) (rd2f (y := g5) _ (hs0_4 t) _ 0 0 _ hx5 (fun p j _ _ => by simp only [Nat.zero_add, Fin.eta])) p j)

theorem leftFirst_dxm (m : (ℓ : Loc nD τ sig) → Buf (Elt Ideal) ℓ) (c : Dev nD) (t : Fin cfg0.N) (h : t.val = 0) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftFirst m c t h).dxm = realOf (A := 256) (fun p k => d p k + back (rowDh (back (d p) (f p) (g6 0)) (gu p) wo wi) (x p) (g5 0) k) := by
  refine fill_pieces _ (realOf (A := 256) (fun p k => d p k + back (rowDh (back (d p) (f p) (g6 0)) (gu p) wo wi) (x p) (g5 0) k)) _ ?_ (coverFirst_dxm m c t h)
  unfold first runFirst; dsimp only; sl_open_run
  simp only [pay12_eq, pay13_eq, pay14_eq, pay20_eq, pay21_eq, pay24_eq, pay25_eq, pay26_eq, pay32_eq, pay33_eq, pay34_eq, pay35_eq, pay37_eq, pay5_eq, pay6_eq]
  refine ⟨piece_of (A := 256) (B := 1024) (A' := 256) (B' := 1024) 0 0 inb_S256x1024_S256x1024_0_0 (w := fun p k => d p k + back (rowDh (back (d p) (f p) (g6 0)) (gu p) wo wi) (x p) (g5 0) k) ?_ _ (fun p j _ _ => by simp only [Nat.zero_add, Fin.eta]), trivial⟩
  exact (fun p j => dxm_apply _ _ _ _ (rd2f (y := d) _ (hs0_0 t) _ 0 0 _ hx1 (fun p j _ _ => by simp only [Nat.zero_add, Fin.eta])) (dh_apply _ _ _ _ _ _ _ _ _ _ _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta])) (rd2h (y := fun n => wo (lo n)) _ (Memref.isWhole_whole cc0_scratch1) _ 0 0 _ hO (fun p j _ _ => congrArg₂ wo (Fin.ext (by simp only [lo, Nat.zero_add])) (Fin.ext (Nat.zero_add _)))) (rd2h (y := fun n => wo (hi n)) _ (Memref.isWhole_whole cc0_scratch1) _ 1536 0 _ hO (fun p j _ _ => congrArg₂ wo (Fin.ext (by simp only [hi, Nat.zero_add])) (Fin.ext (Nat.zero_add _)))) (rd2h (y := fun p n => gu p (e1 n)) _ (hs0_3 t) _ 0 0 _ hx4 (fun p j _ _ => congrArg₂ gu (Fin.ext (Nat.zero_add _)) (Fin.ext (by simp only [e1, Nat.zero_add])))) (rd2h (y := fun p n => gu p (e3 n)) _ (hs0_3 t) _ 0 2816 _ hx4 (fun p j _ _ => congrArg₂ gu (Fin.ext (Nat.zero_add _)) (Fin.ext (by simp only [e3, Nat.zero_add])))) (rd2h (y := fun p n => gu p (e2 n)) _ (hs0_3 t) _ 0 1536 _ hx4 (fun p j _ _ => congrArg₂ gu (Fin.ext (Nat.zero_add _)) (Fin.ext (by simp only [e2, Nat.zero_add])))) (rd2h (y := fun p n => gu p (e4 n)) _ (hs0_3 t) _ 0 4352 _ hx4 (fun p j _ _ => congrArg₂ gu (Fin.ext (Nat.zero_add _)) (Fin.ext (by simp only [e4, Nat.zero_add])))) (rd3 (y := fun k n => wi k (e1 n)) _ (Memref.isWhole_whole cc0_scratch0) _ 0 0 0 _ hI (fun j k _ _ _ => congrArg₂ wi (Fin.ext (Nat.zero_add _)) (Fin.ext (by simp only [e1]; omega)))) (rd3 (y := fun k n => wi k (e3 n)) _ (Memref.isWhole_whole cc0_scratch0) _ 1 0 0 _ hI (fun j k _ _ _ => congrArg₂ wi (Fin.ext (Nat.zero_add _)) (Fin.ext (by simp only [e3]; omega)))) (rd3 (y := fun k n => wi k (e2 n)) _ (Memref.isWhole_whole cc0_scratch0) _ 0 0 1536 _ hI (fun j k _ _ _ => congrArg₂ wi (Fin.ext (Nat.zero_add _)) (Fin.ext (by simp only [e2]; omega)))) (rd3 (y := fun k n => wi k (e4 n)) _ (Memref.isWhole_whole cc0_scratch0) _ 1 0 1536 _ hI (fun j k _ _ _ => congrArg₂ wi (Fin.ext (Nat.zero_add _)) (Fin.ext (by simp only [e4]; omega))))) (rd2f (y := x) _ (hs0_2 t) _ 0 0 _ hx3 (fun p j _ _ => by simp only [Nat.zero_add, Fin.eta])) (rd2f (y := g5) _ (hs0_4 t) _ 0 0 _ hx5 (fun p j _ _ => by simp only [Nat.zero_add, Fin.eta])) p j)

theorem leftLater_df (m : (ℓ : Loc nD τ sig) → Buf (Elt Ideal) ℓ) (c : Dev nD) (t : Fin cfg0.N) (h : t.val ≠ 0) (y14 y15 : Vec Ideal S1x1024 .f32) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftLater m c t h y14 y15).df = realOf (A := 256) (fun p => back (d p) (f p) (g6 0)) := by
  refine fill_pieces _ (realOf (A := 256) (fun p => back (d p) (f p) (g6 0))) _ ?_ (coverLater_df m c t h y14 y15)
  unfold later runLater; dsimp only; sl_open_run
  refine ⟨piece_of (A := 256) (B := 1024) (A' := 256) (B' := 1024) 0 0 inb_S256x1024_S256x1024_0_0 (w := fun p => back (d p) (f p) (g6 0)) ?_ _ (fun p j _ _ => by simp only [Nat.zero_add, Fin.eta]), trivial⟩
  exact (df_apply _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta])))

theorem leftFirst_df (m : (ℓ : Loc nD τ sig) → Buf (Elt Ideal) ℓ) (c : Dev nD) (t : Fin cfg0.N) (h : t.val = 0) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftFirst m c t h).df = realOf (A := 256) (fun p => back (d p) (f p) (g6 0)) := by
  refine fill_pieces _ (realOf (A := 256) (fun p => back (d p) (f p) (g6 0))) _ ?_ (coverFirst_df m c t h)
  unfold first runFirst; dsimp only; sl_open_run
  simp only [pay12_eq, pay13_eq, pay14_eq, pay20_eq, pay21_eq, pay24_eq, pay25_eq, pay26_eq, pay32_eq, pay33_eq, pay34_eq, pay35_eq, pay37_eq, pay5_eq, pay6_eq]
  refine ⟨piece_of (A := 256) (B := 1024) (A' := 256) (B' := 1024) 0 0 inb_S256x1024_S256x1024_0_0 (w := fun p => back (d p) (f p) (g6 0)) ?_ _ (fun p j _ _ => by simp only [Nat.zero_add, Fin.eta]), trivial⟩
  exact (df_apply _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta])))

theorem leftLater_act (m : (ℓ : Loc nD τ sig) → Buf (Elt Ideal) ℓ) (c : Dev nD) (t : Fin cfg0.N) (h : t.val ≠ 0) (y14 y15 : Vec Ideal S1x1024 .f32) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftLater m c t h y14 y15).act = realOf (A := 256) (fun p => rowAct (gu p)) := by
  refine fill_pieces _ (realOf (A := 256) (fun p => rowAct (gu p))) _ ?_ (coverLater_act m c t h y14 y15)
  unfold later runLater; dsimp only; sl_open_run
  refine ⟨piece_of (A := 256) (B := 2816) (A' := 256) (B' := 1280) 0 1536 inb_S256x2816_S256x1280_0_1536 (w := fun p n => gated (gu p (e2 n)) (gu p (e4 n))) ?_ _ (fun p j _ _ => by simp only [Nat.zero_add, Fin.eta, rowAct]; rw [show e4 j = ⟨2816 + (1536 + j.val), by omega⟩ from Fin.ext (by simp only [e4]; omega)]), piece_of (A := 256) (B := 2816) (A' := 256) (B' := 1536) 0 0 inb_S256x2816_S256x1536_0_0 (w := fun p n => gated (gu p (e1 n)) (gu p (e3 n))) ?_ _ (fun p j _ _ => by simp only [Nat.zero_add, Fin.eta]; rfl), trivial⟩
  · exact (act1280_apply _ _ (rd2h (y := fun p n => gu p (e2 n)) _ (hs0_3 t) _ 0 1536 _ hx4 (fun p j _ _ => congrArg₂ gu (Fin.ext (Nat.zero_add _)) (Fin.ext (by simp only [e2, Nat.zero_add])))) (rd2h (y := fun p n => gu p (e4 n)) _ (hs0_3 t) _ 0 4352 _ hx4 (fun p j _ _ => congrArg₂ gu (Fin.ext (Nat.zero_add _)) (Fin.ext (by simp only [e4, Nat.zero_add])))))
  · exact (act1536_apply _ _ (rd2h (y := fun p n => gu p (e1 n)) _ (hs0_3 t) _ 0 0 _ hx4 (fun p j _ _ => congrArg₂ gu (Fin.ext (Nat.zero_add _)) (Fin.ext (by simp only [e1, Nat.zero_add])))) (rd2h (y := fun p n => gu p (e3 n)) _ (hs0_3 t) _ 0 2816 _ hx4 (fun p j _ _ => congrArg₂ gu (Fin.ext (Nat.zero_add _)) (Fin.ext (by simp only [e3, Nat.zero_add])))))

theorem leftFirst_act (m : (ℓ : Loc nD τ sig) → Buf (Elt Ideal) ℓ) (c : Dev nD) (t : Fin cfg0.N) (h : t.val = 0) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftFirst m c t h).act = realOf (A := 256) (fun p => rowAct (gu p)) := by
  refine fill_pieces _ (realOf (A := 256) (fun p => rowAct (gu p))) _ ?_ (coverFirst_act m c t h)
  unfold first runFirst; dsimp only; sl_open_run
  simp only [pay12_eq, pay13_eq, pay14_eq, pay20_eq, pay21_eq, pay24_eq, pay25_eq, pay26_eq, pay32_eq, pay33_eq, pay34_eq, pay35_eq, pay37_eq, pay5_eq, pay6_eq]
  refine ⟨piece_of (A := 256) (B := 2816) (A' := 256) (B' := 1280) 0 1536 inb_S256x2816_S256x1280_0_1536 (w := fun p n => gated (gu p (e2 n)) (gu p (e4 n))) ?_ _ (fun p j _ _ => by simp only [Nat.zero_add, Fin.eta, rowAct]; rw [show e4 j = ⟨2816 + (1536 + j.val), by omega⟩ from Fin.ext (by simp only [e4]; omega)]), piece_of (A := 256) (B := 2816) (A' := 256) (B' := 1536) 0 0 inb_S256x2816_S256x1536_0_0 (w := fun p n => gated (gu p (e1 n)) (gu p (e3 n))) ?_ _ (fun p j _ _ => by simp only [Nat.zero_add, Fin.eta]; rfl), trivial⟩
  · exact (act1280_apply _ _ (rd2h (y := fun p n => gu p (e2 n)) _ (hs0_3 t) _ 0 1536 _ hx4 (fun p j _ _ => congrArg₂ gu (Fin.ext (Nat.zero_add _)) (Fin.ext (by simp only [e2, Nat.zero_add])))) (rd2h (y := fun p n => gu p (e4 n)) _ (hs0_3 t) _ 0 4352 _ hx4 (fun p j _ _ => congrArg₂ gu (Fin.ext (Nat.zero_add _)) (Fin.ext (by simp only [e4, Nat.zero_add])))))
  · exact (act1536_apply _ _ (rd2h (y := fun p n => gu p (e1 n)) _ (hs0_3 t) _ 0 0 _ hx4 (fun p j _ _ => congrArg₂ gu (Fin.ext (Nat.zero_add _)) (Fin.ext (by simp only [e1, Nat.zero_add])))) (rd2h (y := fun p n => gu p (e3 n)) _ (hs0_3 t) _ 0 2816 _ hx4 (fun p j _ _ => congrArg₂ gu (Fin.ext (Nat.zero_add _)) (Fin.ext (by simp only [e3, Nat.zero_add])))))

theorem leftLater_dgu (m : (ℓ : Loc nD τ sig) → Buf (Elt Ideal) ℓ) (c : Dev nD) (t : Fin cfg0.N) (h : t.val ≠ 0) (y14 y15 : Vec Ideal S1x1024 .f32) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftLater m c t h y14 y15).dgu = realOf (A := 256) (fun p => rowDgu (back (d p) (f p) (g6 0)) (gu p) wo) := by
  refine fill_pieces _ (realOf (A := 256) (fun p => rowDgu (back (d p) (f p) (g6 0)) (gu p) wo)) _ ?_ (coverLater_dgu m c t h y14 y15)
  unfold later runLater; dsimp only; sl_open_run
  refine ⟨piece_of (A := 256) (B := 5632) (A' := 256) (B' := 1280) 0 4352 inb_S256x5632_S256x1280_0_4352 (w := fun p n => dUp (∑ j, back (d p) (f p) (g6 0) j * wo (hi n) j) (gu p (e2 n))) ?_ _ (fun p j _ _ => by simp only [Nat.zero_add, Fin.eta]; exact (rowDgu_4 _ _ _ j).symm), piece_of (A := 256) (B := 5632) (A' := 256) (B' := 1280) 0 1536 inb_S256x5632_S256x1280_0_1536 (w := fun p n => dGate (∑ j, back (d p) (f p) (g6 0) j * wo (hi n) j) (gu p (e2 n)) (gu p (e4 n))) ?_ _ (fun p j _ _ => by simp only [Nat.zero_add, Fin.eta]; exact (rowDgu_2 _ _ _ j).symm), piece_of (A := 256) (B := 5632) (A' := 256) (B' := 1536) 0 2816 inb_S256x5632_S256x1536_0_2816 (w := fun p n => dUp (∑ j, back (d p) (f p) (g6 0) j * wo (lo n) j) (gu p (e1 n))) ?_ _ (fun p j _ _ => by simp only [Nat.zero_add, Fin.eta]; exact (rowDgu_3 _ _ _ j).symm), piece_of (A := 256) (B := 5632) (A' := 256) (B' := 1536) 0 0 inb_S256x5632_S256x1536_0_0 (w := fun p n => dGate (∑ j, back (d p) (f p) (g6 0) j * wo (lo n) j) (gu p (e1 n)) (gu p (e3 n))) ?_ _ (fun p j _ _ => by simp only [Nat.zero_add, Fin.eta]; exact (rowDgu_1 _ _ _ j).symm), trivial⟩
  · exact (dup1280_apply _ _ (df_apply _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta]))) (rd2h (y := fun n => wo (hi n)) _ (Memref.isWhole_whole cc0_scratch1) _ 1536 0 _ hO (fun p j _ _ => congrArg₂ wo (Fin.ext (by simp only [hi, Nat.zero_add])) (Fin.ext (Nat.zero_add _)))) _ (rd2h (y := fun p n => gu p (e2 n)) _ (hs0_3 t) _ 0 1536 _ hx4 (fun p j _ _ => congrArg₂ gu (Fin.ext (Nat.zero_add _)) (Fin.ext (by simp only [e2, Nat.zero_add])))))
  · exact (dgate1280_apply _ _ (df_apply _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta]))) (rd2h (y := fun n => wo (hi n)) _ (Memref.isWhole_whole cc0_scratch1) _ 1536 0 _ hO (fun p j _ _ => congrArg₂ wo (Fin.ext (by simp only [hi, Nat.zero_add])) (Fin.ext (Nat.zero_add _)))) _ _ (rd2h (y := fun p n => gu p (e2 n)) _ (hs0_3 t) _ 0 1536 _ hx4 (fun p j _ _ => congrArg₂ gu (Fin.ext (Nat.zero_add _)) (Fin.ext (by simp only [e2, Nat.zero_add])))) (rd2h (y := fun p n => gu p (e4 n)) _ (hs0_3 t) _ 0 4352 _ hx4 (fun p j _ _ => congrArg₂ gu (Fin.ext (Nat.zero_add _)) (Fin.ext (by simp only [e4, Nat.zero_add])))))
  · exact (dup1536_apply _ _ (df_apply _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta]))) (rd2h (y := fun n => wo (lo n)) _ (Memref.isWhole_whole cc0_scratch1) _ 0 0 _ hO (fun p j _ _ => congrArg₂ wo (Fin.ext (by simp only [lo, Nat.zero_add])) (Fin.ext (Nat.zero_add _)))) _ (rd2h (y := fun p n => gu p (e1 n)) _ (hs0_3 t) _ 0 0 _ hx4 (fun p j _ _ => congrArg₂ gu (Fin.ext (Nat.zero_add _)) (Fin.ext (by simp only [e1, Nat.zero_add])))))
  · exact (dgate1536_apply _ _ (df_apply _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta]))) (rd2h (y := fun n => wo (lo n)) _ (Memref.isWhole_whole cc0_scratch1) _ 0 0 _ hO (fun p j _ _ => congrArg₂ wo (Fin.ext (by simp only [lo, Nat.zero_add])) (Fin.ext (Nat.zero_add _)))) _ _ (rd2h (y := fun p n => gu p (e1 n)) _ (hs0_3 t) _ 0 0 _ hx4 (fun p j _ _ => congrArg₂ gu (Fin.ext (Nat.zero_add _)) (Fin.ext (by simp only [e1, Nat.zero_add])))) (rd2h (y := fun p n => gu p (e3 n)) _ (hs0_3 t) _ 0 2816 _ hx4 (fun p j _ _ => congrArg₂ gu (Fin.ext (Nat.zero_add _)) (Fin.ext (by simp only [e3, Nat.zero_add])))))

theorem leftFirst_dgu (m : (ℓ : Loc nD τ sig) → Buf (Elt Ideal) ℓ) (c : Dev nD) (t : Fin cfg0.N) (h : t.val = 0) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftFirst m c t h).dgu = realOf (A := 256) (fun p => rowDgu (back (d p) (f p) (g6 0)) (gu p) wo) := by
  refine fill_pieces _ (realOf (A := 256) (fun p => rowDgu (back (d p) (f p) (g6 0)) (gu p) wo)) _ ?_ (coverFirst_dgu m c t h)
  unfold first runFirst; dsimp only; sl_open_run
  simp only [pay12_eq, pay13_eq, pay14_eq, pay20_eq, pay21_eq, pay24_eq, pay25_eq, pay26_eq, pay32_eq, pay33_eq, pay34_eq, pay35_eq, pay37_eq, pay5_eq, pay6_eq]
  refine ⟨piece_of (A := 256) (B := 5632) (A' := 256) (B' := 1280) 0 4352 inb_S256x5632_S256x1280_0_4352 (w := fun p n => dUp (∑ j, back (d p) (f p) (g6 0) j * wo (hi n) j) (gu p (e2 n))) ?_ _ (fun p j _ _ => by simp only [Nat.zero_add, Fin.eta]; exact (rowDgu_4 _ _ _ j).symm), piece_of (A := 256) (B := 5632) (A' := 256) (B' := 1280) 0 1536 inb_S256x5632_S256x1280_0_1536 (w := fun p n => dGate (∑ j, back (d p) (f p) (g6 0) j * wo (hi n) j) (gu p (e2 n)) (gu p (e4 n))) ?_ _ (fun p j _ _ => by simp only [Nat.zero_add, Fin.eta]; exact (rowDgu_2 _ _ _ j).symm), piece_of (A := 256) (B := 5632) (A' := 256) (B' := 1536) 0 2816 inb_S256x5632_S256x1536_0_2816 (w := fun p n => dUp (∑ j, back (d p) (f p) (g6 0) j * wo (lo n) j) (gu p (e1 n))) ?_ _ (fun p j _ _ => by simp only [Nat.zero_add, Fin.eta]; exact (rowDgu_3 _ _ _ j).symm), piece_of (A := 256) (B := 5632) (A' := 256) (B' := 1536) 0 0 inb_S256x5632_S256x1536_0_0 (w := fun p n => dGate (∑ j, back (d p) (f p) (g6 0) j * wo (lo n) j) (gu p (e1 n)) (gu p (e3 n))) ?_ _ (fun p j _ _ => by simp only [Nat.zero_add, Fin.eta]; exact (rowDgu_1 _ _ _ j).symm), trivial⟩
  · exact (dup1280_apply _ _ (df_apply _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta]))) (rd2h (y := fun n => wo (hi n)) _ (Memref.isWhole_whole cc0_scratch1) _ 1536 0 _ hO (fun p j _ _ => congrArg₂ wo (Fin.ext (by simp only [hi, Nat.zero_add])) (Fin.ext (Nat.zero_add _)))) _ (rd2h (y := fun p n => gu p (e2 n)) _ (hs0_3 t) _ 0 1536 _ hx4 (fun p j _ _ => congrArg₂ gu (Fin.ext (Nat.zero_add _)) (Fin.ext (by simp only [e2, Nat.zero_add])))))
  · exact (dgate1280_apply _ _ (df_apply _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta]))) (rd2h (y := fun n => wo (hi n)) _ (Memref.isWhole_whole cc0_scratch1) _ 1536 0 _ hO (fun p j _ _ => congrArg₂ wo (Fin.ext (by simp only [hi, Nat.zero_add])) (Fin.ext (Nat.zero_add _)))) _ _ (rd2h (y := fun p n => gu p (e2 n)) _ (hs0_3 t) _ 0 1536 _ hx4 (fun p j _ _ => congrArg₂ gu (Fin.ext (Nat.zero_add _)) (Fin.ext (by simp only [e2, Nat.zero_add])))) (rd2h (y := fun p n => gu p (e4 n)) _ (hs0_3 t) _ 0 4352 _ hx4 (fun p j _ _ => congrArg₂ gu (Fin.ext (Nat.zero_add _)) (Fin.ext (by simp only [e4, Nat.zero_add])))))
  · exact (dup1536_apply _ _ (df_apply _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta]))) (rd2h (y := fun n => wo (lo n)) _ (Memref.isWhole_whole cc0_scratch1) _ 0 0 _ hO (fun p j _ _ => congrArg₂ wo (Fin.ext (by simp only [lo, Nat.zero_add])) (Fin.ext (Nat.zero_add _)))) _ (rd2h (y := fun p n => gu p (e1 n)) _ (hs0_3 t) _ 0 0 _ hx4 (fun p j _ _ => congrArg₂ gu (Fin.ext (Nat.zero_add _)) (Fin.ext (by simp only [e1, Nat.zero_add])))))
  · exact (dgate1536_apply _ _ (df_apply _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta]))) (rd2h (y := fun n => wo (lo n)) _ (Memref.isWhole_whole cc0_scratch1) _ 0 0 _ hO (fun p j _ _ => congrArg₂ wo (Fin.ext (by simp only [lo, Nat.zero_add])) (Fin.ext (Nat.zero_add _)))) _ _ (rd2h (y := fun p n => gu p (e1 n)) _ (hs0_3 t) _ 0 0 _ hx4 (fun p j _ _ => congrArg₂ gu (Fin.ext (Nat.zero_add _)) (Fin.ext (by simp only [e1, Nat.zero_add])))) (rd2h (y := fun p n => gu p (e3 n)) _ (hs0_3 t) _ 0 2816 _ hx4 (fun p j _ _ => congrArg₂ gu (Fin.ext (Nat.zero_add _)) (Fin.ext (by simp only [e3, Nat.zero_add])))))

theorem leftLater_h (m : (ℓ : Loc nD τ sig) → Buf (Elt Ideal) ℓ) (c : Dev nD) (t : Fin cfg0.N) (h : t.val ≠ 0) (y14 y15 : Vec Ideal S1x1024 .f32) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftLater m c t h y14 y15).h = realOf (A := 256) (fun p => rowH (x p) (g5 0)) := by
  refine fill_pieces _ (realOf (A := 256) (fun p => rowH (x p) (g5 0))) _ ?_ (coverLater_h m c t h y14 y15)
  unfold later runLater; dsimp only; sl_open_run
  refine ⟨piece_of (A := 256) (B := 1024) (A' := 256) (B' := 1024) 0 0 inb_S256x1024_S256x1024_0_0 (w := fun p => rowH (x p) (g5 0)) ?_ _ (fun p j _ _ => by simp only [Nat.zero_add, Fin.eta]), trivial⟩
  exact (h_apply _ _ (rd2f (y := x) _ (hs0_2 t) _ 0 0 _ hx3 (fun p j _ _ => by simp only [Nat.zero_add, Fin.eta])) (rd2f (y := g5) _ (hs0_4 t) _ 0 0 _ hx5 (fun p j _ _ => by simp only [Nat.zero_add, Fin.eta])))

theorem leftFirst_h (m : (ℓ : Loc nD τ sig) → Buf (Elt Ideal) ℓ) (c : Dev nD) (t : Fin cfg0.N) (h : t.val = 0) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftFirst m c t h).h = realOf (A := 256) (fun p => rowH (x p) (g5 0)) := by
  refine fill_pieces _ (realOf (A := 256) (fun p => rowH (x p) (g5 0))) _ ?_ (coverFirst_h m c t h)
  unfold first runFirst; dsimp only; sl_open_run
  simp only [pay12_eq, pay13_eq, pay14_eq, pay20_eq, pay21_eq, pay24_eq, pay25_eq, pay26_eq, pay32_eq, pay33_eq, pay34_eq, pay35_eq, pay37_eq, pay5_eq, pay6_eq]
  refine ⟨piece_of (A := 256) (B := 1024) (A' := 256) (B' := 1024) 0 0 inb_S256x1024_S256x1024_0_0 (w := fun p => rowH (x p) (g5 0)) ?_ _ (fun p j _ _ => by simp only [Nat.zero_add, Fin.eta]), trivial⟩
  exact (h_apply _ _ (rd2f (y := x) _ (hs0_2 t) _ 0 0 _ hx3 (fun p j _ _ => by simp only [Nat.zero_add, Fin.eta])) (rd2f (y := g5) _ (hs0_4 t) _ 0 0 _ hx5 (fun p j _ _ => by simp only [Nat.zero_add, Fin.eta])))

theorem leftLater_dgpost (m : (ℓ : Loc nD τ sig) → Buf (Elt Ideal) ℓ) (c : Dev nD) (t : Fin cfg0.N) (h : t.val ≠ 0) (y14 y15 : Vec Ideal S1x1024 .f32) {s14 s15 : Fin 1 → Fin 1024 → ℝ} (hy14 : Is y14 s14) (hy15 : Is y15 s15) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftLater m c t h y14 y15).dgpost = realOf (A := 1) (fun _ j => s14 0 j + ∑ p, d p j * (f p j * rr (f p))) := by
  refine fill_pieces _ (realOf (A := 1) (fun _ j => s14 0 j + ∑ p, d p j * (f p j * rr (f p)))) _ ?_ (coverLater_dgpost m c t h y14 y15)
  unfold later runLater; dsimp only; sl_open_run
  refine ⟨piece_of (A := 1) (B := 1024) (A' := 1) (B' := 1024) 0 0 inb_S1x1024_S1x1024_0_0 (w := fun _ j => s14 0 j + ∑ p, d p j * (f p j * rr (f p))) ?_ _ (fun p j _ _ => by simp only [Nat.zero_add, Fin.eta]), trivial⟩
  exact dgpost_is _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := s14) _ (hs0_11 t) _ 0 0 _ hy14 (fun p j _ _ => by simp only [Nat.zero_add, Fin.eta]))

theorem leftFirst_dgpost (m : (ℓ : Loc nD τ sig) → Buf (Elt Ideal) ℓ) (c : Dev nD) (t : Fin cfg0.N) (h : t.val = 0) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftFirst m c t h).dgpost = realOf (A := 1) (fun _ j => 0 + ∑ p, d p j * (f p j * rr (f p))) := by
  show fill _ (first m c t h).1.2.2.2.2.2.1 = _
  unfold first runFirst; dsimp only; sl_open_run
  simp only [pay12_eq, pay13_eq, pay14_eq, pay20_eq, pay21_eq, pay24_eq, pay25_eq, pay26_eq, pay32_eq, pay33_eq, pay34_eq, pay35_eq, pay37_eq, pay5_eq, pay6_eq]
  simp (disch := decide) only [↓ View.readCov_cons_toLoadRect]
  refine fill_head (S := S1x1024) (e := .f32) _ (realOf (A := 1) (fun _ j => 0 + ∑ p, d p j * (f p j * rr (f p)))) _ _ ?_ fun y => View.cover_of_tiledL [_] S1x1024.size (by sl_kernel_rfl) y
  refine piece_of (A := 1) (B := 1024) (A' := 1) (B' := 1024) 0 0 inb_S1x1024_S1x1024_0_0 (w := fun _ j => 0 + ∑ p, d p j * (f p j * rr (f p))) ?_ _ (fun p j _ _ => by simp only [Nat.zero_add, Fin.eta])
  exact dgpost_is _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) zero1

theorem leftLater_dgpre (m : (ℓ : Loc nD τ sig) → Buf (Elt Ideal) ℓ) (c : Dev nD) (t : Fin cfg0.N) (h : t.val ≠ 0) (y14 y15 : Vec Ideal S1x1024 .f32) {s14 s15 : Fin 1 → Fin 1024 → ℝ} (hy14 : Is y14 s14) (hy15 : Is y15 s15) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftLater m c t h y14 y15).dgpre = realOf (A := 1) (fun _ j => s15 0 j + ∑ p, rowDh (back (d p) (f p) (g6 0)) (gu p) wo wi j * (x p j * rr (x p))) := by
  refine fill_pieces _ (realOf (A := 1) (fun _ j => s15 0 j + ∑ p, rowDh (back (d p) (f p) (g6 0)) (gu p) wo wi j * (x p j * rr (x p)))) _ ?_ (coverLater_dgpre m c t h y14 y15)
  unfold later runLater; dsimp only; sl_open_run
  refine ⟨piece_of (A := 1) (B := 1024) (A' := 1) (B' := 1024) 0 0 inb_S1x1024_S1x1024_0_0 (w := fun _ j => s15 0 j + ∑ p, rowDh (back (d p) (f p) (g6 0)) (gu p) wo wi j * (x p j * rr (x p))) ?_ _ (fun p j _ _ => by simp only [Nat.zero_add, Fin.eta]), trivial⟩
  exact dgpre_is _ _ _ _ _ _ _ (dh_apply _ _ _ _ _ _ _ _ _ _ _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta])) (rd2h (y := fun n => wo (lo n)) _ (Memref.isWhole_whole cc0_scratch1) _ 0 0 _ hO (fun p j _ _ => congrArg₂ wo (Fin.ext (by simp only [lo, Nat.zero_add])) (Fin.ext (Nat.zero_add _)))) (rd2h (y := fun n => wo (hi n)) _ (Memref.isWhole_whole cc0_scratch1) _ 1536 0 _ hO (fun p j _ _ => congrArg₂ wo (Fin.ext (by simp only [hi, Nat.zero_add])) (Fin.ext (Nat.zero_add _)))) (rd2h (y := fun p n => gu p (e1 n)) _ (hs0_3 t) _ 0 0 _ hx4 (fun p j _ _ => congrArg₂ gu (Fin.ext (Nat.zero_add _)) (Fin.ext (by simp only [e1, Nat.zero_add])))) (rd2h (y := fun p n => gu p (e3 n)) _ (hs0_3 t) _ 0 2816 _ hx4 (fun p j _ _ => congrArg₂ gu (Fin.ext (Nat.zero_add _)) (Fin.ext (by simp only [e3, Nat.zero_add])))) (rd2h (y := fun p n => gu p (e2 n)) _ (hs0_3 t) _ 0 1536 _ hx4 (fun p j _ _ => congrArg₂ gu (Fin.ext (Nat.zero_add _)) (Fin.ext (by simp only [e2, Nat.zero_add])))) (rd2h (y := fun p n => gu p (e4 n)) _ (hs0_3 t) _ 0 4352 _ hx4 (fun p j _ _ => congrArg₂ gu (Fin.ext (Nat.zero_add _)) (Fin.ext (by simp only [e4, Nat.zero_add])))) (rd3 (y := fun k n => wi k (e1 n)) _ (Memref.isWhole_whole cc0_scratch0) _ 0 0 0 _ hI (fun j k _ _ _ => congrArg₂ wi (Fin.ext (Nat.zero_add _)) (Fin.ext (by simp only [e1]; omega)))) (rd3 (y := fun k n => wi k (e3 n)) _ (Memref.isWhole_whole cc0_scratch0) _ 1 0 0 _ hI (fun j k _ _ _ => congrArg₂ wi (Fin.ext (Nat.zero_add _)) (Fin.ext (by simp only [e3]; omega)))) (rd3 (y := fun k n => wi k (e2 n)) _ (Memref.isWhole_whole cc0_scratch0) _ 0 0 1536 _ hI (fun j k _ _ _ => congrArg₂ wi (Fin.ext (Nat.zero_add _)) (Fin.ext (by simp only [e2]; omega)))) (rd3 (y := fun k n => wi k (e4 n)) _ (Memref.isWhole_whole cc0_scratch0) _ 1 0 1536 _ hI (fun j k _ _ _ => congrArg₂ wi (Fin.ext (Nat.zero_add _)) (Fin.ext (by simp only [e4]; omega))))) (rd2f (y := x) _ (hs0_2 t) _ 0 0 _ hx3 (fun p j _ _ => by simp only [Nat.zero_add, Fin.eta])) (rd2f (y := s15) _ (hs0_12 t) _ 0 0 _ hy15 (fun p j _ _ => by simp only [Nat.zero_add, Fin.eta]))

theorem leftFirst_dgpre (m : (ℓ : Loc nD τ sig) → Buf (Elt Ideal) ℓ) (c : Dev nD) (t : Fin cfg0.N) (h : t.val = 0) {d f x : Fin 256 → Fin 1024 → ℝ} {gu : Fin 256 → Fin 5632 → ℝ} {g5 g6 : Fin 1 → Fin 1024 → ℝ} {wo : Fin 2816 → Fin 1024 → ℝ} {wi : Fin 1024 → Fin 5632 → ℝ}
    (hx1 : Is (iblk m c 0 t) d) (hx2 : Is (iblk m c 1 t) f) (hx3 : Is (iblk m c 2 t) x) (hx4 : Is (iblk m c 3 t) gu) (hx5 : Is (iblk m c 4 t) g5) (hx6 : Is (iblk m c 5 t) g6)
    (hO : Is (wOutAll (vOut m c)) wo) (hI : ∀ (b : Fin 2) (k : Fin 1024) (n : Fin 2816), wInAll (vIn m c) (ix3 b k n) = ((wi k ⟨2816 * b.val + n.val, by omega⟩ : ℝ) : EReal)) :
    (leftFirst m c t h).dgpre = realOf (A := 1) (fun _ j => 0 + ∑ p, rowDh (back (d p) (f p) (g6 0)) (gu p) wo wi j * (x p j * rr (x p))) := by
  show fill _ (first m c t h).1.2.2.2.2.2.2 = _
  unfold first runFirst; dsimp only; sl_open_run
  simp only [pay12_eq, pay13_eq, pay14_eq, pay20_eq, pay21_eq, pay24_eq, pay25_eq, pay26_eq, pay32_eq, pay33_eq, pay34_eq, pay35_eq, pay37_eq, pay5_eq, pay6_eq]
  simp (disch := decide) only [↓ View.readCov_cons_toLoadRect]
  refine fill_head (S := S1x1024) (e := .f32) _ (realOf (A := 1) (fun _ j => 0 + ∑ p, rowDh (back (d p) (f p) (g6 0)) (gu p) wo wi j * (x p j * rr (x p)))) _ _ ?_ fun y => View.cover_of_tiledL [_] S1x1024.size (by sl_kernel_rfl) y
  refine piece_of (A := 1) (B := 1024) (A' := 1) (B' := 1024) 0 0 inb_S1x1024_S1x1024_0_0 (w := fun _ j => 0 + ∑ p, rowDh (back (d p) (f p) (g6 0)) (gu p) wo wi j * (x p j * rr (x p))) ?_ _ (fun p j _ _ => by simp only [Nat.zero_add, Fin.eta])
  exact dgpre_is _ _ _ _ _ _ _ (dh_apply _ _ _ _ _ _ _ _ _ _ _ _ _ (rd2f (y := d) _ (hs0_0 t) _ 0 0 _ hx1 (fun p j _ _ => by simp only [Nat.zero_add, Fin.eta])) (rd2f (y := f) _ (hs0_1 t) _ 0 0 _ hx2 (fun p j _ _ => by simp only [Nat.zero_add, Fin.eta])) (rd2f (y := g6) _ (hs0_5 t) _ 0 0 _ hx6 (fun p j _ _ => by simp only [Nat.zero_add, Fin.eta])) (rd2h (y := fun n => wo (lo n)) _ (Memref.isWhole_whole cc0_scratch1) _ 0 0 _ hO (fun p j _ _ => congrArg₂ wo (Fin.ext (by simp only [lo, Nat.zero_add])) (Fin.ext (Nat.zero_add _)))) (rd2h (y := fun n => wo (hi n)) _ (Memref.isWhole_whole cc0_scratch1) _ 1536 0 _ hO (fun p j _ _ => congrArg₂ wo (Fin.ext (by simp only [hi, Nat.zero_add])) (Fin.ext (Nat.zero_add _)))) (rd2h (y := fun p n => gu p (e1 n)) _ (hs0_3 t) _ 0 0 _ hx4 (fun p j _ _ => congrArg₂ gu (Fin.ext (Nat.zero_add _)) (Fin.ext (by simp only [e1, Nat.zero_add])))) (rd2h (y := fun p n => gu p (e3 n)) _ (hs0_3 t) _ 0 2816 _ hx4 (fun p j _ _ => congrArg₂ gu (Fin.ext (Nat.zero_add _)) (Fin.ext (by simp only [e3, Nat.zero_add])))) (rd2h (y := fun p n => gu p (e2 n)) _ (hs0_3 t) _ 0 1536 _ hx4 (fun p j _ _ => congrArg₂ gu (Fin.ext (Nat.zero_add _)) (Fin.ext (by simp only [e2, Nat.zero_add])))) (rd2h (y := fun p n => gu p (e4 n)) _ (hs0_3 t) _ 0 4352 _ hx4 (fun p j _ _ => congrArg₂ gu (Fin.ext (Nat.zero_add _)) (Fin.ext (by simp only [e4, Nat.zero_add])))) (rd3 (y := fun k n => wi k (e1 n)) _ (Memref.isWhole_whole cc0_scratch0) _ 0 0 0 _ hI (fun j k _ _ _ => congrArg₂ wi (Fin.ext (Nat.zero_add _)) (Fin.ext (by simp only [e1]; omega)))) (rd3 (y := fun k n => wi k (e3 n)) _ (Memref.isWhole_whole cc0_scratch0) _ 1 0 0 _ hI (fun j k _ _ _ => congrArg₂ wi (Fin.ext (Nat.zero_add _)) (Fin.ext (by simp only [e3]; omega)))) (rd3 (y := fun k n => wi k (e2 n)) _ (Memref.isWhole_whole cc0_scratch0) _ 0 0 1536 _ hI (fun j k _ _ _ => congrArg₂ wi (Fin.ext (Nat.zero_add _)) (Fin.ext (by simp only [e2]; omega)))) (rd3 (y := fun k n => wi k (e4 n)) _ (Memref.isWhole_whole cc0_scratch0) _ 1 0 1536 _ hI (fun j k _ _ _ => congrArg₂ wi (Fin.ext (Nat.zero_add _)) (Fin.ext (by simp only [e4]; omega))))) (rd2f (y := x) _ (hs0_2 t) _ 0 0 _ hx3 (fun p j _ _ => by simp only [Nat.zero_add, Fin.eta])) zero2

end Cert.Kernel5Ideal.Ffn

end
-- ==== Proof.FfnHost.lean ====
/- The feed-forward block's forward pass as the host computes it, evaluated on real arguments. -/
module

public import proofs.«01_k».proof.Proof.FfnBlocks
public import Idealize.ShloMosaic.Lib.Pointwise

@[expose] public section

set_option maxRecDepth 16384

noncomputable section

namespace Cert.Kernel5Ideal.Ffn

open Cert.Kernel5Ideal Cert.Kernel5Ideal.Gen Cert.Proof.FfnReal Idealize.ShloMosaic Idealize.ShloMosaic.TcCoe Idealize.SL.Sem

/-- The mean square of each row, plus epsilon. -/
def hostMs (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

/-- The normed rows, -/
def hostH (x : FVec Ideal S4096x1024 .f32) (g : FVec Ideal S1024 .f32) : FVec Ideal S4096x1024 .f32 :=
  mulf (mulf x (broadcastInDim S4096x1024 ![0, 1] bcast_S4096x1_S4096x1024_0_1 (Host.rsqrt (hostMs x))))
    (broadcastInDim S4096x1024 ![0, 1] bcast_S1x1024_S4096x1024_0_1 (broadcastInDim S1x1024 ![1] bcast_S1024_S1x1024_1 g))

/-- the first product, -/
def hostGu (x : FVec Ideal S4096x1024 .f32) (g : FVec Ideal S1024 .f32) (w : FVec Ideal S1024x5632 .f32) : FVec Ideal S4096x5632 .f32 :=
  Host.dotGeneral dot_S4096x1024_S1024x5632_S4096x5632_1_0_0_1_n_n none (hostH x g) w

/-- the gated product, -/
def hostAct (z : FVec Ideal S4096x5632 .f32) : FVec Ideal S4096x2816 .f32 :=
  mulf (mulf (extractStridedSlice S4096x2816 ![0, 0] z slices_S4096x5632_S4096x2816_0_0)
      (Host.divf (broadcastInDim S4096x2816 ![] bcast_S_S4096x2816 (constant S_ .f32 0x3F800000#32))
        (addf (broadcastInDim S4096x2816 ![] bcast_S_S4096x2816 (constant S_ .f32 0x3F800000#32))
          (Host.exp (Host.negf (extractStridedSlice S4096x2816 ![0, 0] z slices_S4096x5632_S4096x2816_0_0))))))
    (extractStridedSlice S4096x2816 ![0, 2816] z slices_S4096x5632_S4096x2816_0_2816)

/-- and the second product. -/
def hostF (a : FVec Ideal S4096x2816 .f32) (w : FVec Ideal S2816x1024 .f32) : FVec Ideal S4096x1024 .f32 :=
  Host.dotGeneral dot_S4096x2816_S2816x1024_S4096x1024_1_0_0_1_n_n none a w

theorem hostMs_apply (x : FVec Ideal S4096x1024 .f32) {a : Fin 4096 → Fin 1024 → ℝ} (hx : Is x a) (p : Fin 4096) (z : Fin 1) :
    hostMs x (ix2 p z) = ((ms (a p) : ℝ) : EReal) := by
  pointwise [hostMs]
  simp only [hx _ _, f32_1024, f32_eps, ← EReal.coe_mul, ← EReal.coe_add, sum_coe, div_1024]
  rfl

theorem hostH_apply (x : FVec Ideal S4096x1024 .f32) (g : FVec Ideal S1024 .f32) {a : Fin 4096 → Fin 1024 → ℝ} {γ : Fin 1024 → ℝ} (hx : Is x a)
    (hg : ∀ j, g (ix1 j) = ((γ j : ℝ) : EReal)) : Is (hostH x g) fun p => rowH (a p) γ := fun p j => by
  pointwise [hostH]
  simp only [hx _ _, hg _, hostMs_apply x hx, rsqrt_real _ (ms_pos _), ← EReal.coe_mul]
  rfl

theorem hostGu_apply (x : FVec Ideal S4096x1024 .f32) (g : FVec Ideal S1024 .f32) (w : FVec Ideal S1024x5632 .f32) {a : Fin 4096 → Fin 1024 → ℝ}
    {γ : Fin 1024 → ℝ} {ω : Fin 1024 → Fin 5632 → ℝ} (hx : Is x a) (hg : ∀ j, g (ix1 j) = ((γ j : ℝ) : EReal)) (hw : Is w ω) :
    Is (hostGu x g w) fun p => rowGu (a p) γ ω := fun p n => by
  pointwise [hostGu]
  simp only [hostH_apply x g hx hg _ _, hw _ _, ← EReal.coe_mul, sum_coe]
  rfl

theorem hostAct_apply (z : FVec Ideal S4096x5632 .f32) {a : Fin 4096 → Fin 5632 → ℝ} (hz : Is z a) : Is (hostAct z) fun p => rowAct (a p) := fun p n => by
  pointwise [hostAct]
  simp only [hz _ _, ← EReal.coe_mul, ← EReal.coe_neg, Ideal.exp_coe, one_add_real, sig_real]
  rfl

theorem hostF_apply (a : FVec Ideal S4096x2816 .f32) (w : FVec Ideal S2816x1024 .f32) {α : Fin 4096 → Fin 2816 → ℝ} {ω : Fin 2816 → Fin 1024 → ℝ}
    (ha : Is a α) (hw : Is w ω) : Is (hostF a w) fun p k => ∑ n, α p n * ω n k := fun p k => by
  pointwise [hostF]
  simp only [ha _ _, hw _ _, ← EReal.coe_mul, sum_coe]

end Cert.Kernel5Ideal.Ffn

end
-- ==== Proof.FfnData.lean ====
/- The feed-forward block's kernel: the blocks a grid point is handed and the weights, on real arguments. -/
module

public import proofs.«01_k».proof.Proof.FfnHost
public import Idealize.ShloMosaic.Lib.Pipeline.ValueKit
public import Idealize.ShloMosaic.Lib.Pointwise

@[expose] public section

set_option maxRecDepth 16384

noncomputable section

namespace Cert.Kernel5Ideal.Ffn

open Cert.Kernel5Ideal Cert.Kernel5Ideal.Gen Cert.Proof.FfnReal Idealize.ShloMosaic Idealize.ShloMosaic.TcCoe Idealize.SL.Sem
open Idealize.ShloMosaic.Pipeline (Dat)

/-- The launch's arguments are the data. -/
structure Args (m : (ℓ : Loc nD τ sig) → Buf (Elt Ideal) ℓ) (c : Dev nD) (D : Data) : Prop where
  x : Is (m ((c : Thread nD τ).loc main_arg0) : FVec Ideal S4096x1024 .f32) D.x
  d : Is (m ((c : Thread nD τ).loc main_arg1) : FVec Ideal S4096x1024 .f32) D.d
  gp : ∀ j, (m ((c : Thread nD τ).loc main_arg2) : FVec Ideal S1024 .f32) (ix1 j) = ((D.gp j : ℝ) : EReal)
  go : ∀ j, (m ((c : Thread nD τ).loc main_arg3) : FVec Ideal S1024 .f32) (ix1 j) = ((D.go j : ℝ) : EReal)
  wi : Is (m ((c : Thread nD τ).loc main_arg4) : FVec Ideal S1024x5632 .f32) D.wi
  wo : Is (m ((c : Thread nD τ).loc main_arg5) : FVec Ideal S2816x1024 .f32) D.wo

variable (m : (ℓ : Loc nD τ sig) → Buf (Elt Ideal) ℓ)

/-! ## What the host hands the kernel -/

theorem V_gu (c : Dev nD) : (V m c main_v24 : FVec Ideal S4096x5632 .bf16)
    = truncf .bf16 (hostGu (m ((c : Thread nD τ).loc main_arg0)) (m ((c : Thread nD τ).loc main_arg2)) (m ((c : Thread nD τ).loc main_arg4))) bitsLt_bf16_f32 := by
  show StableHlo.after [hostOps0, hostOps0_1, hostOps0_2].flatten (fun b => m (c, b)) (Proc.tc.devRef main_v24) = _
  simp only [List.flatten_cons, List.flatten_nil, List.append_nil, List.cons_append, List.nil_append, StableHlo.TRef.binary, StableHlo.TRef.unary, StableHlo.TRef.nullary, StableHlo.TRef.toBuf, StableHlo.TRef.ofBuf, cast_eq]
  after_results_simp <;> rfl

theorem V_f (c : Dev nD) : (V m c main_v18 : FVec Ideal S4096x1024 .f32)
    = hostF (hostAct (hostGu (m ((c : Thread nD τ).loc main_arg0)) (m ((c : Thread nD τ).loc main_arg2)) (m ((c : Thread nD τ).loc main_arg4)))) (m ((c : Thread nD τ).loc main_arg5)) := by
  show StableHlo.after [hostOps0, hostOps0_1, hostOps0_2].flatten (fun b => m (c, b)) (Proc.tc.devRef main_v18) = _
  simp only [List.flatten_cons, List.flatten_nil, List.append_nil, List.cons_append, List.nil_append, StableHlo.TRef.binary, StableHlo.TRef.unary, StableHlo.TRef.nullary, StableHlo.TRef.toBuf, StableHlo.TRef.ofBuf, cast_eq]
  after_results_simp <;> rfl

theorem V_wi (c : Dev nD) : (V m c main_v21 : FVec Ideal S4x1024x1408 .bf16)
    = (transpose S4x1024x1408 [1, 0, 2] (shapeCast S1024x4x1408 (truncf .bf16 (m ((c : Thread nD τ).loc main_arg4) : FVec Ideal S1024x5632 .f32) bitsLt_bf16_f32) shapeCasts_S1024x5632_S1024x4x1408) transposes_S1024x4x1408_S4x1024x1408_1_0_2 : FVec Ideal S4x1024x1408 .bf16) := by
  show StableHlo.after [hostOps0, hostOps0_1, hostOps0_2].flatten (fun b => m (c, b)) (Proc.tc.devRef main_v21) = _
  simp only [List.flatten_cons, List.flatten_nil, List.append_nil, List.cons_append, List.nil_append, StableHlo.TRef.binary, StableHlo.TRef.unary, StableHlo.TRef.nullary, StableHlo.TRef.toBuf, StableHlo.TRef.ofBuf, cast_eq]
  after_results_simp <;> rfl

theorem V_wo (c : Dev nD) : (V m c main_v23 : FVec Ideal S2x1408x1024 .bf16)
    = (shapeCast S2x1408x1024 (truncf .bf16 (m ((c : Thread nD τ).loc main_arg5) : FVec Ideal S2816x1024 .f32) bitsLt_bf16_f32) shapeCasts_S2816x1024_S2x1408x1024 : FVec Ideal S2x1408x1024 .bf16) := by
  show StableHlo.after [hostOps0, hostOps0_1, hostOps0_2].flatten (fun b => m (c, b)) (Proc.tc.devRef main_v23) = _
  simp only [List.flatten_cons, List.flatten_nil, List.append_nil, List.cons_append, List.nil_append, StableHlo.TRef.binary, StableHlo.TRef.unary, StableHlo.TRef.nullary, StableHlo.TRef.toBuf, StableHlo.TRef.ofBuf, cast_eq]
  after_results_simp <;> rfl

theorem V_gp (c : Dev nD) : (V m c main_v25 : FVec Ideal S1x1024 .f32) = shapeCast S1x1024 (m ((c : Thread nD τ).loc main_arg2) : FVec Ideal S1024 .f32) shapeCasts_S1024_S1x1024 := by
  show StableHlo.after [hostOps0, hostOps0_1, hostOps0_2].flatten (fun b => m (c, b)) (Proc.tc.devRef main_v25) = _
  simp only [List.flatten_cons, List.flatten_nil, List.append_nil, List.cons_append, List.nil_append, StableHlo.TRef.binary, StableHlo.TRef.unary, StableHlo.TRef.nullary, StableHlo.TRef.toBuf, StableHlo.TRef.ofBuf, cast_eq]
  after_results_simp <;> rfl

theorem V_go (c : Dev nD) : (V m c main_v26 : FVec Ideal S1x1024 .f32) = shapeCast S1x1024 (m ((c : Thread nD τ).loc main_arg3) : FVec Ideal S1024 .f32) shapeCasts_S1024_S1x1024 := by
  show StableHlo.after [hostOps0, hostOps0_1, hostOps0_2].flatten (fun b => m (c, b)) (Proc.tc.devRef main_v26) = _
  simp only [List.flatten_cons, List.flatten_nil, List.append_nil, List.cons_append, List.nil_append, StableHlo.TRef.binary, StableHlo.TRef.unary, StableHlo.TRef.nullary, StableHlo.TRef.toBuf, StableHlo.TRef.ofBuf, cast_eq]
  after_results_simp <;> rfl

/-- The host's layouts of the weights. -/
theorem outLay (W : FVec Ideal S2816x1024 .bf16) (a : Fin 2) (r : Fin 1408) (k : Fin 1024) :
    (shapeCast S2x1408x1024 W shapeCasts_S2816x1024_S2x1408x1024 : FVec Ideal S2x1408x1024 .bf16) (ix3 a r k) = W (ix2 ⟨a.val * 1408 + r.val, by omega⟩ k) := by
  pointwise []

theorem inLay (W : FVec Ideal S1024x5632 .bf16) (a : Fin 4) (k : Fin 1024) (r : Fin 1408) :
    (transpose S4x1024x1408 [1, 0, 2] (shapeCast S1024x4x1408 W shapeCasts_S1024x5632_S1024x4x1408) transposes_S1024x4x1408_S4x1024x1408_1_0_2 : FVec Ideal S4x1024x1408 .bf16) (ix3 a k r)
      = W (ix2 k ⟨a.val * 1408 + r.val, by omega⟩) := by
  pointwise []

variable {m} {c : Dev nD} {D : Data} (H : Args m c D)
include H

theorem isOut : Is (wOutAll (vOut m c)) D.wo := fun n k => by
  have hn := n.isLt
  have e : vOut m c = (shapeCast S2x1408x1024 (truncf .bf16 (m ((c : Thread nD τ).loc main_arg5) : FVec Ideal S2816x1024 .f32) bitsLt_bf16_f32) shapeCasts_S2816x1024_S2x1408x1024 : FVec Ideal S2x1408x1024 .bf16) := V_wo m c
  rw [e]
  refine (outLay _ (⟨n.val / 1408, by omega⟩ : Fin 2) (⟨n.val % 1408, by omega⟩ : Fin 1408) k).trans (Eq.trans ?_ (H.wo n k))
  exact congrArg (fun z => (m ((c : Thread nD τ).loc main_arg5) : FVec Ideal S2816x1024 .f32) (ix2 z k)) (Fin.ext (by show n.val / 1408 * 1408 + n.val % 1408 = n.val; omega))

theorem isIn (b : Fin 2) (k : Fin 1024) (n : Fin 2816) : wInAll (vIn m c) (ix3 b k n) = ((D.wi k ⟨2816 * b.val + n.val, by omega⟩ : ℝ) : EReal) := by
  have hn := n.isLt
  have hb := b.isLt
  have e : vIn m c = (transpose S4x1024x1408 [1, 0, 2] (shapeCast S1024x4x1408 (truncf .bf16 (m ((c : Thread nD τ).loc main_arg4) : FVec Ideal S1024x5632 .f32) bitsLt_bf16_f32) shapeCasts_S1024x5632_S1024x4x1408) transposes_S1024x4x1408_S4x1024x1408_1_0_2 : FVec Ideal S4x1024x1408 .bf16) := V_wi m c
  rw [e]
  refine (inLay _ (⟨2 * b.val + n.val / 1408, by omega⟩ : Fin 4) k (⟨n.val % 1408, by omega⟩ : Fin 1408)).trans (Eq.trans ?_ (H.wi k ⟨2816 * b.val + n.val, by omega⟩))
  exact congrArg (fun z => (m ((c : Thread nD τ).loc main_arg4) : FVec Ideal S1024x5632 .f32) (ix2 k z)) (Fin.ext (by show (2 * b.val + n.val / 1408) * 1408 + n.val % 1408 = 2816 * b.val + n.val; omega))

/-! ## The blocks -/

omit H in
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![0, 0] ∧ win0_12.index t = ![0, 0] :=
  (by decide +kernel : ∀ t : Fin grid0.N, _)

omit H in
theorem tlt (t : Fin cfg0.N) : t.val < 16 := by have := t.isLt; have h : cfg0.N = 16 := N_0; omega

/-- The row of the whole arrays that a point's row is. -/
abbrev at_ (t : Fin cfg0.N) (p : Fin 256) : Fin 4096 := ⟨t.val * 256 + p.val, by have := tlt t; omega⟩

theorem blk0 (t : Fin cfg0.N) : Is (iblk m c 0 t) fun p => D.d (at_ t p) := fun p j => by
  refine Eq.trans ?_ (H.d (at_ t p) j)
  refine Eq.trans ?_ (congrFun (V_main_arg1 m c) (ix2 (at_ t p) j))
  blk_ext [iblk, idx t]

theorem blk1 (t : Fin cfg0.N) : Is (iblk m c 1 t) fun p => D.f (at_ t p) := fun p j => by
  refine Eq.trans ?_ (hostF_apply _ _ (hostAct_apply _ (hostGu_apply _ _ _ H.x H.gp H.wi)) H.wo (at_ t p) j)
  refine Eq.trans ?_ (congrFun (V_f m c) (ix2 (at_ t p) j))
  blk_ext [iblk, idx t]

theorem blk2 (t : Fin cfg0.N) : Is (iblk m c 2 t) fun p => D.x (at_ t p) := fun p j => by
  refine Eq.trans ?_ (H.x (at_ t p) j)
  refine Eq.trans ?_ (congrFun (V_main_arg0 m c) (ix2 (at_ t p) j))
  blk_ext [iblk, idx t]

theorem blk3 (t : Fin cfg0.N) : Is (iblk m c 3 t) fun p => D.gu (at_ t p) := fun p n => by
  refine Eq.trans ?_ (hostGu_apply _ _ _ H.x H.gp H.wi (at_ t p) n)
  refine Eq.trans ?_ (congrFun (V_gu m c) (ix2 (at_ t p) n))
  blk_ext [iblk, idx t]

theorem blk4 (t : Fin cfg0.N) : Is (iblk m c 4 t) fun _ => D.gp := fun z j => by
  refine Eq.trans ?_ (H.gp j)
  have e : (V m c main_v25 : FVec Ideal S1x1024 .f32) (ix2 z j) = (m ((c : Thread nD τ).loc main_arg2) : FVec Ideal S1024 .f32) (ix1 j) := by
    rw [V_gp]
    pointwise []
  rw [← e]
  blk_ext [iblk, idx t]

theorem blk5 (t : Fin cfg0.N) : Is (iblk m c 5 t) fun _ => D.go := fun z j => by
  refine Eq.trans ?_ (H.go j)
  have e : (V m c main_v26 : FVec Ideal S1x1024 .f32) (ix2 z j) = (m ((c : Thread nD τ).loc main_arg3) : FVec Ideal S1024 .f32) (ix1 j) := by
    rw [V_go]
    pointwise []
  rw [← e]
  blk_ext [iblk, idx t]

end Cert.Kernel5Ideal.Ffn

end
-- ==== Proof.FfnValue.lean ====
/- The feed-forward block's kernel: what its run leaves in the seven result arrays. -/
module

public import proofs.«01_k».proof.Proof.FfnData

@[expose] public section

set_option maxRecDepth 16384

noncomputable section

namespace Cert.Kernel5Ideal.Ffn

open Cert.Kernel5Ideal Cert.Kernel5Ideal.Gen Cert.Proof.FfnReal Idealize.ShloMosaic Idealize.ShloMosaic.TcCoe Idealize.SL.Sem
open Idealize.ShloMosaic.Pipeline (Dat)

variable {m : (ℓ : Loc nD τ sig) → Buf (Elt Ideal) ℓ} {c : Dev nD} {D : Data} (H : Args m c D)
include H

/-! ## What a point leaves -/

theorem left_dxm (t : Fin cfg0.N) : (outsAt m c t).dxm = realOf fun p => D.dxm (at_ t p) := by
  by_cases h : t.val = 0
  · rw [outsAt_first m c t h]
    refine (leftFirst_dxm m c t h (blk0 H t) (blk1 H t) (blk2 H t) (blk3 H t) (blk4 H t) (blk5 H t) (isOut H) (isIn H)).trans (congrArg realOf ?_)
    funext p
    exact (D.dxm_eq (at_ t p)).symm
  · rw [outsAt_later m c t h]
    refine (leftLater_dxm m c t h _ _ (blk0 H t) (blk1 H t) (blk2 H t) (blk3 H t) (blk4 H t) (blk5 H t) (isOut H) (isIn H)).trans (congrArg realOf ?_)
    funext p
    exact (D.dxm_eq (at_ t p)).symm

theorem left_df (t : Fin cfg0.N) : (outsAt m c t).df = realOf fun p => D.df (at_ t p) := by
  by_cases h : t.val = 0
  · rw [outsAt_first m c t h]
    refine (leftFirst_df m c t h (blk0 H t) (blk1 H t) (blk2 H t) (blk3 H t) (blk4 H t) (blk5 H t) (isOut H) (isIn H)).trans (congrArg realOf ?_)
    funext p
    exact (D.df_eq (at_ t p)).symm
  · rw [outsAt_later m c t h]
    refine (leftLater_df m c t h _ _ (blk0 H t) (blk1 H t) (blk2 H t) (blk3 H t) (blk4 H t) (blk5 H t) (isOut H) (isIn H)).trans (congrArg realOf ?_)
    funext p
    exact (D.df_eq (at_ t p)).symm

theorem left_act (t : Fin cfg0.N) : (outsAt m c t).act = realOf fun p => D.act (at_ t p) := by
  by_cases h : t.val = 0
  · rw [outsAt_first m c t h]
    exact leftFirst_act m c t h (blk0 H t) (blk1 H t) (blk2 H t) (blk3 H t) (blk4 H t) (blk5 H t) (isOut H) (isIn H)
  · rw [outsAt_later m c t h]
    exact leftLater_act m c t h _ _ (blk0 H t) (blk1 H t) (blk2 H t) (blk3 H t) (blk4 H t) (blk5 H t) (isOut H) (isIn H)

theorem left_dgu (t : Fin cfg0.N) : (outsAt m c t).dgu = realOf fun p => D.dgu (at_ t p) := by
  by_cases h : t.val = 0
  · rw [outsAt_first m c t h]
    refine (leftFirst_dgu m c t h (blk0 H t) (blk1 H t) (blk2 H t) (blk3 H t) (blk4 H t) (blk5 H t) (isOut H) (isIn H)).trans (congrArg realOf ?_)
    funext p
    exact (D.dgu_eq (at_ t p)).symm
  · rw [outsAt_later m c t h]
    refine (leftLater_dgu m c t h _ _ (blk0 H t) (blk1 H t) (blk2 H t) (blk3 H t) (blk4 H t) (blk5 H t) (isOut H) (isIn H)).trans (congrArg realOf ?_)
    funext p
    exact (D.dgu_eq (at_ t p)).symm

theorem left_h (t : Fin cfg0.N) : (outsAt m c t).h = realOf fun p => D.h (at_ t p) := by
  by_cases h : t.val = 0
  · rw [outsAt_first m c t h]
    exact leftFirst_h m c t h (blk0 H t) (blk1 H t) (blk2 H t) (blk3 H t) (blk4 H t) (blk5 H t) (isOut H) (isIn H)
  · rw [outsAt_later m c t h]
    exact leftLater_h m c t h _ _ (blk0 H t) (blk1 H t) (blk2 H t) (blk3 H t) (blk4 H t) (blk5 H t) (isOut H) (isIn H)

/-! ## The sums -/

/-- The part of a sum over all rows that the first `n` points have added up. -/
def upTo (s : Fin 4096 → Fin 1024 → ℝ) : ℕ → Fin 1024 → ℝ
  | 0 => fun _ => 0
  | n + 1 => fun j => upTo s n j + ∑ p : Fin 256, if h : n * 256 + p.val < 4096 then s ⟨n * 256 + p.val, h⟩ j else 0

omit H in
theorem upTo_step (s : Fin 4096 → Fin 1024 → ℝ) (t : Fin cfg0.N) (j : Fin 1024) : upTo s (t.val + 1) j = upTo s t.val j + ∑ p, s (at_ t p) j :=
  congrArg (upTo s t.val j + ·) (Finset.sum_congr rfl fun p _ => dif_pos (at_ t p).isLt)

omit H in
theorem upTo_sum (s : Fin 4096 → Fin 1024 → ℝ) (n : ℕ) (j : Fin 1024) :
    upTo s n j = ∑ q : Fin n, ∑ p : Fin 256, if h : q.val * 256 + p.val < 4096 then s ⟨q.val * 256 + p.val, h⟩ j else 0 := by
  induction n with
  | zero => exact Finset.sum_empty.symm
  | succ n ih => rw [Fin.sum_univ_castSucc]; exact congrArg (· + _) ih

omit H in
theorem upTo_all (s : Fin 4096 → Fin 1024 → ℝ) (j : Fin 1024) : upTo s 16 j = ∑ p, s p j := by
  rw [upTo_sum, Fin.sum_univ_tiles 16 256 rfl]
  exact Finset.sum_congr rfl fun q _ => Finset.sum_congr rfl fun p _ => dif_pos _

theorem isSums (n : ℕ) (hn : n ≤ 16) (h0 : n ≠ 0) : Is (sums m c n).1 (fun _ => upTo D.post n) ∧ Is (sums m c n).2 (fun _ => upTo D.pre n) := by
  induction n with
  | zero => exact absurd rfl h0
  | succ n ih =>
    have hN : cfg0.N = 16 := N_0
    have hlt : n < cfg0.N := by omega
    rw [sums_succ m c n hlt]
    by_cases h : n = 0
    · rw [outsAt_first m c ⟨n, hlt⟩ h, leftFirst_dgpost m c ⟨n, hlt⟩ h (blk0 H ⟨n, hlt⟩) (blk1 H ⟨n, hlt⟩) (blk2 H ⟨n, hlt⟩) (blk3 H ⟨n, hlt⟩) (blk4 H ⟨n, hlt⟩) (blk5 H ⟨n, hlt⟩) (isOut H) (isIn H), leftFirst_dgpre m c ⟨n, hlt⟩ h (blk0 H ⟨n, hlt⟩) (blk1 H ⟨n, hlt⟩) (blk2 H ⟨n, hlt⟩) (blk3 H ⟨n, hlt⟩) (blk4 H ⟨n, hlt⟩) (blk5 H ⟨n, hlt⟩) (isOut H) (isIn H)]
      subst h
      refine ⟨fun _ j => congrArg (Real.toEReal) ?_, fun _ j => congrArg (Real.toEReal) ?_⟩
      · simp only [← Data.post_eq]; exact (upTo_step D.post ⟨0, hlt⟩ j).symm
      · simp only [← Data.pre_eq]; exact (upTo_step D.pre ⟨0, hlt⟩ j).symm
    · obtain ⟨i1, i2⟩ := ih (by omega) h
      rw [outsAt_later m c ⟨n, hlt⟩ h, leftLater_dgpost m c ⟨n, hlt⟩ h _ _ i1 i2 (blk0 H ⟨n, hlt⟩) (blk1 H ⟨n, hlt⟩) (blk2 H ⟨n, hlt⟩) (blk3 H ⟨n, hlt⟩) (blk4 H ⟨n, hlt⟩) (blk5 H ⟨n, hlt⟩) (isOut H) (isIn H), leftLater_dgpre m c ⟨n, hlt⟩ h _ _ i1 i2 (blk0 H ⟨n, hlt⟩) (blk1 H ⟨n, hlt⟩) (blk2 H ⟨n, hlt⟩) (blk3 H ⟨n, hlt⟩) (blk4 H ⟨n, hlt⟩) (blk5 H ⟨n, hlt⟩) (isOut H) (isIn H)]
      refine ⟨fun _ j => congrArg (Real.toEReal) ?_, fun _ j => congrArg (Real.toEReal) ?_⟩
      · simp only [← Data.post_eq]; exact (upTo_step D.post ⟨n, hlt⟩ j).symm
      · simp only [← Data.pre_eq]; exact (upTo_step D.pre ⟨n, hlt⟩ j).symm

/-! ## The result arrays -/

theorem final6 : (dats m 0 c).arrAt 6 cfg0.N = realOf D.dxm := by
  refine (dats m 0 c).arrAt_eq_of_covers 6 _ (by decide +kernel) fun t hf y => ?_
  blk_simp
  rw [after_6, left_dxm H t]
  idx_vars y
  have hemb : ((View.whole main_v27_0).slice (win0_6.rect t)).emb (ix2 y0 y1) = ix2 (at_ t y0) y1 := by
    blk_ext [idx t]
  rw [hemb]
  rfl

theorem final7 : (dats m 0 c).arrAt 7 cfg0.N = realOf D.df := by
  refine (dats m 0 c).arrAt_eq_of_covers 7 _ (by decide +kernel) fun t hf y => ?_
  blk_simp
  rw [after_7, left_df H t]
  idx_vars y
  have hemb : ((View.whole main_v27_1).slice (win0_7.rect t)).emb (ix2 y0 y1) = ix2 (at_ t y0) y1 := by
    blk_ext [idx t]
  rw [hemb]
  rfl

theorem final8 : (dats m 0 c).arrAt 8 cfg0.N = realOf D.act := by
  refine (dats m 0 c).arrAt_eq_of_covers 8 _ (by decide +kernel) fun t hf y => ?_
  blk_simp
  rw [after_8, left_act H t]
  idx_vars y
  have hemb : ((View.whole main_v27_2).slice (win0_8.rect t)).emb (ix2 y0 y1) = ix2 (at_ t y0) y1 := by
    blk_ext [idx t]
  rw [hemb]
  rfl

theorem final9 : (dats m 0 c).arrAt 9 cfg0.N = realOf D.dgu := by
  refine (dats m 0 c).arrAt_eq_of_covers 9 _ (by decide +kernel) fun t hf y => ?_
  blk_simp
  rw [after_9, left_dgu H t]
  idx_vars y
  have hemb : ((View.whole main_v27_3).slice (win0_9.rect t)).emb (ix2 y0 y1) = ix2 (at_ t y0) y1 := by
    blk_ext [idx t]
  rw [hemb]
  rfl

theorem final10 : (dats m 0 c).arrAt 10 cfg0.N = realOf D.h := by
  refine (dats m 0 c).arrAt_eq_of_covers 10 _ (by decide +kernel) fun t hf y => ?_
  blk_simp
  rw [after_10, left_h H t]
  idx_vars y
  have hemb : ((View.whole main_v27_4).slice (win0_10.rect t)).emb (ix2 y0 y1) = ix2 (at_ t y0) y1 := by
    blk_ext [idx t]
  rw [hemb]
  rfl

theorem final11 : (dats m 0 c).arrAt 11 cfg0.N = realOf fun _ : Fin 1 => D.dgpost := by
  refine (dats m 0 c).arrAt_eq_of_covers 11 _ (by decide +kernel) fun t hf y => ?_
  have ht : t.val = 15 := (by decide +kernel : ∀ t : Fin grid0.N, (win0_11).flush t = true → t.val = 15) t hf
  blk_simp
  rw [after_11]
  idx_vars y
  have hemb : ((View.whole main_v27_5).slice (win0_11.rect t)).emb (ix2 y0 y1) = ix2 y0 y1 := by
    blk_ext [idx t]
  rw [hemb]
  have e : (outsAt m c t).dgpost = (sums m c (t.val + 1)).1 := (congrArg (fun p => p.1) (sums_succ m c t.val t.isLt)).symm
  rw [e, ht]
  exact ((isSums H 16 le_rfl (by decide)).1 y0 y1).trans (congrArg _ (upTo_all D.post y1))

theorem final12 : (dats m 0 c).arrAt 12 cfg0.N = realOf fun _ : Fin 1 => D.dgpre := by
  refine (dats m 0 c).arrAt_eq_of_covers 12 _ (by decide +kernel) fun t hf y => ?_
  have ht : t.val = 15 := (by decide +kernel : ∀ t : Fin grid0.N, (win0_12).flush t = true → t.val = 15) t hf
  blk_simp
  rw [after_12]
  idx_vars y
  have hemb : ((View.whole main_v27_6).slice (win0_12.rect t)).emb (ix2 y0 y1) = ix2 y0 y1 := by
    blk_ext [idx t]
  rw [hemb]
  have e : (outsAt m c t).dgpre = (sums m c (t.val + 1)).2 := (congrArg (fun p => p.2) (sums_succ m c t.val t.isLt)).symm
  rw [e, ht]
  exact ((isSums H 16 le_rfl (by decide)).2 y0 y1).trans (congrArg _ (upTo_all D.pre y1))

end Cert.Kernel5Ideal.Ffn

end
-- ==== Proof.FfnRun.lean ====
/- The feed-forward block's kernel: its run, with the result arrays named. -/
module

public import proofs.«01_k».proof.Proof.FfnFrame

@[expose] public section

set_option maxRecDepth 16384

noncomputable section

namespace Cert.Kernel5Ideal.Ffn

open Cert.Kernel5Ideal Cert.Kernel5Ideal.Gen Idealize.ShloMosaic Idealize.ShloMosaic.TcCoe Idealize.SL.Sem

variable {F : FTy → Type} [FloatOps F]

/-- The program ends with each result array as its window left it, and its arguments are unchanged. -/
theorem run_results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v27_0) = (dats m 0 c).arrAt 6 cfg0.N
      ∧ r.2.mem ((c.tc : Thread nD τ).loc main_v27_1) = (dats m 0 c).arrAt 7 cfg0.N
      ∧ r.2.mem ((c.tc : Thread nD τ).loc main_v27_2) = (dats m 0 c).arrAt 8 cfg0.N
      ∧ r.2.mem ((c.tc : Thread nD τ).loc main_v27_3) = (dats m 0 c).arrAt 9 cfg0.N
      ∧ r.2.mem ((c.tc : Thread nD τ).loc main_v27_4) = (dats m 0 c).arrAt 10 cfg0.N
      ∧ r.2.mem ((c.tc : Thread nD τ).loc main_v27_5) = (dats m 0 c).arrAt 11 cfg0.N
      ∧ r.2.mem ((c.tc : Thread nD τ).loc main_v27_6) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ ⟨h, _⟩ c => ⟨(h c).1 6,
      (h c).1 7,
      (h c).1 8,
      (h c).1 9,
      (h c).1 10,
      (h c).1 11,
      (h c).1 12,
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.Kernel5Ideal.Ffn

end
-- ==== Proof.FfnRef.lean ====
/- The feed-forward block's plain gradient, evaluated on real arguments. -/
module

public import proofs.«01_k».proof.Proof.FfnHost
public import proofs.«01_k».proof.Proof.Gen.Reference5Ideal.Run
public import Idealize.ShloMosaic.Lib.Pointwise

@[expose] public section

set_option maxRecDepth 16384

noncomputable section

namespace Cert.Proof.FfnRef

open Cert.Reference5Ideal Cert.Reference5Ideal.Gen Cert.Reference5Ideal.Value Cert.Proof.FfnReal Idealize.ShloMosaic Idealize.ShloMosaic.TcCoe Idealize.SL.Sem
open Cert.Kernel5Ideal.Ffn (Is hostMs hostH hostGu hostAct hostF hostMs_apply hostH_apply hostGu_apply hostAct_apply hostF_apply realOf)

theorem ext2 {A B : ℕ} {X : (⟨2, ![A, B]⟩ : Shape).Idx → EReal} {a : Fin A → Fin B → ℝ} (h : Is X a) : X = realOf a :=
  funext fun j => (congrArg X (eq_ix2 j)).trans (h (j 0) (j 1))

/-- The launch's arguments are the data. -/
structure Args (V0 : Valuation τ sig (Elt Ideal)) (D : Data) : Prop where
  x : Is (V0 (Proc.devRef .tc main_arg0) : FVec Ideal S4096x1024 .f32) D.x
  d : Is (V0 (Proc.devRef .tc main_arg1) : FVec Ideal S4096x1024 .f32) D.d
  gp : ∀ j, (V0 (Proc.devRef .tc main_arg2) : FVec Ideal S1024 .f32) (ix1 j) = ((D.gp j : ℝ) : EReal)
  go : ∀ j, (V0 (Proc.devRef .tc main_arg3) : FVec Ideal S1024 .f32) (ix1 j) = ((D.go j : ℝ) : EReal)
  wi : Is (V0 (Proc.devRef .tc main_arg4) : FVec Ideal S1024x5632 .f32) D.wi
  wo : Is (V0 (Proc.devRef .tc main_arg5) : FVec Ideal S2816x1024 .f32) D.wo

variable {V0 : Valuation τ sig (Elt Ideal)} {D : Data} (H : Args V0 D)
include H

/-! ## The forward pass -/

theorem v6 (p : Fin 4096) (z : Fin 1) : res_main_v6 V0 (ix2 p z) = ((ms (D.x p) : ℝ) : EReal) := hostMs_apply _ H.x p z

theorem v7 (p : Fin 4096) (z : Fin 1) : res_main_v7 V0 (ix2 p z) = ((rr (D.x p) : ℝ) : EReal) := by
  pointwise [res_main_v7]
  rw [v6 H, rsqrt_real _ (ms_pos _)]
  rfl

theorem v12 : Is (res_main_v12 V0) fun p j => D.x p j * rr (D.x p) := fun p j => by
  pointwise [res_main_v12]
  simp only [H.x _ _, v7 H, ← EReal.coe_mul]

theorem v15 : Is (res_main_v15 V0) D.h := hostH_apply _ _ H.x H.gp

theorem v16 : Is (res_main_v16 V0) D.gu := hostGu_apply _ _ _ H.x H.gp H.wi

theorem v17 : Is (res_main_v17 V0) fun p n => D.gu p ⟨n.val, by omega⟩ := fun p n => by
  pointwise [res_main_v17]
  exact v16 H _ _

theorem v18 : Is (res_main_v18 V0) fun p n => D.gu p ⟨2816 + n.val, by omega⟩ := fun p n => by
  pointwise [res_main_v18]
  exact v16 H _ _

theorem v19_2 : Is (res_main_v19_2 V0) fun p n => sig (D.gu p ⟨n.val, by omega⟩) := fun p n => by
  pointwise [res_main_v19_2]
  simp only [v17 H _ _, ← EReal.coe_neg, Ideal.exp_coe, one_add_real, sig_real]

theorem v19_0 : Is (res_main_v19_0 V0) fun p n => D.gu p ⟨n.val, by omega⟩ * sig (D.gu p ⟨n.val, by omega⟩) := fun p n => by
  pointwise [res_main_v19_0]
  simp only [v17 H _ _, v19_2 H _ _, ← EReal.coe_mul]

theorem v20 : Is (res_main_v20 V0) D.act := hostAct_apply _ (v16 H)

theorem v21 : Is (res_main_v21 V0) D.f := hostF_apply _ _ (v20 H) H.wo

/-! ## The outer norm -/

theorem v28 (p : Fin 4096) (z : Fin 1) : res_main_v28 V0 (ix2 p z) = ((ms (D.f p) : ℝ) : EReal) := hostMs_apply _ (v21 H) p z

theorem v29 (p : Fin 4096) (z : Fin 1) : res_main_v29 V0 (ix2 p z) = ((rr (D.f p) : ℝ) : EReal) := by
  pointwise [res_main_v29]
  rw [v28 H, rsqrt_real _ (ms_pos _)]
  rfl

theorem v34 : Is (res_main_v34 V0) fun p j => D.f p j * rr (D.f p) := fun p j => by
  pointwise [res_main_v34]
  simp only [v21 H _ _, v29 H, ← EReal.coe_mul]

theorem v42 : Is (res_main_v42 V0) fun p j => D.d p j * D.go j := fun p j => by
  pointwise [res_main_v42, res_main_v35]
  simp only [H.d _ _, H.go _, ← EReal.coe_mul]

theorem v53 : Is (res_main_v53 V0) fun p _ => (∑ k, D.f p k * (D.d p k * D.go k)) * (-(1 / 2) * (rr (D.f p) / ms (D.f p))) / 1024 := fun p j => by
  pointwise [res_main_v53]
  simp only [v21 H _ _, v42 H _ _, v28 H, v29 H, f32_1024, f32_neg_half, div_real _ _ (ms_pos _).ne', ← EReal.coe_mul, sum_coe, div_1024]
  exact congrArg _ (Fin.sum_univ_one _)

theorem v57 : Is (res_main_v57 V0) D.df := fun p j => by
  pointwise [res_main_v57]
  simp only [v21 H _ _, v42 H _ _, v29 H, v53 H _ _, ← EReal.coe_mul, ← EReal.coe_add]
  exact congrArg _ (back_steps (D.d p) (D.f p) D.go j)

/-! ## The gate and the two products -/

theorem v58 : Is (res_main_v58 V0) fun p n => ∑ j, D.df p j * D.wo n j := fun p n => by
  pointwise [res_main_v58]
  simp only [v57 H _ _, H.wo _ _, ← EReal.coe_mul, sum_coe]

theorem v60 : Is (res_main_v60 V0) fun p n => (∑ j, D.df p j * D.wo n j) * D.gu p ⟨2816 + n.val, by omega⟩ := fun p n => by
  pointwise [res_main_v60]
  simp only [v58 H _ _, v18 H _ _, ← EReal.coe_mul]

theorem v62 : Is (res_main_v62 V0) D.dgu := fun p n => by
  pointwise [res_main_v62]
  by_cases h : n.val < 2816
  · rw [dif_pos h]
    simp only [v60 H _ _, v19_2 H _ _, v17 H _ _, one_sub_real, ← EReal.coe_mul, ← EReal.coe_add]
    exact congrArg _ ((dGate_steps _ _ _).trans (rowDgu_gate (D.df p) (D.gu p) D.wo ⟨n.val, h⟩).symm)
  · rw [dif_neg h]
    simp only [v19_0 H _ _, v58 H _ _, ← EReal.coe_mul]
    have e : D.dgu p n = dUp (∑ j, D.df p j * D.wo ⟨n.val - 2816, by omega⟩ j) (D.gu p ⟨n.val - 2816, by omega⟩) := dif_neg h
    rw [e]
    exact congrArg _ (mul_comm _ _)

theorem v63 : Is (res_main_v63 V0) D.dh := fun p k => by
  pointwise [res_main_v63]
  simp only [v62 H _ _, H.wi _ _, ← EReal.coe_mul, sum_coe]
  rfl

/-! ## The inner norm -/

theorem v68 : Is (res_main_v68 V0) fun p k => D.dh p k * D.gp k := fun p k => by
  pointwise [res_main_v68, res_main_v13]
  simp only [v63 H _ _, H.gp _, ← EReal.coe_mul]

theorem v79 : Is (res_main_v79 V0) fun p _ => (∑ k, D.x p k * (D.dh p k * D.gp k)) * (-(1 / 2) * (rr (D.x p) / ms (D.x p))) / 1024 := fun p j => by
  pointwise [res_main_v79]
  simp only [H.x _ _, v68 H _ _, v6 H, v7 H, f32_1024, f32_neg_half, div_real _ _ (ms_pos _).ne', ← EReal.coe_mul, sum_coe, div_1024]
  exact congrArg _ (Fin.sum_univ_one _)

/-! ## The results -/

theorem v84 : addf (V0 (Proc.devRef .tc main_arg1) : FVec Ideal S4096x1024 .f32) (addf (addf (mulf (res_main_v68 V0) (broadcastInDim S4096x1024 ![0, 1] bcast_S4096x1_S4096x1024_0_1 (res_main_v7 V0))) (mulf (V0 (Proc.devRef .tc main_arg0)) (res_main_v79 V0))) (mulf (res_main_v79 V0) (V0 (Proc.devRef .tc main_arg0)))) = realOf D.dxm :=
  ext2 fun p k => by
    pointwise []
    simp only [H.d _ _, H.x _ _, v68 H _ _, v7 H, v79 H _ _, ← EReal.coe_mul, ← EReal.coe_add]
    exact congrArg (fun z => ((D.d p k + z : ℝ) : EReal)) (back_steps (D.dh p) (D.x p) D.gp k)

theorem v85 : truncf .bf16 (res_main_v57 V0) bitsLt_bf16_f32 = realOf D.df := ext2 (v57 H)
theorem v86 : truncf .bf16 (res_main_v20 V0) bitsLt_bf16_f32 = realOf D.act := ext2 (v20 H)
theorem v87 : truncf .bf16 (res_main_v62 V0) bitsLt_bf16_f32 = realOf D.dgu := ext2 (v62 H)
theorem v88 : truncf .bf16 (res_main_v15 V0) bitsLt_bf16_f32 = realOf D.h := ext2 (v15 H)

theorem v89 : (shapeCast _ (Host.reduceAdd (shapeCast _ (Host.reduceAdd (mulf (res_main_v34 V0) (V0 (Proc.devRef .tc main_arg1))) (constant S_ .f32 0x00000000#32) reducesTo_S4096x1024_S1024_d0 h_S_) shapeCasts_S1024_S1x1024) (constant S_ .f32 0x00000000#32) reducesTo_S1x1024_S1024_d0 h_S_) shapeCasts_S1024_S1x1024 : FVec Ideal S1x1024 .f32)
    = realOf fun _ => D.dgpost :=
  ext2 fun p j => by
    pointwise []
    simp only [v34 H _ _, H.d _ _, ← EReal.coe_mul, sum_coe]
    exact congrArg _ ((Fin.sum_univ_one _).trans (Finset.sum_congr rfl fun p _ => mul_comm _ _))

theorem v90 : (shapeCast _ (Host.reduceAdd (shapeCast _ (Host.reduceAdd (mulf (res_main_v12 V0) (res_main_v63 V0)) (constant S_ .f32 0x00000000#32) reducesTo_S4096x1024_S1024_d0 h_S_) shapeCasts_S1024_S1x1024) (constant S_ .f32 0x00000000#32) reducesTo_S1x1024_S1024_d0 h_S_) shapeCasts_S1024_S1x1024 : FVec Ideal S1x1024 .f32)
    = realOf fun _ => D.dgpre :=
  ext2 fun p j => by
    pointwise []
    simp only [v12 H _ _, v63 H _ _, ← EReal.coe_mul, sum_coe]
    exact congrArg _ ((Fin.sum_univ_one _).trans (Finset.sum_congr rfl fun p _ => mul_comm _ _))

end Cert.Proof.FfnRef

end
-- ==== Proof.FfnFinite.lean ====
/- Arguments that are finite everywhere are real arrays. -/
module

public import proofs.«01_k».proof.Pre_finite
public import proofs.«01_k».proof.Proof.Gen.Pre_finite
public import Idealize.ShloMosaic.PureOps.Ideal
public import proofs.«01_k».proof.Proof.FfnReal

@[expose] public section

set_option maxRecDepth 16384

noncomputable section

namespace Cert.Proof.FfnFinite

open Idealize.ShloMosaic Cert.Pre_finite Cert.Pre_finite.Facts

theorem f32_inf : Ideal.ofBits .f32 0x7F800000#32 = (⊤ : EReal) := by
  simp [Ideal.ofBits, Ideal.ieee]

/-- An extended real whose absolute value is below infinity is a real. -/
theorem real_of (a : Ideal .f32) (h : Ideal.cmp .olt (max a (-a) : EReal) (Ideal.ofBits .f32 0x7F800000#32) = 1#1) :
    a = ((EReal.toReal a : ℝ) : EReal) := by
  rw [f32_inf] at h
  have hlt : (max a (-a) : EReal) < ⊤ := by
    by_contra hn
    simp [Ideal.cmp, hn] at h
  obtain ⟨h1, h2⟩ := max_lt_iff.mp hlt
  refine (EReal.coe_toReal h1.ne ?_).symm
  intro hb
  rw [hb] at h2
  simp at h2

variable [Cert.Pre_finite.Facts]

theorem arg0 (a b : FVec Ideal S4096x1024 .f32) (g p : FVec Ideal S1024 .f32) (wi : FVec Ideal S1024x5632 .f32) (wo : FVec Ideal S2816x1024 .f32)
    (h : (fn a b g p wi wo).1 = fun _ => 1#1) (i : S4096x1024.Idx) : a i = ((EReal.toReal (a i) : ℝ) : EReal) := real_of _ (congrFun h i)
theorem arg1 (a b : FVec Ideal S4096x1024 .f32) (g p : FVec Ideal S1024 .f32) (wi : FVec Ideal S1024x5632 .f32) (wo : FVec Ideal S2816x1024 .f32)
    (h : (fn a b g p wi wo).2.1 = fun _ => 1#1) (i : S4096x1024.Idx) : b i = ((EReal.toReal (b i) : ℝ) : EReal) := real_of _ (congrFun h i)
theorem arg2 (a b : FVec Ideal S4096x1024 .f32) (g p : FVec Ideal S1024 .f32) (wi : FVec Ideal S1024x5632 .f32) (wo : FVec Ideal S2816x1024 .f32)
    (h : (fn a b g p wi wo).2.2.1 = fun _ => 1#1) (i : S1024.Idx) : g i = ((EReal.toReal (g i) : ℝ) : EReal) := real_of _ (congrFun h i)
theorem arg3 (a b : FVec Ideal S4096x1024 .f32) (g p : FVec Ideal S1024 .f32) (wi : FVec Ideal S1024x5632 .f32) (wo : FVec Ideal S2816x1024 .f32)
    (h : (fn a b g p wi wo).2.2.2.1 = fun _ => 1#1) (i : S1024.Idx) : p i = ((EReal.toReal (p i) : ℝ) : EReal) := real_of _ (congrFun h i)
theorem arg4 (a b : FVec Ideal S4096x1024 .f32) (g p : FVec Ideal S1024 .f32) (wi : FVec Ideal S1024x5632 .f32) (wo : FVec Ideal S2816x1024 .f32)
    (h : (fn a b g p wi wo).2.2.2.2.1 = fun _ => 1#1) (i : S1024x5632.Idx) : wi i = ((EReal.toReal (wi i) : ℝ) : EReal) := real_of _ (congrFun h i)
theorem arg5 (a b : FVec Ideal S4096x1024 .f32) (g p : FVec Ideal S1024 .f32) (wi : FVec Ideal S1024x5632 .f32) (wo : FVec Ideal S2816x1024 .f32)
    (h : (fn a b g p wi wo).2.2.2.2.2 = fun _ => 1#1) (i : S2816x1024.Idx) : wo i = ((EReal.toReal (wo i) : ℝ) : EReal) := real_of _ (congrFun h i)

end Cert.Proof.FfnFinite

end
-- ==== Proof.FfnClaims.lean ====
/- The claims about the feed-forward block's backward pass. -/
module

public import proofs.«01_k».proof.Defs
public import proofs.«01_k».proof.Proof.FfnValue
public import proofs.«01_k».proof.Proof.FfnRun
public import proofs.«01_k».proof.Proof.FfnRef
public import proofs.«01_k».proof.Proof.FfnFinite
public import proofs.«01_k».proof.Proof.FfnFrame
public import proofs.«01_k».proof.Proof.Gen.Kernel5
public import proofs.«01_k».proof.Proof.Gen.Reference5Ideal.Run
public import Idealize.ShloMosaic.Lib.Quiescent

@[expose] public section

set_option maxRecDepth 16384

noncomputable section

namespace Cert.Proof.Ffn

open Idealize.ShloMosaic Idealize.ShloMosaic.TcCoe Idealize.SL.Sem

theorem frameIdeal : Cert.quiescent_Kernel5Ideal (hKernel5Ideal := Cert.Kernel5Ideal.Gen.facts) :=
  fun m ρ _ => Cert.Kernel5Ideal.Ffn.frame m ρ

theorem frameRef : Cert.quiescent_Reference5Ideal (hReference5Ideal := Cert.Reference5Ideal.Gen.facts) := fun m ρ _ =>
  (θ_run Cert.Reference5Ideal.defs _ _).mono (fun r h => ⟨fun c => (h c).2.2.2.2.2.2.2,
      Idealize.ShloMosaic.sem_eq_zero_of_no_sems (by decide) r.2⟩)
    (Cert.Reference5Ideal.Value.run (F := Ideal) m ρ)

/-- The two programs have the same text, so the run serves both number systems. -/
theorem frame : Cert.quiescent_Kernel5 (hKernel5 := Cert.Kernel5.Gen.facts) := fun m ρ _ => by
  refine cast ?_ (Cert.Kernel5Ideal.Ffn.frame (F := Bits) m ρ)
  sl_kernel_rfl

/-! ## The value -/

section Value

open Cert.Proof.FfnReal Idealize.ShloMosaic.StableHlo
open Cert.Kernel5Ideal.Ffn (realOf)

variable (m : (ℓ : Loc Cert.Kernel5Ideal.nD Cert.Kernel5Ideal.τ Cert.Kernel5Ideal.sig) → Buf (Elt Ideal) ℓ) (c : Dev Cert.Kernel5Ideal.nD)

/-- The arguments as real arrays. -/
def data : Data where
  x p k := EReal.toReal ((m ((c.tc : Thread Cert.Kernel5Ideal.nD Cert.Kernel5Ideal.τ).loc Cert.Kernel5Ideal.main_arg0) : FVec Ideal Cert.Kernel5Ideal.S4096x1024 .f32) (ix2 p k))
  d p k := EReal.toReal ((m ((c.tc : Thread Cert.Kernel5Ideal.nD Cert.Kernel5Ideal.τ).loc Cert.Kernel5Ideal.main_arg1) : FVec Ideal Cert.Kernel5Ideal.S4096x1024 .f32) (ix2 p k))
  gp k := EReal.toReal ((m ((c.tc : Thread Cert.Kernel5Ideal.nD Cert.Kernel5Ideal.τ).loc Cert.Kernel5Ideal.main_arg2) : FVec Ideal Cert.Kernel5Ideal.S1024 .f32) (ix1 k))
  go k := EReal.toReal ((m ((c.tc : Thread Cert.Kernel5Ideal.nD Cert.Kernel5Ideal.τ).loc Cert.Kernel5Ideal.main_arg3) : FVec Ideal Cert.Kernel5Ideal.S1024 .f32) (ix1 k))
  wi k n := EReal.toReal ((m ((c.tc : Thread Cert.Kernel5Ideal.nD Cert.Kernel5Ideal.τ).loc Cert.Kernel5Ideal.main_arg4) : FVec Ideal Cert.Kernel5Ideal.S1024x5632 .f32) (ix2 k n))
  wo n k := EReal.toReal ((m ((c.tc : Thread Cert.Kernel5Ideal.nD Cert.Kernel5Ideal.τ).loc Cert.Kernel5Ideal.main_arg5) : FVec Ideal Cert.Kernel5Ideal.S2816x1024 .f32) (ix2 n k))

/-- Finite arguments are those real arrays. -/
theorem args (h : Cert.Pre_Kernel5Ideal_finite (hPre_finite := Cert.Pre_finite.Gen.facts) m) : Cert.Kernel5Ideal.Ffn.Args m c (data m c) :=
  letI := Cert.Pre_finite.Gen.facts
  { x := fun _ _ => FfnFinite.arg0 _ _ _ _ _ _ (h c).1 _
    d := fun _ _ => FfnFinite.arg1 _ _ _ _ _ _ (h c).2.1 _
    gp := fun _ => FfnFinite.arg2 _ _ _ _ _ _ (h c).2.2.1 _
    go := fun _ => FfnFinite.arg3 _ _ _ _ _ _ (h c).2.2.2.1 _
    wi := fun _ _ => FfnFinite.arg4 _ _ _ _ _ _ (h c).2.2.2.2.1 _
    wo := fun _ _ => FfnFinite.arg5 _ _ _ _ _ _ (h c).2.2.2.2.2 _ }

/-- The same arrays are the reference's arguments. -/
theorem argsRef {m} {c} (m' : (ℓ : Loc Cert.Reference5Ideal.nD Cert.Reference5Ideal.τ Cert.Reference5Ideal.sig) → Buf (Elt Ideal) ℓ)
    {D : Data} (H : Cert.Kernel5Ideal.Ffn.Args m c D)
    (e0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (e1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (e2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (e3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (e4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (e5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) :
    FfnRef.Args (launchContents m' c) D where
  x p k := (congrFun e0 (ix2 p k)).trans (H.x p k)
  d p k := (congrFun e1 (ix2 p k)).trans (H.d p k)
  gp k := (congrFun e2 (ix1 k)).trans (H.gp k)
  go k := (congrFun e3 (ix1 k)).trans (H.go k)
  wi k n := (congrFun e4 (ix2 k n)).trans (H.wi k n)
  wo n k := (congrFun e5 (ix2 n k)).trans (H.wo n k)

/-- From equal finite arguments the kernel and the plain gradient end with equal results. -/
theorem value : Cert.algebraic_Kernel5Ideal_Reference5Ideal_pre_finite (hKernel5Ideal := Cert.Kernel5Ideal.Gen.facts)
    (hReference5Ideal := Cert.Reference5Ideal.Gen.facts) (hPre_finite := Cert.Pre_finite.Gen.facts) := by
  intro m ρ m' ρ' hpre hag
  refine ⟨fun c => realOf (data m c).dxm, fun c => realOf (data m c).df, fun c => realOf (data m c).act, fun c => realOf (data m c).dgu, fun c => realOf (data m c).h, fun c => realOf (A := 1) fun _ => (data m c).dgpost, fun c => realOf (A := 1) fun _ => (data m c).dgpre, ?_, ?_⟩
  · refine (θ_run Cert.Kernel5Ideal.defs _ _).mono (fun _ h => ?_) (Cert.Kernel5Ideal.Ffn.run_results m ρ)
    intro c
    have H := args m c hpre
    obtain ⟨h0, h1, h2, h3, h4, h5, h6, ha⟩ := h c
    exact ⟨h0.trans (Cert.Kernel5Ideal.Ffn.final6 H), h1.trans (Cert.Kernel5Ideal.Ffn.final7 H), h2.trans (Cert.Kernel5Ideal.Ffn.final8 H), h3.trans (Cert.Kernel5Ideal.Ffn.final9 H), h4.trans (Cert.Kernel5Ideal.Ffn.final10 H), h5.trans (Cert.Kernel5Ideal.Ffn.final11 H), h6.trans (Cert.Kernel5Ideal.Ffn.final12 H), ha⟩
  · refine (θ_run Cert.Reference5Ideal.defs _ _).mono (fun _ h c => ?_) (Cert.Reference5Ideal.Value.run (F := Ideal) m' ρ')
    have H := argsRef m' (args m c hpre) (hag c).1 (hag c).2.1 (hag c).2.2.1 (hag c).2.2.2.1 (hag c).2.2.2.2.1 (hag c).2.2.2.2.2
    obtain ⟨h0, h1, h2, h3, h4, h5, h6, ha⟩ := h c
    exact ⟨h0.trans (FfnRef.v84 H), h1.trans (FfnRef.v85 H), h2.trans (FfnRef.v86 H), h3.trans (FfnRef.v87 H),
      h4.trans (FfnRef.v88 H), h5.trans (FfnRef.v89 H), h6.trans (FfnRef.v90 H), ha⟩

end Value

end Cert.Proof.Ffn
-- ==== Proof.FwdWeights.lean ====
/- How the two weights lie in the scratch buffers: each buffer split into the parts that one copy fills, and put together again. -/
module

public import proofs.«01_k».proof.Proof.Gen.Kernel6Ideal.Frame
public import proofs.«01_k».proof.Proof.Gen.Kernel6Ideal.Skeleton
public import Idealize.ShloMosaic.Lib.ViewIndex
public import Idealize.ShloMosaic.Lib.ValueLayout
public import Idealize.ShloMosaic.Lib.Ring
public import Idealize.ShloMosaic.Lib.Pointwise

@[expose] public section

set_option maxRecDepth 16384
set_option maxHeartbeats 1000000

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two weights as the host hands them over, and where the body keeps them. -/
abbrev wInH : Memref sig .tc .hbm S4x1024x1408 .bf16 := Memref.whole main_v2
abbrev wOutH : Memref sig .tc .hbm S2x1408x1024 .bf16 := Memref.whole main_v4
abbrev wIn : Memref sig .tc .vmem S2x1024x2816 .bf16 := Memref.whole cc0_scratch0
abbrev wOut : Memref sig .tc .vmem S2816x1024 .bf16 := Memref.whole cc0_scratch1

theorem inPart_inb (a b : ℕ) (h : a < 2 ∧ b < 2) : ∀ x, (![a, 0, 1408 * b] : Fin 3 → ℕ) x + S1x1024x1408.size x ≤ S2x1024x2816.size x := by
  intro x; fin_cases x
  · show a + 1 ≤ 2; omega
  · show 0 + 1024 ≤ 1024; omega
  · show 1408 * b + 1408 ≤ 2816; omega

theorem outPart_inb (a : ℕ) (h : a < 2) : ∀ x, (![1408 * a, 0] : Fin 2 → ℕ) x + S1408x1024.size x ≤ S2816x1024.size x := by
  intro x; fin_cases x
  · show 1408 * a + 1408 ≤ 2816; omega
  · show 0 + 1024 ≤ 1024; omega

/-- The parts of the scratch buffers that one copy fills. -/
abbrev inPart (a b : ℕ) (h : a < 2 ∧ b < 2) : Memref sig .tc .vmem S1024x1408 .bf16 :=
  (wIn.slice (Rect.unit (s := S2x1024x2816) ![a, 0, 1408 * b] S1x1024x1408.size (inPart_inb a b h)) (fun _ => rfl)).squeeze S1024x1408 squeezes_S1x1024x1408_S1024x1408
abbrev outPart (a : ℕ) (h : a < 2) : Memref sig .tc .vmem S1408x1024 .bf16 :=
  wOut.slice (Rect.unit (s := S2816x1024) ![1408 * a, 0] S1408x1024.size (outPart_inb a h)) (fun _ => rfl)

/-- The weights as they lie in the scratch buffers after the copies. -/
def wInAll (v7 : Vec F S4x1024x1408 .bf16) : Vec F S2x1024x2816 .bf16 := fun j =>
  v7 (ix3 ⟨2 * (j 0).val + (j 2).val / 1408, by have h0 : (j 0).val < 2 := (j 0).isLt; have h2 : (j 2).val < 2816 := (j 2).isLt; omega⟩
    ⟨(j 1).val, (j 1).isLt⟩ ⟨(j 2).val % 1408, Nat.mod_lt _ (by decide)⟩)
def wOutAll (v8 : Vec F S2x1408x1024 .bf16) : Vec F S2816x1024 .bf16 := fun j =>
  v8 (ix3 ⟨(j 0).val / 1408, by have h0 : (j 0).val < 2816 := (j 0).isLt; omega⟩ ⟨(j 0).val % 1408, Nat.mod_lt _ (by decide)⟩ ⟨(j 1).val, (j 1).isLt⟩)

/-- The elements of the parts, and of the whole buffers. -/
abbrev outSet (a : ℕ) (h : a < 2) : Finset S2816x1024.Idx := (outPart a h).view.set
abbrev inSet (a b : ℕ) (h : a < 2 ∧ b < 2) : Finset S2x1024x2816.Idx := (inPart a b h).view.set
abbrev outAll : Finset S2816x1024.Idx := wOut.view.set
abbrev inAll : Finset S2x1024x2816.Idx := wIn.view.set

theorem ext2 {α : Type} {a b : ℕ} {f g : (⟨2, ![a, b]⟩ : Shape).Idx → α} (h : ∀ (x : Fin a) (y : Fin b), f (ix2 x y) = g (ix2 x y)) : f = g :=
  funext fun j => (congrArg f (ValueIdx.eq_ix2 j)).trans ((h (j 0) (j 1)).trans (congrArg g (ValueIdx.eq_ix2 j).symm))

theorem ix3_congr {n0 n1 n2 : ℕ} {a a' : Fin n0} {b b' : Fin n1} {c c' : Fin n2} (h0 : a = a') (h1 : b = b') (h2 : c = c') :
    ix3 a b c = ix3 a' b' c' := by subst h0; subst h1; subst h2; rfl

theorem outAll_eq : outAll = Finset.univ := (Memref.isWhole_whole cc0_scratch1).set_eq_univ
theorem inAll_eq : inAll = Finset.univ := (Memref.isWhole_whole cc0_scratch0).set_eq_univ

theorem mem_outPart (a : ℕ) (h : a < 2) (i : S2816x1024.Idx) :
    i ∈ outSet a h ↔ (i 0).val / 1408 = a := by
  have e : outSet a h = (Rect.unit (s := S2816x1024) ![1408 * a, 0] S1408x1024.size (outPart_inb a h)).set := View.set_slice_whole _ _
  rw [e]
  refine Rect.mem_set_unit.trans ?_
  have h0 : (i 0).val < 2816 := (i 0).isLt
  have h1 : (i 1).val < 1024 := (i 1).isLt
  constructor
  · intro H
    have e : 1408 * a ≤ (i 0).val ∧ (i 0).val < 1408 * a + 1408 := H (0 : Fin 2)
    omega
  · intro e (x : Fin 2)
    fin_cases x
    · show 1408 * a ≤ (i 0).val ∧ (i 0).val < 1408 * a + 1408
      omega
    · show 0 ≤ (i 1).val ∧ (i 1).val < 0 + 1024
      omega

theorem mem_inPart (a b : ℕ) (h : a < 2 ∧ b < 2) (i : S2x1024x2816.Idx) :
    i ∈ inSet a b h ↔ ((i 0).val = a ∧ (i 2).val / 1408 = b) := by
  have e : inSet a b h = ((View.whole cc0_scratch0).slice (Rect.unit (s := S2x1024x2816) ![a, 0, 1408 * b] S1x1024x1408.size (inPart_inb a b h))).set :=
    Memref.set_view_squeeze _ _
  rw [e, View.set_slice_whole]
  refine Rect.mem_set_unit.trans ?_
  have h0 : (i 0).val < 2 := (i 0).isLt
  have h1 : (i 1).val < 1024 := (i 1).isLt
  have h2 : (i 2).val < 2816 := (i 2).isLt
  constructor
  · intro H
    have e : a ≤ (i 0).val ∧ (i 0).val < a + 1 := H (0 : Fin 3)
    have e' : 1408 * b ≤ (i 2).val ∧ (i 2).val < 1408 * b + 1408 := H (2 : Fin 3)
    omega
  · intro e (x : Fin 3)
    fin_cases x
    · show a ≤ (i 0).val ∧ (i 0).val < a + 1
      omega
    · show 0 ≤ (i 1).val ∧ (i 1).val < 0 + 1024
      omega
    · show 1408 * b ≤ (i 2).val ∧ (i 2).val < 1408 * b + 1408
      omega

theorem out_disjoint : Disjoint (outSet 0 (by decide)) (outSet 1 (by decide)) :=
  Finset.disjoint_left.mpr fun i h0 h1 => by
    have e0 := (mem_outPart 0 (by decide) i).mp h0
    have e1 := (mem_outPart 1 (by decide) i).mp h1
    omega

theorem out_union : outSet 0 (by decide) ∪ outSet 1 (by decide) = outAll := by
  refine Finset.ext fun i => ⟨fun _ => ?_, fun _ => ?_⟩
  · rw [outAll_eq]; exact Finset.mem_univ _
  · have h0 : (i 0).val < 2816 := (i 0).isLt
    rcases (by omega : (i 0).val / 1408 = 0 ∨ (i 0).val / 1408 = 1) with e | e
    · exact Finset.mem_union_left _ ((mem_outPart 0 (by decide) i).mpr e)
    · exact Finset.mem_union_right _ ((mem_outPart 1 (by decide) i).mpr e)

theorem in_disjoint (a b a' b' : ℕ) (h : a < 2 ∧ b < 2) (h' : a' < 2 ∧ b' < 2) (hne : a ≠ a' ∨ b ≠ b') :
    Disjoint (inSet a b h) (inSet a' b' h') :=
  Finset.disjoint_left.mpr fun i h0 h1 => by
    have e0 := (mem_inPart a b h i).mp h0
    have e1 := (mem_inPart a' b' h' i).mp h1
    omega

/-- The first half of the scratch buffer, as what the second half's copies leave of it. -/
theorem in_half : inSet 0 0 (by decide) ∪ inSet 0 1 (by decide)
    = (inAll \ inSet 1 0 (by decide)) \ inSet 1 1 (by decide) := by
  refine Finset.ext fun i => ?_
  have h0 : (i 0).val < 2 := (i 0).isLt
  have h2 : (i 2).val < 2816 := (i 2).isLt
  rw [Finset.mem_union, Finset.mem_sdiff, Finset.mem_sdiff, mem_inPart 0 0 (by decide) i, mem_inPart 0 1 (by decide) i,
    mem_inPart 1 0 (by decide) i, mem_inPart 1 1 (by decide) i, inAll_eq]
  have := Finset.mem_univ i
  constructor
  · intro e; refine ⟨⟨this, ?_⟩, ?_⟩ <;> omega
  · rintro ⟨⟨-, e⟩, e'⟩; omega

theorem in_rest : inSet 1 1 (by decide) ⊆ inAll \ inSet 1 0 (by decide) := fun i hi => by
  have e := (mem_inPart 1 1 (by decide) i).mp hi
  rw [Finset.mem_sdiff, inAll_eq]
  refine ⟨Finset.mem_univ _, fun h => ?_⟩
  have e' := (mem_inPart 1 0 (by decide) i).mp h
  omega

theorem in_sub : inSet 1 0 (by decide) ⊆ inAll := fun i hi => by
  rw [inAll_eq]; exact Finset.mem_univ _

/-- A part whose contents read like `g`'s holds `g`. -/
theorem settle (c : Dev nD) {sp : Space} {S : Shape} {e : EltTy} (M : Memref sig .tc sp S e) (f g : M.view.ty.Contents (Elt F))
    (h : M.view.read (Elt F) f = M.view.read (Elt F) g) :
    (M.view.loc (c : Thread nD τ) ↦[M.view.set]{fullShare} f : sProp 𝕄) = M.view.loc (c : Thread nD τ) ↦[M.view.set]{fullShare} g :=
  pointsTo_congr fun i hi => by
    obtain ⟨x, -, rfl⟩ := Finset.mem_map.mp hi
    exact View.eq_of_read_eq (congrFun h x)

abbrev inW (v7 : Vec F S4x1024x1408 .bf16) : wIn.view.ty.Contents (Elt F) := (Memref.isWhole_whole cc0_scratch0).unread (wInAll v7)
abbrev outW (v8 : Vec F S2x1408x1024 .bf16) : wOut.view.ty.Contents (Elt F) := (Memref.isWhole_whole cc0_scratch1).unread (wOutAll v8)

/-- What the output weights' scratch buffer holds in a part is that slice of the weights. -/
theorem outPart_read (a : ℕ) (h : a < 2) (v8 : Vec F S2x1408x1024 .bf16) (x : Fin 1408) (y : Fin 1024) :
    (outPart a h).view.read (Elt F) (outW v8) (ix2 x y) = v8 (ix3 ⟨a, h⟩ x y) := by
  show (wOut.view.read (Elt F) (outW v8)) ((Rect.unit (s := S2816x1024) ![1408 * a, 0] S1408x1024.size (outPart_inb a h)).emb (ix2 x y)) = _
  rw [(Memref.isWhole_whole cc0_scratch1).read_unread]
  unfold wOutAll
  have hx := x.isLt
  refine congrArg _ (ix3_congr ?_ ?_ ?_)
  · apply Fin.ext; show (1408 * a + 1 * x.val) / 1408 = a; omega
  · apply Fin.ext; show (1408 * a + 1 * x.val) % 1408 = x.val; omega
  · apply Fin.ext; show 0 + 1 * y.val = y.val; omega

theorem inPart_read (a b : ℕ) (h : a < 2 ∧ b < 2) (v7 : Vec F S4x1024x1408 .bf16) (x : Fin 1024) (y : Fin 1408) :
    (inPart a b h).view.read (Elt F) (inW v7) (ix2 x y) = v7 (ix3 ⟨2 * a + b, by omega⟩ x y) := by
  show (wIn.view.read (Elt F) (inW v7)) ((Rect.unit (s := S2x1024x2816) ![a, 0, 1408 * b] S1x1024x1408.size (inPart_inb a b h)).emb
    (Shape.reshapeEquiv _ (ix2 x y))) = _
  rw [(Memref.isWhole_whole cc0_scratch0).read_unread, (show Shape.reshapeEquiv _ (ix2 x y) = ix3 (0 : Fin 1) x y from ValueIdx.reshapeEquiv_ix2_1ab _ x y)]
  unfold wInAll
  have hy := y.isLt
  refine congrArg _ (ix3_congr ?_ ?_ ?_)
  · apply Fin.ext; show 2 * (a + 1 * 0) + (1408 * b + 1 * y.val) / 1408 = 2 * a + b; omega
  · apply Fin.ext; show 0 + 1 * x.val = x.val; omega
  · apply Fin.ext; show (1408 * b + 1 * y.val) % 1408 = y.val; omega

abbrev inHeld (c : Dev nD) (a b : ℕ) (h : a < 2 ∧ b < 2) : sProp 𝕄 :=
  iprop(∃ f, (inPart a b h).view.loc (c : Thread nD τ) ↦[(inPart a b h).view.set]{fullShare} f)
abbrev outHeld (c : Dev nD) (a : ℕ) (h : a < 2) : sProp 𝕄 :=
  iprop(∃ f, (outPart a h).view.loc (c : Thread nD τ) ↦[(outPart a h).view.set]{fullShare} f)

/-- A slice of the weights as the host hands them over. -/
theorem wOutH_inb (a : ℕ) (h : a < 2) : ∀ x, (![a, 0, 0] : Fin 3 → ℕ) x + S1x1408x1024.size x ≤ S2x1408x1024.size x := by
  intro x; fin_cases x
  · show a + 1 ≤ 2; omega
  · show 0 + 1408 ≤ 1408; omega
  · show 0 + 1024 ≤ 1024; omega

theorem wInH_inb (a : ℕ) (h : a < 4) : ∀ x, (![a, 0, 0] : Fin 3 → ℕ) x + S1x1024x1408.size x ≤ S4x1024x1408.size x := by
  intro x; fin_cases x
  · show a + 1 ≤ 4; omega
  · show 0 + 1024 ≤ 1024; omega
  · show 0 + 1408 ≤ 1408; omega

theorem wOutH_read (a : ℕ) (h : a < 2) (v8 : Vec F S2x1408x1024 .bf16) :
    ((wOutH.slice (Rect.unit (s := S2x1408x1024) ![a, 0, 0] S1x1408x1024.size (wOutH_inb a h)) (fun _ => rfl)).squeeze S1408x1024
      squeezes_S1x1408x1024_S1408x1024).view.read (Elt F) ((Memref.isWhole_whole main_v4).unread v8)
      = (outPart a h).view.read (Elt F) (outW v8) := by
  refine ext2 fun x y => ?_
  refine Eq.trans ?_ (outPart_read a h v8 x y).symm
  show (wOutH.view.read (Elt F) ((Memref.isWhole_whole main_v4).unread v8))
    ((Rect.unit (s := S2x1408x1024) ![a, 0, 0] S1x1408x1024.size (wOutH_inb a h)).emb (Shape.reshapeEquiv _ (ix2 x y))) = _
  rw [(Memref.isWhole_whole main_v4).read_unread,
    (show Shape.reshapeEquiv _ (ix2 x y) = ix3 (0 : Fin 1) x y from ValueIdx.reshapeEquiv_ix2_1ab _ _ _)]
  refine congrArg v8 ((ValueIdx.eq_ix3 _).trans (ix3_congr ?_ ?_ ?_))
  · apply Fin.ext; show a + 1 * 0 = a; omega
  · apply Fin.ext; show 0 + 1 * x.val = x.val; omega
  · apply Fin.ext; show 0 + 1 * y.val = y.val; omega

theorem wInH_read (a b : ℕ) (h : a < 2 ∧ b < 2) (v7 : Vec F S4x1024x1408 .bf16) :
    ((wInH.slice (Rect.unit (s := S4x1024x1408) ![2 * a + b, 0, 0] S1x1024x1408.size (wInH_inb (2 * a + b) (by omega))) (fun _ => rfl)).squeeze S1024x1408
      squeezes_S1x1024x1408_S1024x1408).view.read (Elt F) ((Memref.isWhole_whole main_v2).unread v7)
      = (inPart a b h).view.read (Elt F) (inW v7) := by
  refine ext2 fun x y => ?_
  refine Eq.trans ?_ (inPart_read a b h v7 x y).symm
  show (wInH.view.read (Elt F) ((Memref.isWhole_whole main_v2).unread v7))
    ((Rect.unit (s := S4x1024x1408) ![2 * a + b, 0, 0] S1x1024x1408.size (wInH_inb (2 * a + b) (by omega))).emb (Shape.reshapeEquiv _ (ix2 x y))) = _
  rw [(Memref.isWhole_whole main_v2).read_unread,
    (show Shape.reshapeEquiv _ (ix2 x y) = ix3 (0 : Fin 1) x y from ValueIdx.reshapeEquiv_ix2_1ab _ _ _)]
  refine congrArg v7 ((ValueIdx.eq_ix3 _).trans (ix3_congr ?_ ?_ ?_))
  · apply Fin.ext; show (2 * a + b) + 1 * 0 = 2 * a + b; omega
  · apply Fin.ext; show 0 + 1 * x.val = x.val; omega
  · apply Fin.ext; show 0 + 1 * y.val = y.val; omega

/-- A part with its slice of the weights written in holds what the whole buffer will hold there. -/
theorem out_settle (c : Dev nD) (a : ℕ) (h : a < 2) (v8 : Vec F S2x1408x1024 .bf16) (f : (outPart a h).view.ty.Contents (Elt F))
    (p : Vec F S1408x1024 .bf16) (hp : p = (outPart a h).view.read (Elt F) (outW v8)) :
    ((outPart a h).view.loc (c : Thread nD τ) ↦[(outPart a h).view.set]{fullShare} (outPart a h).view.writes (Elt F) f [⟨Rect.whole S1408x1024, p⟩] : sProp 𝕄)
      = (wOut.view.loc (c : Thread nD τ) ↦[outSet a h]{fullShare} outW v8) :=
  settle c (outPart a h) _ (outW v8) ((View.read_writes_whole _ _ _).trans hp)

theorem in_settle (c : Dev nD) (a b : ℕ) (h : a < 2 ∧ b < 2) (v7 : Vec F S4x1024x1408 .bf16) (f : (inPart a b h).view.ty.Contents (Elt F))
    (p : Vec F S1024x1408 .bf16) (hp : p = (inPart a b h).view.read (Elt F) (inW v7)) :
    ((inPart a b h).view.loc (c : Thread nD τ) ↦[(inPart a b h).view.set]{fullShare} (inPart a b h).view.writes (Elt F) f [⟨Rect.whole S1024x1408, p⟩] : sProp 𝕄)
      = (wIn.view.loc (c : Thread nD τ) ↦[inSet a b h]{fullShare} inW v7) :=
  settle c (inPart a b h) _ (inW v7) ((View.read_writes_whole _ _ _).trans hp)

/-- The parts put together. -/
theorem out_join (c : Dev nD) (v8 : Vec F S2x1408x1024 .bf16) :
    iprop((wOut.view.loc (c : Thread nD τ) ↦[outSet 0 (by decide)]{fullShare} outW v8) ∗ wOut.view.loc (c : Thread nD τ) ↦[outSet 1 (by decide)]{fullShare} outW v8)
      ⊢ (wOut.view.loc (c : Thread nD τ) ↦[wOut.view.set]{fullShare} outW v8 : sProp 𝕄) := by
  refine (pointsTo_union out_disjoint).2.trans (Entails.of_eq ?_)
  rw [out_union]

theorem in_join_half (c : Dev nD) (v7 : Vec F S4x1024x1408 .bf16) :
    iprop((wIn.view.loc (c : Thread nD τ) ↦[inSet 0 0 (by decide)]{fullShare} inW v7) ∗ wIn.view.loc (c : Thread nD τ) ↦[inSet 0 1 (by decide)]{fullShare} inW v7)
      ⊢ (wIn.view.loc (c : Thread nD τ) ↦[(wIn.view.set \ inSet 1 0 (by decide)) \ inSet 1 1 (by decide)]{fullShare} inW v7 : sProp 𝕄) := by
  refine (pointsTo_union (in_disjoint 0 0 0 1 (by decide) (by decide) (Or.inr (by decide)))).2.trans (Entails.of_eq ?_)
  rw [in_half]

theorem in_join (c : Dev nD) (v7 : Vec F S4x1024x1408 .bf16) :
    iprop((wIn.view.loc (c : Thread nD τ) ↦[(wIn.view.set \ inSet 1 0 (by decide)) \ inSet 1 1 (by decide)]{fullShare} inW v7)
      ∗ (wIn.view.loc (c : Thread nD τ) ↦[inSet 1 0 (by decide)]{fullShare} inW v7) ∗ wIn.view.loc (c : Thread nD τ) ↦[inSet 1 1 (by decide)]{fullShare} inW v7)
      ⊢ (wIn.view.loc (c : Thread nD τ) ↦[wIn.view.set]{fullShare} inW v7 : sProp 𝕄) := by
  iintro ⟨H, H2, H3⟩
  iapply (pointsTo_split_subset in_sub).2
  isplitl [H2]; · iexact H2
  iapply (pointsTo_split_subset in_rest).2
  isplitl [H3]; · iexact H3
  iexact H

/-- The whole buffers split into the parts. -/
theorem out_split (c : Dev nD) (f : wOut.view.ty.Contents (Elt F)) :
    (wOut.view.loc (c : Thread nD τ) ↦[wOut.view.set]{fullShare} f : sProp 𝕄) ⊢ iprop(outHeld c 0 (by decide) ∗ outHeld c 1 (by decide)) := by
  refine (Entails.of_eq (by rw [show wOut.view.set = outSet 0 (by decide) ∪ outSet 1 (by decide) from out_union.symm])).trans ((pointsTo_union out_disjoint).1.trans ?_)
  iintro ⟨H0, H1⟩
  isplitl [H0]
  · iexists f; iexact H0
  · iexists f; iexact H1

theorem in_split (c : Dev nD) (f : wIn.view.ty.Contents (Elt F)) :
    (wIn.view.loc (c : Thread nD τ) ↦[wIn.view.set]{fullShare} f : sProp 𝕄)
      ⊢ iprop(inHeld c 0 0 (by decide) ∗ inHeld c 0 1 (by decide) ∗ inHeld c 1 0 (by decide) ∗ inHeld c 1 1 (by decide)) := by
  have h : (wIn.view.loc (c : Thread nD τ) ↦[(inAll \ inSet 1 0 (by decide)) \ inSet 1 1 (by decide)]{fullShare} f : sProp 𝕄)
      ⊢ iprop((wIn.view.loc (c : Thread nD τ) ↦[inSet 0 0 (by decide)]{fullShare} f) ∗ wIn.view.loc (c : Thread nD τ) ↦[inSet 0 1 (by decide)]{fullShare} f) := by
    rw [← in_half]
    exact (pointsTo_union (in_disjoint 0 0 0 1 (by decide) (by decide) (Or.inr (by decide)))).1
  iintro H
  icases (pointsTo_split_subset in_sub).1 $$ H with ⟨H2, H⟩
  icases (pointsTo_split_subset in_rest).1 $$ H with ⟨H3, H⟩
  icases h $$ H with ⟨H0, H1⟩
  isplitl [H0]; · iexists f; iexact H0
  isplitl [H1]; · iexists f; iexact H1
  isplitl [H2]; · iexists f; iexact H2
  iexists f; iexact H3

end Cert.Kernel6Ideal.Fwd

end
-- ==== Proof.FwdDone.lean ====
/- The buffers of the two weights once the copies into their parts have ended. -/
module

public import proofs.«01_k».proof.Proof.FwdWeights

@[expose] public section

set_option maxRecDepth 16384
set_option maxHeartbeats 400000

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The slice of the weights that a copy takes, as read from the host's array. -/
abbrev outSlice (a : ℕ) (h : a < 2) (v8 : Vec F S2x1408x1024 .bf16) : Vec F S1408x1024 .bf16 :=
  ((wOutH.slice (Rect.unit (s := S2x1408x1024) ![a, 0, 0] S1x1408x1024.size (wOutH_inb a h)) (fun _ => rfl)).squeeze S1408x1024
      squeezes_S1x1408x1024_S1408x1024).view.read (Elt F) ((Memref.isWhole_whole main_v4).unread v8)
abbrev inSlice (a b : ℕ) (h : a < 2 ∧ b < 2) (v7 : Vec F S4x1024x1408 .bf16) : Vec F S1024x1408 .bf16 :=
  ((wInH.slice (Rect.unit (s := S4x1024x1408) ![2 * a + b, 0, 0] S1x1024x1408.size (wInH_inb (2 * a + b) (by omega))) (fun _ => rfl)).squeeze S1024x1408
      squeezes_S1x1024x1408_S1024x1408).view.read (Elt F) ((Memref.isWhole_whole main_v2).unread v7)

/-- The output weights' buffer once both copies have ended. -/
theorem out_done (c : Dev nD) (v8 : Vec F S2x1408x1024 .bf16) (e0 : (outPart 0 (by decide)).view.ty.Contents (Elt F)) (e1 : (outPart 1 (by decide)).view.ty.Contents (Elt F)) :
    iprop(((outPart 0 (by decide)).view.loc (c : Thread nD τ) ↦[(outPart 0 (by decide)).view.set]{fullShare} (outPart 0 (by decide)).view.writes (Elt F) e0 [⟨Rect.whole S1408x1024, outSlice 0 (by decide) v8⟩])
        ∗ (outPart 1 (by decide)).view.loc (c : Thread nD τ) ↦[(outPart 1 (by decide)).view.set]{fullShare} (outPart 1 (by decide)).view.writes (Elt F) e1 [⟨Rect.whole S1408x1024, outSlice 1 (by decide) v8⟩])
      ⊢ (wOut.view.loc (c : Thread nD τ) ↦[wOut.view.set]{fullShare} outW v8 : sProp 𝕄) := by
  exact (BIClass.sep_mono (Entails.of_eq (out_settle c 0 _ v8 e0 _ (wOutH_read 0 _ v8))) (Entails.of_eq (out_settle c 1 _ v8 e1 _ (wOutH_read 1 _ v8)))).trans (out_join c v8)

/-- The first half of the input weights' buffer once its two copies have ended, -/
theorem in_done_half (c : Dev nD) (v7 : Vec F S4x1024x1408 .bf16) (e0 : (inPart 0 0 (by decide)).view.ty.Contents (Elt F)) (e1 : (inPart 0 1 (by decide)).view.ty.Contents (Elt F)) :
    iprop(((inPart 0 0 (by decide)).view.loc (c : Thread nD τ) ↦[(inPart 0 0 (by decide)).view.set]{fullShare} (inPart 0 0 (by decide)).view.writes (Elt F) e0 [⟨Rect.whole S1024x1408, inSlice 0 0 (by decide) v7⟩])
        ∗ (inPart 0 1 (by decide)).view.loc (c : Thread nD τ) ↦[(inPart 0 1 (by decide)).view.set]{fullShare} (inPart 0 1 (by decide)).view.writes (Elt F) e1 [⟨Rect.whole S1024x1408, inSlice 0 1 (by decide) v7⟩])
      ⊢ (wIn.view.loc (c : Thread nD τ) ↦[(wIn.view.set \ inSet 1 0 (by decide)) \ inSet 1 1 (by decide)]{fullShare} inW v7 : sProp 𝕄) := by
  exact (BIClass.sep_mono (Entails.of_eq (in_settle c 0 0 _ v7 e0 _ (wInH_read 0 0 _ v7))) (Entails.of_eq (in_settle c 0 1 _ v7 e1 _ (wInH_read 0 1 _ v7)))).trans (in_join_half c v7)

/-- and the whole buffer once all four have. -/
theorem in_done (c : Dev nD) (v7 : Vec F S4x1024x1408 .bf16) (e2 : (inPart 1 0 (by decide)).view.ty.Contents (Elt F)) (e3 : (inPart 1 1 (by decide)).view.ty.Contents (Elt F)) :
    iprop((wIn.view.loc (c : Thread nD τ) ↦[(wIn.view.set \ inSet 1 0 (by decide)) \ inSet 1 1 (by decide)]{fullShare} inW v7)
        ∗ ((inPart 1 0 (by decide)).view.loc (c : Thread nD τ) ↦[(inPart 1 0 (by decide)).view.set]{fullShare} (inPart 1 0 (by decide)).view.writes (Elt F) e2 [⟨Rect.whole S1024x1408, inSlice 1 0 (by decide) v7⟩])
        ∗ (inPart 1 1 (by decide)).view.loc (c : Thread nD τ) ↦[(inPart 1 1 (by decide)).view.set]{fullShare} (inPart 1 1 (by decide)).view.writes (Elt F) e3 [⟨Rect.whole S1024x1408, inSlice 1 1 (by decide) v7⟩])
      ⊢ (wIn.view.loc (c : Thread nD τ) ↦[wIn.view.set]{fullShare} inW v7 : sProp 𝕄) := by
  exact (BIClass.sep_mono .rfl (BIClass.sep_mono (Entails.of_eq (in_settle c 1 0 _ v7 e2 _ (wInH_read 1 0 _ v7))) (Entails.of_eq (in_settle c 1 1 _ v7 e3 _ (wInH_read 1 1 _ v7))))).trans (in_join c v7)

end Cert.Kernel6Ideal.Fwd

end
-- ==== Proof.FwdFirst.lean ====
/- The forward feed-forward step at the first grid point: the weights are copied into the scratch buffers and waited for before their use. -/
module

public import proofs.«01_k».proof.Proof.FwdDone

@[expose] public section

set_option maxRecDepth 16384
set_option maxHeartbeats 1000000

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the first point leaves, as pieces (last first), with the proof that it does, and that it leaves the weights in scratch. -/
def runFirst (c : Dev nD) (i : grid0.Coords) (h1 : k0_cond1 i = 1#1) (h2 : ¬ k0_cond2 i = 1#1)
    (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg6 : Memref sig .tc .vmem S512x5632 .bf16) (harg6 : arg6.IsWhole) (arg7 : Memref sig .tc .vmem S512x1024 .f32) (harg7 : arg7.IsWhole) (arg8 : Memref sig .tc .vmem S512x1024 .f32) (harg8 : arg8.IsWhole)
    (x1 : Vec F S512x1024 .f32) (x2 : Vec F S1x1024 .f32) (x3 : Vec F S1x1024 .f32) (v7 : Vec F S4x1024x1408 .bf16) (v8 : Vec F S2x1408x1024 .bf16) :
    { L : List (View.Piece (Elt F) S512x5632 .bf16) × List (View.Piece (Elt F) S512x1024 .f32) × List (View.Piece (Elt F) S512x1024 .f32) //
      ∀ (W : Waits sig Unit) (K : PUnit → sProp 𝕄),
        iprop(owns (c : Thread nD τ) arg1 fullShare x1
            ∗ owns (c : Thread nD τ) arg2 fullShare x2
            ∗ owns (c : Thread nD τ) arg3 fullShare x3
            ∗ (∃ d, owns (c : Thread nD τ) arg6 fullShare d)
            ∗ (∃ d, owns (c : Thread nD τ) arg7 fullShare d)
            ∗ (∃ d, owns (c : Thread nD τ) arg8 fullShare d)
            ∗ owns (c : Thread nD τ) wInH fullShare v7
            ∗ owns (c : Thread nD τ) wOutH fullShare v8
            ∗ inHeld c 0 0 (by decide)
            ∗ inHeld c 0 1 (by decide)
            ∗ inHeld c 1 0 (by decide)
            ∗ inHeld c 1 1 (by decide)
            ∗ outHeld c 0 (by decide)
            ∗ outHeld c 1 (by decide)
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ owes (c : Thread nD τ) 0 W
            ∗ (iprop(owns (c : Thread nD τ) arg1 fullShare x1
            ∗ owns (c : Thread nD τ) arg2 fullShare x2
            ∗ owns (c : Thread nD τ) arg3 fullShare x3
            ∗ (∃ f, arg6.view.loc (c : Thread nD τ) ↦[arg6.view.set]{fullShare} arg6.view.writes (Elt F) f L.1)
            ∗ (∃ f, arg7.view.loc (c : Thread nD τ) ↦[arg7.view.set]{fullShare} arg7.view.writes (Elt F) f L.2.1)
            ∗ (∃ f, arg8.view.loc (c : Thread nD τ) ↦[arg8.view.set]{fullShare} arg8.view.writes (Elt F) f L.2.2)
            ∗ owns (c : Thread nD τ) wInH fullShare v7
            ∗ owns (c : Thread nD τ) wOutH fullShare v8
            ∗ owns (c : Thread nD τ) wIn fullShare (wInAll v7)
            ∗ owns (c : Thread nD τ) wOut fullShare (wOutAll v8)
            ∗ semVal ((c : Thread nD τ), SemLoc.dma 10) 0
            ∗ semVal ((c : Thread nD τ), SemLoc.dma 11) 0
            ∗ semVal ((c : Thread nD τ), SemLoc.dma 12) 0
            ∗ semVal ((c : Thread nD τ), SemLoc.dma 13) 0
            ∗ semVal ((c : Thread nD τ), SemLoc.dma 14) 0
            ∗ semVal ((c : Thread nD τ), SemLoc.dma 15) 0
            ∗ (∃ W', owes (c : Thread nD τ) 0 W')) -∗ K ⟨⟩))
          ⊢ wp frame (wpE (defs₀ (F := F)) Variants.none c none) Set.univ (cc0_fwd_ffn (F := F) i arg1 harg1 arg2 harg2 arg3 harg3 wInH (Memref.isWhole_whole _) wOutH (Memref.isWhole_whole _) arg6 harg6 arg7 harg7 arg8 harg8 wIn (Memref.isWhole_whole _) wOut (Memref.isWhole_whole _) cc0_scratch2) K } := by
  refine ⟨(?_, ?_, ?_), fun W K => ?run⟩
  case run =>
    simp only [cc0_fwd_ffn_eq_skeleton]; unfold cc0_fwd_ffn_skel
    simp only [k0_part1_eq_skeleton, k0_part2_eq_skeleton, k0_part3_eq_skeleton, k0_part4_eq_skeleton, k0_part5_eq_skeleton, k0_part6_eq_skeleton]
    unfold owns
    iintro ⟨⟨%f1, %hf1, H1⟩, ⟨%f2, %hf2, H2⟩, ⟨%f3, %hf3, H3⟩, ⟨%d6, %f6, -, H6⟩, ⟨%d7, %f7, -, H7⟩, ⟨%d8, %f8, -, H8⟩, ⟨%f4, %hf4, H4⟩, ⟨%f5, %hf5, H5⟩, ⟨%g0, I0⟩, ⟨%g1, I1⟩, ⟨%g2, I2⟩, ⟨%g3, I3⟩, ⟨%e0, O0⟩, ⟨%e1, O1⟩, Q0, Q1, Q2, Q3, Q4, Q5, HW, Hk⟩
    obtain rfl := harg1.eq_unread hf1; obtain rfl := harg2.eq_unread hf2; obtain rfl := harg3.eq_unread hf3
    obtain rfl := (Memref.isWhole_whole main_v2).eq_unread hf4; obtain rfl := (Memref.isWhole_whole main_v4).eq_unread hf5
    sl_exec
    ihave H16 := (in_done_half c v7 g0 g1) $$ [I0 I1]
    · isplitl [I0]; · iexact I0
      iexact I1
    sl_exec
    ihave H18 := (in_done c v7 g2 g3) $$ [H16 I2 I3]
    · isplitl [H16]; · iexact H16
      isplitl [I2]; · iexact I2
      iexact I3
    sl_exec
    ihave H17 := (out_done c v8 e0 e1) $$ [O0 O1]
    · isplitl [O0]; · iexact O0
      iexact O1
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H6]; · iexists _; iexact H6
    isplitl [H7]; · iexists _; iexact H7
    isplitl [H8]; · iexists _; iexact H8
    isplitl [H4]
    · iexists _; isplitr; · ipureintro; exact (Memref.isWhole_whole main_v2).read_unread _
      iexact H4
    isplitl [H5]
    · iexists _; isplitr; · ipureintro; exact (Memref.isWhole_whole main_v4).read_unread _
      iexact H5
    isplitl [H18]
    · iexists _; isplitr; · ipureintro; exact (Memref.isWhole_whole cc0_scratch0).read_unread _
      iexact H18
    isplitl [H17]
    · iexists _; isplitr; · ipureintro; exact (Memref.isWhole_whole cc0_scratch1).read_unread _
      iexact H17
    isplitl [Q0]; · iexact Q0
    isplitl [Q1]; · iexact Q1
    isplitl [Q2]; · iexact Q2
    isplitl [Q3]; · iexact Q3
    isplitl [Q4]; · iexact Q4
    isplitl [Q5]; · iexact Q5
    iexists _; iexact HW

end Cert.Kernel6Ideal.Fwd

end
-- ==== Proof.FwdLater.lean ====
/- The forward feed-forward step at a grid point after the first: the weights are in the scratch buffers, nothing is copied. -/
module

public import proofs.«01_k».proof.Proof.FwdDone

@[expose] public section

set_option maxRecDepth 16384
set_option maxHeartbeats 1000000

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a point after the first leaves, as pieces (last first), the weights being in scratch, with the proof that it does. -/
def runLater (c : Dev nD) (i : grid0.Coords) (h1 : ¬ k0_cond1 i = 1#1) (h2 : k0_cond2 i = 1#1)
    (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg6 : Memref sig .tc .vmem S512x5632 .bf16) (harg6 : arg6.IsWhole) (arg7 : Memref sig .tc .vmem S512x1024 .f32) (harg7 : arg7.IsWhole) (arg8 : Memref sig .tc .vmem S512x1024 .f32) (harg8 : arg8.IsWhole)
    (x1 : Vec F S512x1024 .f32) (x2 : Vec F S1x1024 .f32) (x3 : Vec F S1x1024 .f32) (w16 : Vec F S2x1024x2816 .bf16) (w17 : Vec F S2816x1024 .bf16) :
    { L : List (View.Piece (Elt F) S512x5632 .bf16) × List (View.Piece (Elt F) S512x1024 .f32) × List (View.Piece (Elt F) S512x1024 .f32) //
      ∀ (W : Waits sig Unit) (K : PUnit → sProp 𝕄),
        iprop(owns (c : Thread nD τ) arg1 fullShare x1
            ∗ owns (c : Thread nD τ) arg2 fullShare x2
            ∗ owns (c : Thread nD τ) arg3 fullShare x3
            ∗ (∃ d, owns (c : Thread nD τ) arg6 fullShare d)
            ∗ (∃ d, owns (c : Thread nD τ) arg7 fullShare d)
            ∗ (∃ d, owns (c : Thread nD τ) arg8 fullShare d)
            ∗ owns (c : Thread nD τ) wIn fullShare w16
            ∗ owns (c : Thread nD τ) wOut fullShare w17
            ∗ owes (c : Thread nD τ) 0 W
            ∗ (iprop(owns (c : Thread nD τ) arg1 fullShare x1
            ∗ owns (c : Thread nD τ) arg2 fullShare x2
            ∗ owns (c : Thread nD τ) arg3 fullShare x3
            ∗ (∃ f, arg6.view.loc (c : Thread nD τ) ↦[arg6.view.set]{fullShare} arg6.view.writes (Elt F) f L.1)
            ∗ (∃ f, arg7.view.loc (c : Thread nD τ) ↦[arg7.view.set]{fullShare} arg7.view.writes (Elt F) f L.2.1)
            ∗ (∃ f, arg8.view.loc (c : Thread nD τ) ↦[arg8.view.set]{fullShare} arg8.view.writes (Elt F) f L.2.2)
            ∗ owns (c : Thread nD τ) wIn fullShare w16
            ∗ owns (c : Thread nD τ) wOut fullShare w17
            ∗ (∃ W', owes (c : Thread nD τ) 0 W')) -∗ K ⟨⟩))
          ⊢ wp frame (wpE (defs₀ (F := F)) Variants.none c none) Set.univ (cc0_fwd_ffn (F := F) i arg1 harg1 arg2 harg2 arg3 harg3 wInH (Memref.isWhole_whole _) wOutH (Memref.isWhole_whole _) arg6 harg6 arg7 harg7 arg8 harg8 wIn (Memref.isWhole_whole _) wOut (Memref.isWhole_whole _) cc0_scratch2) K } := by
  refine ⟨(?_, ?_, ?_), fun W K => ?run⟩
  case run =>
    simp only [cc0_fwd_ffn_eq_skeleton]; unfold cc0_fwd_ffn_skel
    simp only [k0_part1_eq_skeleton, k0_part2_eq_skeleton, k0_part3_eq_skeleton, k0_part4_eq_skeleton, k0_part5_eq_skeleton, k0_part6_eq_skeleton]
    unfold owns
    iintro ⟨⟨%f1, %hf1, H1⟩, ⟨%f2, %hf2, H2⟩, ⟨%f3, %hf3, H3⟩, ⟨%d6, %f6, -, H6⟩, ⟨%d7, %f7, -, H7⟩, ⟨%d8, %f8, -, H8⟩, ⟨%f16, %hf16, H16⟩, ⟨%f17, %hf17, H17⟩, HW, Hk⟩
    obtain rfl := harg1.eq_unread hf1; obtain rfl := harg2.eq_unread hf2; obtain rfl := harg3.eq_unread hf3
    obtain rfl := (Memref.isWhole_whole cc0_scratch0).eq_unread hf16; obtain rfl := (Memref.isWhole_whole cc0_scratch1).eq_unread hf17
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H6]; · iexists _; iexact H6
    isplitl [H7]; · iexists _; iexact H7
    isplitl [H8]; · iexists _; iexact H8
    isplitl [H16]
    · iexists _; isplitr; · ipureintro; exact (Memref.isWhole_whole cc0_scratch0).read_unread _
      iexact H16
    isplitl [H17]
    · iexists _; isplitr; · ipureintro; exact (Memref.isWhole_whole cc0_scratch1).read_unread _
      iexact H17
    iexists _; iexact HW

end Cert.Kernel6Ideal.Fwd

end
-- ==== Proof.FwdFrame.lean ====
/- The forward feed-forward step's run: what each point leaves, the body's invariant from point to point, the launch and the frame. -/
module

public import proofs.«01_k».proof.Proof.FwdFirst
public import proofs.«01_k».proof.Proof.FwdLater
public import proofs.«01_k».proof.Proof.Gen.Kernel6Ideal.Points
public import Idealize.ShloMosaic.Lib.Pipeline.FrameBody

@[expose] public section

set_option maxRecDepth 16384
set_option maxHeartbeats 600000

noncomputable section

namespace Cert.Kernel6Ideal.Fwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

theorem cond1_iff : ∀ t : Fin grid0.N, k0_cond1 (grid0.coords t) = 1#1 ↔ t.val = 0 := by decide +kernel
theorem cond2_iff : ∀ t : Fin grid0.N, k0_cond2 (grid0.coords t) = 1#1 ↔ t.val ≠ 0 := by decide +kernel

/-- The two weights as the launch finds them. -/
abbrev vIn (c : Dev nD) : Vec F S4x1024x1408 .bf16 := wInH.view.read (Elt F) (V m c main_v2)
abbrev vOut (c : Dev nD) : Vec F S2x1408x1024 .bf16 := wOutH.view.read (Elt F) (V m c main_v4)

/-- What a point leaves in the three results' staging buffers. -/
structure Left (F : FTy → Type) where
  gu : Vec F S512x5632 .bf16
  f : Vec F S512x1024 .f32
  xo : Vec F S512x1024 .f32
abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)
abbrev hs0_3 (t : Fin cfg0.N) : (st0_3 t).IsWhole := hstage0_3 ((cfg0.slots t 3).cast nbuf0_3)
abbrev hs0_4 (t : Fin cfg0.N) : (st0_4 t).IsWhole := hstage0_4 ((cfg0.slots t 4).cast nbuf0_4)
abbrev hs0_5 (t : Fin cfg0.N) : (st0_5 t).IsWhole := hstage0_5 ((cfg0.slots t 5).cast nbuf0_5)

/-- The run at the first point, at that point's memrefs and blocks, -/
def first (c : Dev nD) (t : Fin cfg0.N) (h : t.val = 0) :=
  runFirst c (grid0.coords t) ((cond1_iff t).mpr h) (fun e => (cond2_iff t).mp e h) (st0_0 t) (hs0_0 t) (st0_1 t) (hs0_1 t) (st0_2 t) (hs0_2 t) (st0_3 t) (hs0_3 t) (st0_4 t) (hs0_4 t) (st0_5 t) (hs0_5 t) (iblk m c 0 t) (iblk m c 1 t) (iblk m c 2 t) (vIn m c) (vOut m c)

/-- and at a later one. -/
def later (c : Dev nD) (t : Fin cfg0.N) (h : t.val ≠ 0) :=
  runLater c (grid0.coords t) (fun e => h ((cond1_iff t).mp e)) ((cond2_iff t).mpr h) (st0_0 t) (hs0_0 t) (st0_1 t) (hs0_1 t) (st0_2 t) (hs0_2 t) (st0_3 t) (hs0_3 t) (st0_4 t) (hs0_4 t) (st0_5 t) (hs0_5 t) (iblk m c 0 t) (iblk m c 1 t) (iblk m c 2 t) (wInAll (vIn m c)) (wOutAll (vOut m c))

/-- What the pieces of a staging buffer read as. -/
abbrev fill {sp : Space} {S : Shape} {e : EltTy} (M : Memref sig .tc sp S e) (L : List (View.Piece (Elt F) S e)) : Vec F S e :=
  M.view.read (Elt F) (M.view.writes (Elt F) M.view.junk L)

def leftFirst (c : Dev nD) (t : Fin cfg0.N) (h : t.val = 0) : Left F where
  gu := fill (st0_3 t) (first m c t h).1.1
  f := fill (st0_4 t) (first m c t h).1.2.1
  xo := fill (st0_5 t) (first m c t h).1.2.2

def leftLater (c : Dev nD) (t : Fin cfg0.N) (h : t.val ≠ 0) : Left F where
  gu := fill (st0_3 t) (later m c t h).1.1
  f := fill (st0_4 t) (later m c t h).1.2.1
  xo := fill (st0_5 t) (later m c t h).1.2.2

/-- What point `t` leaves. -/
def outsAt (c : Dev nD) (t : Fin cfg0.N) : Left F := if h : t.val = 0 then leftFirst m c t h else leftLater m c t h

theorem outsAt_first (c : Dev nD) (t : Fin cfg0.N) (h : t.val = 0) : outsAt m c t = leftFirst m c t h := dif_pos h
theorem outsAt_later (c : Dev nD) (t : Fin cfg0.N) (h : t.val ≠ 0) : outsAt m c t = leftLater m c t h := dif_neg h

/-! ## The pieces fill their buffers -/

theorem coverFirst_gu (c : Dev nD) (t : Fin cfg0.N) (h : t.val = 0) (y : S512x5632.Idx) : ∃ pc ∈ (first m c t h).1.1, y ∈ pc.1.set :=
  View.cover_of_tiledBy (first m c t h).1.1 ![256, 256] (by sl_kernel_rfl) y
theorem coverLater_gu (c : Dev nD) (t : Fin cfg0.N) (h : t.val ≠ 0) (y : S512x5632.Idx) : ∃ pc ∈ (later m c t h).1.1, y ∈ pc.1.set :=
  View.cover_of_tiledBy (later m c t h).1.1 ![256, 256] (by sl_kernel_rfl) y
theorem coverFirst_f (c : Dev nD) (t : Fin cfg0.N) (h : t.val = 0) (y : S512x1024.Idx) : ∃ pc ∈ (first m c t h).1.2.1, y ∈ pc.1.set :=
  View.cover_of_tiledL (first m c t h).1.2.1 S512x1024.size (by sl_kernel_rfl) y
theorem coverLater_f (c : Dev nD) (t : Fin cfg0.N) (h : t.val ≠ 0) (y : S512x1024.Idx) : ∃ pc ∈ (later m c t h).1.2.1, y ∈ pc.1.set :=
  View.cover_of_tiledL (later m c t h).1.2.1 S512x1024.size (by sl_kernel_rfl) y
theorem coverFirst_xo (c : Dev nD) (t : Fin cfg0.N) (h : t.val = 0) (y : S512x1024.Idx) : ∃ pc ∈ (first m c t h).1.2.2, y ∈ pc.1.set :=
  View.cover_of_tiledL (first m c t h).1.2.2 S512x1024.size (by sl_kernel_rfl) y
theorem coverLater_xo (c : Dev nD) (t : Fin cfg0.N) (h : t.val ≠ 0) (y : S512x1024.Idx) : ∃ pc ∈ (later m c t h).1.2.2, y ∈ pc.1.set :=
  View.cover_of_tiledL (later m c t h).1.2.2 S512x1024.size (by sl_kernel_rfl) y

/-! ## The invariant -/

/-- The body's own DMA cells. -/
abbrev cells : Fin 6 → SemLoc sig := fun j => (![SemLoc.dma 10, SemLoc.dma 11, SemLoc.dma 12, SemLoc.dma 13, SemLoc.dma 14, SemLoc.dma 15] : Fin 6 → SemLoc sig) j

theorem cellFacts : Pipeline.OwnSemFacts spec0 cells := by decide

theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 10) 0 ∗ semVal ((c : Thread nD τ), SemLoc.dma 11) 0 ∗ semVal ((c : Thread nD τ), SemLoc.dma 12) 0
          ∗ semVal ((c : Thread nD τ), SemLoc.dma 13) 0 ∗ semVal ((c : Thread nD τ), SemLoc.dma 14) 0 ∗ semVal ((c : Thread nD τ), SemLoc.dma 15) 0) := by
  rw [Pipeline.ownSems0_eq_of_list c cells [0, 1, 2, 3, 4, 5] (by decide) (by decide)]; rfl

/-- The arrays that the body reads itself. -/
def weights : Finset (Ref sig .tc) := {main_v2, main_v4}
theorem weights_sub : weights ⊆ Pipeline.restRefs sig spec0 := by decide
theorem weights_eq (c : Dev nD) :
    (bigSep weights (fun b => ((c : Thread nD τ).loc b) ↦{fullShare} V m c b) : sProp 𝕄)
      = iprop((((c : Thread nD τ).loc main_v2) ↦{fullShare} V m c main_v2) ∗ (((c : Thread nD τ).loc main_v4) ↦{fullShare} V m c main_v4)) := by
  rw [BI.bigSep_eq_bigSepL_of_eq [main_v2, main_v4] (by decide) (by decide)]; rfl

/-- A whole buffer, held as a memref that reads its contents. -/
theorem owns_whole (c : Dev nD) (b : Ref sig .tc) (f : Buf (Elt F) ((c : Thread nD τ).loc b)) :
    (owns (c : Thread nD τ) (Memref.whole b) fullShare ((Memref.whole b).view.read (Elt F) f) : sProp 𝕄) ⊣⊢ (((c : Thread nD τ).loc b) ↦{fullShare} f) := by
  unfold owns
  rw [(Memref.isWhole_whole b).set_eq_univ]
  constructor
  · iintro ⟨%g, %e, H⟩
    obtain rfl : g = f := ((Memref.isWhole_whole b).eq_unread e).trans ((Memref.isWhole_whole b).eq_unread rfl).symm
    iexact H
  · iintro H
    iexists f
    isplitr; · ipureintro; rfl
    iexact H

/-- What every point finds and leaves: the weights in the host's arrays, the semaphores at zero. -/
def common (c : Dev nD) : sProp 𝕄 :=
  iprop((∃ r, prngReg c r) ∗ owns (c : Thread nD τ) wInH fullShare (vIn m c) ∗ owns (c : Thread nD τ) wOutH fullShare (vOut m c)
    ∗ semVal ((c : Thread nD τ), SemLoc.dma 10) 0 ∗ semVal ((c : Thread nD τ), SemLoc.dma 11) 0 ∗ semVal ((c : Thread nD τ), SemLoc.dma 12) 0
    ∗ semVal ((c : Thread nD τ), SemLoc.dma 13) 0 ∗ semVal ((c : Thread nD τ), SemLoc.dma 14) 0 ∗ semVal ((c : Thread nD τ), SemLoc.dma 15) 0)

/-- The scratch buffers at some contents, and at the weights. -/
def blank (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def filled (c : Dev nD) : sProp 𝕄 :=
  iprop(owns (c : Thread nD τ) wIn fullShare (wInAll (vIn m c)) ∗ owns (c : Thread nD τ) wOut fullShare (wOutAll (vOut m c)))

def scratch (c : Dev nD) (n : ℕ) : sProp 𝕄 := if n = 0 then blank c else filled m c

/-- The body's invariant before point `n`. -/
def inv (c : Dev nD) (n : ℕ) : sProp 𝕄 := iprop(common m c ∗ scratch m c n)

theorem filled_blank (c : Dev nD) : (filled m c : sProp 𝕄) ⊢ blank c := by
  unfold filled blank owns
  rw [(Memref.isWhole_whole cc0_scratch0).set_eq_univ, (Memref.isWhole_whole cc0_scratch1).set_eq_univ]
  iintro ⟨⟨%f, -, A⟩, ⟨%g, -, B⟩⟩
  isplitl [A]
  · iexists f; iexact A
  · iexists g; iexact B

theorem blank_parts (c : Dev nD) :
    (blank c : sProp 𝕄) ⊢ iprop((inHeld c 0 0 (by decide) ∗ inHeld c 0 1 (by decide) ∗ inHeld c 1 0 (by decide) ∗ inHeld c 1 1 (by decide)) ∗ outHeld c 0 (by decide) ∗ outHeld c 1 (by decide)) := by
  unfold blank
  iintro ⟨⟨%f, A⟩, ⟨%g, B⟩⟩
  isplitl [A]
  · iapply (in_split c f)
    rw [(Memref.isWhole_whole cc0_scratch0).set_eq_univ]
    iexact A
  · iapply (out_split c g)
    rw [(Memref.isWhole_whole cc0_scratch1).set_eq_univ]
    iexact B

theorem launch_eq (c : Dev nD) :
    (Pipeline.ΦD cells spec0 weights (V m) c : sProp 𝕄) ⊣⊢ iprop(common m c ∗ blank c) := by
  rw [Pipeline.ΦD_eq, scopedRest0_eq, cells_eq, weights_eq]
  unfold common blank
  constructor
  · iintro ⟨⟨A, B⟩, P, ⟨S0, S1, S2, S3, S4, S5⟩, ⟨X, Y⟩⟩
    isplitr [A B]
    · isplitl [P]; · iexact P
      isplitl [X]; · iapply (owns_whole c main_v2 (V m c main_v2)).2; iexact X
      isplitl [Y]; · iapply (owns_whole c main_v4 (V m c main_v4)).2; iexact Y
      isplitl [S0]; · iexact S0
      isplitl [S1]; · iexact S1
      isplitl [S2]; · iexact S2
      isplitl [S3]; · iexact S3
      isplitl [S4]; · iexact S4
      iexact S5
    isplitl [A]; · iexact A
    iexact B
  · iintro ⟨⟨P, X, Y, S0, S1, S2, S3, S4, S5⟩, ⟨A, B⟩⟩
    isplitl [A B]
    · isplitl [A]; · iexact A
      iexact B
    isplitl [P]; · iexact P
    isplitl [S0 S1 S2 S3 S4 S5]
    · isplitl [S0]; · iexact S0
      isplitl [S1]; · iexact S1
      isplitl [S2]; · iexact S2
      isplitl [S3]; · iexact S3
      isplitl [S4]; · iexact S4
      iexact S5
    isplitl [X]; · iapply (owns_whole c main_v2 (V m c main_v2)).1; iexact X
    iapply (owns_whole c main_v4 (V m c main_v4)).1; iexact Y

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t).gu
    | ⟨4, _⟩ => (outsAt m c t).f
    | ⟨5, _⟩ => (outsAt m c t).xo
  Φ n := inv m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t).gu := by dsimp only [dats]
theorem after_4 (c : Dev nD) (t : Fin cfg0.N) : (dats m 0 c).after 4 t = (outsAt m c t).f := by dsimp only [dats]
theorem after_5 (c : Dev nD) (t : Fin cfg0.N) : (dats m 0 c).after 5 t = (outsAt m c t).xo := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem live_3 : ∀ i : grid0.Coords, cfg0.idle 3 i = false := by decide +kernel
theorem live_4 : ∀ i : grid0.Coords, cfg0.idle 4 i = false := by decide +kernel
theorem live_5 : ∀ i : grid0.Coords, cfg0.idle 5 i = false := by decide +kernel

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem body_first (c : Dev nD) (t : Fin cfg0.N) (h : t.val = 0) :
    (bodyPre m c t : sProp 𝕄) ⊢ wp frame (wpE (defs₀ (F := F)) Variants.none c none) Set.univ (bodyAt0 t) (fun _ => bodyPost m c t) := by
  unfold bodyPre bodyPost bodyAt0 Dat.owesAt Pipeline.owesWithin
  rw [show (dats m 0 c).Φ t.castSucc = inv m c t.val from rfl, show (dats m 0 c).owed t.castSucc = 0 from rfl,
    show (dats m 0 c).Φ t.succ = inv m c (t.val + 1) from rfl, show (dats m 0 c).owed t.succ = 0 from rfl]
  unfold inv
  simp only [before_0, before_1, before_2]
  rw [after_0, after_1, after_2, after_3, after_4, after_5, outsAt_first m c t h, show (scratch m c t.val : sProp 𝕄) = blank c from if_pos h, show (scratch m c (t.val + 1) : sProp 𝕄) = filled m c from if_neg (Nat.succ_ne_zero _)]
  unfold leftFirst common filled
  iintro ⟨⟨⟨P, H4, H5, Q0, Q1, Q2, Q3, Q4, Q5⟩, B⟩, ⟨%W, -, HW⟩, ⟨%d1, H1⟩, ⟨%d2, H2⟩, ⟨%d3, H3⟩, ⟨%d6, H6⟩, ⟨%d7, H7⟩, ⟨%d8, H8⟩⟩
  icases (blank_parts c) $$ B with ⟨⟨I0, I1, I2, I3⟩, O0, O1⟩
  iapply ((first m c t h).2 W _)
  isplitl [H1]; · iexact H1
  isplitl [H2]; · iexact H2
  isplitl [H3]; · iexact H3
  isplitl [H6]; · iexists _; iexact H6
  isplitl [H7]; · iexists _; iexact H7
  isplitl [H8]; · iexists _; iexact H8
  isplitl [H4]; · iexact H4
  isplitl [H5]; · iexact H5
  isplitl [I0]; · iexact I0
  isplitl [I1]; · iexact I1
  isplitl [I2]; · iexact I2
  isplitl [I3]; · iexact I3
  isplitl [O0]; · iexact O0
  isplitl [O1]; · iexact O1
  isplitl [Q0]; · iexact Q0
  isplitl [Q1]; · iexact Q1
  isplitl [Q2]; · iexact Q2
  isplitl [Q3]; · iexact Q3
  isplitl [Q4]; · iexact Q4
  isplitl [Q5]; · iexact Q5
  isplitl [HW]; · iexact HW
  iintro ⟨H1, H2, H3, ⟨%e6, H6⟩, ⟨%e7, H7⟩, ⟨%e8, H8⟩, H4, H5, H16, H17, Q0, Q1, Q2, Q3, Q4, Q5, HW⟩
  isplitl [P H4 H5 Q0 Q1 Q2 Q3 Q4 Q5 H16 H17]
  · isplitl [P H4 H5 Q0 Q1 Q2 Q3 Q4 Q5]
    · isplitl [P]; · iexact P
      isplitl [H4]; · iexact H4
      isplitl [H5]; · iexact H5
      isplitl [Q0]; · iexact Q0
      isplitl [Q1]; · iexact Q1
      isplitl [Q2]; · iexact Q2
      isplitl [Q3]; · iexact Q3
      isplitl [Q4]; · iexact Q4
      iexact Q5
    isplitl [H16]; · iexact H16
    iexact H17
  isplitl [HW]
  · icases HW with ⟨%W2, HW⟩
    iexists W2; isplitr; · ipureintro; exact fun _ _ => Or.inl trivial
    iexact HW
  isplitl [H1]; · iexact H1
  isplitl [H2]; · iexact H2
  isplitl [H3]; · iexact H3
  isplitl [H6]
  · unfold owns; iexists _; isplitr
    swap; · iexact H6
    ipureintro; exact View.read_writes_of_cover _ _ _ _ _ (coverFirst_gu m c t h)
  isplitl [H7]
  · unfold owns; iexists _; isplitr
    swap; · iexact H7
    ipureintro; exact View.read_writes_of_cover _ _ _ _ _ (coverFirst_f m c t h)
  unfold owns; iexists _; isplitr
  swap; · iexact H8
  ipureintro; exact View.read_writes_of_cover _ _ _ _ _ (coverFirst_xo m c t h)

theorem body_later (c : Dev nD) (t : Fin cfg0.N) (h : t.val ≠ 0) :
    (bodyPre m c t : sProp 𝕄) ⊢ wp frame (wpE (defs₀ (F := F)) Variants.none c none) Set.univ (bodyAt0 t) (fun _ => bodyPost m c t) := by
  unfold bodyPre bodyPost bodyAt0 Dat.owesAt Pipeline.owesWithin
  rw [show (dats m 0 c).Φ t.castSucc = inv m c t.val from rfl, show (dats m 0 c).owed t.castSucc = 0 from rfl,
    show (dats m 0 c).Φ t.succ = inv m c (t.val + 1) from rfl, show (dats m 0 c).owed t.succ = 0 from rfl]
  unfold inv
  simp only [before_0, before_1, before_2]
  rw [after_0, after_1, after_2, after_3, after_4, after_5, outsAt_later m c t h, show (scratch m c t.val : sProp 𝕄) = filled m c from if_neg h, show (scratch m c (t.val + 1) : sProp 𝕄) = filled m c from if_neg (Nat.succ_ne_zero _)]
  unfold leftLater filled
  iintro ⟨⟨C, ⟨H16, H17⟩⟩, ⟨%W, -, HW⟩, ⟨%d1, H1⟩, ⟨%d2, H2⟩, ⟨%d3, H3⟩, ⟨%d6, H6⟩, ⟨%d7, H7⟩, ⟨%d8, H8⟩⟩
  iapply ((later m c t h).2 W _)
  isplitl [H1]; · iexact H1
  isplitl [H2]; · iexact H2
  isplitl [H3]; · iexact H3
  isplitl [H6]; · iexists _; iexact H6
  isplitl [H7]; · iexists _; iexact H7
  isplitl [H8]; · iexists _; iexact H8
  isplitl [H16]; · iexact H16
  isplitl [H17]; · iexact H17
  isplitl [HW]; · iexact HW
  iintro ⟨H1, H2, H3, ⟨%e6, H6⟩, ⟨%e7, H7⟩, ⟨%e8, H8⟩, H16, H17, HW⟩
  isplitl [C H16 H17]
  · isplitl [C]; · iexact C
    isplitl [H16]; · iexact H16
    iexact H17
  isplitl [HW]
  · icases HW with ⟨%W2, HW⟩
    iexists W2; isplitr; · ipureintro; exact fun _ _ => Or.inl trivial
    iexact HW
  isplitl [H1]; · iexact H1
  isplitl [H2]; · iexact H2
  isplitl [H3]; · iexact H3
  isplitl [H6]
  · unfold owns; iexists _; isplitr
    swap; · iexact H6
    ipureintro; exact View.read_writes_of_cover _ _ _ _ _ (coverLater_gu m c t h)
  isplitl [H7]
  · unfold owns; iexists _; isplitr
    swap; · iexact H7
    ipureintro; exact View.read_writes_of_cover _ _ _ _ _ (coverLater_f m c t h)
  unfold owns; iexists _; isplitr
  swap; · iexact H8
  ipureintro; exact View.read_writes_of_cover _ _ _ _ _ (coverLater_xo m c t h)

theorem sound_body (c : Dev nD) (t : Fin cfg0.N) :
    (bodyPre m c t : sProp 𝕄) ⊢ wp frame (wpE (defs₀ (F := F)) Variants.none c none) Set.univ (bodyAt0 t) (fun _ => bodyPost m c t) := by
  by_cases h : t.val = 0
  · exact body_first m c t h
  · exact body_later m c t h

/-! ## The launch -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rw [live_3]
  exact triple_restated (sound_body m c t) rfl .rfl fun _ => .rfl

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem inv_first (c : Dev nD) : (iprop(common m c ∗ blank c) : sProp 𝕄) ⊢ inv m c 0 := by
  unfold inv; rw [show (scratch m c 0 : sProp 𝕄) = blank c from if_pos rfl]
theorem inv_last (c : Dev nD) : (inv m c 8 : sProp 𝕄) ⊢ iprop(common m c ∗ blank c) := by
  unfold inv; rw [show (scratch m c 8 : sProp 𝕄) = filled m c from if_neg (by decide)]
  exact BIClass.sep_mono .rfl (filled_blank m c)

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 cells defs₀ Variants.none cellFacts weights weights_sub m ρ main
    (hbody := fun c => (body_obligation m c).loose) (hshare := fun c => (dats m 0 c).share_full fun _ => rfl)
    (howed := fun _ _ => rfl) (V := V m) (hmain := hmain m Variants.none) (hA := A_eq m)
    (hin := fun c => (launch_eq m c).1.trans (inv_first m c)) (hout := fun c => (inv_last m c).trans (launch_eq m c).2)

/-- The program ends, its arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩, hz⟩) (run_main m ρ)

/-- It ends with each result array as its window left it, and its arguments are unchanged. -/
theorem run_results : θ_run defs (onTc (τ := τ) (main (F := F))) ⟨m, fun _ => 0, ρ⟩ (fun r => ∀ c : Dev nD,
      r.2.mem ((c.tc : Thread nD τ).loc main_v7_0) = (dats m 0 c).arrAt 3 cfg0.N
      ∧ r.2.mem ((c.tc : Thread nD τ).loc main_v7_1) = (dats m 0 c).arrAt 4 cfg0.N
      ∧ r.2.mem ((c.tc : Thread nD τ).loc main_v7_2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ ⟨h, _⟩ c => ⟨(h c).1 3, (h c).1 4, (h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel6Ideal.Fwd

end
-- ==== Proof.FwdRow.lean ====
/- The feed-forward block's forward pass, one row at a time, on extended reals: every step is the one both programs take. -/
module

public import Idealize.ShloMosaic.PureOps.Ideal
public import Idealize.ShloMosaic.Lib.Pointwise
public import Idealize.ShloMosaic.Lib.IdealHost

@[expose] public section

noncomputable section

namespace Cert.Proof.FwdRow

open Idealize.ShloMosaic

/-- A row over its root mean square, times a gain. -/
def norm (a g : Fin 1024 → EReal) (k : Fin 1024) : EReal :=
  a k * Ideal.rsqrt (Ideal.div (∑ j, a j * a j) (Ideal.ofBits .f32 0x44800000#32) + Ideal.ofBits .f32 0x358637BD#32) * g k

/-- A gate `u` through `u / (1 + exp (-u))`, times `v`. -/
def gated (u v : EReal) : EReal := u * Ideal.div 1 (1 + Ideal.exp (-u)) * v

/-- A row times a matrix. -/
def proj {K N : ℕ} (a : Fin K → EReal) (w : Fin K → Fin N → EReal) (n : Fin N) : EReal := ∑ k, a k * w k n

/-- The gated columns: the first half of the row is the gate, the second half the other factor. -/
def act (u : Fin 5632 → EReal) (n : Fin 2816) : EReal := gated (u ⟨n.val, by omega⟩) (u ⟨2816 + n.val, by omega⟩)

/-- The block's arguments: the rows, the two gains and the two weights. -/
structure Data where
  x : Fin 4096 → Fin 1024 → EReal
  gp : Fin 1024 → EReal
  go : Fin 1024 → EReal
  wi : Fin 1024 → Fin 5632 → EReal
  wo : Fin 2816 → Fin 1024 → EReal

namespace Data

variable (D : Data)

/-- Its three results. -/
def gu (p : Fin 4096) : Fin 5632 → EReal := proj (norm (D.x p) D.gp) D.wi
def f (p : Fin 4096) : Fin 1024 → EReal := proj (act (D.gu p)) D.wo
def xo (p : Fin 4096) (k : Fin 1024) : EReal := D.x p k + norm (D.f p) D.go k

end Data

end Cert.Proof.FwdRow

end
-- ==== Proof.FwdTile.lean ====
/- What the forward step's stores hold, entry by entry. -/
module

public import proofs.«01_k».proof.Proof.FwdRow
public import proofs.«01_k».proof.Proof.Gen.Kernel6Ideal.Skeleton
public import Idealize.ShloMosaic.Lib.Pointwise

@[expose] public section

set_option maxRecDepth 16384
set_option maxHeartbeats 1000000

noncomputable section

namespace Cert.Kernel6Ideal.Fwd

open Idealize.ShloMosaic Idealize.ShloMosaic.TcCoe Idealize.SL.Sem
open Cert.Kernel6Ideal Cert.Kernel6Ideal.Gen Cert.Proof.FwdRow

theorem zero_less (a : EReal) : 0 - a = -a := zero_sub a

/-- A matrix has these entries. -/
abbrev Is {A B : ℕ} (X : (⟨2, ![A, B]⟩ : Shape).Idx → EReal) (a : Fin A → Fin B → EReal) : Prop := ∀ p j, X (ix2 p j) = a p j

/-! ## At the first point -/

/-- The normed rows. -/
theorem norm3 (x : Vec Ideal S512x1024 .f32) (g : Vec Ideal S1x1024 .f32) {a : Fin 512 → Fin 1024 → EReal} {γ : Fin 1 → Fin 1024 → EReal} (hx : Is x a) (hg : Is g γ) : Is (k0_pay3 x g) fun p => norm (a p) (γ 0) := fun p k => by
  pointwise [k0_pay3]
  simp only [hx _ _, hg _ _]
  rfl

theorem pay5 (x : Vec Ideal S512x1024 .f32) (g : Vec Ideal S1x1024 .f32) (w : Vec Ideal S1x1024x1536 .bf16) {a : Fin 512 → Fin 1024 → EReal} {γ : Fin 1 → Fin 1024 → EReal} {ω : Fin 1024 → Fin 1536 → EReal} (hx : Is x a) (hg : Is g γ) (hw : ∀ k n, w (ix3 0 k n) = ω k n) :
    Is (k0_pay5 x g w) fun p => proj (norm (a p) (γ 0)) ω := fun p n => by
  pointwise [k0_pay5]
  simp only [norm3 x g hx hg _ _, hw _ _]
  rfl

theorem pay6 (h : FVec Ideal S512x1024 .bf16) (w : Vec Ideal S1x1024x1536 .bf16) {η : Fin 512 → Fin 1024 → EReal} {ω : Fin 1024 → Fin 1536 → EReal} (hh : Is h η) (hw : ∀ k n, w (ix3 0 k n) = ω k n) :
    Is (k0_pay6 h w) fun p => proj (η p) ω := fun p n => by
  pointwise [k0_pay6]
  simp only [hh _ _, hw _ _]
  rfl

theorem pay7 (u : FVec Ideal S512x1536 .f32) {υ : Fin 512 → Fin 1536 → EReal} (hu : Is u υ) : Is (k0_pay7 u) υ := fun p n => by
  pointwise [k0_pay7]
  exact hu p n

theorem pay8 (h : FVec Ideal S512x1024 .bf16) (w : Vec Ideal S1x1024x1536 .bf16) {η : Fin 512 → Fin 1024 → EReal} {ω : Fin 1024 → Fin 1536 → EReal} (hh : Is h η) (hw : ∀ k n, w (ix3 0 k n) = ω k n) :
    Is (k0_pay8 h w) fun p => proj (η p) ω := fun p n => by
  pointwise [k0_pay8]
  exact pay6 h w hh hw p n

theorem pay9 (h : FVec Ideal S512x1024 .bf16) (u : FVec Ideal S512x1536 .f32) (w : Vec Ideal S1x1024x1536 .bf16) {η : Fin 512 → Fin 1024 → EReal} {υ : Fin 512 → Fin 1536 → EReal} {ω : Fin 1024 → Fin 1536 → EReal} (hh : Is h η) (hu : Is u υ) (hw : ∀ k n, w (ix3 0 k n) = ω k n) :
    Is (k0_pay9 h u w) fun p n => gated (υ p n) (proj (η p) ω n) := fun p n => by
  pointwise [k0_pay9]
  simp only [hu _ _, pay6 h w hh hw _ _, zero_less]
  rfl

theorem pay10 (h : FVec Ideal S512x1024 .bf16) (w : Vec Ideal S1x1024x1280 .bf16) {η : Fin 512 → Fin 1024 → EReal} {ω : Fin 1024 → Fin 1280 → EReal} (hh : Is h η) (hw : ∀ k n, w (ix3 0 k n) = ω k n) :
    Is (k0_pay10 h w) fun p => proj (η p) ω := fun p n => by
  pointwise [k0_pay10]
  simp only [hh _ _, hw _ _]
  rfl

theorem pay11 (h : FVec Ideal S512x1024 .bf16) (w : Vec Ideal S1x1024x1280 .bf16) {η : Fin 512 → Fin 1024 → EReal} {ω : Fin 1024 → Fin 1280 → EReal} (hh : Is h η) (hw : ∀ k n, w (ix3 0 k n) = ω k n) :
    Is (k0_pay11 h w) fun p => proj (η p) ω := fun p n => by
  pointwise [k0_pay11]
  simp only [hh _ _, hw _ _]
  rfl

theorem pay12 (h : FVec Ideal S512x1024 .bf16) (w : Vec Ideal S1x1024x1280 .bf16) {η : Fin 512 → Fin 1024 → EReal} {ω : Fin 1024 → Fin 1280 → EReal} (hh : Is h η) (hw : ∀ k n, w (ix3 0 k n) = ω k n) :
    Is (k0_pay12 h w) fun p => proj (η p) ω := fun p n => by
  pointwise [k0_pay12]
  exact pay10 h w hh hw p n

theorem pay13 (h : FVec Ideal S512x1024 .bf16) (w : Vec Ideal S1x1024x1280 .bf16) {η : Fin 512 → Fin 1024 → EReal} {ω : Fin 1024 → Fin 1280 → EReal} (hh : Is h η) (hw : ∀ k n, w (ix3 0 k n) = ω k n) :
    Is (k0_pay13 h w) fun p => proj (η p) ω := fun p n => by
  pointwise [k0_pay13]
  exact pay11 h w hh hw p n

theorem zero4 (p : Fin 512) (k : Fin 1024) : (k0_pay4 : FVec Ideal S512x1024 .f32) (ix2 p k) = 0 := by
  pointwise [k0_pay4]

/-- The gated product times the second weight, in two runs of columns. -/
theorem pay14 (h : FVec Ideal S512x1024 .bf16) (y : FVec Ideal S512x1536 .f32) (w₁ : Vec Ideal S1536x1024 .bf16) (v : Vec Ideal S1x1024x1280 .bf16) (w : Vec Ideal S1x1024x1280 .bf16) (w₂ : Vec Ideal S1280x1024 .bf16)
    {η : Fin 512 → Fin 1024 → EReal} {α : Fin 512 → Fin 1536 → EReal} {σ : Fin 1024 → Fin 1280 → EReal} {τ : Fin 1024 → Fin 1280 → EReal} {ω₁ : Fin 1536 → Fin 1024 → EReal} {ω₂ : Fin 1280 → Fin 1024 → EReal} (hh : Is h η) (hy : Is y α) (hv : ∀ k n, v (ix3 0 k n) = σ k n) (hw : ∀ k n, w (ix3 0 k n) = τ k n) (h₁ : Is w₁ ω₁) (h₂ : Is w₂ ω₂) :
    Is (k0_pay14 h k0_pay4 y w₁ v w w₂) fun p k => ∑ n, α p n * ω₁ n k + ∑ n, gated (proj (η p) σ n) (proj (η p) τ n) * ω₂ n k := fun p k => by
  pointwise [k0_pay14]
  simp only [zero4, hy _ _, h₁ _ _, h₂ _ _, pay10 h v hh hv _ _, pay11 h w hh hw _ _, zero_less, zero_add]
  rfl

/-- The row plus the normed product. -/
theorem pay1 (x f : Vec Ideal S512x1024 .f32) (g : Vec Ideal S1x1024 .f32) {a b : Fin 512 → Fin 1024 → EReal} {γ : Fin 1 → Fin 1024 → EReal} (hx : Is x a) (hf : Is f b) (hg : Is g γ) :
    Is (k0_pay1 x f g) fun p k => a p k + norm (b p) (γ 0) k := fun p k => by
  pointwise [k0_pay1]
  simp only [hx _ _, hf _ _, hg _ _]
  rfl

/-! ## At a later point -/

/-- The normed rows. -/
theorem norm15 (x : Vec Ideal S512x1024 .f32) (g : Vec Ideal S1x1024 .f32) {a : Fin 512 → Fin 1024 → EReal} {γ : Fin 1 → Fin 1024 → EReal} (hx : Is x a) (hg : Is g γ) : Is (k0_pay15 x g) fun p => norm (a p) (γ 0) := fun p k => by
  pointwise [k0_pay15]
  simp only [hx _ _, hg _ _]
  rfl

theorem pay17 (x : Vec Ideal S512x1024 .f32) (g : Vec Ideal S1x1024 .f32) (w : Vec Ideal S1x1024x1536 .bf16) {a : Fin 512 → Fin 1024 → EReal} {γ : Fin 1 → Fin 1024 → EReal} {ω : Fin 1024 → Fin 1536 → EReal} (hx : Is x a) (hg : Is g γ) (hw : ∀ k n, w (ix3 0 k n) = ω k n) :
    Is (k0_pay17 x g w) fun p => proj (norm (a p) (γ 0)) ω := fun p n => by
  pointwise [k0_pay17]
  simp only [norm15 x g hx hg _ _, hw _ _]
  rfl

theorem pay18 (x : Vec Ideal S512x1024 .f32) (g : Vec Ideal S1x1024 .f32) (w : Vec Ideal S1x1024x1536 .bf16) {a : Fin 512 → Fin 1024 → EReal} {γ : Fin 1 → Fin 1024 → EReal} {ω : Fin 1024 → Fin 1536 → EReal} (hx : Is x a) (hg : Is g γ) (hw : ∀ k n, w (ix3 0 k n) = ω k n) :
    Is (k0_pay18 x g w) fun p => proj (norm (a p) (γ 0)) ω := fun p n => by
  pointwise [k0_pay18]
  simp only [norm15 x g hx hg _ _, hw _ _]
  rfl

theorem pay19 (x : Vec Ideal S512x1024 .f32) (g : Vec Ideal S1x1024 .f32) (w : Vec Ideal S1x1024x1536 .bf16) {a : Fin 512 → Fin 1024 → EReal} {γ : Fin 1 → Fin 1024 → EReal} {ω : Fin 1024 → Fin 1536 → EReal} (hx : Is x a) (hg : Is g γ) (hw : ∀ k n, w (ix3 0 k n) = ω k n) :
    Is (k0_pay19 x g w) fun p => proj (norm (a p) (γ 0)) ω := fun p n => by
  pointwise [k0_pay19]
  exact pay17 x g w hx hg hw p n

theorem pay20 (x : Vec Ideal S512x1024 .f32) (g : Vec Ideal S1x1024 .f32) (w : Vec Ideal S1x1024x1536 .bf16) {a : Fin 512 → Fin 1024 → EReal} {γ : Fin 1 → Fin 1024 → EReal} {ω : Fin 1024 → Fin 1536 → EReal} (hx : Is x a) (hg : Is g γ) (hw : ∀ k n, w (ix3 0 k n) = ω k n) :
    Is (k0_pay20 x g w) fun p => proj (norm (a p) (γ 0)) ω := fun p n => by
  pointwise [k0_pay20]
  exact pay18 x g w hx hg hw p n

theorem pay21 (x : Vec Ideal S512x1024 .f32) (g : Vec Ideal S1x1024 .f32) (w : Vec Ideal S1x1024x1536 .bf16) {a : Fin 512 → Fin 1024 → EReal} {γ : Fin 1 → Fin 1024 → EReal} {ω : Fin 1024 → Fin 1536 → EReal} (hx : Is x a) (hg : Is g γ) (hw : ∀ k n, w (ix3 0 k n) = ω k n) :
    Is (k0_pay21 x g w) fun p n => proj (norm (a p) (γ 0)) ω n * Ideal.div 1 (1 + Ideal.exp (-proj (norm (a p) (γ 0)) ω n)) := fun p n => by
  pointwise [k0_pay21]
  simp only [pay17 x g w hx hg hw _ _, zero_less]

theorem pay22 (h : FVec Ideal S512x1024 .bf16) (w : Vec Ideal S1x1024x1280 .bf16) {η : Fin 512 → Fin 1024 → EReal} {ω : Fin 1024 → Fin 1280 → EReal} (hh : Is h η) (hw : ∀ k n, w (ix3 0 k n) = ω k n) :
    Is (k0_pay22 h w) fun p => proj (η p) ω := fun p n => by
  pointwise [k0_pay22]
  simp only [hh _ _, hw _ _]
  rfl

theorem pay23 (h : FVec Ideal S512x1024 .bf16) (w : Vec Ideal S1x1024x1280 .bf16) {η : Fin 512 → Fin 1024 → EReal} {ω : Fin 1024 → Fin 1280 → EReal} (hh : Is h η) (hw : ∀ k n, w (ix3 0 k n) = ω k n) :
    Is (k0_pay23 h w) fun p => proj (η p) ω := fun p n => by
  pointwise [k0_pay23]
  simp only [hh _ _, hw _ _]
  rfl

theorem pay24 (h : FVec Ideal S512x1024 .bf16) (w : Vec Ideal S1x1024x1280 .bf16) {η : Fin 512 → Fin 1024 → EReal} {ω : Fin 1024 → Fin 1280 → EReal} (hh : Is h η) (hw : ∀ k n, w (ix3 0 k n) = ω k n) :
    Is (k0_pay24 h w) fun p => proj (η p) ω := fun p n => by
  pointwise [k0_pay24]
  exact pay22 h w hh hw p n

theorem pay25 (h : FVec Ideal S512x1024 .bf16) (w : Vec Ideal S1x1024x1280 .bf16) {η : Fin 512 → Fin 1024 → EReal} {ω : Fin 1024 → Fin 1280 → EReal} (hh : Is h η) (hw : ∀ k n, w (ix3 0 k n) = ω k n) :
    Is (k0_pay25 h w) fun p => proj (η p) ω := fun p n => by
  pointwise [k0_pay25]
  exact pay23 h w hh hw p n

theorem zero16 (p : Fin 512) (k : Fin 1024) : (k0_pay16 : FVec Ideal S512x1024 .f32) (ix2 p k) = 0 := by
  pointwise [k0_pay16]

theorem pay26 (h : FVec Ideal S512x1024 .bf16) (u s : FVec Ideal S512x1536 .f32) (w₁ : Vec Ideal S1536x1024 .bf16) (v : Vec Ideal S1x1024x1280 .bf16) (w : Vec Ideal S1x1024x1280 .bf16) (w₂ : Vec Ideal S1280x1024 .bf16)
    {η : Fin 512 → Fin 1024 → EReal} {μ υ : Fin 512 → Fin 1536 → EReal} {σ : Fin 1024 → Fin 1280 → EReal} {τ : Fin 1024 → Fin 1280 → EReal} {ω₁ : Fin 1536 → Fin 1024 → EReal} {ω₂ : Fin 1280 → Fin 1024 → EReal} (hh : Is h η) (hu : Is u μ) (hs : Is s fun p n => υ p n * Ideal.div 1 (1 + Ideal.exp (-υ p n)))
    (hv : ∀ k n, v (ix3 0 k n) = σ k n) (hw : ∀ k n, w (ix3 0 k n) = τ k n) (h₁ : Is w₁ ω₁) (h₂ : Is w₂ ω₂) :
    Is (k0_pay26 h k0_pay16 u s w₁ v w w₂) fun p k => ∑ n, gated (υ p n) (μ p n) * ω₁ n k + ∑ n, gated (proj (η p) σ n) (proj (η p) τ n) * ω₂ n k := fun p k => by
  pointwise [k0_pay26]
  simp only [zero16, hu _ _, hs _ _, h₁ _ _, h₂ _ _, pay22 h v hh hv _ _, pay23 h w hh hw _ _, zero_less, zero_add]
  rfl

theorem pay2 (x f : Vec Ideal S512x1024 .f32) (g : Vec Ideal S1x1024 .f32) {a b : Fin 512 → Fin 1024 → EReal} {γ : Fin 1 → Fin 1024 → EReal} (hx : Is x a) (hf : Is f b) (hg : Is g γ)
    (q : FVec Ideal S512x1024 .f32) (hq : Is q fun p k => b p k * b p k) :
    Is (k0_pay2 x f (k0_pay27 g) q) fun p k => a p k + norm (b p) (γ 0) k := fun p k => by
  pointwise [k0_pay2, k0_pay27]
  simp only [hx _ _, hf _ _, hg _ _, hq _ _]
  rfl

theorem pay28 (h : FVec Ideal S512x1024 .bf16) (z : FVec Ideal S512x1024 .f32) (u s : FVec Ideal S512x1536 .f32) (w₁ : Vec Ideal S1536x1024 .bf16) (v : Vec Ideal S1x1024x1280 .bf16) (w : Vec Ideal S1x1024x1280 .bf16) (w₂ : Vec Ideal S1280x1024 .bf16)
    {b : Fin 512 → Fin 1024 → EReal} (hb : Is (k0_pay26 h z u s w₁ v w w₂) b) : Is (k0_pay28 h z u s w₁ v w w₂) fun p k => b p k * b p k := fun p k => by
  pointwise [k0_pay28]
  simp only [hb _ _]

end Cert.Kernel6Ideal.Fwd

end
-- ==== Proof.FwdBlocks.lean ====
/- What a point of the forward step leaves, as arrays of its block's rows. -/
module

public import proofs.«01_k».proof.Proof.FwdFrame
public import proofs.«01_k».proof.Proof.FwdTile
public import Idealize.ShloMosaic.Lib.Tactic.Stretches
public import Idealize.ShloMosaic.Lib.WholeRead
public import Idealize.ShloMosaic.Lib.Pipeline.ValueKit
public import Idealize.ShloMosaic.Lib.Pipeline.ReadBack

@[expose] public section

set_option maxRecDepth 16384
set_option maxHeartbeats 1000000

noncomputable section

namespace Cert.Kernel6Ideal.Fwd

open Idealize.ShloMosaic Idealize.ShloMosaic.TcCoe Idealize.ShloMosaic.Tactic Idealize.SL.Sem
open Cert.Kernel6Ideal Cert.Kernel6Ideal.Gen Cert.Proof.FwdRow

/-! ## Reading a rectangle of a buffer whose entries are known -/

theorem rd2f {sp : Space} {A B A' B' : ℕ} (M : Memref sig .tc sp ⟨2, ![A, B]⟩ .f32) (hM : M.IsWhole)
    (X : Vec Ideal ⟨2, ![A, B]⟩ .f32) (o1 o2 : ℕ) (inb : ∀ a, (![o1, o2] : Fin 2 → ℕ) a + (![A', B'] : Fin 2 → ℕ) a ≤ (⟨2, ![A, B]⟩ : Shape).size a)
    {x : Fin A → Fin B → EReal} (h : Is X x) {y : Fin A' → Fin B' → EReal}
    (hy : ∀ (p : Fin A') (j : Fin B') (hp : o1 + p.val < A) (hj : o2 + j.val < B), x ⟨o1 + p.val, hp⟩ ⟨o2 + j.val, hj⟩ = y p j) :
    Is (A := A') (B := B') (View.readAt (Elt Ideal) M.view (Rect.unit (s := ⟨2, ![A, B]⟩) ![o1, o2] ![A', B'] inb).toLoadRect (hM.unread X)) y := by
  intro p j
  have hp : o1 + p.val < A := lt_of_lt_of_le (Nat.add_lt_add_left p.isLt o1) (inb 0)
  have hj : o2 + j.val < B := lt_of_lt_of_le (Nat.add_lt_add_left j.isLt o2) (inb 1)
  rw [hM.readAt_unread]
  refine Eq.trans (congrArg X ?_) ((h ⟨o1 + p.val, hp⟩ ⟨o2 + j.val, hj⟩).trans (hy p j hp hj))
  funext a
  match a with
  | ⟨0, _⟩ => exact Fin.ext (ValueKit.rect_emb_unit_val ..)
  | ⟨1, _⟩ => exact Fin.ext (ValueKit.rect_emb_unit_val ..)

theorem rd2h {sp : Space} {A B A' B' : ℕ} (M : Memref sig .tc sp ⟨2, ![A, B]⟩ .bf16) (hM : M.IsWhole)
    (X : Vec Ideal ⟨2, ![A, B]⟩ .bf16) (o1 o2 : ℕ) (inb : ∀ a, (![o1, o2] : Fin 2 → ℕ) a + (![A', B'] : Fin 2 → ℕ) a ≤ (⟨2, ![A, B]⟩ : Shape).size a)
    {x : Fin A → Fin B → EReal} (h : Is X x) {y : Fin A' → Fin B' → EReal}
    (hy : ∀ (p : Fin A') (j : Fin B') (hp : o1 + p.val < A) (hj : o2 + j.val < B), x ⟨o1 + p.val, hp⟩ ⟨o2 + j.val, hj⟩ = y p j) :
    Is (A := A') (B := B') (View.readAt (Elt Ideal) M.view (Rect.unit (s := ⟨2, ![A, B]⟩) ![o1, o2] ![A', B'] inb).toLoadRect (hM.unread X)) y := by
  intro p j
  have hp : o1 + p.val < A := lt_of_lt_of_le (Nat.add_lt_add_left p.isLt o1) (inb 0)
  have hj : o2 + j.val < B := lt_of_lt_of_le (Nat.add_lt_add_left j.isLt o2) (inb 1)
  rw [hM.readAt_unread]
  refine Eq.trans (congrArg X ?_) ((h ⟨o1 + p.val, hp⟩ ⟨o2 + j.val, hj⟩).trans (hy p j hp hj))
  funext a
  match a with
  | ⟨0, _⟩ => exact Fin.ext (ValueKit.rect_emb_unit_val ..)
  | ⟨1, _⟩ => exact Fin.ext (ValueKit.rect_emb_unit_val ..)

theorem rd3 {sp : Space} {A B C B' C' : ℕ} (M : Memref sig .tc sp ⟨3, ![A, B, C]⟩ .bf16) (hM : M.IsWhole)
    (X : Vec Ideal ⟨3, ![A, B, C]⟩ .bf16) (o1 o2 o3 : ℕ) (inb : ∀ a, (![o1, o2, o3] : Fin 3 → ℕ) a + (![1, B', C'] : Fin 3 → ℕ) a ≤ (⟨3, ![A, B, C]⟩ : Shape).size a)
    {x : Fin A → Fin B → Fin C → EReal} (h : ∀ p j k, X (ix3 p j k) = x p j k) {y : Fin B' → Fin C' → EReal}
    (hy : ∀ (j : Fin B') (k : Fin C') (hp : o1 + 0 < A) (hj : o2 + j.val < B) (hk : o3 + k.val < C), x ⟨o1 + 0, hp⟩ ⟨o2 + j.val, hj⟩ ⟨o3 + k.val, hk⟩ = y j k)
    (j : Fin B') (k : Fin C') :
    View.readAt (Elt Ideal) M.view (Rect.unit (s := ⟨3, ![A, B, C]⟩) ![o1, o2, o3] ![1, B', C'] inb).toLoadRect (hM.unread X) (ix3 (0 : Fin 1) j k) = y j k := by
  have hp : o1 + 0 < A := lt_of_lt_of_le (Nat.lt_succ_self o1) (inb 0)
  have hj : o2 + j.val < B := lt_of_lt_of_le (Nat.add_lt_add_left j.isLt o2) (inb 1)
  have hk : o3 + k.val < C := lt_of_lt_of_le (Nat.add_lt_add_left k.isLt o3) (inb 2)
  rw [hM.readAt_unread]
  refine Eq.trans (congrArg X ?_) ((h ⟨o1 + 0, hp⟩ ⟨o2 + j.val, hj⟩ ⟨o3 + k.val, hk⟩).trans (hy j k hp hj hk))
  funext a
  match a with
  | ⟨0, _⟩ => exact Fin.ext (ValueKit.rect_emb_unit_val ..)
  | ⟨1, _⟩ => exact Fin.ext (ValueKit.rect_emb_unit_val ..)
  | ⟨2, _⟩ => exact Fin.ext (ValueKit.rect_emb_unit_val ..)

/-! ## The columns, in the four runs the block works on -/

abbrev lo (n : Fin 1536) : Fin 2816 := ⟨n.val, by omega⟩
abbrev hi (n : Fin 1280) : Fin 2816 := ⟨1536 + n.val, by omega⟩
abbrev e1 (n : Fin 1536) : Fin 5632 := ⟨n.val, by omega⟩
abbrev e2 (n : Fin 1280) : Fin 5632 := ⟨1536 + n.val, by omega⟩
abbrev e3 (n : Fin 1536) : Fin 5632 := ⟨2816 + n.val, by omega⟩
abbrev e4 (n : Fin 1280) : Fin 5632 := ⟨4352 + n.val, by omega⟩

/-- The two runs' sums are the sum over all the gated columns. -/
theorem runs (h : Fin 1024 → EReal) (wi : Fin 1024 → Fin 5632 → EReal) (wo : Fin 2816 → Fin 1024 → EReal) (k : Fin 1024) :
    ∑ n, gated (proj h (fun k n => wi k (e1 n)) n) (proj h (fun k n => wi k (e3 n)) n) * wo (lo n) k
      + ∑ n, gated (proj h (fun k n => wi k (e2 n)) n) (proj h (fun k n => wi k (e4 n)) n) * wo (hi n) k = proj (act (proj h wi)) wo k := by
  refine Eq.symm ((Fin.sum_univ_add (a := 1536) (b := 1280) (fun n : Fin (1536 + 1280) => act (proj h wi) ⟨n.val, n.isLt⟩ * wo ⟨n.val, n.isLt⟩ k)).trans ?_)
  refine congrArg₂ (· + ·) rfl (Finset.sum_congr rfl fun n _ => congrArg (fun z => gated (proj h wi (e2 n)) (proj h wi z) * wo (hi n) k) (Fin.ext ?_))
  show 2816 + (1536 + n.val) = 4352 + n.val
  omega

/-! ## The pieces of an array -/

abbrev of2 {A B : ℕ} (r : Fin A → Fin B → EReal) : (⟨2, ![A, B]⟩ : Shape).Idx → EReal := fun i => r (i 0) (i 1)

theorem piece_of {A B A' B' : ℕ} (o1 o2 : ℕ) (inb : ∀ a, (![o1, o2] : Fin 2 → ℕ) a + (![A', B'] : Fin 2 → ℕ) a ≤ (⟨2, ![A, B]⟩ : Shape).size a)
    {v : (⟨2, ![A', B']⟩ : Shape).Idx → EReal} {w : Fin A' → Fin B' → EReal} (hv : Is v w) (r : Fin A → Fin B → EReal)
    (hr : ∀ (p : Fin A') (j : Fin B') (hp : o1 + p.val < A) (hj : o2 + j.val < B), w p j = r ⟨o1 + p.val, hp⟩ ⟨o2 + j.val, hj⟩)
    (x : (Rect.unit (s := ⟨2, ![A, B]⟩) ![o1, o2] ![A', B'] inb).shape.Idx) :
    v x = of2 r ((Rect.unit (s := ⟨2, ![A, B]⟩) ![o1, o2] ![A', B'] inb).emb x) := by
  obtain ⟨p, j, rfl⟩ : ∃ (p : Fin A') (j : Fin B'), x = ix2 p j := ⟨x 0, x 1, eq_ix2 x⟩
  have hp : o1 + p.val < A := lt_of_lt_of_le (Nat.add_lt_add_left p.isLt o1) (inb 0)
  have hj : o2 + j.val < B := lt_of_lt_of_le (Nat.add_lt_add_left j.isLt o2) (inb 1)
  have e : (Rect.unit (s := ⟨2, ![A, B]⟩) ![o1, o2] ![A', B'] inb).emb (ix2 p j) = ix2 (⟨o1 + p.val, hp⟩ : Fin A) (⟨o2 + j.val, hj⟩ : Fin B) := by
    funext a
    match a with
    | ⟨0, _⟩ => exact Fin.ext (ValueKit.rect_emb_unit_val ..)
    | ⟨1, _⟩ => exact Fin.ext (ValueKit.rect_emb_unit_val ..)
  exact (hv p j).trans ((hr p j hp hj).trans (congrArg (of2 r) e).symm)

theorem fill_pieces {sp : Space} {S : Shape} {e : EltTy} (M : Memref sig .tc sp S e) (G : Vec Ideal S e) (L : List (View.Piece (Elt Ideal) S e))
    (h : View.PiecesOf G L) (hc : ∀ y, ∃ p ∈ L, y ∈ p.1.set) : fill M L = G := by
  refine (View.read_writes_eq_canon _ _ _ hc).trans (funext fun y => ?_)
  exact (congrArg (fun l => View.canon l y) (List.append_nil L).symm).trans (View.canon_append_of_piecesOf G [] L h y (hc y))

/-! ## What a point leaves -/

theorem leftFirst_gu (m : (ℓ : Loc nD τ sig) → Buf (Elt Ideal) ℓ) (c : Dev nD) (t : Fin cfg0.N) (h : t.val = 0) {a : Fin 512 → Fin 1024 → EReal} {γ δ : Fin 1 → Fin 1024 → EReal} {wo : Fin 2816 → Fin 1024 → EReal} {wi : Fin 1024 → Fin 5632 → EReal}
    (hx0 : Is (iblk m c 0 t) a) (hx1 : Is (iblk m c 1 t) γ) (hx2 : Is (iblk m c 2 t) δ)
    (hO : Is (wOutAll (vOut m c)) wo) (hI : ∀ (b : Fin 2) (k : Fin 1024) (n : Fin 2816), wInAll (vIn m c) (ix3 b k n) = wi k ⟨2816 * b.val + n.val, by omega⟩) :
    (leftFirst m c t h).gu = of2 (A := 512) (fun p => proj (norm (a p) (γ 0)) wi) := by
  refine fill_pieces _ (of2 (A := 512) (fun p => proj (norm (a p) (γ 0)) wi)) _ ?_ (coverFirst_gu m c t h)
  unfold first runFirst; dsimp only; sl_open_run
  skip
  refine ⟨piece_of (A := 512) (B := 5632) (A' := 512) (B' := 1280) 0 4352 inb_S512x5632_S512x1280_0_4352 (w := fun p n => proj (norm (a p) (γ 0)) wi (e4 n)) ?_ _ (fun p j _ _ => by simp only [Nat.zero_add, Fin.eta]), piece_of (A := 512) (B := 5632) (A' := 512) (B' := 1280) 0 1536 inb_S512x5632_S512x1280_0_1536 (w := fun p n => proj (norm (a p) (γ 0)) wi (e2 n)) ?_ _ (fun p j _ _ => by simp only [Nat.zero_add, Fin.eta]), piece_of (A := 512) (B := 5632) (A' := 512) (B' := 1536) 0 2816 inb_S512x5632_S512x1536_0_2816 (w := fun p n => proj (norm (a p) (γ 0)) wi (e3 n)) ?_ _ (fun p j _ _ => by simp only [Nat.zero_add, Fin.eta]), piece_of (A := 512) (B := 5632) (A' := 512) (B' := 1536) 0 0 inb_S512x5632_S512x1536_0_0 (w := fun p n => proj (norm (a p) (γ 0)) wi (e1 n)) ?_ _ (fun p j _ _ => by simp only [Nat.zero_add, Fin.eta]), trivial⟩
  · exact pay13 _ _ (norm3 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (rd3 (y := fun k n => wi k (e4 n)) _ (Memref.isWhole_whole cc0_scratch0) _ 1 0 1536 _ hI (fun j k _ _ _ => congrArg₂ wi (Fin.ext (Nat.zero_add _)) (Fin.ext (by simp only [e4]; omega))))
  · exact pay12 _ _ (norm3 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (rd3 (y := fun k n => wi k (e2 n)) _ (Memref.isWhole_whole cc0_scratch0) _ 0 0 1536 _ hI (fun j k _ _ _ => congrArg₂ wi (Fin.ext (Nat.zero_add _)) (Fin.ext (by simp only [e2]; omega))))
  · exact pay8 _ _ (norm3 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (rd3 (y := fun k n => wi k (e3 n)) _ (Memref.isWhole_whole cc0_scratch0) _ 1 0 0 _ hI (fun j k _ _ _ => congrArg₂ wi (Fin.ext (Nat.zero_add _)) (Fin.ext (by simp only [e3]; omega))))
  · exact pay7 _ (pay5 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e1 n)) _ (Memref.isWhole_whole cc0_scratch0) _ 0 0 0 _ hI (fun j k _ _ _ => congrArg₂ wi (Fin.ext (Nat.zero_add _)) (Fin.ext (by simp only [e1]; omega)))))

theorem leftFirst_f (m : (ℓ : Loc nD τ sig) → Buf (Elt Ideal) ℓ) (c : Dev nD) (t : Fin cfg0.N) (h : t.val = 0) {a : Fin 512 → Fin 1024 → EReal} {γ δ : Fin 1 → Fin 1024 → EReal} {wo : Fin 2816 → Fin 1024 → EReal} {wi : Fin 1024 → Fin 5632 → EReal}
    (hx0 : Is (iblk m c 0 t) a) (hx1 : Is (iblk m c 1 t) γ) (hx2 : Is (iblk m c 2 t) δ)
    (hO : Is (wOutAll (vOut m c)) wo) (hI : ∀ (b : Fin 2) (k : Fin 1024) (n : Fin 2816), wInAll (vIn m c) (ix3 b k n) = wi k ⟨2816 * b.val + n.val, by omega⟩) :
    (leftFirst m c t h).f = of2 (A := 512) (fun p => proj (act (proj (norm (a p) (γ 0)) wi)) wo) := by
  refine fill_pieces _ (of2 (A := 512) (fun p => proj (act (proj (norm (a p) (γ 0)) wi)) wo)) _ ?_ (coverFirst_f m c t h)
  unfold first runFirst; dsimp only; sl_open_run
  skip
  refine ⟨piece_of (A := 512) (B := 1024) (A' := 512) (B' := 1024) 0 0 inb_S512x1024_S512x1024_0_0 (w := fun p => proj (act (proj (norm (a p) (γ 0)) wi)) wo) ?_ _ (fun p j _ _ => by simp only [Nat.zero_add, Fin.eta]), trivial⟩
  exact (fun p k => (pay14 _ _ _ _ _ _ (norm3 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (pay9 _ _ _ (norm3 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (pay5 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e1 n)) _ (Memref.isWhole_whole cc0_scratch0) _ 0 0 0 _ hI (fun j k _ _ _ => congrArg₂ wi (Fin.ext (Nat.zero_add _)) (Fin.ext (by simp only [e1]; omega))))) (rd3 (y := fun k n => wi k (e3 n)) _ (Memref.isWhole_whole cc0_scratch0) _ 1 0 0 _ hI (fun j k _ _ _ => congrArg₂ wi (Fin.ext (Nat.zero_add _)) (Fin.ext (by simp only [e3]; omega))))) (rd3 (y := fun k n => wi k (e2 n)) _ (Memref.isWhole_whole cc0_scratch0) _ 0 0 1536 _ hI (fun j k _ _ _ => congrArg₂ wi (Fin.ext (Nat.zero_add _)) (Fin.ext (by simp only [e2]; omega)))) (rd3 (y := fun k n => wi k (e4 n)) _ (Memref.isWhole_whole cc0_scratch0) _ 1 0 1536 _ hI (fun j k _ _ _ => congrArg₂ wi (Fin.ext (Nat.zero_add _)) (Fin.ext (by simp only [e4]; omega)))) (rd2h (y := fun n => wo (lo n)) _ (Memref.isWhole_whole cc0_scratch1) _ 0 0 _ hO (fun p j _ _ => congrArg₂ wo (Fin.ext (by simp only [lo, Nat.zero_add])) (Fin.ext (Nat.zero_add _)))) (rd2h (y := fun n => wo (hi n)) _ (Memref.isWhole_whole cc0_scratch1) _ 1536 0 _ hO (fun p j _ _ => congrArg₂ wo (Fin.ext (by simp only [hi, Nat.zero_add])) (Fin.ext (Nat.zero_add _)))) p k).trans (runs _ wi wo k))

theorem leftFirst_xo (m : (ℓ : Loc nD τ sig) → Buf (Elt Ideal) ℓ) (c : Dev nD) (t : Fin cfg0.N) (h : t.val = 0) {a : Fin 512 → Fin 1024 → EReal} {γ δ : Fin 1 → Fin 1024 → EReal} {wo : Fin 2816 → Fin 1024 → EReal} {wi : Fin 1024 → Fin 5632 → EReal}
    (hx0 : Is (iblk m c 0 t) a) (hx1 : Is (iblk m c 1 t) γ) (hx2 : Is (iblk m c 2 t) δ)
    (hO : Is (wOutAll (vOut m c)) wo) (hI : ∀ (b : Fin 2) (k : Fin 1024) (n : Fin 2816), wInAll (vIn m c) (ix3 b k n) = wi k ⟨2816 * b.val + n.val, by omega⟩) :
    (leftFirst m c t h).xo = of2 (A := 512) (fun p k => a p k + norm (proj (act (proj (norm (a p) (γ 0)) wi)) wo) (δ 0) k) := by
  refine fill_pieces _ (of2 (A := 512) (fun p k => a p k + norm (proj (act (proj (norm (a p) (γ 0)) wi)) wo) (δ 0) k)) _ ?_ (coverFirst_xo m c t h)
  unfold first runFirst; dsimp only; sl_open_run
  skip
  refine ⟨piece_of (A := 512) (B := 1024) (A' := 512) (B' := 1024) 0 0 inb_S512x1024_S512x1024_0_0 (w := fun p k => a p k + norm (proj (act (proj (norm (a p) (γ 0)) wi)) wo) (δ 0) k) ?_ _ (fun p j _ _ => by simp only [Nat.zero_add, Fin.eta]), trivial⟩
  exact pay1 _ _ _ (rd2f (y := a) _ (hs0_0 t) _ 0 0 _ hx0 (fun p j _ _ => by simp only [Nat.zero_add, Fin.eta])) (fun p k => (pay14 _ _ _ _ _ _ (norm3 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (pay9 _ _ _ (norm3 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (pay5 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e1 n)) _ (Memref.isWhole_whole cc0_scratch0) _ 0 0 0 _ hI (fun j k _ _ _ => congrArg₂ wi (Fin.ext (Nat.zero_add _)) (Fin.ext (by simp only [e1]; omega))))) (rd3 (y := fun k n => wi k (e3 n)) _ (Memref.isWhole_whole cc0_scratch0) _ 1 0 0 _ hI (fun j k _ _ _ => congrArg₂ wi (Fin.ext (Nat.zero_add _)) (Fin.ext (by simp only [e3]; omega))))) (rd3 (y := fun k n => wi k (e2 n)) _ (Memref.isWhole_whole cc0_scratch0) _ 0 0 1536 _ hI (fun j k _ _ _ => congrArg₂ wi (Fin.ext (Nat.zero_add _)) (Fin.ext (by simp only [e2]; omega)))) (rd3 (y := fun k n => wi k (e4 n)) _ (Memref.isWhole_whole cc0_scratch0) _ 1 0 1536 _ hI (fun j k _ _ _ => congrArg₂ wi (Fin.ext (Nat.zero_add _)) (Fin.ext (by simp only [e4]; omega)))) (rd2h (y := fun n => wo (lo n)) _ (Memref.isWhole_whole cc0_scratch1) _ 0 0 _ hO (fun p j _ _ => congrArg₂ wo (Fin.ext (by simp only [lo, Nat.zero_add])) (Fin.ext (Nat.zero_add _)))) (rd2h (y := fun n => wo (hi n)) _ (Memref.isWhole_whole cc0_scratch1) _ 1536 0 _ hO (fun p j _ _ => congrArg₂ wo (Fin.ext (by simp only [hi, Nat.zero_add])) (Fin.ext (Nat.zero_add _)))) p k).trans (runs _ wi wo k)) (rd2f (y := δ) _ (hs0_2 t) _ 0 0 _ hx2 (fun p j _ _ => by simp only [Nat.zero_add, Fin.eta]))

theorem leftLater_gu (m : (ℓ : Loc nD τ sig) → Buf (Elt Ideal) ℓ) (c : Dev nD) (t : Fin cfg0.N) (h : t.val ≠ 0) {a : Fin 512 → Fin 1024 → EReal} {γ δ : Fin 1 → Fin 1024 → EReal} {wo : Fin 2816 → Fin 1024 → EReal} {wi : Fin 1024 → Fin 5632 → EReal}
    (hx0 : Is (iblk m c 0 t) a) (hx1 : Is (iblk m c 1 t) γ) (hx2 : Is (iblk m c 2 t) δ)
    (hO : Is (wOutAll (vOut m c)) wo) (hI : ∀ (b : Fin 2) (k : Fin 1024) (n : Fin 2816), wInAll (vIn m c) (ix3 b k n) = wi k ⟨2816 * b.val + n.val, by omega⟩) :
    (leftLater m c t h).gu = of2 (A := 512) (fun p => proj (norm (a p) (γ 0)) wi) := by
  refine fill_pieces _ (of2 (A := 512) (fun p => proj (norm (a p) (γ 0)) wi)) _ ?_ (coverLater_gu m c t h)
  unfold later runLater; dsimp only; sl_open_run
  refine ⟨piece_of (A := 512) (B := 5632) (A' := 512) (B' := 1280) 0 4352 inb_S512x5632_S512x1280_0_4352 (w := fun p n => proj (norm (a p) (γ 0)) wi (e4 n)) ?_ _ (fun p j _ _ => by simp only [Nat.zero_add, Fin.eta]), piece_of (A := 512) (B := 5632) (A' := 512) (B' := 1280) 0 1536 inb_S512x5632_S512x1280_0_1536 (w := fun p n => proj (norm (a p) (γ 0)) wi (e2 n)) ?_ _ (fun p j _ _ => by simp only [Nat.zero_add, Fin.eta]), piece_of (A := 512) (B := 5632) (A' := 512) (B' := 1536) 0 2816 inb_S512x5632_S512x1536_0_2816 (w := fun p n => proj (norm (a p) (γ 0)) wi (e3 n)) ?_ _ (fun p j _ _ => by simp only [Nat.zero_add, Fin.eta]), piece_of (A := 512) (B := 5632) (A' := 512) (B' := 1536) 0 0 inb_S512x5632_S512x1536_0_0 (w := fun p n => proj (norm (a p) (γ 0)) wi (e1 n)) ?_ _ (fun p j _ _ => by simp only [Nat.zero_add, Fin.eta]), trivial⟩
  · exact pay25 _ _ (norm15 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (rd3 (y := fun k n => wi k (e4 n)) _ (Memref.isWhole_whole cc0_scratch0) _ 1 0 1536 _ hI (fun j k _ _ _ => congrArg₂ wi (Fin.ext (Nat.zero_add _)) (Fin.ext (by simp only [e4]; omega))))
  · exact pay24 _ _ (norm15 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (rd3 (y := fun k n => wi k (e2 n)) _ (Memref.isWhole_whole cc0_scratch0) _ 0 0 1536 _ hI (fun j k _ _ _ => congrArg₂ wi (Fin.ext (Nat.zero_add _)) (Fin.ext (by simp only [e2]; omega))))
  · exact pay20 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e3 n)) _ (Memref.isWhole_whole cc0_scratch0) _ 1 0 0 _ hI (fun j k _ _ _ => congrArg₂ wi (Fin.ext (Nat.zero_add _)) (Fin.ext (by simp only [e3]; omega))))
  · exact pay19 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e1 n)) _ (Memref.isWhole_whole cc0_scratch0) _ 0 0 0 _ hI (fun j k _ _ _ => congrArg₂ wi (Fin.ext (Nat.zero_add _)) (Fin.ext (by simp only [e1]; omega))))

theorem leftLater_f (m : (ℓ : Loc nD τ sig) → Buf (Elt Ideal) ℓ) (c : Dev nD) (t : Fin cfg0.N) (h : t.val ≠ 0) {a : Fin 512 → Fin 1024 → EReal} {γ δ : Fin 1 → Fin 1024 → EReal} {wo : Fin 2816 → Fin 1024 → EReal} {wi : Fin 1024 → Fin 5632 → EReal}
    (hx0 : Is (iblk m c 0 t) a) (hx1 : Is (iblk m c 1 t) γ) (hx2 : Is (iblk m c 2 t) δ)
    (hO : Is (wOutAll (vOut m c)) wo) (hI : ∀ (b : Fin 2) (k : Fin 1024) (n : Fin 2816), wInAll (vIn m c) (ix3 b k n) = wi k ⟨2816 * b.val + n.val, by omega⟩) :
    (leftLater m c t h).f = of2 (A := 512) (fun p => proj (act (proj (norm (a p) (γ 0)) wi)) wo) := by
  refine fill_pieces _ (of2 (A := 512) (fun p => proj (act (proj (norm (a p) (γ 0)) wi)) wo)) _ ?_ (coverLater_f m c t h)
  unfold later runLater; dsimp only; sl_open_run
  refine ⟨piece_of (A := 512) (B := 1024) (A' := 512) (B' := 1024) 0 0 inb_S512x1024_S512x1024_0_0 (w := fun p => proj (act (proj (norm (a p) (γ 0)) wi)) wo) ?_ _ (fun p j _ _ => by simp only [Nat.zero_add, Fin.eta]), trivial⟩
  exact (fun p k => (pay26 _ _ _ _ _ _ _ (norm15 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (pay18 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e3 n)) _ (Memref.isWhole_whole cc0_scratch0) _ 1 0 0 _ hI (fun j k _ _ _ => congrArg₂ wi (Fin.ext (Nat.zero_add _)) (Fin.ext (by simp only [e3]; omega))))) (pay21 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e1 n)) _ (Memref.isWhole_whole cc0_scratch0) _ 0 0 0 _ hI (fun j k _ _ _ => congrArg₂ wi (Fin.ext (Nat.zero_add _)) (Fin.ext (by simp only [e1]; omega))))) (rd3 (y := fun k n => wi k (e2 n)) _ (Memref.isWhole_whole cc0_scratch0) _ 0 0 1536 _ hI (fun j k _ _ _ => congrArg₂ wi (Fin.ext (Nat.zero_add _)) (Fin.ext (by simp only [e2]; omega)))) (rd3 (y := fun k n => wi k (e4 n)) _ (Memref.isWhole_whole cc0_scratch0) _ 1 0 1536 _ hI (fun j k _ _ _ => congrArg₂ wi (Fin.ext (Nat.zero_add _)) (Fin.ext (by simp only [e4]; omega)))) (rd2h (y := fun n => wo (lo n)) _ (Memref.isWhole_whole cc0_scratch1) _ 0 0 _ hO (fun p j _ _ => congrArg₂ wo (Fin.ext (by simp only [lo, Nat.zero_add])) (Fin.ext (Nat.zero_add _)))) (rd2h (y := fun n => wo (hi n)) _ (Memref.isWhole_whole cc0_scratch1) _ 1536 0 _ hO (fun p j _ _ => congrArg₂ wo (Fin.ext (by simp only [hi, Nat.zero_add])) (Fin.ext (Nat.zero_add _)))) p k).trans (runs _ wi wo k))

theorem leftLater_xo (m : (ℓ : Loc nD τ sig) → Buf (Elt Ideal) ℓ) (c : Dev nD) (t : Fin cfg0.N) (h : t.val ≠ 0) {a : Fin 512 → Fin 1024 → EReal} {γ δ : Fin 1 → Fin 1024 → EReal} {wo : Fin 2816 → Fin 1024 → EReal} {wi : Fin 1024 → Fin 5632 → EReal}
    (hx0 : Is (iblk m c 0 t) a) (hx1 : Is (iblk m c 1 t) γ) (hx2 : Is (iblk m c 2 t) δ)
    (hO : Is (wOutAll (vOut m c)) wo) (hI : ∀ (b : Fin 2) (k : Fin 1024) (n : Fin 2816), wInAll (vIn m c) (ix3 b k n) = wi k ⟨2816 * b.val + n.val, by omega⟩) :
    (leftLater m c t h).xo = of2 (A := 512) (fun p k => a p k + norm (proj (act (proj (norm (a p) (γ 0)) wi)) wo) (δ 0) k) := by
  refine fill_pieces _ (of2 (A := 512) (fun p k => a p k + norm (proj (act (proj (norm (a p) (γ 0)) wi)) wo) (δ 0) k)) _ ?_ (coverLater_xo m c t h)
  unfold later runLater; dsimp only; sl_open_run
  refine ⟨piece_of (A := 512) (B := 1024) (A' := 512) (B' := 1024) 0 0 inb_S512x1024_S512x1024_0_0 (w := fun p k => a p k + norm (proj (act (proj (norm (a p) (γ 0)) wi)) wo) (δ 0) k) ?_ _ (fun p j _ _ => by simp only [Nat.zero_add, Fin.eta]), trivial⟩
  exact pay2 _ _ _ (rd2f (y := a) _ (hs0_0 t) _ 0 0 _ hx0 (fun p j _ _ => by simp only [Nat.zero_add, Fin.eta])) (fun p k => (pay26 _ _ _ _ _ _ _ (norm15 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (pay18 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e3 n)) _ (Memref.isWhole_whole cc0_scratch0) _ 1 0 0 _ hI (fun j k _ _ _ => congrArg₂ wi (Fin.ext (Nat.zero_add _)) (Fin.ext (by simp only [e3]; omega))))) (pay21 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e1 n)) _ (Memref.isWhole_whole cc0_scratch0) _ 0 0 0 _ hI (fun j k _ _ _ => congrArg₂ wi (Fin.ext (Nat.zero_add _)) (Fin.ext (by simp only [e1]; omega))))) (rd3 (y := fun k n => wi k (e2 n)) _ (Memref.isWhole_whole cc0_scratch0) _ 0 0 1536 _ hI (fun j k _ _ _ => congrArg₂ wi (Fin.ext (Nat.zero_add _)) (Fin.ext (by simp only [e2]; omega)))) (rd3 (y := fun k n => wi k (e4 n)) _ (Memref.isWhole_whole cc0_scratch0) _ 1 0 1536 _ hI (fun j k _ _ _ => congrArg₂ wi (Fin.ext (Nat.zero_add _)) (Fin.ext (by simp only [e4]; omega)))) (rd2h (y := fun n => wo (lo n)) _ (Memref.isWhole_whole cc0_scratch1) _ 0 0 _ hO (fun p j _ _ => congrArg₂ wo (Fin.ext (by simp only [lo, Nat.zero_add])) (Fin.ext (Nat.zero_add _)))) (rd2h (y := fun n => wo (hi n)) _ (Memref.isWhole_whole cc0_scratch1) _ 1536 0 _ hO (fun p j _ _ => congrArg₂ wo (Fin.ext (by simp only [hi, Nat.zero_add])) (Fin.ext (Nat.zero_add _)))) p k).trans (runs _ wi wo k)) (rd2f (y := δ) _ (hs0_2 t) _ 0 0 _ hx2 (fun p j _ _ => by simp only [Nat.zero_add, Fin.eta])) _ (pay28 _ _ _ _ _ _ _ _ (fun p k => (pay26 _ _ _ _ _ _ _ (norm15 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (pay18 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e3 n)) _ (Memref.isWhole_whole cc0_scratch0) _ 1 0 0 _ hI (fun j k _ _ _ => congrArg₂ wi (Fin.ext (Nat.zero_add _)) (Fin.ext (by simp only [e3]; omega))))) (pay21 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (e1 n)) _ (Memref.isWhole_whole cc0_scratch0) _ 0 0 0 _ hI (fun j k _ _ _ => congrArg₂ wi (Fin.ext (Nat.zero_add _)) (Fin.ext (by simp only [e1]; omega))))) (rd3 (y := fun k n => wi k (e2 n)) _ (Memref.isWhole_whole cc0_scratch0) _ 0 0 1536 _ hI (fun j k _ _ _ => congrArg₂ wi (Fin.ext (Nat.zero_add _)) (Fin.ext (by simp only [e2]; omega)))) (rd3 (y := fun k n => wi k (e4 n)) _ (Memref.isWhole_whole cc0_scratch0) _ 1 0 1536 _ hI (fun j k _ _ _ => congrArg₂ wi (Fin.ext (Nat.zero_add _)) (Fin.ext (by simp only [e4]; omega)))) (rd2h (y := fun n => wo (lo n)) _ (Memref.isWhole_whole cc0_scratch1) _ 0 0 _ hO (fun p j _ _ => congrArg₂ wo (Fin.ext (by simp only [lo, Nat.zero_add])) (Fin.ext (Nat.zero_add _)))) (rd2h (y := fun n => wo (hi n)) _ (Memref.isWhole_whole cc0_scratch1) _ 1536 0 _ hO (fun p j _ _ => congrArg₂ wo (Fin.ext (by simp only [hi, Nat.zero_add])) (Fin.ext (Nat.zero_add _)))) p k).trans (runs _ wi wo k)))

end Cert.Kernel6Ideal.Fwd

end
-- ==== Proof.FwdData.lean ====
/- The feed-forward block's forward kernel: the blocks a grid point is handed and the weights. -/
module

public import proofs.«01_k».proof.Proof.FwdBlocks
public import Idealize.ShloMosaic.Lib.Pipeline.ValueKit
public import Idealize.ShloMosaic.Lib.Pointwise

@[expose] public section

set_option maxRecDepth 16384

noncomputable section

namespace Cert.Kernel6Ideal.Fwd

open Cert.Kernel6Ideal Cert.Kernel6Ideal.Gen Cert.Proof.FwdRow Idealize.ShloMosaic Idealize.ShloMosaic.TcCoe Idealize.SL.Sem
open Idealize.ShloMosaic.Pipeline (Dat)

variable (m : (ℓ : Loc nD τ sig) → Buf (Elt Ideal) ℓ)

/-- The launch's arguments. -/
def data (c : Dev nD) : Data where
  x p k := (m ((c : Thread nD τ).loc main_arg0) : FVec Ideal S4096x1024 .f32) (ix2 p k)
  gp k := (m ((c : Thread nD τ).loc main_arg1) : FVec Ideal S1024 .f32) (ix1 k)
  go k := (m ((c : Thread nD τ).loc main_arg2) : FVec Ideal S1024 .f32) (ix1 k)
  wi k n := (m ((c : Thread nD τ).loc main_arg3) : FVec Ideal S1024x5632 .f32) (ix2 k n)
  wo n k := (m ((c : Thread nD τ).loc main_arg4) : FVec Ideal S2816x1024 .f32) (ix2 n k)

/-! ## What the host hands the kernel -/

theorem V_wi (c : Dev nD) : (V m c main_v2 : FVec Ideal S4x1024x1408 .bf16) = (transpose S4x1024x1408 [1, 0, 2] (shapeCast S1024x4x1408 (truncf .bf16 (m ((c : Thread nD τ).loc main_arg3) : FVec Ideal S1024x5632 .f32) bitsLt_bf16_f32) shapeCasts_S1024x5632_S1024x4x1408) transposes_S1024x4x1408_S4x1024x1408_1_0_2 : FVec Ideal S4x1024x1408 .bf16) := by
  show StableHlo.after hostOps0 (fun b => m (c, b)) (Proc.tc.devRef main_v2) = _
  simp only [StableHlo.TRef.binary, StableHlo.TRef.unary, StableHlo.TRef.nullary, StableHlo.TRef.toBuf, StableHlo.TRef.ofBuf, cast_eq]
  after_results_simp <;> rfl

theorem V_wo (c : Dev nD) : (V m c main_v4 : FVec Ideal S2x1408x1024 .bf16) = (shapeCast S2x1408x1024 (truncf .bf16 (m ((c : Thread nD τ).loc main_arg4) : FVec Ideal S2816x1024 .f32) bitsLt_bf16_f32) shapeCasts_S2816x1024_S2x1408x1024 : FVec Ideal S2x1408x1024 .bf16) := by
  show StableHlo.after hostOps0 (fun b => m (c, b)) (Proc.tc.devRef main_v4) = _
  after_results_simp <;> rfl

theorem V_gp (c : Dev nD) : (V m c main_v5 : FVec Ideal S1x1024 .f32) = shapeCast S1x1024 (m ((c : Thread nD τ).loc main_arg1) : FVec Ideal S1024 .f32) shapeCasts_S1024_S1x1024 := by
  show StableHlo.after hostOps0 (fun b => m (c, b)) (Proc.tc.devRef main_v5) = _
  after_results_simp <;> rfl

theorem V_go (c : Dev nD) : (V m c main_v6 : FVec Ideal S1x1024 .f32) = shapeCast S1x1024 (m ((c : Thread nD τ).loc main_arg2) : FVec Ideal S1024 .f32) shapeCasts_S1024_S1x1024 := by
  show StableHlo.after hostOps0 (fun b => m (c, b)) (Proc.tc.devRef main_v6) = _
  after_results_simp <;> rfl

/-- The host's layouts of the weights. -/
theorem outLay (W : FVec Ideal S2816x1024 .bf16) (a : Fin 2) (r : Fin 1408) (k : Fin 1024) :
    (shapeCast S2x1408x1024 W shapeCasts_S2816x1024_S2x1408x1024 : FVec Ideal S2x1408x1024 .bf16) (ix3 a r k) = W (ix2 ⟨a.val * 1408 + r.val, by omega⟩ k) := by
  pointwise []

theorem inLay (W : FVec Ideal S1024x5632 .bf16) (a : Fin 4) (k : Fin 1024) (r : Fin 1408) :
    (transpose S4x1024x1408 [1, 0, 2] (shapeCast S1024x4x1408 W shapeCasts_S1024x5632_S1024x4x1408) transposes_S1024x4x1408_S4x1024x1408_1_0_2 : FVec Ideal S4x1024x1408 .bf16) (ix3 a k r)
      = W (ix2 k ⟨a.val * 1408 + r.val, by omega⟩) := by
  pointwise []

variable (c : Dev nD)

theorem isOut : Is (wOutAll (vOut m c)) (data m c).wo := fun n k => by
  have hn := n.isLt
  have e : vOut m c = (shapeCast S2x1408x1024 (truncf .bf16 (m ((c : Thread nD τ).loc main_arg4) : FVec Ideal S2816x1024 .f32) bitsLt_bf16_f32) shapeCasts_S2816x1024_S2x1408x1024 : FVec Ideal S2x1408x1024 .bf16) := V_wo m c
  rw [e]
  refine (outLay _ (⟨n.val / 1408, by omega⟩ : Fin 2) (⟨n.val % 1408, by omega⟩ : Fin 1408) k).trans ?_
  exact congrArg (fun z => (m ((c : Thread nD τ).loc main_arg4) : FVec Ideal S2816x1024 .f32) (ix2 z k)) (Fin.ext (by show n.val / 1408 * 1408 + n.val % 1408 = n.val; omega))

theorem isIn (b : Fin 2) (k : Fin 1024) (n : Fin 2816) : wInAll (vIn m c) (ix3 b k n) = (data m c).wi k ⟨2816 * b.val + n.val, by omega⟩ := by
  have hn := n.isLt
  have hb := b.isLt
  have e : vIn m c = (transpose S4x1024x1408 [1, 0, 2] (shapeCast S1024x4x1408 (truncf .bf16 (m ((c : Thread nD τ).loc main_arg3) : FVec Ideal S1024x5632 .f32) bitsLt_bf16_f32) shapeCasts_S1024x5632_S1024x4x1408) transposes_S1024x4x1408_S4x1024x1408_1_0_2 : FVec Ideal S4x1024x1408 .bf16) := V_wi m c
  rw [e]
  refine (inLay _ (⟨2 * b.val + n.val / 1408, by omega⟩ : Fin 4) k (⟨n.val % 1408, by omega⟩ : Fin 1408)).trans ?_
  exact congrArg (fun z => (m ((c : Thread nD τ).loc main_arg3) : FVec Ideal S1024x5632 .f32) (ix2 k z)) (Fin.ext (by show (2 * b.val + n.val / 1408) * 1408 + n.val % 1408 = 2816 * b.val + n.val; omega))

/-! ## The blocks -/

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] :=
  (by decide +kernel : ∀ t : Fin grid0.N, _)

theorem tlt (t : Fin cfg0.N) : t.val < 8 := by have := t.isLt; have h : cfg0.N = 8 := N_0; omega

/-- The row of the whole arrays that a point's row is. -/
abbrev at_ (t : Fin cfg0.N) (p : Fin 512) : Fin 4096 := ⟨t.val * 512 + p.val, by have := tlt t; omega⟩

theorem blk0 (t : Fin cfg0.N) : Is (iblk m c 0 t) fun p => (data m c).x (at_ t p) := fun p j => by
  refine Eq.trans ?_ (congrFun (V_main_arg0 m c) (ix2 (at_ t p) j))
  blk_ext [iblk, idx t]

theorem blk1 (t : Fin cfg0.N) : Is (iblk m c 1 t) fun _ => (data m c).gp := fun z j => by
  have e : (V m c main_v5 : FVec Ideal S1x1024 .f32) (ix2 z j) = (data m c).gp j := by
    rw [V_gp]
    pointwise []
    rfl
  refine Eq.trans ?_ e
  blk_ext [iblk, idx t]

theorem blk2 (t : Fin cfg0.N) : Is (iblk m c 2 t) fun _ => (data m c).go := fun z j => by
  have e : (V m c main_v6 : FVec Ideal S1x1024 .f32) (ix2 z j) = (data m c).go j := by
    rw [V_go]
    pointwise []
    rfl
  refine Eq.trans ?_ e
  blk_ext [iblk, idx t]

end Cert.Kernel6Ideal.Fwd

end
-- ==== Proof.FwdValue.lean ====
/- The feed-forward block's forward kernel: what its run leaves in the three result arrays. -/
module

public import proofs.«01_k».proof.Proof.FwdData

@[expose] public section

set_option maxRecDepth 16384

noncomputable section

namespace Cert.Kernel6Ideal.Fwd

open Cert.Kernel6Ideal Cert.Kernel6Ideal.Gen Cert.Proof.FwdRow Idealize.ShloMosaic Idealize.ShloMosaic.TcCoe Idealize.SL.Sem
open Idealize.ShloMosaic.Pipeline (Dat)

variable (m : (ℓ : Loc nD τ sig) → Buf (Elt Ideal) ℓ) (c : Dev nD)

theorem gu_eq (D : Data) (p : Fin 4096) : D.gu p = proj (norm (D.x p) D.gp) D.wi := rfl
theorem f_eq (D : Data) (p : Fin 4096) : D.f p = proj (act (proj (norm (D.x p) D.gp) D.wi)) D.wo := rfl
theorem xo_eq (D : Data) (p : Fin 4096) : D.xo p = fun k => D.x p k + norm (proj (act (proj (norm (D.x p) D.gp) D.wi)) D.wo) D.go k := rfl

/-! ## What a point leaves -/

theorem left_gu (t : Fin cfg0.N) : (outsAt m c t).gu = of2 fun p => (data m c).gu (at_ t p) := by
  by_cases h : t.val = 0
  · rw [outsAt_first m c t h]
    refine (leftFirst_gu m c t h (blk0 m c t) (blk1 m c t) (blk2 m c t) (isOut m c) (isIn m c)).trans (congrArg of2 ?_)
    funext p
    exact (gu_eq (data m c) (at_ t p)).symm
  · rw [outsAt_later m c t h]
    refine (leftLater_gu m c t h (blk0 m c t) (blk1 m c t) (blk2 m c t) (isOut m c) (isIn m c)).trans (congrArg of2 ?_)
    funext p
    exact (gu_eq (data m c) (at_ t p)).symm

theorem left_f (t : Fin cfg0.N) : (outsAt m c t).f = of2 fun p => (data m c).f (at_ t p) := by
  by_cases h : t.val = 0
  · rw [outsAt_first m c t h]
    refine (leftFirst_f m c t h (blk0 m c t) (blk1 m c t) (blk2 m c t) (isOut m c) (isIn m c)).trans (congrArg of2 ?_)
    funext p
    exact (f_eq (data m c) (at_ t p)).symm
  · rw [outsAt_later m c t h]
    refine (leftLater_f m c t h (blk0 m c t) (blk1 m c t) (blk2 m c t) (isOut m c) (isIn m c)).trans (congrArg of2 ?_)
    funext p
    exact (f_eq (data m c) (at_ t p)).symm

theorem left_xo (t : Fin cfg0.N) : (outsAt m c t).xo = of2 fun p => (data m c).xo (at_ t p) := by
  by_cases h : t.val = 0
  · rw [outsAt_first m c t h]
    refine (leftFirst_xo m c t h (blk0 m c t) (blk1 m c t) (blk2 m c t) (isOut m c) (isIn m c)).trans (congrArg of2 ?_)
    funext p
    exact (xo_eq (data m c) (at_ t p)).symm
  · rw [outsAt_later m c t h]
    refine (leftLater_xo m c t h (blk0 m c t) (blk1 m c t) (blk2 m c t) (isOut m c) (isIn m c)).trans (congrArg of2 ?_)
    funext p
    exact (xo_eq (data m c) (at_ t p)).symm

/-! ## The result arrays -/

theorem final3 : (dats m 0 c).arrAt 3 cfg0.N = of2 (data m c).gu := by
  refine (dats m 0 c).arrAt_eq_of_covers 3 _ (by decide +kernel) fun t hf y => ?_
  blk_simp
  rw [after_3, left_gu m c t]
  idx_vars y
  have hemb : ((View.whole main_v7_0).slice (win0_3.rect t)).emb (ix2 y0 y1) = ix2 (at_ t y0) y1 := by
    blk_ext [idx t]
  rw [hemb]
  rfl

theorem final4 : (dats m 0 c).arrAt 4 cfg0.N = of2 (data m c).f := by
  refine (dats m 0 c).arrAt_eq_of_covers 4 _ (by decide +kernel) fun t hf y => ?_
  blk_simp
  rw [after_4, left_f m c t]
  idx_vars y
  have hemb : ((View.whole main_v7_1).slice (win0_4.rect t)).emb (ix2 y0 y1) = ix2 (at_ t y0) y1 := by
    blk_ext [idx t]
  rw [hemb]
  rfl

theorem final5 : (dats m 0 c).arrAt 5 cfg0.N = of2 (data m c).xo := by
  refine (dats m 0 c).arrAt_eq_of_covers 5 _ (by decide +kernel) fun t hf y => ?_
  blk_simp
  rw [after_5, left_xo m c t]
  idx_vars y
  have hemb : ((View.whole main_v7_2).slice (win0_5.rect t)).emb (ix2 y0 y1) = ix2 (at_ t y0) y1 := by
    blk_ext [idx t]
  rw [hemb]
  rfl

end Cert.Kernel6Ideal.Fwd

end
-- ==== Proof.FwdRef.lean ====
/- The feed-forward block's plain forward pass: its three results. -/
module

public import proofs.«01_k».proof.Proof.FwdRow
public import proofs.«01_k».proof.Proof.FwdTile
public import proofs.«01_k».proof.Proof.FwdBlocks
public import proofs.«01_k».proof.Proof.Gen.Reference6Ideal.Run
public import Idealize.ShloMosaic.Lib.Pointwise

@[expose] public section

set_option maxRecDepth 16384

noncomputable section

namespace Cert.Proof.FwdRef

open Cert.Reference6Ideal Cert.Reference6Ideal.Gen Cert.Reference6Ideal.Value Cert.Proof.FwdRow Idealize.ShloMosaic Idealize.ShloMosaic.TcCoe Idealize.SL.Sem
open Cert.Kernel6Ideal.Fwd (Is of2)

theorem ext2 {A B : ℕ} {X : (⟨2, ![A, B]⟩ : Shape).Idx → EReal} {a : Fin A → Fin B → EReal} (h : Is X a) : X = of2 a :=
  funext fun j => (congrArg X (eq_ix2 j)).trans (h (j 0) (j 1))

/-- Each row over its root mean square, times a gain, -/
def hostNorm (x : FVec Ideal S4096x1024 .f32) (g : FVec Ideal S1024 .f32) : FVec Ideal S4096x1024 .f32 :=
  mulf (mulf x (broadcastInDim S4096x1024 ![0, 1] bcast_S4096x1_S4096x1024_0_1 (Host.rsqrt
      (addf (Host.divf (broadcastInDim S4096x1 ![0] bcast_S4096_S4096x1_0 (Host.reduceAdd (mulf x x) (constant S_ .f32 0x00000000#32) reducesTo_S4096x1024_S4096_d1 h_S_))
        (broadcastInDim S4096x1 ![] bcast_S_S4096x1 (constant S_ .f32 0x44800000#32))) (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))

/-- the first product, -/
def hostGu (h : FVec Ideal S4096x1024 .f32) (w : FVec Ideal S1024x5632 .f32) : FVec Ideal S4096x5632 .f32 :=
  Host.dotGeneral dot_S4096x1024_S1024x5632_S4096x5632_1_0_0_1_n_n none h w

/-- the gated product, -/
def hostAct (z : FVec Ideal S4096x5632 .f32) : FVec Ideal S4096x2816 .f32 :=
  mulf (mulf (extractStridedSlice S4096x2816 ![0, 0] z slices_S4096x5632_S4096x2816_0_0)
      (Host.divf (broadcastInDim S4096x2816 ![] bcast_S_S4096x2816 (constant S_ .f32 0x3F800000#32))
        (addf (broadcastInDim S4096x2816 ![] bcast_S_S4096x2816 (constant S_ .f32 0x3F800000#32))
          (Host.exp (Host.negf (extractStridedSlice S4096x2816 ![0, 0] z slices_S4096x5632_S4096x2816_0_0))))))
    (extractStridedSlice S4096x2816 ![0, 2816] z slices_S4096x5632_S4096x2816_0_2816)

/-- and the second product. -/
def hostF (a : FVec Ideal S4096x2816 .f32) (w : FVec Ideal S2816x1024 .f32) : FVec Ideal S4096x1024 .f32 :=
  Host.dotGeneral dot_S4096x2816_S2816x1024_S4096x1024_1_0_0_1_n_n none a w

theorem hostNorm_apply (x : FVec Ideal S4096x1024 .f32) (g : FVec Ideal S1024 .f32) {a : Fin 4096 → Fin 1024 → EReal} {γ : Fin 1024 → EReal} (hx : Is x a)
    (hg : ∀ j, g (ix1 j) = γ j) : Is (hostNorm x g) fun p => norm (a p) γ := fun p j => by
  pointwise [hostNorm]
  simp only [hx _ _, hg _]
  rfl

theorem hostGu_apply (h : FVec Ideal S4096x1024 .f32) (w : FVec Ideal S1024x5632 .f32) {a : Fin 4096 → Fin 1024 → EReal}
    {ω : Fin 1024 → Fin 5632 → EReal} (hh : Is h a) (hw : Is w ω) : Is (hostGu h w) fun p => proj (a p) ω := fun p n => by
  pointwise [hostGu]
  simp only [hh _ _, hw _ _]
  rfl

theorem hostAct_apply (z : FVec Ideal S4096x5632 .f32) {a : Fin 4096 → Fin 5632 → EReal} (hz : Is z a) : Is (hostAct z) fun p => act (a p) := fun p n => by
  pointwise [hostAct]
  simp only [hz _ _]
  rfl

theorem hostF_apply (h : FVec Ideal S4096x2816 .f32) (w : FVec Ideal S2816x1024 .f32) {a : Fin 4096 → Fin 2816 → EReal} {ω : Fin 2816 → Fin 1024 → EReal}
    (hh : Is h a) (hw : Is w ω) : Is (hostF h w) fun p => proj (a p) ω := fun p k => by
  pointwise [hostF]
  simp only [hh _ _, hw _ _]
  rfl

/-! ## The results -/

section Results

variable (x : FVec Ideal S4096x1024 .f32) (gp go : FVec Ideal S1024 .f32) (wi : FVec Ideal S1024x5632 .f32) (wo : FVec Ideal S2816x1024 .f32) {D : Data}
  (hx : Is x D.x) (hp : ∀ k, gp (ix1 k) = D.gp k) (ho : ∀ k, go (ix1 k) = D.go k) (hi : Is wi D.wi) (hw : Is wo D.wo)
include hx hp hi

theorem gu : (truncf .bf16 (hostGu (hostNorm x gp) wi) bitsLt_bf16_f32 : FVec Ideal S4096x5632 .bf16) = of2 D.gu :=
  ext2 fun p n => hostGu_apply _ _ (hostNorm_apply _ _ hx hp) hi p n

include hw

theorem isF : Is (hostF (hostAct (hostGu (hostNorm x gp) wi)) wo) D.f :=
  hostF_apply _ _ (hostAct_apply _ (hostGu_apply _ _ (hostNorm_apply _ _ hx hp) hi)) hw

include ho

theorem xo : (addf x (hostNorm (hostF (hostAct (hostGu (hostNorm x gp) wi)) wo) go) : FVec Ideal S4096x1024 .f32) = of2 D.xo :=
  ext2 fun p k => congrArg₂ (· + ·) (hx p k) (hostNorm_apply _ _ (isF x gp wi wo hx hp hi hw) ho p k)

end Results

/-- From arguments that are the data, the plain forward pass ends with the block's results. -/
theorem run_data (m : (ℓ : Loc nD τ sig) → Buf (Elt Ideal) ℓ) (ρ : Dev nD → PrngReg) (D : Dev nD → Data)
    (h0 : ∀ c : Dev nD, Is (m ((c.tc : Thread nD τ).loc main_arg0) : FVec Ideal S4096x1024 .f32) (D c).x)
    (h1 : ∀ (c : Dev nD) (k : Fin 1024), (m ((c.tc : Thread nD τ).loc main_arg1) : FVec Ideal S1024 .f32) (ix1 k) = (D c).gp k)
    (h2 : ∀ (c : Dev nD) (k : Fin 1024), (m ((c.tc : Thread nD τ).loc main_arg2) : FVec Ideal S1024 .f32) (ix1 k) = (D c).go k)
    (h3 : ∀ c : Dev nD, Is (m ((c.tc : Thread nD τ).loc main_arg3) : FVec Ideal S1024x5632 .f32) (D c).wi)
    (h4 : ∀ c : Dev nD, Is (m ((c.tc : Thread nD τ).loc main_arg4) : FVec Ideal S2816x1024 .f32) (D c).wo) :
    θ_run defs (onTc (τ := τ) (main (F := Ideal))) ⟨m, fun _ => 0, ρ⟩ (fun r => ∀ c : Dev nD,
      r.2.mem ((c.tc : Thread nD τ).loc main_v19) = of2 (D c).gu
      ∧ r.2.mem ((c.tc : Thread nD τ).loc main_v18) = of2 (D c).f
      ∧ r.2.mem ((c.tc : Thread nD τ).loc main_v33) = of2 (D c).xo
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ?_) (run (F := Ideal) m ρ)
  obtain ⟨r0, r1, r2, ha⟩ := h c
  exact ⟨r0.trans (gu _ _ _ (h0 c) (h1 c) (h3 c)), r1.trans (ext2 (isF _ _ _ _ (h0 c) (h1 c) (h3 c) (h4 c))),
    r2.trans (xo _ _ _ _ _ (h0 c) (h1 c) (h2 c) (h3 c) (h4 c)), ha⟩

end Cert.Proof.FwdRef

end
-- ==== Proof.FwdClaims.lean ====
/- The claims about the feed-forward block's forward pass. -/
module

public import proofs.«01_k».proof.Defs
public import proofs.«01_k».proof.Proof.FwdValue
public import proofs.«01_k».proof.Proof.FwdRef
public import proofs.«01_k».proof.Proof.FwdFrame
public import proofs.«01_k».proof.Proof.Gen.Kernel6
public import proofs.«01_k».proof.Proof.Gen.Reference6Ideal.Run
public import Idealize.ShloMosaic.Lib.Quiescent

@[expose] public section

set_option maxRecDepth 16384

noncomputable section

namespace Cert.Proof.Fwd

open Idealize.ShloMosaic Idealize.ShloMosaic.TcCoe Idealize.SL.Sem

theorem frameIdeal : Cert.quiescent_Kernel6Ideal (hKernel6Ideal := Cert.Kernel6Ideal.Gen.facts) :=
  fun m ρ _ => Cert.Kernel6Ideal.Fwd.frame m ρ

theorem frameRef : Cert.quiescent_Reference6Ideal (hReference6Ideal := Cert.Reference6Ideal.Gen.facts) := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- The two programs have the same text, so the run serves both number systems. -/
theorem frame : Cert.quiescent_Kernel6 (hKernel6 := Cert.Kernel6.Gen.facts) := fun m ρ _ => by
  refine cast ?_ (Cert.Kernel6Ideal.Fwd.frame (F := Bits) m ρ)
  sl_kernel_rfl

open Cert.Kernel6Ideal.Fwd (of2 data)

/-- From equal arguments the kernel and the plain forward pass end with equal results. -/
theorem value : Cert.algebraic_Kernel6Ideal_Reference6Ideal (hKernel6Ideal := Cert.Kernel6Ideal.Gen.facts)
    (hReference6Ideal := Cert.Reference6Ideal.Gen.facts) := by
  intro m ρ m' ρ' _ hag
  refine ⟨fun c => of2 (data m c).gu, fun c => of2 (data m c).f, fun c => of2 (data m c).xo, ?_, ?_⟩
  · refine (θ_run Cert.Kernel6Ideal.defs _ _).mono (fun _ h => ?_) (Cert.Kernel6Ideal.Fwd.run_results m ρ)
    intro c
    obtain ⟨h0, h1, h2, ha⟩ := h c
    exact ⟨h0.trans (Cert.Kernel6Ideal.Fwd.final3 m c), h1.trans (Cert.Kernel6Ideal.Fwd.final4 m c), h2.trans (Cert.Kernel6Ideal.Fwd.final5 m c), ha⟩
  · exact FwdRef.run_data m' ρ' (data m) (fun c p k => congrFun (hag c).1 (ix2 p k)) (fun c k => congrFun (hag c).2.1 (ix1 k))
      (fun c k => congrFun (hag c).2.2.1 (ix1 k)) (fun c k n => congrFun (hag c).2.2.2.1 (ix2 k n)) (fun c n k => congrFun (hag c).2.2.2.2 (ix2 n k))

end Cert.Proof.Fwd

end
-- ==== Proof.InpWeights.lean ====
/- How the projection's weight lies in the scratch buffer: the four parts, one to a copy, and the buffer put together again. -/
module

public import proofs.«01_k».proof.Proof.Gen.Kernel7Ideal.Frame
public import proofs.«01_k».proof.Proof.Gen.Kernel7Ideal.Skeleton
public import Idealize.ShloMosaic.Lib.ViewIndex
public import Idealize.ShloMosaic.Lib.ValueLayout
public import Idealize.ShloMosaic.Lib.Ring
public import Idealize.ShloMosaic.Lib.Pointwise

@[expose] public section

set_option maxRecDepth 16384
set_option maxHeartbeats 1000000

noncomputable section

namespace Cert.Kernel7Ideal.Inp

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weight as the host hands it over, and where the body keeps it. -/
abbrev wInH : Memref sig .tc .hbm S4x1024x768 .bf16 := Memref.whole main_v2
abbrev wIn : Memref sig .tc .vmem S4x1024x768 .bf16 := Memref.whole cc0_scratch0

theorem part_inb (a : ℕ) (h : a < 4) : ∀ x, (![a, 0, 0] : Fin 3 → ℕ) x + S1x1024x768.size x ≤ S4x1024x768.size x := by
  intro x; fin_cases x
  · show a + 1 ≤ 4; omega
  · show 0 + 1024 ≤ 1024; omega
  · show 0 + 768 ≤ 768; omega

/-- A part of the scratch buffer, and its elements. -/
abbrev inPart (a : ℕ) (h : a < 4) : Memref sig .tc .vmem S1024x768 .bf16 :=
  (wIn.slice (Rect.unit (s := S4x1024x768) ![a, 0, 0] S1x1024x768.size (part_inb a h)) (fun _ => rfl)).squeeze S1024x768 squeezes_S1x1024x768_S1024x768
abbrev inSet (a : ℕ) (h : a < 4) : Finset S4x1024x768.Idx := (inPart a h).view.set
abbrev inAll : Finset S4x1024x768.Idx := wIn.view.set

/-- The slice of the weight that a copy takes, as read from the host's array. -/
abbrev inSlice (a : ℕ) (h : a < 4) (v : Vec F S4x1024x768 .bf16) : Vec F S1024x768 .bf16 :=
  ((wInH.slice (Rect.unit (s := S4x1024x768) ![a, 0, 0] S1x1024x768.size (part_inb a h)) (fun _ => rfl)).squeeze S1024x768
      squeezes_S1x1024x768_S1024x768).view.read (Elt F) ((Memref.isWhole_whole main_v2).unread v)

theorem ext2 {α : Type} {a b : ℕ} {f g : (⟨2, ![a, b]⟩ : Shape).Idx → α} (h : ∀ (x : Fin a) (y : Fin b), f (ix2 x y) = g (ix2 x y)) : f = g :=
  funext fun j => (congrArg f (ValueIdx.eq_ix2 j)).trans ((h (j 0) (j 1)).trans (congrArg g (ValueIdx.eq_ix2 j).symm))

theorem inAll_eq : inAll = Finset.univ := (Memref.isWhole_whole cc0_scratch0).set_eq_univ

theorem mem_part (a : ℕ) (h : a < 4) (i : S4x1024x768.Idx) : i ∈ inSet a h ↔ (i 0).val = a := by
  have e : inSet a h = ((View.whole cc0_scratch0).slice (Rect.unit (s := S4x1024x768) ![a, 0, 0] S1x1024x768.size (part_inb a h))).set :=
    Memref.set_view_squeeze _ _
  rw [e, View.set_slice_whole]
  refine Rect.mem_set_unit.trans ?_
  have h0 : (i 0).val < 4 := (i 0).isLt
  have h1 : (i 1).val < 1024 := (i 1).isLt
  have h2 : (i 2).val < 768 := (i 2).isLt
  constructor
  · intro H
    have e : a ≤ (i 0).val ∧ (i 0).val < a + 1 := H (0 : Fin 3)
    omega
  · intro e (x : Fin 3)
    fin_cases x
    · show a ≤ (i 0).val ∧ (i 0).val < a + 1
      omega
    · show 0 ≤ (i 1).val ∧ (i 1).val < 0 + 1024
      omega
    · show 0 ≤ (i 2).val ∧ (i 2).val < 0 + 768
      omega

/-- What is left of the buffer while the last copies are under way. -/
abbrev left3 : Finset S4x1024x768.Idx := inAll \ inSet 3 (by decide)
abbrev left2 : Finset S4x1024x768.Idx := left3 \ inSet 2 (by decide)
abbrev left1 : Finset S4x1024x768.Idx := left2 \ inSet 1 (by decide)

theorem sub3 : inSet 3 (by decide) ⊆ inAll := fun i hi => by
  rw [inAll_eq]; exact Finset.mem_univ _

theorem sub2 : inSet 2 (by decide) ⊆ left3 := fun i hi => by
  have e := (mem_part 2 (by decide) i).mp hi
  rw [Finset.mem_sdiff, inAll_eq, mem_part 3 (by decide) i]
  exact ⟨Finset.mem_univ _, by omega⟩

theorem sub1 : inSet 1 (by decide) ⊆ left2 := fun i hi => by
  have e := (mem_part 1 (by decide) i).mp hi
  rw [Finset.mem_sdiff, Finset.mem_sdiff, inAll_eq, mem_part 3 (by decide) i, mem_part 2 (by decide) i]
  exact ⟨⟨Finset.mem_univ _, by omega⟩, by omega⟩

theorem set0 : inSet 0 (by decide) = left1 := by
  refine Finset.ext fun i => ?_
  have h0 : (i 0).val < 4 := (i 0).isLt
  rw [Finset.mem_sdiff, Finset.mem_sdiff, Finset.mem_sdiff, inAll_eq, mem_part 0 (by decide) i, mem_part 1 (by decide) i,
    mem_part 3 (by decide) i, mem_part 2 (by decide) i]
  have := Finset.mem_univ i
  constructor
  · intro e; refine ⟨⟨⟨this, ?_⟩, ?_⟩, ?_⟩ <;> omega
  · rintro ⟨⟨⟨-, e⟩, e'⟩, e''⟩; omega

abbrev inW (v : Vec F S4x1024x768 .bf16) : wIn.view.ty.Contents (Elt F) := (Memref.isWhole_whole cc0_scratch0).unread v

/-- What the host's array holds in a part is what the scratch buffer is to hold there. -/
theorem wInH_read (a : ℕ) (h : a < 4) (v : Vec F S4x1024x768 .bf16) : inSlice a h v = (inPart a h).view.read (Elt F) (inW v) := by
  refine ext2 fun x y => ?_
  show (wInH.view.read (Elt F) ((Memref.isWhole_whole main_v2).unread v))
    ((Rect.unit (s := S4x1024x768) ![a, 0, 0] S1x1024x768.size (part_inb a h)).emb (Shape.reshapeEquiv _ (ix2 x y)))
    = (wIn.view.read (Elt F) (inW v))
    ((Rect.unit (s := S4x1024x768) ![a, 0, 0] S1x1024x768.size (part_inb a h)).emb (Shape.reshapeEquiv _ (ix2 x y)))
  rw [(Memref.isWhole_whole main_v2).read_unread, (Memref.isWhole_whole cc0_scratch0).read_unread]

/-- A part with its slice of the weight written in holds what the whole buffer will hold there. -/
theorem in_settle (c : Dev nD) (a : ℕ) (h : a < 4) (v : Vec F S4x1024x768 .bf16) (f : (inPart a h).view.ty.Contents (Elt F)) :
    ((inPart a h).view.loc (c : Thread nD τ) ↦[(inPart a h).view.set]{fullShare} (inPart a h).view.writes (Elt F) f [⟨Rect.whole S1024x768, inSlice a h v⟩] : sProp 𝕄)
      = (wIn.view.loc (c : Thread nD τ) ↦[inSet a h]{fullShare} inW v) :=
  pointsTo_congr fun i hi => by
    obtain ⟨x, -, rfl⟩ := Finset.mem_map.mp hi
    exact View.eq_of_read_eq (congrFun ((View.read_writes_whole _ _ _).trans (wInH_read a h v)) x)

abbrev inHeld (c : Dev nD) (a : ℕ) (h : a < 4) : sProp 𝕄 :=
  iprop(∃ f, (inPart a h).view.loc (c : Thread nD τ) ↦[(inPart a h).view.set]{fullShare} f)

/-- The buffer as far as the copies have ended: after the first, -/
theorem in_done0 (c : Dev nD) (v : Vec F S4x1024x768 .bf16) (f : (inPart 0 (by decide)).view.ty.Contents (Elt F)) :
    ((inPart 0 (by decide)).view.loc (c : Thread nD τ) ↦[(inPart 0 (by decide)).view.set]{fullShare} (inPart 0 (by decide)).view.writes (Elt F) f [⟨Rect.whole S1024x768, inSlice 0 (by decide) v⟩] : sProp 𝕄)
      ⊢ (wIn.view.loc (c : Thread nD τ) ↦[left1]{fullShare} inW v : sProp 𝕄) := by
  refine (Entails.of_eq (in_settle c 0 _ v f)).trans (Entails.of_eq ?_)
  rw [show inSet 0 _ = left1 from set0]

/-- after the second, -/
theorem in_done1 (c : Dev nD) (v : Vec F S4x1024x768 .bf16) (f : (inPart 1 (by decide)).view.ty.Contents (Elt F)) :
    iprop((wIn.view.loc (c : Thread nD τ) ↦[left1]{fullShare} inW v)
        ∗ (inPart 1 (by decide)).view.loc (c : Thread nD τ) ↦[(inPart 1 (by decide)).view.set]{fullShare} (inPart 1 (by decide)).view.writes (Elt F) f [⟨Rect.whole S1024x768, inSlice 1 (by decide) v⟩])
      ⊢ (wIn.view.loc (c : Thread nD τ) ↦[left2]{fullShare} inW v : sProp 𝕄) := by
  iintro ⟨H, H'⟩
  iapply (pointsTo_split_subset sub1).2
  isplitl [H']
  · iapply (Entails.of_eq (in_settle c 1 _ v f)); iexact H'
  iexact H

/-- after the third, -/
theorem in_done2 (c : Dev nD) (v : Vec F S4x1024x768 .bf16) (f : (inPart 2 (by decide)).view.ty.Contents (Elt F)) :
    iprop((wIn.view.loc (c : Thread nD τ) ↦[left2]{fullShare} inW v)
        ∗ (inPart 2 (by decide)).view.loc (c : Thread nD τ) ↦[(inPart 2 (by decide)).view.set]{fullShare} (inPart 2 (by decide)).view.writes (Elt F) f [⟨Rect.whole S1024x768, inSlice 2 (by decide) v⟩])
      ⊢ (wIn.view.loc (c : Thread nD τ) ↦[left3]{fullShare} inW v : sProp 𝕄) := by
  iintro ⟨H, H'⟩
  iapply (pointsTo_split_subset sub2).2
  isplitl [H']
  · iapply (Entails.of_eq (in_settle c 2 _ v f)); iexact H'
  iexact H

/-- and after all four. -/
theorem in_done3 (c : Dev nD) (v : Vec F S4x1024x768 .bf16) (f : (inPart 3 (by decide)).view.ty.Contents (Elt F)) :
    iprop((wIn.view.loc (c : Thread nD τ) ↦[left3]{fullShare} inW v)
        ∗ (inPart 3 (by decide)).view.loc (c : Thread nD τ) ↦[(inPart 3 (by decide)).view.set]{fullShare} (inPart 3 (by decide)).view.writes (Elt F) f [⟨Rect.whole S1024x768, inSlice 3 (by decide) v⟩])
      ⊢ (wIn.view.loc (c : Thread nD τ) ↦[wIn.view.set]{fullShare} inW v : sProp 𝕄) := by
  iintro ⟨H, H'⟩
  iapply (pointsTo_split_subset sub3).2
  isplitl [H']
  · iapply (Entails.of_eq (in_settle c 3 _ v f)); iexact H'
  iexact H

/-- The whole buffer split into its parts. -/
theorem in_split (c : Dev nD) (f : wIn.view.ty.Contents (Elt F)) :
    (wIn.view.loc (c : Thread nD τ) ↦[wIn.view.set]{fullShare} f : sProp 𝕄)
      ⊢ iprop(inHeld c 0 (by decide) ∗ inHeld c 1 (by decide) ∗ inHeld c 2 (by decide) ∗ inHeld c 3 (by decide)) := by
  have h : (wIn.view.loc (c : Thread nD τ) ↦[left1]{fullShare} f : sProp 𝕄)
      ⊢ (wIn.view.loc (c : Thread nD τ) ↦[inSet 0 (by decide)]{fullShare} f : sProp 𝕄) := by
    rw [set0]
  iintro H
  icases (pointsTo_split_subset sub3).1 $$ H with ⟨H3, H⟩
  icases (pointsTo_split_subset sub2).1 $$ H with ⟨H2, H⟩
  icases (pointsTo_split_subset sub1).1 $$ H with ⟨H1, H⟩
  isplitl [H]
  · iexists f; iapply h; iexact H
  isplitl [H1]; · iexists f; iexact H1
  isplitl [H2]; · iexists f; iexact H2
  iexists f; iexact H3

end Cert.Kernel7Ideal.Inp

end
-- ==== Proof.InpRuns.lean ====
/- The input projection at a grid point: at the first, the weight is copied into the scratch buffer part by part, each part waited for before its use; at the others it is there. -/
module

public import proofs.«01_k».proof.Proof.InpWeights

@[expose] public section

set_option maxRecDepth 16384
set_option maxHeartbeats 1000000

noncomputable section

namespace Cert.Kernel7Ideal.Inp

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the first point leaves, as pieces (last first), with the proof that it does, and that it leaves the weight in scratch. -/
def runFirst (c : Dev nD) (i : grid0.Coords) (h1 : k0_cond1 i = 1#1) (h2 : ¬ k0_cond2 i = 1#1)
    (arg1 : Memref sig .tc .vmem S512x1024 .f32) (harg1 : arg1.IsWhole) (arg2 : Memref sig .tc .vmem S1x1024 .f32) (harg2 : arg2.IsWhole) (arg4 : Memref sig .tc .vmem S512x3072 .bf16) (harg4 : arg4.IsWhole)
    (x1 : Vec F S512x1024 .f32) (x2 : Vec F S1x1024 .f32) (v : Vec F S4x1024x768 .bf16) :
    { L : List (View.Piece (Elt F) S512x3072 .bf16) //
      ∀ (W : Waits sig Unit) (K : PUnit → sProp 𝕄),
        iprop(owns (c : Thread nD τ) arg1 fullShare x1
            ∗ owns (c : Thread nD τ) arg2 fullShare x2
            ∗ (∃ d, owns (c : Thread nD τ) arg4 fullShare d)
            ∗ owns (c : Thread nD τ) wInH fullShare v
            ∗ inHeld c 0 (by decide)
            ∗ inHeld c 1 (by decide)
            ∗ inHeld c 2 (by decide)
            ∗ inHeld c 3 (by decide)
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ owes (c : Thread nD τ) 0 W
            ∗ (iprop(owns (c : Thread nD τ) arg1 fullShare x1
            ∗ owns (c : Thread nD τ) arg2 fullShare x2
            ∗ (∃ f, arg4.view.loc (c : Thread nD τ) ↦[arg4.view.set]{fullShare} arg4.view.writes (Elt F) f L)
            ∗ owns (c : Thread nD τ) wInH fullShare v
            ∗ owns (c : Thread nD τ) wIn fullShare v
            ∗ semVal ((c : Thread nD τ), SemLoc.dma 5) 0
            ∗ semVal ((c : Thread nD τ), SemLoc.dma 6) 0
            ∗ semVal ((c : Thread nD τ), SemLoc.dma 7) 0
            ∗ semVal ((c : Thread nD τ), SemLoc.dma 8) 0
            ∗ (∃ W', owes (c : Thread nD τ) 0 W')) -∗ K ⟨⟩))
          ⊢ wp frame (wpE (defs₀ (F := F)) Variants.none c none) Set.univ (cc0_fwd_inproj (F := F) i arg1 harg1 arg2 harg2 wInH (Memref.isWhole_whole _) arg4 harg4 wIn (Memref.isWhole_whole _) cc0_scratch1) K } := by
  refine ⟨?_, fun W K => ?run⟩
  case run =>
    simp only [cc0_fwd_inproj_eq_skeleton]; unfold cc0_fwd_inproj_skel
    simp only [k0_part1_eq_skeleton, k0_part2_eq_skeleton, k0_part3_eq_skeleton]
    unfold owns
    iintro ⟨⟨%f1, %hf1, H1⟩, ⟨%f2, %hf2, H2⟩, ⟨%d4, %f4, -, H4⟩, ⟨%f3, %hf3, H3⟩, ⟨%g0, I0⟩, ⟨%g1, I1⟩, ⟨%g2, I2⟩, ⟨%g3, I3⟩, Q0, Q1, Q2, Q3, HW, Hk⟩
    obtain rfl := harg1.eq_unread hf1; obtain rfl := harg2.eq_unread hf2
    obtain rfl := (Memref.isWhole_whole main_v2).eq_unread hf3
    sl_exec
    sl_step
    ihave J0 := (in_done0 c v _) $$ [I0]
    · iexact I0
    ihave J1 := (in_done1 c v _) $$ [J0 I1]
    · isplitl [J0]; · iexact J0
      iexact I1
    ihave J2 := (in_done2 c v _) $$ [J1 I2]
    · isplitl [J1]; · iexact J1
      iexact I2
    ihave H5 := (in_done3 c v _) $$ [J2 I3]
    · isplitl [J2]; · iexact J2
      iexact I3
    iapply Hk
    isplitl [H1]
    · iexists _; isplitr; · ipureintro; exact harg1.read_unread _
      iexact H1
    isplitl [H2]
    · iexists _; isplitr; · ipureintro; exact harg2.read_unread _
      iexact H2
    isplitl [H4]; · iexists _; iexact H4
    isplitl [H3]
    · iexists _; isplitr; · ipureintro; exact (Memref.isWhole_whole main_v2).read_unread _
      iexact H3
    isplitl [H5]
    · iexists _; isplitr; · ipureintro; exact (Memref.isWhole_whole cc0_scratch0).read_unread _
      iexact H5
    isplitl [Q0]; · iexact Q0
    isplitl [Q1]; · iexact Q1
    isplitl [Q2]; · iexact Q2
    isplitl [Q3]; · iexact Q3
    iexists _; iexact HW

/-- What a point after the first leaves, the weight being in scratch. -/
def runLater (c : Dev nD) (i : grid0.Coords) (h1 : ¬ k0_cond1 i = 1#1) (h2 : k0_cond2 i = 1#1)
    (arg1 : Memref sig .tc .vmem S512x1024 .f32) (harg1 : arg1.IsWhole) (arg2 : Memref sig .tc .vmem S1x1024 .f32) (harg2 : arg2.IsWhole) (arg4 : Memref sig .tc .vmem S512x3072 .bf16) (harg4 : arg4.IsWhole)
    (x1 : Vec F S512x1024 .f32) (x2 : Vec F S1x1024 .f32) (v : Vec F S4x1024x768 .bf16) :
    { L : List (View.Piece (Elt F) S512x3072 .bf16) //
      ∀ (W : Waits sig Unit) (K : PUnit → sProp 𝕄),
        iprop(owns (c : Thread nD τ) arg1 fullShare x1
            ∗ owns (c : Thread nD τ) arg2 fullShare x2
            ∗ (∃ d, owns (c : Thread nD τ) arg4 fullShare d)
            ∗ owns (c : Thread nD τ) wIn fullShare v
            ∗ owes (c : Thread nD τ) 0 W
            ∗ (iprop(owns (c : Thread nD τ) arg1 fullShare x1
            ∗ owns (c : Thread nD τ) arg2 fullShare x2
            ∗ (∃ f, arg4.view.loc (c : Thread nD τ) ↦[arg4.view.set]{fullShare} arg4.view.writes (Elt F) f L)
            ∗ owns (c : Thread nD τ) wIn fullShare v
            ∗ (∃ W', owes (c : Thread nD τ) 0 W')) -∗ K ⟨⟩))
          ⊢ wp frame (wpE (defs₀ (F := F)) Variants.none c none) Set.univ (cc0_fwd_inproj (F := F) i arg1 harg1 arg2 harg2 wInH (Memref.isWhole_whole _) arg4 harg4 wIn (Memref.isWhole_whole _) cc0_scratch1) K } := by
  refine ⟨?_, fun W K => ?run⟩
  case run =>
    simp only [cc0_fwd_inproj_eq_skeleton]; unfold cc0_fwd_inproj_skel
    simp only [k0_part1_eq_skeleton, k0_part2_eq_skeleton, k0_part3_eq_skeleton]
    unfold owns
    iintro ⟨⟨%f1, %hf1, H1⟩, ⟨%f2, %hf2, H2⟩, ⟨%d4, %f4, -, H4⟩, ⟨%f5, %hf5, H5⟩, HW, Hk⟩
    obtain rfl := harg1.eq_unread hf1; obtain rfl := harg2.eq_unread hf2
    obtain rfl := (Memref.isWhole_whole cc0_scratch0).eq_unread hf5
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H4]; · iexists _; iexact H4
    isplitl [H5]
    · iexists _; isplitr; · ipureintro; exact (Memref.isWhole_whole cc0_scratch0).read_unread _
      iexact H5
    iexists _; iexact HW

end Cert.Kernel7Ideal.Inp

end
-- ==== Proof.InpFrame.lean ====
/- The input projection's run: what each point leaves, the body's invariant from point to point, the launch and the frame. -/
module

public import proofs.«01_k».proof.Proof.InpRuns
public import proofs.«01_k».proof.Proof.Gen.Kernel7Ideal.Points
public import Idealize.ShloMosaic.Lib.Pipeline.FrameBody

@[expose] public section

set_option maxRecDepth 16384
set_option maxHeartbeats 600000

noncomputable section

namespace Cert.Kernel7Ideal.Inp

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

theorem cond1_iff : ∀ t : Fin grid0.N, k0_cond1 (grid0.coords t) = 1#1 ↔ t.val = 0 := by decide +kernel
theorem cond2_iff : ∀ t : Fin grid0.N, k0_cond2 (grid0.coords t) = 1#1 ↔ t.val ≠ 0 := by decide +kernel

/-- The weight as the launch finds it. -/
abbrev vIn (c : Dev nD) : Vec F S4x1024x768 .bf16 := wInH.view.read (Elt F) (V m c main_v2)

abbrev hs0_0 (t : Fin cfg0.N) : (st0_0 t).IsWhole := hstage0_0 ((cfg0.slots t 0).cast nbuf0_0)
abbrev hs0_1 (t : Fin cfg0.N) : (st0_1 t).IsWhole := hstage0_1 ((cfg0.slots t 1).cast nbuf0_1)
abbrev hs0_2 (t : Fin cfg0.N) : (st0_2 t).IsWhole := hstage0_2 ((cfg0.slots t 2).cast nbuf0_2)

/-- The run at the first point, at that point's memrefs and blocks, -/
def first (c : Dev nD) (t : Fin cfg0.N) (h : t.val = 0) :=
  runFirst c (grid0.coords t) ((cond1_iff t).mpr h) (fun e => (cond2_iff t).mp e h) (st0_0 t) (hs0_0 t) (st0_1 t) (hs0_1 t) (st0_2 t) (hs0_2 t) (iblk m c 0 t) (iblk m c 1 t) (vIn m c)

/-- and at a later one. -/
def later (c : Dev nD) (t : Fin cfg0.N) (h : t.val ≠ 0) :=
  runLater c (grid0.coords t) (fun e => h ((cond1_iff t).mp e)) ((cond2_iff t).mpr h) (st0_0 t) (hs0_0 t) (st0_1 t) (hs0_1 t) (st0_2 t) (hs0_2 t) (iblk m c 0 t) (iblk m c 1 t) (vIn m c)

/-- What the pieces of a staging buffer read as. -/
abbrev fill {sp : Space} {S : Shape} {e : EltTy} (M : Memref sig .tc sp S e) (L : List (View.Piece (Elt F) S e)) : Vec F S e :=
  M.view.read (Elt F) (M.view.writes (Elt F) M.view.junk L)

def leftFirst (c : Dev nD) (t : Fin cfg0.N) (h : t.val = 0) : Vec F S512x3072 .bf16 :=
  fill (st0_2 t) (first m c t h).1

def leftLater (c : Dev nD) (t : Fin cfg0.N) (h : t.val ≠ 0) : Vec F S512x3072 .bf16 :=
  fill (st0_2 t) (later m c t h).1

/-- What point `t` leaves. -/
def outsAt (c : Dev nD) (t : Fin cfg0.N) : Vec F S512x3072 .bf16 := if h : t.val = 0 then leftFirst m c t h else leftLater m c t h

theorem outsAt_first (c : Dev nD) (t : Fin cfg0.N) (h : t.val = 0) : outsAt m c t = leftFirst m c t h := dif_pos h
theorem outsAt_later (c : Dev nD) (t : Fin cfg0.N) (h : t.val ≠ 0) : outsAt m c t = leftLater m c t h := dif_neg h

/-! ## The pieces fill their buffers -/

theorem coverFirst (c : Dev nD) (t : Fin cfg0.N) (h : t.val = 0) (y : S512x3072.Idx) : ∃ pc ∈ (first m c t h).1, y ∈ pc.1.set :=
  View.cover_of_tiledBy (first m c t h).1 ![256, 256] (by sl_kernel_rfl) y
theorem coverLater (c : Dev nD) (t : Fin cfg0.N) (h : t.val ≠ 0) (y : S512x3072.Idx) : ∃ pc ∈ (later m c t h).1, y ∈ pc.1.set :=
  View.cover_of_tiledBy (later m c t h).1 ![256, 256] (by sl_kernel_rfl) y

/-! ## The invariant -/

/-- The body's own DMA cells. -/
abbrev cells : Fin 4 → SemLoc sig := fun j => (![SemLoc.dma 5, SemLoc.dma 6, SemLoc.dma 7, SemLoc.dma 8] : Fin 4 → SemLoc sig) j

theorem cellFacts : Pipeline.OwnSemFacts spec0 cells := by decide

theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 5) 0 ∗ semVal ((c : Thread nD τ), SemLoc.dma 6) 0
          ∗ semVal ((c : Thread nD τ), SemLoc.dma 7) 0 ∗ semVal ((c : Thread nD τ), SemLoc.dma 8) 0) := by
  rw [Pipeline.ownSems0_eq_of_list c cells [0, 1, 2, 3] (by decide) (by decide)]; rfl

/-- The array that the body reads itself. -/
def weights : Finset (Ref sig .tc) := {main_v2}
theorem weights_sub : weights ⊆ Pipeline.restRefs sig spec0 := by decide
theorem weights_eq (c : Dev nD) :
    (bigSep weights (fun b => ((c : Thread nD τ).loc b) ↦{fullShare} V m c b) : sProp 𝕄)
      = (((c : Thread nD τ).loc main_v2) ↦{fullShare} V m c main_v2) := by
  rw [BI.bigSep_eq_bigSepL_of_eq [main_v2] (by decide) (by decide)]; rfl

/-- A whole buffer, held as a memref that reads its contents. -/
theorem owns_whole (c : Dev nD) (b : Ref sig .tc) (f : Buf (Elt F) ((c : Thread nD τ).loc b)) :
    (owns (c : Thread nD τ) (Memref.whole b) fullShare ((Memref.whole b).view.read (Elt F) f) : sProp 𝕄) ⊣⊢ (((c : Thread nD τ).loc b) ↦{fullShare} f) := by
  unfold owns
  rw [(Memref.isWhole_whole b).set_eq_univ]
  constructor
  · iintro ⟨%g, %e, H⟩
    obtain rfl : g = f := ((Memref.isWhole_whole b).eq_unread e).trans ((Memref.isWhole_whole b).eq_unread rfl).symm
    iexact H
  · iintro H
    iexists f
    isplitr; · ipureintro; rfl
    iexact H

/-- What every point finds and leaves: the weight in the host's array, the semaphores at zero. -/
def common (c : Dev nD) : sProp 𝕄 :=
  iprop((∃ r, prngReg c r) ∗ owns (c : Thread nD τ) wInH fullShare (vIn m c)
    ∗ semVal ((c : Thread nD τ), SemLoc.dma 5) 0 ∗ semVal ((c : Thread nD τ), SemLoc.dma 6) 0
    ∗ semVal ((c : Thread nD τ), SemLoc.dma 7) 0 ∗ semVal ((c : Thread nD τ), SemLoc.dma 8) 0)

/-- The scratch buffer at some contents, and at the weight. -/
def blank (c : Dev nD) : sProp 𝕄 :=
  iprop(∃ f : Buf (Elt F) ((c : Thread nD τ).loc cc0_scratch0), ((c : Thread nD τ).loc cc0_scratch0) ↦{fullShare} f)
def filled (c : Dev nD) : sProp 𝕄 := owns (c : Thread nD τ) wIn fullShare (vIn m c)

def scratch (c : Dev nD) (n : ℕ) : sProp 𝕄 := if n = 0 then blank c else filled m c

/-- The body's invariant before point `n`. -/
def inv (c : Dev nD) (n : ℕ) : sProp 𝕄 := iprop(common m c ∗ scratch m c n)

theorem filled_blank (c : Dev nD) : (filled m c : sProp 𝕄) ⊢ blank c := by
  unfold filled blank owns
  rw [(Memref.isWhole_whole cc0_scratch0).set_eq_univ]
  iintro ⟨%f, -, A⟩
  iexists f; iexact A

theorem blank_parts (c : Dev nD) :
    (blank c : sProp 𝕄) ⊢ iprop(inHeld c 0 (by decide) ∗ inHeld c 1 (by decide) ∗ inHeld c 2 (by decide) ∗ inHeld c 3 (by decide)) := by
  unfold blank
  iintro ⟨%f, A⟩
  iapply (in_split c f)
  rw [(Memref.isWhole_whole cc0_scratch0).set_eq_univ]
  iexact A

theorem launch_eq (c : Dev nD) :
    (Pipeline.ΦD cells spec0 weights (V m) c : sProp 𝕄) ⊣⊢ iprop(common m c ∗ blank c) := by
  rw [Pipeline.ΦD_eq, scopedRest0_eq, cells_eq, weights_eq]
  unfold common blank
  constructor
  · iintro ⟨A, P, ⟨S0, S1, S2, S3⟩, X⟩
    isplitr [A]
    · isplitl [P]; · iexact P
      isplitl [X]; · iapply (owns_whole c main_v2 (V m c main_v2)).2; iexact X
      isplitl [S0]; · iexact S0
      isplitl [S1]; · iexact S1
      isplitl [S2]; · iexact S2
      iexact S3
    iexact A
  · iintro ⟨⟨P, X, S0, S1, S2, S3⟩, A⟩
    isplitl [A]; · iexact A
    isplitl [P]; · iexact P
    isplitl [S0 S1 S2 S3]
    · isplitl [S0]; · iexact S0
      isplitl [S1]; · iexact S1
      isplitl [S2]; · iexact S2
      iexact S3
    iapply (owns_whole c main_v2 (V m c main_v2)).1; iexact X

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outsAt m c t
  Φ n := inv m c n.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outsAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem live_2 : ∀ i : grid0.Coords, cfg0.idle 2 i = false := by decide +kernel

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_first (c : Dev nD) (t : Fin cfg0.N) (h : t.val = 0) :
    (bodyPre m c t : sProp 𝕄) ⊢ wp frame (wpE (defs₀ (F := F)) Variants.none c none) Set.univ (bodyAt0 t) (fun _ => bodyPost m c t) := by
  unfold bodyPre bodyPost bodyAt0 Dat.owesAt Pipeline.owesWithin
  rw [show (dats m 0 c).Φ t.castSucc = inv m c t.val from rfl, show (dats m 0 c).owed t.castSucc = 0 from rfl,
    show (dats m 0 c).Φ t.succ = inv m c (t.val + 1) from rfl, show (dats m 0 c).owed t.succ = 0 from rfl]
  unfold inv
  simp only [before_0, before_1]
  rw [after_0, after_1, after_2, outsAt_first m c t h, show (scratch m c t.val : sProp 𝕄) = blank c from if_pos h, show (scratch m c (t.val + 1) : sProp 𝕄) = filled m c from if_neg (Nat.succ_ne_zero _)]
  unfold leftFirst common filled
  iintro ⟨⟨⟨P, H3, Q0, Q1, Q2, Q3⟩, B⟩, ⟨%W, -, HW⟩, ⟨%d1, H1⟩, ⟨%d2, H2⟩, ⟨%d4, H4⟩⟩
  icases (blank_parts c) $$ B with ⟨I0, I1, I2, I3⟩
  iapply ((first m c t h).2 W _)
  isplitl [H1]; · iexact H1
  isplitl [H2]; · iexact H2
  isplitl [H4]; · iexists _; iexact H4
  isplitl [H3]; · iexact H3
  isplitl [I0]; · iexact I0
  isplitl [I1]; · iexact I1
  isplitl [I2]; · iexact I2
  isplitl [I3]; · iexact I3
  isplitl [Q0]; · iexact Q0
  isplitl [Q1]; · iexact Q1
  isplitl [Q2]; · iexact Q2
  isplitl [Q3]; · iexact Q3
  isplitl [HW]; · iexact HW
  iintro ⟨H1, H2, ⟨%e4, H4⟩, H3, H5, Q0, Q1, Q2, Q3, HW⟩
  isplitl [P H3 Q0 Q1 Q2 Q3 H5]
  · isplitl [P H3 Q0 Q1 Q2 Q3]
    · isplitl [P]; · iexact P
      isplitl [H3]; · iexact H3
      isplitl [Q0]; · iexact Q0
      isplitl [Q1]; · iexact Q1
      isplitl [Q2]; · iexact Q2
      iexact Q3
    iexact H5
  isplitl [HW]
  · icases HW with ⟨%W2, HW⟩
    iexists W2; isplitr; · ipureintro; exact fun _ _ => Or.inl trivial
    iexact HW
  isplitl [H1]; · iexact H1
  isplitl [H2]; · iexact H2
  unfold owns; iexists _; isplitr
  swap; · iexact H4
  ipureintro; exact View.read_writes_of_cover _ _ _ _ _ (coverFirst m c t h)

theorem body_later (c : Dev nD) (t : Fin cfg0.N) (h : t.val ≠ 0) :
    (bodyPre m c t : sProp 𝕄) ⊢ wp frame (wpE (defs₀ (F := F)) Variants.none c none) Set.univ (bodyAt0 t) (fun _ => bodyPost m c t) := by
  unfold bodyPre bodyPost bodyAt0 Dat.owesAt Pipeline.owesWithin
  rw [show (dats m 0 c).Φ t.castSucc = inv m c t.val from rfl, show (dats m 0 c).owed t.castSucc = 0 from rfl,
    show (dats m 0 c).Φ t.succ = inv m c (t.val + 1) from rfl, show (dats m 0 c).owed t.succ = 0 from rfl]
  unfold inv
  simp only [before_0, before_1]
  rw [after_0, after_1, after_2, outsAt_later m c t h, show (scratch m c t.val : sProp 𝕄) = filled m c from if_neg h, show (scratch m c (t.val + 1) : sProp 𝕄) = filled m c from if_neg (Nat.succ_ne_zero _)]
  unfold leftLater filled
  iintro ⟨⟨C, H5⟩, ⟨%W, -, HW⟩, ⟨%d1, H1⟩, ⟨%d2, H2⟩, ⟨%d4, H4⟩⟩
  iapply ((later m c t h).2 W _)
  isplitl [H1]; · iexact H1
  isplitl [H2]; · iexact H2
  isplitl [H4]; · iexists _; iexact H4
  isplitl [H5]; · iexact H5
  isplitl [HW]; · iexact HW
  iintro ⟨H1, H2, ⟨%e4, H4⟩, H5, HW⟩
  isplitl [C H5]
  · isplitl [C]; · iexact C
    iexact H5
  isplitl [HW]
  · icases HW with ⟨%W2, HW⟩
    iexists W2; isplitr; · ipureintro; exact fun _ _ => Or.inl trivial
    iexact HW
  isplitl [H1]; · iexact H1
  isplitl [H2]; · iexact H2
  unfold owns; iexists _; isplitr
  swap; · iexact H4
  ipureintro; exact View.read_writes_of_cover _ _ _ _ _ (coverLater m c t h)

theorem sound_body (c : Dev nD) (t : Fin cfg0.N) :
    (bodyPre m c t : sProp 𝕄) ⊢ wp frame (wpE (defs₀ (F := F)) Variants.none c none) Set.univ (bodyAt0 t) (fun _ => bodyPost m c t) := by
  by_cases h : t.val = 0
  · exact body_first m c t h
  · exact body_later m c t h

/-! ## The launch -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rw [live_2]
  exact triple_restated (sound_body m c t) rfl .rfl fun _ => .rfl

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem inv_first (c : Dev nD) : (iprop(common m c ∗ blank c) : sProp 𝕄) ⊢ inv m c 0 := by
  unfold inv; rw [show (scratch m c 0 : sProp 𝕄) = blank c from if_pos rfl]
theorem inv_last (c : Dev nD) : (inv m c 8 : sProp 𝕄) ⊢ iprop(common m c ∗ blank c) := by
  unfold inv; rw [show (scratch m c 8 : sProp 𝕄) = filled m c from if_neg (by decide)]
  exact BIClass.sep_mono .rfl (filled_blank m c)

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 cells defs₀ Variants.none cellFacts weights weights_sub m ρ main
    (hbody := fun c => (body_obligation m c).loose) (hshare := fun c => (dats m 0 c).share_full fun _ => rfl)
    (howed := fun _ _ => rfl) (V := V m) (hmain := hmain m Variants.none) (hA := A_eq m)
    (hin := fun c => (launch_eq m c).1.trans (inv_first m c)) (hout := fun c => (inv_last m c).trans (launch_eq m c).2)

/-- The program ends, its arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ ⟨h, hz⟩ => ⟨fun c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩, hz⟩) (run_main m ρ)

/-- It ends with the result array as its window left it, and its arguments are unchanged. -/
theorem run_results : θ_run defs (onTc (τ := τ) (main (F := F))) ⟨m, fun _ => 0, ρ⟩ (fun r => ∀ c : Dev nD,
      r.2.mem ((c.tc : Thread nD τ).loc main_v4) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ ⟨h, _⟩ c => ⟨(h c).1 2,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel7Ideal.Inp

end
-- ==== Proof.InpTile.lean ====
/- What the input projection's stores hold, entry by entry. -/
module

public import proofs.«01_k».proof.Proof.FwdBlocks
public import proofs.«01_k».proof.Proof.Gen.Kernel7Ideal.Skeleton
public import Idealize.ShloMosaic.Lib.Pointwise

@[expose] public section

set_option maxRecDepth 16384
set_option maxHeartbeats 1000000

noncomputable section

namespace Cert.Kernel7Ideal.Inp

open Idealize.ShloMosaic Idealize.ShloMosaic.TcCoe Idealize.SL.Sem
open Cert.Kernel7Ideal Cert.Kernel7Ideal.Gen Cert.Proof.FwdRow
open Cert.Kernel6Ideal.Fwd (Is of2 piece_of)

/-- The normed rows at the first point, -/
theorem norm7 (x : Vec Ideal S512x1024 .f32) (g : Vec Ideal S1x1024 .f32) {a : Fin 512 → Fin 1024 → EReal} {γ : Fin 1 → Fin 1024 → EReal} (hx : Is x a) (hg : Is g γ) : Is (k0_pay7 x (k0_pay4 g) (k0_pay5 x) k0_pay6) fun p => norm (a p) (γ 0) := fun p k => by
  pointwise [k0_pay4, k0_pay5, k0_pay6, k0_pay7]
  simp only [hx _ _, hg _ _]
  rfl

/-- and at a later one. -/
theorem norm10 (x : Vec Ideal S512x1024 .f32) (g : Vec Ideal S1x1024 .f32) {a : Fin 512 → Fin 1024 → EReal} {γ : Fin 1 → Fin 1024 → EReal} (hx : Is x a) (hg : Is g γ) : Is (k0_pay10 x g) fun p => norm (a p) (γ 0) := fun p k => by
  pointwise [k0_pay10]
  simp only [hx _ _, hg _ _]
  rfl

/-! ## Normed rows times a part of the weight -/

theorem pay8 (x : Vec Ideal S512x1024 .f32) (g : Vec Ideal S1x1024 .f32) (w : Vec Ideal S1x1024x768 .bf16) {a : Fin 512 → Fin 1024 → EReal} {γ : Fin 1 → Fin 1024 → EReal} (hx : Is x a) (hg : Is g γ) {ω : Fin 1024 → Fin 768 → EReal} (hw : ∀ k n, w (ix3 0 k n) = ω k n) :
    Is (k0_pay8 x (k0_pay4 g) (k0_pay5 x) k0_pay6 w) fun p => proj (norm (a p) (γ 0)) ω := fun p n => by
  pointwise [k0_pay8]
  simp only [norm7 x g hx hg _ _, hw _ _]
  rfl

theorem pay9 (x : Vec Ideal S512x1024 .f32) (g : Vec Ideal S1x1024 .f32) (w : Vec Ideal S1x1024x768 .bf16) {a : Fin 512 → Fin 1024 → EReal} {γ : Fin 1 → Fin 1024 → EReal} (hx : Is x a) (hg : Is g γ) {ω : Fin 1024 → Fin 768 → EReal} (hw : ∀ k n, w (ix3 0 k n) = ω k n) :
    Is (k0_pay9 x (k0_pay4 g) (k0_pay5 x) k0_pay6 w) fun p => proj (norm (a p) (γ 0)) ω := fun p n => by
  pointwise [k0_pay9]
  simp only [norm7 x g hx hg _ _, hw _ _]
  rfl

theorem pay11 (x : Vec Ideal S512x1024 .f32) (g : Vec Ideal S1x1024 .f32) (w : Vec Ideal S1x1024x768 .bf16) {a : Fin 512 → Fin 1024 → EReal} {γ : Fin 1 → Fin 1024 → EReal} (hx : Is x a) (hg : Is g γ) {ω : Fin 1024 → Fin 768 → EReal} (hw : ∀ k n, w (ix3 0 k n) = ω k n) :
    Is (k0_pay11 x g w) fun p => proj (norm (a p) (γ 0)) ω := fun p n => by
  pointwise [k0_pay11]
  simp only [norm10 x g hx hg _ _, hw _ _]
  rfl

theorem pay12 (x : Vec Ideal S512x1024 .f32) (g : Vec Ideal S1x1024 .f32) (w : Vec Ideal S1x1024x768 .bf16) {a : Fin 512 → Fin 1024 → EReal} {γ : Fin 1 → Fin 1024 → EReal} (hx : Is x a) (hg : Is g γ) {ω : Fin 1024 → Fin 768 → EReal} (hw : ∀ k n, w (ix3 0 k n) = ω k n) :
    Is (k0_pay12 x g w) fun p => proj (norm (a p) (γ 0)) ω := fun p n => by
  pointwise [k0_pay12]
  simp only [norm10 x g hx hg _ _, hw _ _]
  rfl

theorem pay13 (x : Vec Ideal S512x1024 .f32) (g : Vec Ideal S1x1024 .f32) (w : Vec Ideal S1x1024x768 .bf16) {a : Fin 512 → Fin 1024 → EReal} {γ : Fin 1 → Fin 1024 → EReal} (hx : Is x a) (hg : Is g γ) {ω : Fin 1024 → Fin 768 → EReal} (hw : ∀ k n, w (ix3 0 k n) = ω k n) :
    Is (k0_pay13 x g w) fun p => proj (norm (a p) (γ 0)) ω := fun p n => by
  pointwise [k0_pay13]
  simp only [norm10 x g hx hg _ _, hw _ _]
  rfl

theorem pay1 (h : FVec Ideal S512x1024 .bf16) (w : Vec Ideal S1x1024x768 .bf16) {η : Fin 512 → Fin 1024 → EReal} (hh : Is h η) {ω : Fin 1024 → Fin 768 → EReal} (hw : ∀ k n, w (ix3 0 k n) = ω k n) :
    Is (k0_pay1 h w) fun p => proj (η p) ω := fun p n => by
  pointwise [k0_pay1]
  simp only [hh _ _, hw _ _]
  rfl

theorem pay2 (h : FVec Ideal S512x1024 .bf16) (w : Vec Ideal S1x1024x768 .bf16) {η : Fin 512 → Fin 1024 → EReal} (hh : Is h η) {ω : Fin 1024 → Fin 768 → EReal} (hw : ∀ k n, w (ix3 0 k n) = ω k n) :
    Is (k0_pay2 h w) fun p => proj (η p) ω := fun p n => by
  pointwise [k0_pay2]
  simp only [hh _ _, hw _ _]
  rfl

theorem pay3 (h : FVec Ideal S512x1024 .bf16) (w : Vec Ideal S1x1024x768 .bf16) {η : Fin 512 → Fin 1024 → EReal} (hh : Is h η) {ω : Fin 1024 → Fin 768 → EReal} (hw : ∀ k n, w (ix3 0 k n) = ω k n) :
    Is (k0_pay3 h w) fun p => proj (η p) ω := fun p n => by
  pointwise [k0_pay3]
  simp only [hh _ _, hw _ _]
  rfl

end Cert.Kernel7Ideal.Inp

end
-- ==== Proof.InpBlocks.lean ====
/- What a point of the input projection leaves, as an array of its block's rows. -/
module

public import proofs.«01_k».proof.Proof.InpFrame
public import proofs.«01_k».proof.Proof.InpTile
public import Idealize.ShloMosaic.Lib.Tactic.Stretches
public import Idealize.ShloMosaic.Lib.WholeRead
public import Idealize.ShloMosaic.Lib.Pipeline.ValueKit
public import Idealize.ShloMosaic.Lib.Pipeline.ReadBack

@[expose] public section

set_option maxRecDepth 16384
set_option maxHeartbeats 1000000

noncomputable section

namespace Cert.Kernel7Ideal.Inp

open Idealize.ShloMosaic Idealize.ShloMosaic.TcCoe Idealize.ShloMosaic.Tactic Idealize.SL.Sem
open Cert.Kernel7Ideal Cert.Kernel7Ideal.Gen Cert.Proof.FwdRow
open Cert.Kernel6Ideal.Fwd (Is of2 piece_of)

/-! ## Reading a rectangle of a buffer whose entries are known -/

theorem rd2f {sp : Space} {A B A' B' : ℕ} (M : Memref sig .tc sp ⟨2, ![A, B]⟩ .f32) (hM : M.IsWhole)
    (X : Vec Ideal ⟨2, ![A, B]⟩ .f32) (o1 o2 : ℕ) (inb : ∀ a, (![o1, o2] : Fin 2 → ℕ) a + (![A', B'] : Fin 2 → ℕ) a ≤ (⟨2, ![A, B]⟩ : Shape).size a)
    {x : Fin A → Fin B → EReal} (h : Is X x) {y : Fin A' → Fin B' → EReal}
    (hy : ∀ (p : Fin A') (j : Fin B') (hp : o1 + p.val < A) (hj : o2 + j.val < B), x ⟨o1 + p.val, hp⟩ ⟨o2 + j.val, hj⟩ = y p j) :
    Is (A := A') (B := B') (View.readAt (Elt Ideal) M.view (Rect.unit (s := ⟨2, ![A, B]⟩) ![o1, o2] ![A', B'] inb).toLoadRect (hM.unread X)) y := by
  intro p j
  have hp : o1 + p.val < A := lt_of_lt_of_le (Nat.add_lt_add_left p.isLt o1) (inb 0)
  have hj : o2 + j.val < B := lt_of_lt_of_le (Nat.add_lt_add_left j.isLt o2) (inb 1)
  rw [hM.readAt_unread]
  refine Eq.trans (congrArg X ?_) ((h ⟨o1 + p.val, hp⟩ ⟨o2 + j.val, hj⟩).trans (hy p j hp hj))
  funext a
  match a with
  | ⟨0, _⟩ => exact Fin.ext (ValueKit.rect_emb_unit_val ..)
  | ⟨1, _⟩ => exact Fin.ext (ValueKit.rect_emb_unit_val ..)

theorem rd3 {sp : Space} {A B C B' C' : ℕ} (M : Memref sig .tc sp ⟨3, ![A, B, C]⟩ .bf16) (hM : M.IsWhole)
    (X : Vec Ideal ⟨3, ![A, B, C]⟩ .bf16) (o1 o2 o3 : ℕ) (inb : ∀ a, (![o1, o2, o3] : Fin 3 → ℕ) a + (![1, B', C'] : Fin 3 → ℕ) a ≤ (⟨3, ![A, B, C]⟩ : Shape).size a)
    {x : Fin A → Fin B → Fin C → EReal} (h : ∀ p j k, X (ix3 p j k) = x p j k) {y : Fin B' → Fin C' → EReal}
    (hy : ∀ (j : Fin B') (k : Fin C') (hp : o1 + 0 < A) (hj : o2 + j.val < B) (hk : o3 + k.val < C), x ⟨o1 + 0, hp⟩ ⟨o2 + j.val, hj⟩ ⟨o3 + k.val, hk⟩ = y j k)
    (j : Fin B') (k : Fin C') :
    View.readAt (Elt Ideal) M.view (Rect.unit (s := ⟨3, ![A, B, C]⟩) ![o1, o2, o3] ![1, B', C'] inb).toLoadRect (hM.unread X) (ix3 (0 : Fin 1) j k) = y j k := by
  have hp : o1 + 0 < A := lt_of_lt_of_le (Nat.lt_succ_self o1) (inb 0)
  have hj : o2 + j.val < B := lt_of_lt_of_le (Nat.add_lt_add_left j.isLt o2) (inb 1)
  have hk : o3 + k.val < C := lt_of_lt_of_le (Nat.add_lt_add_left k.isLt o3) (inb 2)
  rw [hM.readAt_unread]
  refine Eq.trans (congrArg X ?_) ((h ⟨o1 + 0, hp⟩ ⟨o2 + j.val, hj⟩ ⟨o3 + k.val, hk⟩).trans (hy j k hp hj hk))
  funext a
  match a with
  | ⟨0, _⟩ => exact Fin.ext (ValueKit.rect_emb_unit_val ..)
  | ⟨1, _⟩ => exact Fin.ext (ValueKit.rect_emb_unit_val ..)
  | ⟨2, _⟩ => exact Fin.ext (ValueKit.rect_emb_unit_val ..)

/-- A part that holds its slice of the weight, read through the whole buffer. -/
theorem rdPart (a : ℕ) (h : a < 4) (v : Vec Ideal S4x1024x768 .bf16) (f : wIn.view.ty.Contents (Elt Ideal))
    (hf : (inPart a h).view.read (Elt Ideal) f = inSlice a h v) (k : Fin 1024) (n : Fin 768) :
    View.readAt (Elt Ideal) wIn.view (Rect.unit (s := S4x1024x768) ![a, 0, 0] S1x1024x768.size (part_inb a h)).toLoadRect f (ix3 (0 : Fin 1) k n)
      = v (ix3 ⟨a, h⟩ k n) := by
  have e := congrFun (hf.trans (wInH_read a h v)) (ix2 k n)
  have e' : wIn.view.read (Elt Ideal) f ((Rect.unit (s := S4x1024x768) ![a, 0, 0] S1x1024x768.size (part_inb a h)).emb (Shape.reshapeEquiv _ (ix2 k n)))
      = wIn.view.read (Elt Ideal) (inW v) ((Rect.unit (s := S4x1024x768) ![a, 0, 0] S1x1024x768.size (part_inb a h)).emb (Shape.reshapeEquiv _ (ix2 k n))) := e
  rw [(Memref.isWhole_whole cc0_scratch0).read_unread, (show Shape.reshapeEquiv _ (ix2 k n) = ix3 (0 : Fin 1) k n from ValueIdx.reshapeEquiv_ix2_1ab _ k n)] at e'
  refine Eq.trans e' (congrArg v ?_)
  funext d
  match d with
  | ⟨0, _⟩ => exact Fin.ext (ValueKit.rect_emb_unit_val ..)
  | ⟨1, _⟩ => exact Fin.ext ((ValueKit.rect_emb_unit_val ..).trans (Nat.zero_add _))
  | ⟨2, _⟩ => exact Fin.ext ((ValueKit.rect_emb_unit_val ..).trans (Nat.zero_add _))

theorem fill_pieces {sp : Space} {S : Shape} {e : EltTy} (M : Memref sig .tc sp S e) (G : Vec Ideal S e) (L : List (View.Piece (Elt Ideal) S e))
    (h : View.PiecesOf G L) (hc : ∀ y, ∃ p ∈ L, y ∈ p.1.set) : fill M L = G := by
  refine (View.read_writes_eq_canon _ _ _ hc).trans (funext fun y => ?_)
  exact (congrArg (fun l => View.canon l y) (List.append_nil L).symm).trans (View.canon_append_of_piecesOf G [] L h y (hc y))

/-- The columns of the result that a part of the weight gives. -/
abbrev col (b : ℕ) (hb : b < 4) (n : Fin 768) : Fin 3072 := ⟨768 * b + n.val, by omega⟩

/-! ## What a point leaves -/

theorem leftFirst_eq (m : (ℓ : Loc nD τ sig) → Buf (Elt Ideal) ℓ) (c : Dev nD) (t : Fin cfg0.N) (h : t.val = 0) {a : Fin 512 → Fin 1024 → EReal} {γ : Fin 1 → Fin 1024 → EReal} {wi : Fin 1024 → Fin 3072 → EReal}
    (hx0 : Is (iblk m c 0 t) a) (hx1 : Is (iblk m c 1 t) γ) (hI : ∀ (b : Fin 4) (k : Fin 1024) (n : Fin 768), vIn m c (ix3 b k n) = wi k (col b.val b.isLt n)) :
    leftFirst m c t h = of2 (A := 512) (fun p => proj (norm (a p) (γ 0)) wi) := by
  refine fill_pieces _ (of2 (A := 512) (fun p => proj (norm (a p) (γ 0)) wi)) _ ?_ (coverFirst m c t h)
  unfold first runFirst; dsimp only; sl_open_run
  refine ⟨piece_of (A := 512) (B := 3072) (A' := 512) (B' := 768) 0 2304 inb_S512x3072_S512x768_0_2304 (w := fun p n => proj (norm (a p) (γ 0)) wi (col 3 (by decide) n)) ?_ _ (fun p j _ _ => by simp only [Nat.zero_add, Fin.eta]),
    piece_of (A := 512) (B := 3072) (A' := 512) (B' := 768) 0 1536 inb_S512x3072_S512x768_0_1536 (w := fun p n => proj (norm (a p) (γ 0)) wi (col 2 (by decide) n)) ?_ _ (fun p j _ _ => by simp only [Nat.zero_add, Fin.eta]),
    piece_of (A := 512) (B := 3072) (A' := 512) (B' := 768) 0 768 inb_S512x3072_S512x768_0_768 (w := fun p n => proj (norm (a p) (γ 0)) wi (col 1 (by decide) n)) ?_ _ (fun p j _ _ => by simp only [Nat.zero_add, Fin.eta]),
    piece_of (A := 512) (B := 3072) (A' := 512) (B' := 768) 0 0 inb_S512x3072_S512x768_0_0 (w := fun p n => proj (norm (a p) (γ 0)) wi (col 0 (by decide) n)) ?_ _ (fun p j _ _ => by simp only [col, Nat.mul_zero, Nat.zero_add, Fin.eta]), trivial⟩
  · exact pay2 _ _ (norm7 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (fun k n => (rdPart 3 (by decide) (vIn m c) _ (View.read_writes_whole _ _ _) k n).trans (hI 3 k n))
  · exact pay1 _ _ (norm7 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (fun k n => (rdPart 2 (by decide) (vIn m c) _ (View.read_writes_whole _ _ _) k n).trans (hI 2 k n))
  · exact pay9 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (fun k n => (rdPart 1 (by decide) (vIn m c) _ (View.read_writes_whole _ _ _) k n).trans (hI 1 k n))
  · exact pay8 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (fun k n => (rdPart 0 (by decide) (vIn m c) _ (View.read_writes_whole _ _ _) k n).trans (hI 0 k n))

theorem leftLater_eq (m : (ℓ : Loc nD τ sig) → Buf (Elt Ideal) ℓ) (c : Dev nD) (t : Fin cfg0.N) (h : t.val ≠ 0) {a : Fin 512 → Fin 1024 → EReal} {γ : Fin 1 → Fin 1024 → EReal} {wi : Fin 1024 → Fin 3072 → EReal}
    (hx0 : Is (iblk m c 0 t) a) (hx1 : Is (iblk m c 1 t) γ) (hI : ∀ (b : Fin 4) (k : Fin 1024) (n : Fin 768), vIn m c (ix3 b k n) = wi k (col b.val b.isLt n)) :
    leftLater m c t h = of2 (A := 512) (fun p => proj (norm (a p) (γ 0)) wi) := by
  refine fill_pieces _ (of2 (A := 512) (fun p => proj (norm (a p) (γ 0)) wi)) _ ?_ (coverLater m c t h)
  unfold later runLater; dsimp only; sl_open_run
  refine ⟨piece_of (A := 512) (B := 3072) (A' := 512) (B' := 768) 0 2304 inb_S512x3072_S512x768_0_2304 (w := fun p n => proj (norm (a p) (γ 0)) wi (col 3 (by decide) n)) ?_ _ (fun p j _ _ => by simp only [Nat.zero_add, Fin.eta]),
    piece_of (A := 512) (B := 3072) (A' := 512) (B' := 768) 0 1536 inb_S512x3072_S512x768_0_1536 (w := fun p n => proj (norm (a p) (γ 0)) wi (col 2 (by decide) n)) ?_ _ (fun p j _ _ => by simp only [Nat.zero_add, Fin.eta]),
    piece_of (A := 512) (B := 3072) (A' := 512) (B' := 768) 0 768 inb_S512x3072_S512x768_0_768 (w := fun p n => proj (norm (a p) (γ 0)) wi (col 1 (by decide) n)) ?_ _ (fun p j _ _ => by simp only [Nat.zero_add, Fin.eta]),
    piece_of (A := 512) (B := 3072) (A' := 512) (B' := 768) 0 0 inb_S512x3072_S512x768_0_0 (w := fun p n => proj (norm (a p) (γ 0)) wi (col 0 (by decide) n)) ?_ _ (fun p j _ _ => by simp only [col, Nat.mul_zero, Nat.zero_add, Fin.eta]), trivial⟩
  · exact pay3 _ _ (norm10 _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta]))) (rd3 (y := fun k n => wi k (col 3 (by decide) n)) _ (Memref.isWhole_whole cc0_scratch0) _ 3 0 0 _ (x := fun b k n => wi k (col b.val b.isLt n)) hI (fun j k _ _ _ => congrArg₂ wi (Fin.ext (Nat.zero_add _)) (Fin.ext (by simp only [col]; omega))))
  · exact pay13 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (col 2 (by decide) n)) _ (Memref.isWhole_whole cc0_scratch0) _ 2 0 0 _ (x := fun b k n => wi k (col b.val b.isLt n)) hI (fun j k _ _ _ => congrArg₂ wi (Fin.ext (Nat.zero_add _)) (Fin.ext (by simp only [col]; omega))))
  · exact pay12 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (col 1 (by decide) n)) _ (Memref.isWhole_whole cc0_scratch0) _ 1 0 0 _ (x := fun b k n => wi k (col b.val b.isLt n)) hI (fun j k _ _ _ => congrArg₂ wi (Fin.ext (Nat.zero_add _)) (Fin.ext (by simp only [col]; omega))))
  · exact pay11 _ _ _ (rd2f (y := a) _ (hs0_0 t) _ 0 0 _ hx0 (fun p j _ _ => by simp only [Nat.zero_add, Fin.eta])) (rd2f (y := γ) _ (hs0_1 t) _ 0 0 _ hx1 (fun p j _ _ => by simp only [Nat.zero_add, Fin.eta])) (rd3 (y := fun k n => wi k (col 0 (by decide) n)) _ (Memref.isWhole_whole cc0_scratch0) _ 0 0 0 _ (x := fun b k n => wi k (col b.val b.isLt n)) hI (fun j k _ _ _ => congrArg₂ wi (Fin.ext (Nat.zero_add _)) (Fin.ext (by simp only [col]; omega))))

end Cert.Kernel7Ideal.Inp

end
-- ==== Proof.InpValue.lean ====
/- The input projection: the blocks a grid point is handed, the weight, and what the run leaves. -/
module

public import proofs.«01_k».proof.Proof.InpBlocks
public import Idealize.ShloMosaic.Lib.Pipeline.ValueKit
public import Idealize.ShloMosaic.Lib.Pointwise

@[expose] public section

set_option maxRecDepth 16384
set_option maxHeartbeats 200000

noncomputable section

namespace Cert.Kernel7Ideal.Inp

open Idealize.ShloMosaic Idealize.ShloMosaic.TcCoe Idealize.SL.Sem
open Cert.Kernel7Ideal Cert.Kernel7Ideal.Gen Cert.Proof.FwdRow
open Cert.Kernel6Ideal.Fwd (Is of2 piece_of)
open Idealize.ShloMosaic.Pipeline (Dat)

variable (m : (ℓ : Loc nD τ sig) → Buf (Elt Ideal) ℓ)

/-- The launch's arguments: the rows, the gain and the weight. -/
def xs (c : Dev nD) (p : Fin 4096) (k : Fin 1024) : EReal := (m ((c : Thread nD τ).loc main_arg0) : FVec Ideal S4096x1024 .f32) (ix2 p k)
def gs (c : Dev nD) (k : Fin 1024) : EReal := (m ((c : Thread nD τ).loc main_arg1) : FVec Ideal S1024 .f32) (ix1 k)
def ws (c : Dev nD) (k : Fin 1024) (n : Fin 3072) : EReal := (m ((c : Thread nD τ).loc main_arg2) : FVec Ideal S1024x3072 .f32) (ix2 k n)

/-- The projected rows. -/
def out (c : Dev nD) (p : Fin 4096) : Fin 3072 → EReal := proj (norm (xs m c p) (gs m c)) (ws m c)

/-! ## What the host hands the kernel -/

theorem V_w (c : Dev nD) : (V m c main_v2 : FVec Ideal S4x1024x768 .bf16) = (transpose S4x1024x768 [1, 0, 2] (shapeCast S1024x4x768 (truncf .bf16 (m ((c : Thread nD τ).loc main_arg2) : FVec Ideal S1024x3072 .f32) bitsLt_bf16_f32) shapeCasts_S1024x3072_S1024x4x768) transposes_S1024x4x768_S4x1024x768_1_0_2 : FVec Ideal S4x1024x768 .bf16) := by
  show StableHlo.after hostOps0 (fun b => m (c, b)) (Proc.tc.devRef main_v2) = _
  simp only [StableHlo.TRef.binary, StableHlo.TRef.unary, StableHlo.TRef.nullary, StableHlo.TRef.toBuf, StableHlo.TRef.ofBuf, cast_eq]
  after_results_simp <;> rfl

theorem V_g (c : Dev nD) : (V m c main_v3 : FVec Ideal S1x1024 .f32) = shapeCast S1x1024 (m ((c : Thread nD τ).loc main_arg1) : FVec Ideal S1024 .f32) shapeCasts_S1024_S1x1024 := by
  show StableHlo.after hostOps0 (fun b => m (c, b)) (Proc.tc.devRef main_v3) = _
  after_results_simp <;> rfl

/-- The host's layout of the weight. -/
theorem inLay (W : FVec Ideal S1024x3072 .bf16) (a : Fin 4) (k : Fin 1024) (r : Fin 768) :
    (transpose S4x1024x768 [1, 0, 2] (shapeCast S1024x4x768 W shapeCasts_S1024x3072_S1024x4x768) transposes_S1024x4x768_S4x1024x768_1_0_2 : FVec Ideal S4x1024x768 .bf16) (ix3 a k r)
      = W (ix2 k ⟨a.val * 768 + r.val, by omega⟩) := by
  pointwise []

variable (c : Dev nD)

theorem isIn (b : Fin 4) (k : Fin 1024) (n : Fin 768) : vIn m c (ix3 b k n) = ws m c k (col b.val b.isLt n) := by
  have e : vIn m c = (transpose S4x1024x768 [1, 0, 2] (shapeCast S1024x4x768 (truncf .bf16 (m ((c : Thread nD τ).loc main_arg2) : FVec Ideal S1024x3072 .f32) bitsLt_bf16_f32) shapeCasts_S1024x3072_S1024x4x768) transposes_S1024x4x768_S4x1024x768_1_0_2 : FVec Ideal S4x1024x768 .bf16) := V_w m c
  rw [e]
  refine (inLay _ b k n).trans ?_
  exact congrArg (fun z => (m ((c : Thread nD τ).loc main_arg2) : FVec Ideal S1024x3072 .f32) (ix2 k z)) (Fin.ext (by show b.val * 768 + n.val = 768 * b.val + n.val; omega))

/-! ## The blocks -/

theorem idx : ∀ t : Fin cfg0.N, win0_0.index t = ![t.val, 0] ∧ win0_1.index t = ![0, 0] ∧ win0_2.index t = ![t.val, 0] :=
  (by decide +kernel : ∀ t : Fin grid0.N, _)

theorem tlt (t : Fin cfg0.N) : t.val < 8 := by have := t.isLt; have h : cfg0.N = 8 := N_0; omega

/-- The row of the whole arrays that a point's row is. -/
abbrev at_ (t : Fin cfg0.N) (p : Fin 512) : Fin 4096 := ⟨t.val * 512 + p.val, by have := tlt t; omega⟩

theorem blk0 (t : Fin cfg0.N) : Is (iblk m c 0 t) fun p => xs m c (at_ t p) := fun p j => by
  refine Eq.trans ?_ (congrFun (V_main_arg0 m c) (ix2 (at_ t p) j))
  blk_ext [iblk, idx t]

theorem blk1 (t : Fin cfg0.N) : Is (iblk m c 1 t) fun _ => gs m c := fun z j => by
  have e : (V m c main_v3 : FVec Ideal S1x1024 .f32) (ix2 z j) = gs m c j := by
    rw [V_g]
    pointwise []
    rfl
  refine Eq.trans ?_ e
  blk_ext [iblk, idx t]

/-! ## The result -/

theorem left_eq (t : Fin cfg0.N) : outsAt m c t = of2 fun p => out m c (at_ t p) := by
  by_cases h : t.val = 0
  · rw [outsAt_first m c t h]
    exact leftFirst_eq m c t h (blk0 m c t) (blk1 m c t) (isIn m c)
  · rw [outsAt_later m c t h]
    exact leftLater_eq m c t h (blk0 m c t) (blk1 m c t) (isIn m c)

theorem final (c : Dev nD) : (dats m 0 c).arrAt 2 cfg0.N = of2 (out m c) := by
  refine (dats m 0 c).arrAt_eq_of_covers 2 _ (by decide +kernel) fun t hf y => ?_
  blk_simp
  rw [after_2, left_eq m c t]
  idx_vars y
  have hemb : ((View.whole main_v4).slice (win0_2.rect t)).emb (ix2 y0 y1) = ix2 (at_ t y0) y1 := by
    blk_ext [idx t]
  rw [hemb]
  rfl

end Cert.Kernel7Ideal.Inp

end
-- ==== Proof.InpRef.lean ====
/- The plain input projection: its result. -/
module

public import proofs.«01_k».proof.Proof.FwdBlocks
public import proofs.«01_k».proof.Proof.Gen.Reference7Ideal.Run
public import Idealize.ShloMosaic.Lib.Pointwise

@[expose] public section

set_option maxRecDepth 16384
set_option maxHeartbeats 200000

noncomputable section

namespace Cert.Proof.InpRef

open Cert.Reference7Ideal Cert.Reference7Ideal.Gen Cert.Reference7Ideal.Value Cert.Proof.FwdRow Idealize.ShloMosaic Idealize.ShloMosaic.TcCoe Idealize.SL.Sem
open Cert.Kernel6Ideal.Fwd (Is of2)

theorem ext2 {A B : ℕ} {X : (⟨2, ![A, B]⟩ : Shape).Idx → EReal} {a : Fin A → Fin B → EReal} (h : Is X a) : X = of2 a :=
  funext fun j => (congrArg X (eq_ix2 j)).trans (h (j 0) (j 1))

/-- Each row over its root mean square, times a gain, -/
def hostNorm (x : FVec Ideal S4096x1024 .f32) (g : FVec Ideal S1024 .f32) : FVec Ideal S4096x1024 .f32 :=
  mulf (mulf x (broadcastInDim S4096x1024 ![0, 1] bcast_S4096x1_S4096x1024_0_1 (Host.rsqrt
      (addf (Host.divf (broadcastInDim S4096x1 ![0] bcast_S4096_S4096x1_0 (Host.reduceAdd (mulf x x) (constant S_ .f32 0x00000000#32) reducesTo_S4096x1024_S4096_d1 h_S_))
        (broadcastInDim S4096x1 ![] bcast_S_S4096x1 (constant S_ .f32 0x44800000#32))) (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))

/-- and the product with the weight. -/
def hostProj (h : FVec Ideal S4096x1024 .f32) (w : FVec Ideal S1024x3072 .f32) : FVec Ideal S4096x3072 .f32 :=
  Host.dotGeneral dot_S4096x1024_S1024x3072_S4096x3072_1_0_0_1_n_n none h w

theorem hostNorm_apply (x : FVec Ideal S4096x1024 .f32) (g : FVec Ideal S1024 .f32) {a : Fin 4096 → Fin 1024 → EReal} {γ : Fin 1024 → EReal} (hx : Is x a)
    (hg : ∀ j, g (ix1 j) = γ j) : Is (hostNorm x g) fun p => norm (a p) γ := fun p j => by
  pointwise [hostNorm]
  simp only [hx _ _, hg _]
  rfl

theorem hostProj_apply (h : FVec Ideal S4096x1024 .f32) (w : FVec Ideal S1024x3072 .f32) {a : Fin 4096 → Fin 1024 → EReal}
    {ω : Fin 1024 → Fin 3072 → EReal} (hh : Is h a) (hw : Is w ω) : Is (hostProj h w) fun p => proj (a p) ω := fun p n => by
  pointwise [hostProj]
  simp only [hh _ _, hw _ _]
  rfl

/-- From these arguments the plain projection ends with the projected rows. -/
theorem run_data (m : (ℓ : Loc nD τ sig) → Buf (Elt Ideal) ℓ) (ρ : Dev nD → PrngReg) (x : Dev nD → Fin 4096 → Fin 1024 → EReal)
    (g : Dev nD → Fin 1024 → EReal) (w : Dev nD → Fin 1024 → Fin 3072 → EReal)
    (h0 : ∀ c : Dev nD, Is (m ((c.tc : Thread nD τ).loc main_arg0) : FVec Ideal S4096x1024 .f32) (x c))
    (h1 : ∀ (c : Dev nD) (k : Fin 1024), (m ((c.tc : Thread nD τ).loc main_arg1) : FVec Ideal S1024 .f32) (ix1 k) = g c k)
    (h2 : ∀ c : Dev nD, Is (m ((c.tc : Thread nD τ).loc main_arg2) : FVec Ideal S1024x3072 .f32) (w c)) :
    θ_run defs (onTc (τ := τ) (main (F := Ideal))) ⟨m, fun _ => 0, ρ⟩ (fun r => ∀ c : Dev nD,
      r.2.mem ((c.tc : Thread nD τ).loc main_v14) = of2 (fun p => proj (norm (x c p) (g c)) (w c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ?_) (run (F := Ideal) m ρ)
  obtain ⟨r0, ha⟩ := h c
  exact ⟨r0.trans (ext2 (hostProj_apply _ _ (hostNorm_apply _ _ (h0 c) (h1 c)) (h2 c))), ha⟩

end Cert.Proof.InpRef

end
-- ==== Proof.InpClaims.lean ====
/- The claims about the mixer's input projection. -/
module

public import proofs.«01_k».proof.Defs
public import proofs.«01_k».proof.Proof.InpValue
public import proofs.«01_k».proof.Proof.InpRef
public import proofs.«01_k».proof.Proof.InpFrame
public import proofs.«01_k».proof.Proof.Gen.Kernel7
public import proofs.«01_k».proof.Proof.Gen.Reference7Ideal.Run
public import Idealize.ShloMosaic.Lib.Quiescent

@[expose] public section

set_option maxRecDepth 16384

noncomputable section

namespace Cert.Proof.Inp

open Idealize.ShloMosaic Idealize.ShloMosaic.TcCoe Idealize.SL.Sem

theorem frameIdeal : Cert.quiescent_Kernel7Ideal (hKernel7Ideal := Cert.Kernel7Ideal.Gen.facts) :=
  fun m ρ _ => Cert.Kernel7Ideal.Inp.frame m ρ

theorem frameRef : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The two programs have the same text, so the run serves both number systems. -/
theorem frame : Cert.quiescent_Kernel7 (hKernel7 := Cert.Kernel7.Gen.facts) := fun m ρ _ => by
  refine cast ?_ (Cert.Kernel7Ideal.Inp.frame (F := Bits) m ρ)
  sl_kernel_rfl

open Cert.Kernel6Ideal.Fwd (of2)
open Cert.Kernel7Ideal.Inp (xs gs ws out)

/-- From equal arguments the kernel and the plain projection end with equal results. -/
theorem value : Cert.algebraic_Kernel7Ideal_Reference7Ideal (hKernel7Ideal := Cert.Kernel7Ideal.Gen.facts)
    (hReference7Ideal := Cert.Reference7Ideal.Gen.facts) := by
  intro m ρ m' ρ' _ hag
  refine ⟨fun c => of2 (out m c), ?_, ?_⟩
  · refine (θ_run Cert.Kernel7Ideal.defs _ _).mono (fun _ h => ?_) (Cert.Kernel7Ideal.Inp.run_results m ρ)
    intro c
    obtain ⟨h0, ha⟩ := h c
    exact ⟨h0.trans (Cert.Kernel7Ideal.Inp.final m c), ha⟩
  · exact InpRef.run_data m' ρ' (xs m) (gs m) (ws m) (fun c p k => congrFun (hag c).1 (ix2 p k)) (fun c k => congrFun (hag c).2.1 (ix1 k))
      (fun c k n => congrFun (hag c).2.2 (ix2 k n))

end Cert.Proof.Inp

end
-- ==== Proof.AttnIdealLoop.lean ====
/- For the idealised program, which differs by the named mask constant.
   The attention gradient's loop over the four query groups. At the grid points after the first, four blocks of each
   accumulator are being copied out while the trips add to later blocks. -/
module

public import proofs.«01_k».proof.Proof.Gen.Kernel2Ideal.Loops
public import proofs.«01_k».proof.Proof.Gen.Kernel2Ideal.Frame

@[expose] public section

set_option maxRecDepth 16384
set_option maxHeartbeats 4000000

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- The four blocks whose copy the point before started, in an accumulator. -/
abbrev win {sp : Space} (M : Memref sig .tc sp S36x512x128 .f32) (i : grid0.Coords) (h2 : k0_cond2 i = 1#1) :
    Memref sig .tc sp S4x512x128 .f32 :=
  M.slice (Rect.unit (s := S36x512x128) (k0_off13 i) S4x512x128.size (k0_off13_inb i h2)) (fun _ => rfl)

set_option sl_exec.askDisjointFirst true

theorem off13 : ∀ (i : grid0.Coords), k0_cond2 i = 1#1 → k0_off13 i 0 + 4 = 4 * (i 0).val := by decide +kernel

/-- A box from block `4 i` on is apart from the four blocks in flight. -/
theorem apart {sp : Space} (M : Memref sig .tc sp S36x512x128 .f32) (i : grid0.Coords) (h2 : k0_cond2 i = 1#1) (o : Fin 3 → Nat)
    (hb : ∀ a, o a + S1x128x128.size a ≤ S36x512x128.size a) (ho : 4 * (i 0).val ≤ o 0) :
    Disjoint (M.view.setOn (Rect.unit (s := S36x512x128) o S1x128x128.size hb).set) (win M i h2).view.set := by
  have h := off13 i h2
  refine View.disjoint_of_boxes M.view (Rect.unit (s := S36x512x128) o S1x128x128.size hb).toLoadRect
    (Rect.unit (s := S36x512x128) (k0_off13 i) S4x512x128.size (k0_off13_inb i h2)).toLoadRect ?_ ?_ 0 (Or.inr (Or.inr ?_))
  · exact subset_rfl
  · exact (View.set_slice ..).subset
  · show k0_off13 i 0 + 1 * (4 - 1) < o 0
    omega

theorem apartA {sp : Space} (M : Memref sig .tc sp S36x512x128 .f32) (i : grid0.Coords) (h2 : k0_cond2 i = 1#1) (o : Fin 3 → Nat)
    (hb : ∀ a, o a + S1x128x128.size a ≤ S36x512x128.size a) (ho : 4 * (i 0).val ≤ o 0) :
    Disjoint (M.access (Rect.unit (s := S36x512x128) o S1x128x128.size hb)).set (win M i h2).view.set := by
  refine Disjoint.mono_left (le_of_eq ?_) (apart M i h2 o hb ho)
  exact View.set_slice M.view (Rect.unit (s := S36x512x128) o S1x128x128.size hb)

theorem from3 (i : grid0.Coords) (k : Fin k0_t1_loop.trips) : 4 * (i 0).val ≤ k0_off3 i k 0#32 0 ∧ 4 * (i 0).val ≤ k0_off3 i k 1#32 0
    ∧ 4 * (i 0).val ≤ k0_off3 i k 2#32 0 ∧ 4 * (i 0).val ≤ k0_off3 i k 3#32 0 ∧ 4 * (i 0).val ≤ k0_off3 i k 4#32 0 := by
  have h : ∀ r : Fin 5, 4 * (i 0).val ≤ k0_off3 i k (BitVec.ofNat 32 r.val) 0 := fun r => by
    rw [k0_off3_eq]; show _ ≤ 4 * (i 0).val + k.val + r.val; omega
  exact ⟨h 0, h 1, h 2, h 3, h 4⟩

theorem from6 (i : grid0.Coords) (k : Fin k0_t1_loop.trips) : 4 * (i 0).val ≤ k0_off6 i k 0#32 0 ∧ 4 * (i 0).val ≤ k0_off6 i k 1#32 0
    ∧ 4 * (i 0).val ≤ k0_off6 i k 2#32 0 ∧ 4 * (i 0).val ≤ k0_off6 i k 3#32 0 ∧ 4 * (i 0).val ≤ k0_off6 i k 4#32 0 := by
  have h : ∀ r : Fin 5, 4 * (i 0).val ≤ k0_off6 i k (BitVec.ofNat 32 r.val) 0 := fun r => by
    rw [k0_off6_eq]; show _ ≤ 4 * (i 0).val + k.val + r.val; omega
  exact ⟨h 0, h 1, h 2, h 3, h 4⟩

theorem from9 (i : grid0.Coords) (k : Fin k0_t1_loop.trips) : 4 * (i 0).val ≤ k0_off9 i k 0#32 0 ∧ 4 * (i 0).val ≤ k0_off9 i k 1#32 0
    ∧ 4 * (i 0).val ≤ k0_off9 i k 2#32 0 ∧ 4 * (i 0).val ≤ k0_off9 i k 3#32 0 ∧ 4 * (i 0).val ≤ k0_off9 i k 4#32 0 := by
  have h : ∀ r : Fin 5, 4 * (i 0).val ≤ k0_off9 i k (BitVec.ofNat 32 r.val) 0 := fun r => by
    rw [k0_off9_eq]; show _ ≤ 4 * (i 0).val + k.val + r.val; omega
  exact ⟨h 0, h 1, h 2, h 3, h 4⟩

theorem from12 (i : grid0.Coords) (k : Fin k0_t1_loop.trips) : 4 * (i 0).val ≤ k0_off12 i k 0#32 0 ∧ 4 * (i 0).val ≤ k0_off12 i k 1#32 0
    ∧ 4 * (i 0).val ≤ k0_off12 i k 2#32 0 ∧ 4 * (i 0).val ≤ k0_off12 i k 3#32 0 ∧ 4 * (i 0).val ≤ k0_off12 i k 4#32 0 := by
  have h : ∀ r : Fin 5, 4 * (i 0).val ≤ k0_off12 i k (BitVec.ofNat 32 r.val) 0 := fun r => by
    rw [k0_off12_eq]; show _ ≤ 4 * (i 0).val + k.val + r.val; omega
  exact ⟨h 0, h 1, h 2, h 3, h 4⟩

/-- The loop's invariant while nothing is being copied out: what the trips read, and what they write at some contents. -/
abbrev invFirst (c : Dev nD) (i : grid0.Coords) (arg1 : Memref sig .tc .vmem S512x512 .bf16) (arg6 : Memref sig .tc .vmem S512x512 .f32) (arg7 : Memref sig .tc .vmem S512x512 .bf16) (arg8 : Memref sig .tc .vmem S512x512 .f32) (arg9 : Memref sig .tc .vmem S4x256x640 .f32) (arg14 : Memref sig .tc .vmem S1024x512 .bf16) (arg15 : Memref sig .tc .vmem S1024x512 .bf16) (arg10 : Memref sig .tc .vmem S512x512 .bf16) (arg16 : Memref sig .tc .vmem S36x512x128 .f32) (arg17 : Memref sig .tc .vmem S36x512x128 .f32) (arg18 : Memref sig .tc .vmem S4x256x640 .f32) (X_arg1 : BufTy.Contents (Elt F) arg1.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg14 : BufTy.Contents (Elt F) arg14.view.ty) (X_arg15 : BufTy.Contents (Elt F) arg15.view.ty) (_k : ℕ) (_u : PUnit) : sProp 𝕄 :=
  iprop((arg1.view.loc (c : Thread nD τ) ↦[arg1.view.set]{fullShare} X_arg1) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg14.view.loc (c : Thread nD τ) ↦[arg14.view.set]{fullShare} X_arg14) ∗ (arg15.view.loc (c : Thread nD τ) ↦[arg15.view.set]{fullShare} X_arg15)
    ∗ (∃ f, arg10.view.loc (c : Thread nD τ) ↦[arg10.view.set]{fullShare} f)
    ∗ (∃ f, arg16.view.loc (c : Thread nD τ) ↦[arg16.view.set]{fullShare} f)
    ∗ (∃ f, arg17.view.loc (c : Thread nD τ) ↦[arg17.view.set]{fullShare} f)
    ∗ (∃ f, arg18.view.loc (c : Thread nD τ) ↦[arg18.view.set]{fullShare} f))

set_option warn.classDefReducibility false in
/-- The loop while nothing is being copied out. -/
@[sl_loop] def loopFirst (𝒱 : Variants) (c : Dev nD) (bd : Option 𝒱.V) (E : Set ℕ) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x256x640 .f32) (harg9 : arg9.IsWhole) (arg10 : Memref sig .tc .vmem S512x512 .bf16) (harg10 : arg10.IsWhole) (arg11 : Memref sig .tc .hbm S36x512x128 .f32) (harg11 : arg11.IsWhole) (arg12 : Memref sig .tc .hbm S36x512x128 .f32) (harg12 : arg12.IsWhole) (arg13 : Memref sig .tc .hbm S4x256x640 .f32) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S36x512x128 .f32) (harg16 : arg16.IsWhole) (arg17 : Memref sig .tc .vmem S36x512x128 .f32) (harg17 : arg17.IsWhole) (arg18 : Memref sig .tc .vmem S4x256x640 .f32) (harg18 : arg18.IsWhole) (arg19 : DmaSems sig S2) (v87_r0 : DmaSems sig S_) (arg0 : BitVec 32) (v0 : BitVec 1) (v19 : IVec S1x128 32) (v28 : FVec F S1x128 .bf16) (v30 : IVec S1x128 1) (X_arg1 : BufTy.Contents (Elt F) arg1.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg14 : BufTy.Contents (Elt F) arg14.view.ty) (X_arg15 : BufTy.Contents (Elt F) arg15.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v87_r0 arg0 v0 v19 v28 v30 where
  inv := invFirst (F := F) c i arg1 arg6 arg7 arg8 arg9 arg14 arg15 arg10 arg16 arg17 arg18 X_arg1 X_arg6 X_arg7 X_arg8 X_arg9 X_arg14 X_arg15
  step k acc := by
    have hk : k.val < 4 := Nat.lt_of_lt_of_le k.isLt k0_t1_abs.2.1
    unfold k0_t1_body
    iintro ⟨HR_arg1, HR_arg6, HR_arg7, HR_arg8, HR_arg9, HR_arg14, HR_arg15, ⟨%f_arg10, HW_arg10⟩, ⟨%f_arg16, HW_arg16⟩, ⟨%f_arg17, HW_arg17⟩, ⟨%f_arg18, HW_arg18⟩⟩
    sl_exec
    sl_step
    isplitl [HR_arg1]; · iexact HR_arg1
    isplitl [HR_arg6]; · iexact HR_arg6
    isplitl [HR_arg7]; · iexact HR_arg7
    isplitl [HR_arg8]; · iexact HR_arg8
    isplitl [HR_arg9]; · iexact HR_arg9
    isplitl [HR_arg14]; · iexact HR_arg14
    isplitl [HR_arg15]; · iexact HR_arg15
    isplitl [HW_arg10]; · iexists _; iexact HW_arg10
    isplitl [HW_arg16]; · iexists _; iexact HW_arg16
    isplitl [HW_arg17]; · iexists _; iexact HW_arg17
    iexists _; iexact HW_arg18

/-- The loop's invariant while four blocks are being copied out: what the trips read, and what they write at some contents. -/
abbrev invLater (c : Dev nD) (i : grid0.Coords) (h2 : k0_cond2 i = 1#1) (arg1 : Memref sig .tc .vmem S512x512 .bf16) (arg6 : Memref sig .tc .vmem S512x512 .f32) (arg7 : Memref sig .tc .vmem S512x512 .bf16) (arg8 : Memref sig .tc .vmem S512x512 .f32) (arg9 : Memref sig .tc .vmem S4x256x640 .f32) (arg14 : Memref sig .tc .vmem S1024x512 .bf16) (arg15 : Memref sig .tc .vmem S1024x512 .bf16) (arg10 : Memref sig .tc .vmem S512x512 .bf16) (arg16 : Memref sig .tc .vmem S36x512x128 .f32) (arg17 : Memref sig .tc .vmem S36x512x128 .f32) (arg18 : Memref sig .tc .vmem S4x256x640 .f32) (X_arg1 : BufTy.Contents (Elt F) arg1.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg14 : BufTy.Contents (Elt F) arg14.view.ty) (X_arg15 : BufTy.Contents (Elt F) arg15.view.ty) (_k : ℕ) (_u : PUnit) : sProp 𝕄 :=
  iprop((arg1.view.loc (c : Thread nD τ) ↦[arg1.view.set]{fullShare} X_arg1) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg14.view.loc (c : Thread nD τ) ↦[arg14.view.set]{fullShare} X_arg14) ∗ (arg15.view.loc (c : Thread nD τ) ↦[arg15.view.set]{fullShare} X_arg15)
    ∗ (∃ f, arg10.view.loc (c : Thread nD τ) ↦[arg10.view.set]{fullShare} f)
    ∗ (∃ f, arg16.view.loc (c : Thread nD τ) ↦[arg16.view.set \ (win arg16 i h2).view.set]{fullShare} f)
    ∗ (∃ f, arg17.view.loc (c : Thread nD τ) ↦[arg17.view.set \ (win arg17 i h2).view.set]{fullShare} f)
    ∗ (∃ f, arg18.view.loc (c : Thread nD τ) ↦[arg18.view.set]{fullShare} f))

set_option warn.classDefReducibility false in
/-- The loop while four blocks are being copied out. -/
@[sl_loop] def loopLater (𝒱 : Variants) (c : Dev nD) (bd : Option 𝒱.V) (E : Set ℕ) (i : grid0.Coords) (h2 : k0_cond2 i = 1#1) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x256x640 .f32) (harg9 : arg9.IsWhole) (arg10 : Memref sig .tc .vmem S512x512 .bf16) (harg10 : arg10.IsWhole) (arg11 : Memref sig .tc .hbm S36x512x128 .f32) (harg11 : arg11.IsWhole) (arg12 : Memref sig .tc .hbm S36x512x128 .f32) (harg12 : arg12.IsWhole) (arg13 : Memref sig .tc .hbm S4x256x640 .f32) (harg13 : arg13.IsWhole) (arg14 : Memref sig .tc .vmem S1024x512 .bf16) (harg14 : arg14.IsWhole) (arg15 : Memref sig .tc .vmem S1024x512 .bf16) (harg15 : arg15.IsWhole) (arg16 : Memref sig .tc .vmem S36x512x128 .f32) (harg16 : arg16.IsWhole) (arg17 : Memref sig .tc .vmem S36x512x128 .f32) (harg17 : arg17.IsWhole) (arg18 : Memref sig .tc .vmem S4x256x640 .f32) (harg18 : arg18.IsWhole) (arg19 : DmaSems sig S2) (v87_r0 : DmaSems sig S_) (arg0 : BitVec 32) (v0 : BitVec 1) (v19 : IVec S1x128 32) (v28 : FVec F S1x128 .bf16) (v30 : IVec S1x128 1) (X_arg1 : BufTy.Contents (Elt F) arg1.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg14 : BufTy.Contents (Elt F) arg14.view.ty) (X_arg15 : BufTy.Contents (Elt F) arg15.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v87_r0 arg0 v0 v19 v28 v30 where
  inv := invLater (F := F) c i h2 arg1 arg6 arg7 arg8 arg9 arg14 arg15 arg10 arg16 arg17 arg18 X_arg1 X_arg6 X_arg7 X_arg8 X_arg9 X_arg14 X_arg15
  step k acc := by
    have hk : k.val < 4 := Nat.lt_of_lt_of_le k.isLt k0_t1_abs.2.1
    unfold k0_t1_body
    iintro ⟨HR_arg1, HR_arg6, HR_arg7, HR_arg8, HR_arg9, HR_arg14, HR_arg15, ⟨%f_arg10, HW_arg10⟩, ⟨%f_arg16, HW_arg16⟩, ⟨%f_arg17, HW_arg17⟩, ⟨%f_arg18, HW_arg18⟩⟩
    sl_exec (disch := ((first | (with_reducible refine apart _ _ _ _ _ ?_) | (with_reducible refine apartA _ _ _ _ _ ?_)); simp only [from3 i k, from6 i k, from9 i k, from12 i k]))
    sl_step
    isplitl [HR_arg1]; · iexact HR_arg1
    isplitl [HR_arg6]; · iexact HR_arg6
    isplitl [HR_arg7]; · iexact HR_arg7
    isplitl [HR_arg8]; · iexact HR_arg8
    isplitl [HR_arg9]; · iexact HR_arg9
    isplitl [HR_arg14]; · iexact HR_arg14
    isplitl [HR_arg15]; · iexact HR_arg15
    isplitl [HW_arg10]; · iexists _; iexact HW_arg10
    isplitl [HW_arg16]; · iexists _; iexact HW_arg16
    isplitl [HW_arg17]; · iexists _; iexact HW_arg17
    iexists _; iexact HW_arg18

end Cert.Kernel2Ideal.Attn

end
-- ==== Proof.AttnIdealRun.lean ====
/- For the idealised program, which differs by the named mask constant.
   One grid point of the attention gradient, run: the first, one in between, and the last. -/
module

public import proofs.«01_k».proof.Proof.AttnIdealLoop
public import Idealize.ShloMosaic.Lib.Ring

@[expose] public section

set_option maxRecDepth 16384
set_option maxHeartbeats 4000000

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

abbrev kWin : Memref sig .tc .vmem S1024x512 .bf16 := Memref.whole cc0_scratch0
abbrev vWin : Memref sig .tc .vmem S1024x512 .bf16 := Memref.whole cc0_scratch1
abbrev dkA : Memref sig .tc .vmem S36x512x128 .f32 := Memref.whole cc0_scratch2
abbrev dvA : Memref sig .tc .vmem S36x512x128 .f32 := Memref.whole cc0_scratch3
abbrev dbA : Memref sig .tc .vmem S4x256x640 .f32 := Memref.whole cc0_scratch4
abbrev dkH : Memref sig .tc .hbm S36x512x128 .f32 := Memref.whole main_v0_1
abbrev dvH : Memref sig .tc .hbm S36x512x128 .f32 := Memref.whole main_v0_2
abbrev dbH : Memref sig .tc .hbm S4x256x640 .f32 := Memref.whole main_v0_3

/-- A buffer held whole at some contents. -/
abbrev some (c : Dev nD) {sp : Space} {S : Shape} {e : EltTy} (M : Memref sig .tc sp S e) : sProp 𝕄 :=
  iprop(∃ f, M.view.loc (c : Thread nD τ) ↦[M.view.set]{fullShare} f)

/-- Four blocks of an accumulator, from offset `o` on. -/
abbrev four {sp : Space} (M : Memref sig .tc sp S36x512x128 .f32) (o : Fin 3 → Nat)
    (ho : ∀ a, o a + S4x512x128.size a ≤ S36x512x128.size a) : Memref sig .tc sp S4x512x128 .f32 :=
  M.slice (Rect.unit (s := S36x512x128) o S4x512x128.size ho) (fun _ => rfl)

theorem four_sub {sp : Space} (M : Memref sig .tc sp S36x512x128 .f32) (o : Fin 3 → Nat)
    (ho : ∀ a, o a + S4x512x128.size a ≤ S36x512x128.size a) : (four M o ho).view.set ⊆ M.view.set :=
  View.set_slice_subset M.view _

/-- A part of a buffer and the rest of it, put together again at some contents. -/
theorem join_some {ℓ : Loc nD τ sig} {I S : Finset (Idx ℓ)} (h : I ⊆ S) (f g : Buf (Elt F) ℓ) :
    iprop((ℓ ↦[I]{fullShare} f) ∗ (ℓ ↦[S \ I]{fullShare} g)) ⊢ (iprop(∃ f, ℓ ↦[S]{fullShare} f) : sProp 𝕄) := by
  iintro H
  iexists _
  iapply (pointsTo_join_subset h)
  iexact H

/-- Four blocks of the accumulator `A` being copied out to the result `H` on the DMA cell `s`, and the rest of the two buffers. -/
abbrev flying (c : Dev nD) (A : Memref sig .tc .vmem S36x512x128 .f32) (H : Memref sig .tc .hbm S36x512x128 .f32) (s : Fin 22)
    (o : Fin 3 → Nat) (ho : ∀ a, o a + S4x512x128.size a ≤ S36x512x128.size a) : sProp 𝕄 :=
  iprop((∃ g, ∃ f, Transfers.Flight countersEmb (c : Thread nD τ) (SemLoc.dma s) (default : Unit) 32768
      iprop((H.view.loc (c : Thread nD τ) ↦[(four H o ho).view.set]{fullShare} g)
        ∗ (A.view.loc (c : Thread nD τ) ↦[(four A o ho).view.set]{fullShare} f)))
    ∗ (∃ f, A.view.loc (c : Thread nD τ) ↦[A.view.set \ (four A o ho).view.set]{fullShare} f)
    ∗ (∃ g, H.view.loc (c : Thread nD τ) ↦[H.view.set \ (four H o ho).view.set]{fullShare} g))

/-- What the body holds of its own buffers at every point: the two windows of keys and values, the bias gradient's
    accumulator and result, and the cell of the bias gradient's copy at zero. -/
abbrev always (c : Dev nD) : sProp 𝕄 :=
  iprop(some c kWin ∗ some c vWin ∗ some c dbA ∗ some c dbH ∗ semVal ((c : Thread nD τ), SemLoc.dma 21) 0)

/-- The accumulators and results of the key and value gradients while no copy is in flight. -/
abbrev calm (c : Dev nD) : sProp 𝕄 :=
  iprop(some c dkA ∗ some c dvA ∗ some c dkH ∗ some c dvH
    ∗ semVal ((c : Thread nD τ), SemLoc.dma 19) 0 ∗ semVal ((c : Thread nD τ), SemLoc.dma 20) 0)

/-- The same while the four blocks from offset `o` on of both are being copied out. -/
abbrev busy (c : Dev nD) (o : Fin 3 → Nat) (ho : ∀ a, o a + S4x512x128.size a ≤ S36x512x128.size a) : sProp 𝕄 :=
  iprop(flying c dkA dkH 19 o ho ∗ flying c dvA dvH 20 o ho)

theorem busy_congr (c : Dev nD) {o o' : Fin 3 → Nat} (h : o = o') (ho : ∀ a, o a + S4x512x128.size a ≤ S36x512x128.size a)
    (ho' : ∀ a, o' a + S4x512x128.size a ≤ S36x512x128.size a) : (busy c o ho : sProp 𝕄) = busy c o' ho' := by
  subst h; rfl

/-- The first point: nothing is in flight before it, and its four blocks are after it. -/
theorem runFirst (c : Dev nD) (i : grid0.Coords) (h1 : Scalar.cmpi .ne (Scalar.extui (Scalar.cmpi .eq (BitVec.ofNat 32 (i 0).val) 0#32) : BitVec 32) 0#32 = 1#1)
    (h2 : ¬ k0_cond2 i = 1#1) (h3 : k0_cond3 i = 1#1) (h4 : ¬ k0_cond4 i = 1#1)
    (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x256x640 .f32) (harg9 : arg9.IsWhole) (arg10 : Memref sig .tc .vmem S512x512 .bf16) (harg10 : arg10.IsWhole)
    (W : Waits sig Unit) (K : PUnit → sProp 𝕄) :
    iprop(some c arg1
            ∗ some c arg2
            ∗ some c arg3
            ∗ some c arg4
            ∗ some c arg5
            ∗ some c arg6
            ∗ some c arg7
            ∗ some c arg8
            ∗ some c arg9
            ∗ some c arg10
            ∗ always c ∗ calm c ∗ owes (c : Thread nD τ) 0 W
            ∗ (some c arg1
            ∗ some c arg2
            ∗ some c arg3
            ∗ some c arg4
            ∗ some c arg5
            ∗ some c arg6
            ∗ some c arg7
            ∗ some c arg8
            ∗ some c arg9
            ∗ some c arg10
              ∗ always c ∗ busy c (k0_off14 i) (k0_off14_inb i h3) ∗ (∃ W', owes (c : Thread nD τ) 0 W') -∗ K ⟨⟩))
          ⊢ wp frame (wpE (defs₀ (F := F)) Variants.none c none) Set.univ
      (cc0_bwd_attn (F := F) i arg1 harg1 arg2 harg2 arg3 harg3 arg4 harg4 arg5 harg5 arg6 harg6 arg7 harg7 arg8 harg8 arg9 harg9 arg10 harg10
        dkH (Memref.isWhole_whole _) dvH (Memref.isWhole_whole _) dbH (Memref.isWhole_whole _)
        kWin (Memref.isWhole_whole _) vWin (Memref.isWhole_whole _) dkA (Memref.isWhole_whole _) dvA (Memref.isWhole_whole _) dbA (Memref.isWhole_whole _)
        cc0_scratch5 cc0_scoped0) K := by
  simp only [cc0_bwd_attn_eq_skeleton]; unfold cc0_bwd_attn_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨⟨%fk, Hk⟩, ⟨%fv, Hv⟩, ⟨%fdb, Hdb⟩, ⟨%gdb, Gdb⟩, Hq2⟩, ⟨⟨%fdk, Hdk⟩, ⟨%fdv, Hdv⟩, ⟨%gdk, Gdk⟩, ⟨%gdv, Gdv⟩, Hq0, Hq1⟩, HW, HK⟩
  sl_exec
  sl_step
  iapply HK
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [Hk Hv Hdb Gdb Hq2]
  · isplitl [Hk]; · iexists _; iexact Hk
    isplitl [Hv]; · iexists _; iexact Hv
    isplitl [Hdb]; · iexists _; iexact Hdb
    isplitl [Gdb]; · iexists _; iexact Gdb
    iexact Hq2
  isplitl [Hq0 Hdk Gdk Hq1 Hdv Gdv]
  · isplitl [Hq0 Hdk Gdk]
    · isplitl [Hq0]; · iexists _; iexists _; iexact Hq0
      isplitl [Hdk]; · iexists _; iexact Hdk
      iexists _; iexact Gdk
    isplitl [Hq1]; · iexists _; iexists _; iexact Hq1
    isplitl [Hdv]; · iexists _; iexact Hdv
    iexists _; iexact Gdv
  iexists _; iexact HW

/-- A point between the first and the last: the four blocks in flight before it have arrived in it, and its own are in flight after it. -/
theorem runMiddle (c : Dev nD) (i : grid0.Coords) (h1 : ¬ Scalar.cmpi .ne (Scalar.extui (Scalar.cmpi .eq (BitVec.ofNat 32 (i 0).val) 0#32) : BitVec 32) 0#32 = 1#1)
    (h2 : k0_cond2 i = 1#1) (h3 : k0_cond3 i = 1#1) (h4 : ¬ k0_cond4 i = 1#1)
    (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x256x640 .f32) (harg9 : arg9.IsWhole) (arg10 : Memref sig .tc .vmem S512x512 .bf16) (harg10 : arg10.IsWhole)
    (W : Waits sig Unit) (K : PUnit → sProp 𝕄) :
    iprop(some c arg1
            ∗ some c arg2
            ∗ some c arg3
            ∗ some c arg4
            ∗ some c arg5
            ∗ some c arg6
            ∗ some c arg7
            ∗ some c arg8
            ∗ some c arg9
            ∗ some c arg10
            ∗ always c ∗ busy c (k0_off13 i) (k0_off13_inb i h2) ∗ owes (c : Thread nD τ) 0 W
            ∗ (some c arg1
            ∗ some c arg2
            ∗ some c arg3
            ∗ some c arg4
            ∗ some c arg5
            ∗ some c arg6
            ∗ some c arg7
            ∗ some c arg8
            ∗ some c arg9
            ∗ some c arg10
              ∗ always c ∗ busy c (k0_off14 i) (k0_off14_inb i h3) ∗ (∃ W', owes (c : Thread nD τ) 0 W') -∗ K ⟨⟩))
          ⊢ wp frame (wpE (defs₀ (F := F)) Variants.none c none) Set.univ
      (cc0_bwd_attn (F := F) i arg1 harg1 arg2 harg2 arg3 harg3 arg4 harg4 arg5 harg5 arg6 harg6 arg7 harg7 arg8 harg8 arg9 harg9 arg10 harg10
        dkH (Memref.isWhole_whole _) dvH (Memref.isWhole_whole _) dbH (Memref.isWhole_whole _)
        kWin (Memref.isWhole_whole _) vWin (Memref.isWhole_whole _) dkA (Memref.isWhole_whole _) dvA (Memref.isWhole_whole _) dbA (Memref.isWhole_whole _)
        cc0_scratch5 cc0_scoped0) K := by
  simp only [cc0_bwd_attn_eq_skeleton]; unfold cc0_bwd_attn_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨⟨%fk, Hk⟩, ⟨%fv, Hv⟩, ⟨%fdb, Hdb⟩, ⟨%gdb, Gdb⟩, Hq2⟩, ⟨⟨⟨%wdk, %adk, Hq0⟩, ⟨%fdk, Hdk⟩, ⟨%gdk, Gdk⟩⟩, ⟨⟨%wdv, %adv, Hq1⟩, ⟨%fdv, Hdv⟩, ⟨%gdv, Gdv⟩⟩⟩, HW, HK⟩
  set_option sl_exec.stopBefore "k0_cond3" in sl_exec
  ihave JHdk := (join_some (ℓ := dkA.view.loc (c : Thread nD τ)) (four_sub dkA (k0_off13 i) (k0_off13_inb i h2)) _ _) $$ [Hq0_src Hdk]
  · isplitl [Hq0_src]; · iexact Hq0_src
    iexact Hdk
  icases JHdk with ⟨%jHdk, Hdk⟩
  ihave JGdk := (join_some (ℓ := dkH.view.loc (c : Thread nD τ)) (four_sub dkH (k0_off13 i) (k0_off13_inb i h2)) _ _) $$ [Hq0_dst Gdk]
  · isplitl [Hq0_dst]; · iexact Hq0_dst
    iexact Gdk
  icases JGdk with ⟨%jGdk, Gdk⟩
  ihave JHdv := (join_some (ℓ := dvA.view.loc (c : Thread nD τ)) (four_sub dvA (k0_off13 i) (k0_off13_inb i h2)) _ _) $$ [Hq1_src Hdv]
  · isplitl [Hq1_src]; · iexact Hq1_src
    iexact Hdv
  icases JHdv with ⟨%jHdv, Hdv⟩
  ihave JGdv := (join_some (ℓ := dvH.view.loc (c : Thread nD τ)) (four_sub dvH (k0_off13 i) (k0_off13_inb i h2)) _ _) $$ [Hq1_dst Gdv]
  · isplitl [Hq1_dst]; · iexact Hq1_dst
    iexact Gdv
  icases JGdv with ⟨%jGdv, Gdv⟩
  sl_exec
  sl_step
  iapply HK
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [Hk Hv Hdb Gdb Hq2]
  · isplitl [Hk]; · iexists _; iexact Hk
    isplitl [Hv]; · iexists _; iexact Hv
    isplitl [Hdb]; · iexists _; iexact Hdb
    isplitl [Gdb]; · iexists _; iexact Gdb
    iexact Hq2
  isplitl [Hq0 Hdk Gdk Hq1 Hdv Gdv]
  · isplitl [Hq0 Hdk Gdk]
    · isplitl [Hq0]; · iexists _; iexists _; iexact Hq0
      isplitl [Hdk]; · iexists _; iexact Hdk
      iexists _; iexact Gdk
    isplitl [Hq1]; · iexists _; iexists _; iexact Hq1
    isplitl [Hdv]; · iexists _; iexact Hdv
    iexists _; iexact Gdv
  iexists _; iexact HW

/-- The last point: the four blocks in flight before it have arrived in it, and what it copies out itself has too. -/
theorem runLast (c : Dev nD) (i : grid0.Coords) (h1 : ¬ Scalar.cmpi .ne (Scalar.extui (Scalar.cmpi .eq (BitVec.ofNat 32 (i 0).val) 0#32) : BitVec 32) 0#32 = 1#1)
    (h2 : k0_cond2 i = 1#1) (h3 : ¬ k0_cond3 i = 1#1) (h4 : k0_cond4 i = 1#1)
    (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .bf16) (harg7 : arg7.IsWhole) (arg8 : Memref sig .tc .vmem S512x512 .f32) (harg8 : arg8.IsWhole) (arg9 : Memref sig .tc .vmem S4x256x640 .f32) (harg9 : arg9.IsWhole) (arg10 : Memref sig .tc .vmem S512x512 .bf16) (harg10 : arg10.IsWhole)
    (W : Waits sig Unit) (K : PUnit → sProp 𝕄) :
    iprop(some c arg1
            ∗ some c arg2
            ∗ some c arg3
            ∗ some c arg4
            ∗ some c arg5
            ∗ some c arg6
            ∗ some c arg7
            ∗ some c arg8
            ∗ some c arg9
            ∗ some c arg10
            ∗ always c ∗ busy c (k0_off13 i) (k0_off13_inb i h2) ∗ owes (c : Thread nD τ) 0 W
            ∗ (some c arg1
            ∗ some c arg2
            ∗ some c arg3
            ∗ some c arg4
            ∗ some c arg5
            ∗ some c arg6
            ∗ some c arg7
            ∗ some c arg8
            ∗ some c arg9
            ∗ some c arg10
              ∗ always c ∗ calm c ∗ (∃ W', owes (c : Thread nD τ) 0 W') -∗ K ⟨⟩))
          ⊢ wp frame (wpE (defs₀ (F := F)) Variants.none c none) Set.univ
      (cc0_bwd_attn (F := F) i arg1 harg1 arg2 harg2 arg3 harg3 arg4 harg4 arg5 harg5 arg6 harg6 arg7 harg7 arg8 harg8 arg9 harg9 arg10 harg10
        dkH (Memref.isWhole_whole _) dvH (Memref.isWhole_whole _) dbH (Memref.isWhole_whole _)
        kWin (Memref.isWhole_whole _) vWin (Memref.isWhole_whole _) dkA (Memref.isWhole_whole _) dvA (Memref.isWhole_whole _) dbA (Memref.isWhole_whole _)
        cc0_scratch5 cc0_scoped0) K := by
  simp only [cc0_bwd_attn_eq_skeleton]; unfold cc0_bwd_attn_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨⟨%fk, Hk⟩, ⟨%fv, Hv⟩, ⟨%fdb, Hdb⟩, ⟨%gdb, Gdb⟩, Hq2⟩, ⟨⟨⟨%wdk, %adk, Hq0⟩, ⟨%fdk, Hdk⟩, ⟨%gdk, Gdk⟩⟩, ⟨⟨%wdv, %adv, Hq1⟩, ⟨%fdv, Hdv⟩, ⟨%gdv, Gdv⟩⟩⟩, HW, HK⟩
  set_option sl_exec.stopBefore "k0_cond3" in sl_exec
  ihave JHdk := (join_some (ℓ := dkA.view.loc (c : Thread nD τ)) (four_sub dkA (k0_off13 i) (k0_off13_inb i h2)) _ _) $$ [Hq0_src Hdk]
  · isplitl [Hq0_src]; · iexact Hq0_src
    iexact Hdk
  icases JHdk with ⟨%jHdk, Hdk⟩
  ihave JGdk := (join_some (ℓ := dkH.view.loc (c : Thread nD τ)) (four_sub dkH (k0_off13 i) (k0_off13_inb i h2)) _ _) $$ [Hq0_dst Gdk]
  · isplitl [Hq0_dst]; · iexact Hq0_dst
    iexact Gdk
  icases JGdk with ⟨%jGdk, Gdk⟩
  ihave JHdv := (join_some (ℓ := dvA.view.loc (c : Thread nD τ)) (four_sub dvA (k0_off13 i) (k0_off13_inb i h2)) _ _) $$ [Hq1_src Hdv]
  · isplitl [Hq1_src]; · iexact Hq1_src
    iexact Hdv
  icases JHdv with ⟨%jHdv, Hdv⟩
  ihave JGdv := (join_some (ℓ := dvH.view.loc (c : Thread nD τ)) (four_sub dvH (k0_off13 i) (k0_off13_inb i h2)) _ _) $$ [Hq1_dst Gdv]
  · isplitl [Hq1_dst]; · iexact Hq1_dst
    iexact Gdv
  icases JGdv with ⟨%jGdv, Gdv⟩
  sl_exec
  sl_step
  iapply HK
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [Hk Hv Hdb Gdb Hq2]
  · isplitl [Hk]; · iexists _; iexact Hk
    isplitl [Hv]; · iexists _; iexact Hv
    isplitl [Hdb]; · iexists _; iexact Hdb
    isplitl [Gdb]; · iexists _; iexact Gdb
    iexact Hq2
  isplitl [Hdk Hdv Gdk Gdv Hq0 Hq1]
  · isplitl [Hdk]; · iexists _; iexact Hdk
    isplitl [Hdv]; · iexists _; iexact Hdv
    isplitl [Gdk]; · iexists _; iexact Gdk
    isplitl [Gdv]; · iexists _; iexact Gdv
    isplitl [Hq0]; · iexact Hq0
    iexact Hq1
  iexists _; iexact HW

end Cert.Kernel2Ideal.Attn

end
-- ==== Proof.AttnIdealFrame.lean ====
/- For the idealised program, which differs by the named mask constant.
   The frame of the attention gradient: the body's invariant from point to point, the launch, and the claim. What the
   results hold is not stated: every window's contents are forgotten. -/
module

public import proofs.«01_k».proof.Proof.AttnIdealRun
public import Idealize.ShloMosaic.Lib.Pipeline.FrameBody

@[expose] public section

set_option maxRecDepth 16384
set_option maxHeartbeats 600000

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- The results that the body writes itself. -/
def results : Finset (Ref sig .tc) := {main_v0_1, main_v0_2, main_v0_3}

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own DMA cells. -/
abbrev cells : Fin 3 → SemLoc sig := fun j => (![SemLoc.dma 19, SemLoc.dma 20, SemLoc.dma 21] : Fin 3 → SemLoc sig) j

theorem cellFacts : Pipeline.OwnSemFacts spec0 cells := by decide

theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 19) 0 ∗ semVal ((c : Thread nD τ), SemLoc.dma 20) 0
          ∗ semVal ((c : Thread nD τ), SemLoc.dma 21) 0) := by
  rw [Pipeline.ownSems0_eq_of_list c cells [0, 1, 2] (by decide) (by decide)]; rfl

theorem results_sub : results ⊆ Pipeline.restRefs sig spec0 \ ∅ := by decide

theorem results_eq (c : Dev nD) :
    (Pipeline.owned results c : sProp 𝕄)
      = iprop((∃ f : Buf (Elt F) ((c : Thread nD τ).loc main_v0_1), ((c : Thread nD τ).loc main_v0_1) ↦{fullShare} f)
          ∗ (∃ f : Buf (Elt F) ((c : Thread nD τ).loc main_v0_2), ((c : Thread nD τ).loc main_v0_2) ↦{fullShare} f)
          ∗ (∃ f : Buf (Elt F) ((c : Thread nD τ).loc main_v0_3), ((c : Thread nD τ).loc main_v0_3) ↦{fullShare} f)) := by
  unfold Pipeline.owned; rw [BI.bigSep_eq_bigSepL_of_eq [main_v0_1, main_v0_2, main_v0_3] (by decide) (by decide)]; rfl

/-- A whole buffer at some contents, as the launch hands it out. -/
theorem some_whole (c : Dev nD) {sp : Space} {S : Shape} {e : EltTy} (M : Memref sig .tc sp S e) (h : M.IsWhole) :
    (some c M : sProp 𝕄) = iprop(∃ f, M.view.loc (c : Thread nD τ) ↦{fullShare} f) := by
  unfold some
  rw [h.set_eq_univ]

/-- The offset of the four blocks that point `n` copies out. -/
abbrev off (n : ℕ) : Fin 3 → Nat := ![4 * n, 0, 0]

theorem off_inb (n : ℕ) (h : n ≤ 6) : ∀ a, off n a + S4x512x128.size a ≤ S36x512x128.size a := by
  intro a
  fin_cases a
  · show 4 * n + 4 ≤ 36; omega
  · show 0 + 512 ≤ 512; omega
  · show 0 + 128 ≤ 128; omega

/-- The accumulators and results of the key and value gradients before point `n`. -/
def between (c : Dev nD) (n : ℕ) : sProp 𝕄 :=
  if h : 1 ≤ n ∧ n ≤ 7 then busy c (off (n - 1)) (off_inb (n - 1) (by omega)) else calm c

theorem between_calm (c : Dev nD) (n : ℕ) (h : ¬ (1 ≤ n ∧ n ≤ 7)) : (between c n : sProp 𝕄) = calm c := dif_neg h

theorem between_busy (c : Dev nD) (n : ℕ) (h : 1 ≤ n ∧ n ≤ 7) (o : Fin 3 → Nat) (ho : ∀ a, o a + S4x512x128.size a ≤ S36x512x128.size a)
    (he : o = off (n - 1)) : (between c n : sProp 𝕄) = busy c o ho :=
  (dif_pos h).trans (busy_congr c he.symm _ _)

/-- The body's invariant before point `n`. -/
def inv (c : Dev nD) (n : ℕ) : sProp 𝕄 := iprop((∃ r, prngReg c r) ∗ always c ∗ between c n)

set_option maxHeartbeats 400000 in
theorem launched (c : Dev nD) (n : ℕ) (h : ¬ (1 ≤ n ∧ n ≤ 7)) :
    (Pipeline.ΦDR cells spec0 ∅ results (V m) c : sProp 𝕄) ⊣⊢ inv c n := by
  rw [Pipeline.ΦDR_eq, scopedRest0_eq, cells_eq, results_eq, inv, between_calm c n h]
  unfold always calm
  rw [BI.bigSep_empty, some_whole c kWin (Memref.isWhole_whole _), some_whole c vWin (Memref.isWhole_whole _), some_whole c dbA (Memref.isWhole_whole _), some_whole c dbH (Memref.isWhole_whole _), some_whole c dkA (Memref.isWhole_whole _), some_whole c dvA (Memref.isWhole_whole _), some_whole c dkH (Memref.isWhole_whole _), some_whole c dvH (Memref.isWhole_whole _)]
  constructor
  · iintro ⟨⟨A, B, C, D, E⟩, P, ⟨S0, S1, S2⟩, -, ⟨X, Y, Z⟩⟩
    isplitl [P]; · iexact P
    isplitl [A B E Z S2]
    · isplitl [A]; · iexact A
      isplitl [B]; · iexact B
      isplitl [E]; · iexact E
      isplitl [Z]; · iexact Z
      iexact S2
    isplitl [C]; · iexact C
    isplitl [D]; · iexact D
    isplitl [X]; · iexact X
    isplitl [Y]; · iexact Y
    isplitl [S0]; · iexact S0
    iexact S1
  · iintro ⟨P, ⟨A, B, E, Z, S2⟩, ⟨C, D, X, Y, S0, S1⟩⟩
    isplitl [A B C D E]
    · isplitl [A]; · iexact A
      isplitl [B]; · iexact B
      isplitl [C]; · iexact C
      isplitl [D]; · iexact D
      iexact E
    isplitl [P]; · iexact P
    isplitl [S0 S1 S2]
    · isplitl [S0]; · iexact S0
      isplitl [S1]; · iexact S1
      iexact S2
    isplitr [X Y Z]; · iempintro
    isplitl [X]; · iexact X
    isplitl [Y]; · iexact Y
    iexact Z

/-! ## The points -/

/-- The condition of the body's first branch. -/
abbrev atFirst (i : grid0.Coords) : Prop :=
  Scalar.cmpi .ne (Scalar.extui (Scalar.cmpi .eq (BitVec.ofNat 32 (i 0).val) 0#32) : BitVec 32) 0#32 = 1#1

theorem atFirst_iff : ∀ t : Fin grid0.N, atFirst (grid0.coords t) ↔ t.val = 0 := by decide +kernel
theorem cond2_iff : ∀ t : Fin grid0.N, k0_cond2 (grid0.coords t) = 1#1 ↔ t.val ≠ 0 := by decide +kernel
theorem cond3_iff : ∀ t : Fin grid0.N, k0_cond3 (grid0.coords t) = 1#1 ↔ t.val ≠ 7 := by decide +kernel
theorem cond4_iff : ∀ t : Fin grid0.N, k0_cond4 (grid0.coords t) = 1#1 ↔ t.val = 7 := by decide +kernel
theorem off13_eq : ∀ t : Fin grid0.N, t.val ≠ 0 → k0_off13 (grid0.coords t) = off (t.val - 1) := by decide +kernel
theorem off14_eq : ∀ t : Fin grid0.N, k0_off14 (grid0.coords t) = off t.val := by decide +kernel

/-- A staging buffer at contents that nothing names. -/
theorem some_owns (c : Dev nD) {sp : Space} {S : Shape} {e : EltTy} (M : Memref sig .tc sp S e) :
    (iprop(∃ X, owns (c : Thread nD τ) M fullShare X) : sProp 𝕄) ⊣⊢ some c M := by
  unfold owns some
  constructor
  · iintro ⟨%X, %f, %e, H⟩; iexists f; iexact H
  · iintro ⟨%f, H⟩; iexists _; iexists f; isplitr
    · ipureintro; rfl
    iexact H

/-- The staging buffers at point `t`. -/
abbrev staged (c : Dev nD) (t : Fin cfg0.N) : sProp 𝕄 :=
  iprop(some c (st0_0 t) ∗ some c (st0_1 t) ∗ some c (st0_2 t) ∗ some c (st0_3 t) ∗ some c (st0_4 t) ∗ some c (st0_5 t) ∗ some c (st0_6 t) ∗ some c (st0_7 t) ∗ some c (st0_8 t) ∗ some c (st0_9 t))

def bodyPre (c : Dev nD) (t : Fin cfg0.N) : sProp 𝕄 :=
  iprop(inv c t.val ∗ (∃ W, owes (c : Thread nD τ) 0 W) ∗ staged c t)
def bodyPost (c : Dev nD) (t : Fin cfg0.N) : sProp 𝕄 :=
  iprop(inv c (t.val + 1) ∗ (∃ W, owes (c : Thread nD τ) 0 W) ∗ staged c t)

theorem sound_body (c : Dev nD) (t : Fin cfg0.N) :
    (bodyPre c t : sProp 𝕄) ⊢ wp frame (wpE (defs₀ (F := F)) Variants.none c none) Set.univ (bodyAt0 t) (fun _ => bodyPost c t) := by
  have hN : t.val < 8 := lt_of_lt_of_eq t.isLt N_0
  unfold bodyPre bodyPost bodyAt0 inv staged
  by_cases h0 : t.val = 0
  · have h7 : t.val ≠ 7 := by omega
    rw [between_calm c t.val (by omega), between_busy c (t.val + 1) (by omega) _ (k0_off14_inb _ ((cond3_iff t).mpr h7)) (off14_eq t)]
    iintro ⟨⟨P, A, B⟩, ⟨%W, HW⟩, ⟨H0, H1, H2, H3, H4, H5, H6, H7, H8, H9⟩⟩
    iapply (runFirst c (grid0.coords t) ((atFirst_iff t).mpr h0) (fun h => (cond2_iff t).mp h h0) ((cond3_iff t).mpr h7) (fun h => h7 ((cond4_iff t).mp h)) _ _ _ _ _ _ _ _ _ _ _ _ _ _ _ _ _ _ _ _ W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [A]; · iexact A
    isplitl [B]; · iexact B
    isplitl [HW]; · iexact HW
    iintro ⟨H0, H1, H2, H3, H4, H5, H6, H7, H8, H9, A, B, HW⟩
    isplitl [P A B]
    · isplitl [P]; · iexact P
      isplitl [A]; · iexact A
      iexact B
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  by_cases h7 : t.val = 7
  · rw [between_busy c t.val (by omega) _ (k0_off13_inb _ ((cond2_iff t).mpr h0)) (off13_eq t h0), between_calm c (t.val + 1) (by omega)]
    iintro ⟨⟨P, A, B⟩, ⟨%W, HW⟩, ⟨H0, H1, H2, H3, H4, H5, H6, H7, H8, H9⟩⟩
    iapply (runLast c (grid0.coords t) (fun h => h0 ((atFirst_iff t).mp h)) ((cond2_iff t).mpr h0) (fun h => (cond3_iff t).mp h h7) ((cond4_iff t).mpr h7) _ _ _ _ _ _ _ _ _ _ _ _ _ _ _ _ _ _ _ _ W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [A]; · iexact A
    isplitl [B]; · iexact B
    isplitl [HW]; · iexact HW
    iintro ⟨H0, H1, H2, H3, H4, H5, H6, H7, H8, H9, A, B, HW⟩
    isplitl [P A B]
    · isplitl [P]; · iexact P
      isplitl [A]; · iexact A
      iexact B
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [between_busy c t.val (by omega) _ (k0_off13_inb _ ((cond2_iff t).mpr h0)) (off13_eq t h0), between_busy c (t.val + 1) (by omega) _ (k0_off14_inb _ ((cond3_iff t).mpr h7)) (off14_eq t)]
    iintro ⟨⟨P, A, B⟩, ⟨%W, HW⟩, ⟨H0, H1, H2, H3, H4, H5, H6, H7, H8, H9⟩⟩
    iapply (runMiddle c (grid0.coords t) (fun h => h0 ((atFirst_iff t).mp h)) ((cond2_iff t).mpr h0) ((cond3_iff t).mpr h7) (fun h => h7 ((cond4_iff t).mp h)) _ _ _ _ _ _ _ _ _ _ _ _ _ _ _ _ _ _ _ _ W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [A]; · iexact A
    isplitl [B]; · iexact B
    isplitl [HW]; · iexact HW
    iintro ⟨H0, H1, H2, H3, H4, H5, H6, H7, H8, H9, A, B, HW⟩
    isplitl [P A B]
    · isplitl [P]; · iexact P
      isplitl [A]; · iexact A
      iexact B
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-! ## The launch -/

/-- Every window is forgotten. -/
abbrev all : Fin 10 → Bool := fun _ => true

def dats (_ : Fin 1) (c : Dev nD) : Dat τ (Elt F) Unit ℕ (Pipeline.UD sig nD τ) ℕ cfg0 c where
  A w := V m c (Pipeline.arrRef spec0 w)
  after w t := Dat.unnamed w t
  Φ n := inv c n.val
  q w := Pipeline.shareOf spec0 w
  owed _ := 0

theorem A_eq (c : Dev nD) (w : Fin cfg0.W) : (dats m 0 c).A w = V m c (Pipeline.arrRef spec0 w) := by
  dsimp only [dats]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ all := fun t => by
  simp only [bigSep_W0, defs₀_row]
  refine triple_restated (sound_body c t) rfl ?_ ?_
  · unfold bodyPre Dat.owesAt Pipeline.owesWithin
    rw [show (dats m 0 c).Φ t.castSucc = inv c t.val from rfl, show (dats m 0 c).owed t.castSucc = 0 from rfl]
    iintro ⟨I, ⟨%W, -, HW⟩, ⟨H0, H1, H2, H3, H4, H5, H6, H7, H8, H9⟩⟩
    isplitl [I]; · iexact I
    isplitl [HW]; · iexists W; iexact HW
    isplitl [H0]; · iapply (some_owns c _).1; iexact H0
    isplitl [H1]; · iapply (some_owns c _).1; iexact H1
    isplitl [H2]; · iapply (some_owns c _).1; iexact H2
    isplitl [H3]; · iapply (some_owns c _).1; iexact H3
    isplitl [H4]; · iapply (some_owns c _).1; iexact H4
    isplitl [H5]; · iapply (some_owns c _).1; iexact H5
    isplitl [H6]; · iapply (some_owns c _).1; iexact H6
    isplitl [H7]; · iapply (some_owns c _).1; iexact H7
    isplitl [H8]; · iapply (some_owns c _).1; iexact H8
    iapply (some_owns c _).1; iexact H9
  · intro _
    unfold bodyPost Dat.owesAt Pipeline.owesWithin
    rw [show (dats m 0 c).Φ t.succ = inv c (t.val + 1) from rfl, show (dats m 0 c).owed t.succ = 0 from rfl]
    iintro ⟨I, ⟨%W, HW⟩, ⟨H0, H1, H2, H3, H4, H5, H6, H7, H8, H9⟩⟩
    isplitl [I]; · iexact I
    isplitl [HW]
    · iexists W; isplitr; · ipureintro; exact fun _ _ => Or.inl trivial
      iexact HW
    isplitl [H0]; · iapply (some_owns c _).2; iexact H0
    isplitl [H1]; · iapply (some_owns c _).2; iexact H1
    isplitl [H2]; · iapply (some_owns c _).2; iexact H2
    isplitl [H3]; · iapply (some_owns c _).2; iexact H3
    isplitl [H4]; · iapply (some_owns c _).2; iexact H4
    isplitl [H5]; · iapply (some_owns c _).2; iexact H5
    isplitl [H6]; · iapply (some_owns c _).2; iexact H6
    isplitl [H7]; · iapply (some_owns c _).2; iexact H7
    isplitl [H8]; · iapply (some_owns c _).2; iexact H8
    iapply (some_owns c _).2; iexact H9

set_option backward.isDefEq.respectTransparency.types false in
theorem run_main : θ_run defs (onTc (τ := τ) (main (F := F))) (s₀ m ρ)
    (fun r => Pipeline.RDat.FramePostR cfg0 (fun c => (dats m 0 c).toRForget all) results (V m) r ∧ r.2.sem = fun _ => 0) :=
  Pipeline.θ_run_frame_dmaR_forget_shared (Q' := _) cfgs (dats m) (0 : Fin 1) launch₀0 cells defs₀ Variants.none all cellFacts ∅ results
    (Finset.empty_subset _) results_sub m ρ main
    (hbody := fun c => (body_obligation m c).loose) (hq := fun _ _ _ => rfl)
    (howed := fun _ _ => rfl) (V := V m) (hmain := hmain m Variants.none) (hA := A_eq m)
    (hin := fun c => (launched m c 0 (by omega)).1) (hout := fun c => (launched m c 8 (by omega)).2)

/-- The program ends, its arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c => ⟨
      (Pipeline.RDat.FramePostR.arr_in h c 4 rfl).trans (A_eq m c 4),
      (Pipeline.RDat.FramePostR.arr_in h c 5 rfl).trans (A_eq m c 5),
      (Pipeline.RDat.FramePostR.arr_in h c 6 rfl).trans (A_eq m c 6),
      (Pipeline.RDat.FramePostR.arr_in h c 7 rfl).trans (A_eq m c 7),
      (Pipeline.RDat.FramePostR.arr_in h c 8 rfl).trans (A_eq m c 8)⟩, hz⟩) (run_main m ρ)

end Cert.Kernel2Ideal.Attn

end
-- ==== Proof.lean ====
/- The certificate. -/
module

public import proofs.«01_k».proof.Defs
public import proofs.«01_k».proof.Proof.Gen.KernelIdeal.Value
public import proofs.«01_k».proof.Proof.Gen.ReferenceIdeal.Run
public import proofs.«01_k».proof.Proof.ConvClaims
public import proofs.«01_k».proof.Proof.WgradClaims
public import proofs.«01_k».proof.Proof.FfnClaims
public import proofs.«01_k».proof.Proof.FwdClaims
public import proofs.«01_k».proof.Proof.InpClaims
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Pre_finite
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Run
public import proofs.«01_k».proof.Proof.Gen.Kernel4Ideal.Value
public import proofs.«01_k».proof.Proof.Gen.Reference4Ideal.Run
public import proofs.«01_k».proof.Proof.AttnFrame
public import proofs.«01_k».proof.Proof.AttnIdealFrame
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Run

@[expose] public section

namespace Cert.Proof

open Idealize.ShloMosaic Idealize.SL.Sem

/-- Everything the statement claims: for the convolution's gradient, the feed-forward block's forward and backward
    passes and its two weight gradients, and the mixer's input projection the three frames, the preservation and the equality of results; for the attention's gradient the
    frames and the preservation. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite.Gen.facts,
    Conv.frame, Conv.frameIdeal, Conv.frameRef,
    fun m g _ => Cert.Kernel2.Attn.frame m g, fun m g _ => Cert.Kernel2Ideal.Attn.frame m g,
    Wgrad.frameOut, Wgrad.frameOutIdeal, Wgrad.frameOutRef, Wgrad.frameIn, Wgrad.frameInIdeal, Wgrad.frameInRef,
    Ffn.frame, Ffn.frameIdeal, fun m g _ => Ffn.frameIdeal m g trivial, Ffn.frameRef, fun m g _ => Ffn.frameRef m g trivial,
    Fwd.frame, Fwd.frameIdeal, Fwd.frameRef, Inp.frame, Inp.frameIdeal, Inp.frameRef,
    trivial, Conv.value, IdealRules.named_const.statement _ _ _ _ _ rfl, trivial, Wgrad.valueOut, trivial, Wgrad.valueIn, trivial, Ffn.value, trivial, Fwd.value, trivial, Inp.value⟩

end Cert.Proof

end
